-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 [hPre_core16 : Cert.Pre_core16.Facts] (m : (ℓ : Loc Cert.Kernel16.nD Cert.Kernel16.τ Cert.Kernel16.sig) → Buf (Elt Bits) ℓ) : Prop :=
  ∀ c : Dev Cert.Kernel16.nD,
    (Cert.Pre_core16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5)) (m ((c.tc : Thread Cert.Kernel16.nD Cert.Kernel16.τ).loc Cert.Kernel16.main_arg6)) (m ((c.tc : Thread Cert.Kernel16.nD Cert.Kernel16.τ).loc Cert.Kernel16.main_arg7)) (m ((c.tc : Thread Cert.Kernel16.nD Cert.Kernel16.τ).loc Cert.Kernel16.main_arg8)) (m ((c.tc : Thread Cert.Kernel16.nD Cert.Kernel16.τ).loc Cert.Kernel16.main_arg9)) (m ((c.tc : Thread Cert.Kernel16.nD Cert.Kernel16.τ).loc Cert.Kernel16.main_arg10)) (m ((c.tc : Thread Cert.Kernel16.nD Cert.Kernel16.τ).loc Cert.Kernel16.main_arg11))) = (fun _ => 1#1)

def Pre_Kernel16Ideal [hPre_core16 : Cert.Pre_core16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_core16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (m ((c.tc : Thread Cert.Kernel16Ideal.nD Cert.Kernel16Ideal.τ).loc Cert.Kernel16Ideal.main_arg8)) (m ((c.tc : Thread Cert.Kernel16Ideal.nD Cert.Kernel16Ideal.τ).loc Cert.Kernel16Ideal.main_arg9)) (m ((c.tc : Thread Cert.Kernel16Ideal.nD Cert.Kernel16Ideal.τ).loc Cert.Kernel16Ideal.main_arg10)) (m ((c.tc : Thread Cert.Kernel16Ideal.nD Cert.Kernel16Ideal.τ).loc Cert.Kernel16Ideal.main_arg11))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_core16 [hPre_core16 : Cert.Pre_core16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_core16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7)) (m ((c.tc : Thread Cert.Reference16Ideal.nD Cert.Reference16Ideal.τ).loc Cert.Reference16Ideal.main_arg8)) (m ((c.tc : Thread Cert.Reference16Ideal.nD Cert.Reference16Ideal.τ).loc Cert.Reference16Ideal.main_arg9)) (m ((c.tc : Thread Cert.Reference16Ideal.nD Cert.Reference16Ideal.τ).loc Cert.Reference16Ideal.main_arg10)) (m ((c.tc : Thread Cert.Reference16Ideal.nD Cert.Reference16Ideal.τ).loc Cert.Reference16Ideal.main_arg11))) = (fun _ => 1#1)

def Pre_Kernel17 [hPre_core17 : Cert.Pre_core17.Facts] (m : (ℓ : Loc Cert.Kernel17.nD Cert.Kernel17.τ Cert.Kernel17.sig) → Buf (Elt Bits) ℓ) : Prop :=
  ∀ c : Dev Cert.Kernel17.nD,
    (Cert.Pre_core17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5)) (m ((c.tc : Thread Cert.Kernel17.nD Cert.Kernel17.τ).loc Cert.Kernel17.main_arg6)) (m ((c.tc : Thread Cert.Kernel17.nD Cert.Kernel17.τ).loc Cert.Kernel17.main_arg7)) (m ((c.tc : Thread Cert.Kernel17.nD Cert.Kernel17.τ).loc Cert.Kernel17.main_arg8)) (m ((c.tc : Thread Cert.Kernel17.nD Cert.Kernel17.τ).loc Cert.Kernel17.main_arg9)) (m ((c.tc : Thread Cert.Kernel17.nD Cert.Kernel17.τ).loc Cert.Kernel17.main_arg10)) (m ((c.tc : Thread Cert.Kernel17.nD Cert.Kernel17.τ).loc Cert.Kernel17.main_arg11))) = (fun _ => 1#1)

def Pre_Kernel17Ideal [hPre_core17 : Cert.Pre_core17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_core17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8)) (m ((c.tc : Thread Cert.Kernel17Ideal.nD Cert.Kernel17Ideal.τ).loc Cert.Kernel17Ideal.main_arg9)) (m ((c.tc : Thread Cert.Kernel17Ideal.nD Cert.Kernel17Ideal.τ).loc Cert.Kernel17Ideal.main_arg10)) (m ((c.tc : Thread Cert.Kernel17Ideal.nD Cert.Kernel17Ideal.τ).loc Cert.Kernel17Ideal.main_arg11))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_core17 [hPre_core17 : Cert.Pre_core17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_core17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8)) (m ((c.tc : Thread Cert.Reference17Ideal.nD Cert.Reference17Ideal.τ).loc Cert.Reference17Ideal.main_arg9)) (m ((c.tc : Thread Cert.Reference17Ideal.nD Cert.Reference17Ideal.τ).loc Cert.Reference17Ideal.main_arg10)) (m ((c.tc : Thread Cert.Reference17Ideal.nD Cert.Reference17Ideal.τ).loc Cert.Reference17Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel16 [hKernel16 : Cert.Kernel16.Facts] [hPre_core16 : Cert.Pre_core16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11))
      ∧ r.2.sem = fun _ => 0)

def quiescent_Kernel16Ideal [hKernel16Ideal : Cert.Kernel16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11))
      ∧ r.2.sem = fun _ => 0)

def quiescent_Reference16Ideal_pre_core16 [hReference16Ideal : Cert.Reference16Ideal.Facts] [hPre_core16 : Cert.Pre_core16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_core16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11))
      ∧ r.2.sem = fun _ => 0)

def quiescent_Kernel17 [hKernel17 : Cert.Kernel17.Facts] [hPre_core17 : Cert.Pre_core17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11))
      ∧ r.2.sem = fun _ => 0)

def quiescent_Kernel17Ideal [hKernel17Ideal : Cert.Kernel17Ideal.Facts] [hPre_core17 : Cert.Pre_core17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11))
      ∧ r.2.sem = fun _ => 0)

def quiescent_Reference17Ideal_pre_core17 [hReference17Ideal : Cert.Reference17Ideal.Facts] [hPre_core17 : Cert.Pre_core17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_core17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  IdealRules.named_const.Statement Cert.Kernel9Ideal.κ "c1" .f32 0x3FC48605#32 ((8388608 / 5463681 : ℝ) : EReal)
  ∧ IdealRules.named_const.Statement Cert.Kernel9Ideal.κ "c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v6)) (v2 : (c : Dev Cert.Kernel10Ideal.nD) → Buf (Elt Ideal) ((c.tc : Thread Cert.Kernel10Ideal.nD Cert.Kernel10Ideal.τ).loc Cert.Kernel10Ideal.main_v7)) (v3 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v6) = v1 c
          ∧ r.2.mem ((c.tc : Thread Cert.Kernel10Ideal.nD Cert.Kernel10Ideal.τ).loc Cert.Kernel10Ideal.main_v7) = v2 c
          ∧ r.2.mem ((c.tc : Thread Cert.Kernel10Ideal.nD Cert.Kernel10Ideal.τ).loc Cert.Kernel10Ideal.main_v8) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "c1" .f32 0x3FC48605#32 ((8388608 / 5463681 : ℝ) : EReal)
  ∧ IdealRules.named_const.Statement Cert.Kernel11Ideal.κ "c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5)) (v1 : (c : Dev Cert.Kernel11Ideal.nD) → Buf (Elt Ideal) ((c.tc : Thread Cert.Kernel11Ideal.nD Cert.Kernel11Ideal.τ).loc Cert.Kernel11Ideal.main_v6)) (v2 : (c : Dev Cert.Kernel11Ideal.nD) → Buf (Elt Ideal) ((c.tc : Thread Cert.Kernel11Ideal.nD Cert.Kernel11Ideal.τ).loc Cert.Kernel11Ideal.main_v7)) (v3 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_v6) = v1 c
          ∧ r.2.mem ((c.tc : Thread Cert.Kernel11Ideal.nD Cert.Kernel11Ideal.τ).loc Cert.Kernel11Ideal.main_v7) = v2 c
          ∧ r.2.mem ((c.tc : Thread Cert.Kernel11Ideal.nD Cert.Kernel11Ideal.τ).loc Cert.Kernel11Ideal.main_v8) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)) (v1 : (c : Dev Cert.Kernel12Ideal.nD) → Buf (Elt Ideal) ((c.tc : Thread Cert.Kernel12Ideal.nD Cert.Kernel12Ideal.τ).loc Cert.Kernel12Ideal.main_v6)) (v2 : (c : Dev Cert.Kernel12Ideal.nD) → Buf (Elt Ideal) ((c.tc : Thread Cert.Kernel12Ideal.nD Cert.Kernel12Ideal.τ).loc Cert.Kernel12Ideal.main_v7)) (v3 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_v6) = v1 c
          ∧ r.2.mem ((c.tc : Thread Cert.Kernel12Ideal.nD Cert.Kernel12Ideal.τ).loc Cert.Kernel12Ideal.main_v7) = v2 c
          ∧ r.2.mem ((c.tc : Thread Cert.Kernel12Ideal.nD Cert.Kernel12Ideal.τ).loc Cert.Kernel12Ideal.main_v8) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 ((8388608 / 5463681 : ℝ) : EReal)
  ∧ IdealRules.named_const.Statement Cert.Kernel14Ideal.κ "c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5)) (v1 : (c : Dev Cert.Kernel14Ideal.nD) → Buf (Elt Ideal) ((c.tc : Thread Cert.Kernel14Ideal.nD Cert.Kernel14Ideal.τ).loc Cert.Kernel14Ideal.main_v6)) (v2 : (c : Dev Cert.Kernel14Ideal.nD) → Buf (Elt Ideal) ((c.tc : Thread Cert.Kernel14Ideal.nD Cert.Kernel14Ideal.τ).loc Cert.Kernel14Ideal.main_v7)) (v3 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_v6) = v1 c
          ∧ r.2.mem ((c.tc : Thread Cert.Kernel14Ideal.nD Cert.Kernel14Ideal.τ).loc Cert.Kernel14Ideal.main_v7) = v2 c
          ∧ r.2.mem ((c.tc : Thread Cert.Kernel14Ideal.nD Cert.Kernel14Ideal.τ).loc Cert.Kernel14Ideal.main_v8) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  IdealRules.named_const.Statement Cert.Kernel16Ideal.κ "c1" .f32 0x3FC48605#32 ((8388608 / 5463681 : ℝ) : EReal)
  ∧ IdealRules.named_const.Statement Cert.Kernel16Ideal.κ "c2" .f32 0x42C8E6D3#32 ((268435456 / 2672307 : ℝ) : EReal)

def algebraic_Kernel16Ideal_Reference16Ideal [hKernel16Ideal : Cert.Kernel16Ideal.Facts] [hReference16Ideal : Cert.Reference16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v48) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_v35) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] [hPre_core17 : Cert.Pre_core17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v48) = v1 c
          ∧ r.2.mem ((c.tc : Thread Cert.Reference17Ideal.nD Cert.Reference17Ideal.τ).loc Cert.Reference17Ideal.main_v29) = v2 c
          ∧ r.2.mem ((c.tc : Thread Cert.Reference17Ideal.nD Cert.Reference17Ideal.τ).loc Cert.Reference17Ideal.main_v35) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_core16 : Cert.Pre_core16.Facts) (hPre_core17 : Cert.Pre_core17.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16) (hPre_core16 := hPre_core16)
    ∧ quiescent_Kernel16Ideal (hKernel16Ideal := hKernel16Ideal) (hPre_core16 := hPre_core16)
    ∧ quiescent_Reference16Ideal (hReference16Ideal := hReference16Ideal)
    ∧ quiescent_Reference16Ideal_pre_core16 (hReference16Ideal := hReference16Ideal) (hPre_core16 := hPre_core16)
    ∧ quiescent_Kernel17 (hKernel17 := hKernel17) (hPre_core17 := hPre_core17)
    ∧ quiescent_Kernel17Ideal (hKernel17Ideal := hKernel17Ideal) (hPre_core17 := hPre_core17)
    ∧ quiescent_Reference17Ideal (hReference17Ideal := hReference17Ideal)
    ∧ quiescent_Reference17Ideal_pre_core17 (hReference17Ideal := hReference17Ideal) (hPre_core17 := hPre_core17)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal) (hPre_core16 := hPre_core16)
    ∧ preserves_Kernel17_Kernel17Ideal
    ∧ algebraic_Kernel17Ideal_Reference17Ideal (hKernel17Ideal := hKernel17Ideal) (hReference17Ideal := hReference17Ideal) (hPre_core17 := hPre_core17)
-- ==== Pre_core16.lean ====
abbrev S4x512x2048 : Shape := ⟨3, ![4, 512, 2048]⟩
abbrev S1 : Shape := ⟨1, ![1]⟩
abbrev S256x2048 : Shape := ⟨2, ![256, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x512x2048 .f32) (main_arg1 : FVec F S4x512x2048 .f32) (main_arg2 : FVec F S4x512x2048 .f32) (main_arg3 : IVec S1 32) (main_arg4 : FVec F S256x2048 .f32) (main_arg5 : FVec F S256x2048 .f32) (main_arg6 : FVec F S256x2048 .f32) (main_arg7 : FVec F S256x2048 .f32) (main_arg8 : FVec F S256x2048 .f32) (main_arg9 : FVec F S256x2048 .f32) (main_arg10 : FVec F S256x2048 .f32) (main_arg11 : FVec F S256x2048 .f32) : IVec S_ 1 :=
  let main_c : IVec S_ 32 := constantI S_ 32 0#32
  let main_v0 : IVec S1 32 := broadcastInDim S1 ![] bcast_S_S1 main_c
  let main_v1 : IVec S1 1 := cmpi .eq main_arg3 main_v0
  let main_c_0 : IVec S_ 32 := constantI S_ 32 1#32
  let main_v2 : IVec S1 32 := broadcastInDim S1 ![] bcast_S_S1 main_c_0
  let main_v3 : IVec S1 1 := cmpi .eq main_arg3 main_v2
  let main_v4 : IVec S1 1 := ori main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_core17.lean ====
abbrev S4x2048x3584 : Shape := ⟨3, ![4, 2048, 3584]⟩
abbrev S1 : Shape := ⟨1, ![1]⟩
abbrev S1024x3584 : Shape := ⟨2, ![1024, 3584]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x2048x3584 .f32) (main_arg1 : FVec F S4x2048x3584 .f32) (main_arg2 : FVec F S4x2048x3584 .f32) (main_arg3 : IVec S1 32) (main_arg4 : FVec F S1024x3584 .f32) (main_arg5 : FVec F S1024x3584 .f32) (main_arg6 : FVec F S1024x3584 .f32) (main_arg7 : FVec F S1024x3584 .f32) (main_arg8 : FVec F S1024x3584 .f32) (main_arg9 : FVec F S1024x3584 .f32) (main_arg10 : FVec F S1024x3584 .f32) (main_arg11 : FVec F S1024x3584 .f32) : IVec S_ 1 :=
  let main_c : IVec S_ 32 := constantI S_ 32 0#32
  let main_v0 : IVec S1 32 := broadcastInDim S1 ![] bcast_S_S1 main_c
  let main_v1 : IVec S1 1 := cmpi .eq main_arg3 main_v0
  let main_c_0 : IVec S_ 32 := constantI S_ 32 1#32
  let main_v2 : IVec S1 32 := broadcastInDim S1 ![] bcast_S_S1 main_c_0
  let main_v3 : IVec S1 1 := cmpi .eq main_arg3 main_v2
  let main_v4 : IVec S1 1 := ori main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S8208x2048 : Shape := ⟨2, ![8208, 2048]⟩
abbrev S4x2048x3584 : Shape := ⟨3, ![4, 2048, 3584]⟩
abbrev S912x2048 : Shape := ⟨2, ![912, 2048]⟩
abbrev S912x512 : Shape := ⟨2, ![912, 512]⟩
abbrev S1x2048x512 : Shape := ⟨3, ![1, 2048, 512]⟩
abbrev S2048x512 : Shape := ⟨2, ![2048, 512]⟩

abbrev nBuf : Space → Nat
  | .hbm => 17
  | .vmem => 18
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x2048, .f32⟩
  | .hbm, ⟨3, _⟩ => ⟨S8208x2048, .f32⟩
  | .hbm, ⟨4, _⟩ => ⟨S8208x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .bf16⟩
  | .hbm, ⟨9, _⟩ => ⟨S8208x2048, .bf16⟩
  | .hbm, ⟨10, _⟩ => ⟨S8208x2048, .bf16⟩
  | .hbm, ⟨11, _⟩ => ⟨S8208x2048, .bf16⟩
  | .hbm, ⟨12, _⟩ => ⟨S8208x2048, .bf16⟩
  | .hbm, ⟨13, _⟩ => ⟨S8208x2048, .bf16⟩
  | .hbm, ⟨14, _⟩ => ⟨S8208x2048, .bf16⟩
  | .hbm, ⟨15, _⟩ => ⟨S8208x2048, .bf16⟩
  | .hbm, ⟨16, _⟩ => ⟨S4x2048x3584, .f32⟩
  | .local _ .vmem, ⟨0, _⟩ => ⟨S912x2048, .bf16⟩
  | .local _ .vmem, ⟨1, _⟩ => ⟨S912x2048, .bf16⟩
  | .local _ .vmem, ⟨2, _⟩ => ⟨S912x512, .bf16⟩
  | .local _ .vmem, ⟨3, _⟩ => ⟨S912x512, .bf16⟩
  | .local _ .vmem, ⟨4, _⟩ => ⟨S912x512, .bf16⟩
  | .local _ .vmem, ⟨5, _⟩ => ⟨S912x512, .bf16⟩
  | .local _ .vmem, ⟨6, _⟩ => ⟨S912x512, .bf16⟩
  | .local _ .vmem, ⟨7, _⟩ => ⟨S912x512, .bf16⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S1x2048x512, .f32⟩
  | .local _ .vmem, ⟨17, _⟩ => ⟨S1x2048x512, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![28, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg0 c4_i32
  let c0_i32_5 : BitVec 32 := 0#32
  let v16 : BitVec 1 := Scalar.cmpi .ne v15 c0_i32_5
  let v17 : BitVec 1 := Scalar.andi v14 v16
  let v3 : BitVec 32 := Scalar.divsi arg0 c4_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32_9 : BitVec 32 := 0#32
  let v24 : BitVec 1 := Scalar.cmpi .sgt arg0 c0_i32_9
  let v25 : BitVec 32 := Scalar.extui v24
  let c0_i32_10 : BitVec 32 := 0#32
  let v26 : BitVec 1 := Scalar.cmpi .slt arg0 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi arg0 c4_i32_8
  let c0_i32_13 : BitVec 32 := 0#32
  let v36 : BitVec 1 := Scalar.cmpi .ne v35 c0_i32_13
  let v37 : BitVec 1 := Scalar.andi v34 v36
  let v23 : BitVec 32 := Scalar.divsi arg0 c4_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

def k0_cond4 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .slt arg0 c0_i32_19
  let v47 : BitVec 32 := Scalar.extui v46
  let v48 : BitVec 32 := Scalar.subi v45 v47
  let c4_i32_17 : BitVec 32 := 4#32
  let c0_i32_20 : BitVec 32 := 0#32
  let v49 : BitVec 1 := Scalar.cmpi .sgt c4_i32_17 c0_i32_20
  let v50 : BitVec 32 := Scalar.extui v49
  let c0_i32_21 : BitVec 32 := 0#32
  let v51 : BitVec 1 := Scalar.cmpi .slt c4_i32_17 c0_i32_21
  let v52 : BitVec 32 := Scalar.extui v51
  let v53 : BitVec 32 := Scalar.subi v50 v52
  let v54 : BitVec 1 := Scalar.cmpi .ne v48 v53
  let v55 : BitVec 32 := Scalar.remsi arg0 c4_i32_17
  let c0_i32_22 : BitVec 32 := 0#32
  let v56 : BitVec 1 := Scalar.cmpi .ne v55 c0_i32_22
  let v57 : BitVec 1 := Scalar.andi v54 v56
  let v43 : BitVec 32 := Scalar.divsi arg0 c4_i32_17
  let c1_i32_23 : BitVec 32 := 1#32
  let v58 : BitVec 32 := Scalar.subi v43 c1_i32_23
  let v59 : BitVec 32 := Scalar.select v57 v58 v43
  let c2_i32 : BitVec 32 := 2#32
  let v60 : BitVec 1 := Scalar.cmpi .eq v59 c2_i32
  let v61 : BitVec 32 := Scalar.extui v60
  let c0_i32_24 : BitVec 32 := 0#32
  let v62 : BitVec 1 := Scalar.cmpi .ne v61 c0_i32_24
  v62

def k0_cond5 (i : grid0.Coords) : BitVec 1 :=
  let arg0 : BitVec 32 := BitVec.ofNat 32 (i 0).val
  let c0_i32_26 : BitVec 32 := 0#32
  let v64 : BitVec 1 := Scalar.cmpi .sgt arg0 c0_i32_26
  let v65 : BitVec 32 := Scalar.extui v64
  let c0_i32_27 : BitVec 32 := 0#32
  let v66 : BitVec 1 := Scalar.cmpi .slt arg0 c0_i32_27
  let v67 : BitVec 32 := Scalar.extui v66
  let v68 : BitVec 32 := Scalar.subi v65 v67
  let c4_i32_25 : BitVec 32 := 4#32
  let c0_i32_28 : BitVec 32 := 0#32
  let v69 : BitVec 1 := Scalar.cmpi .sgt c4_i32_25 c0_i32_28
  let v70 : BitVec 32 := Scalar.extui v69
  let c0_i32_29 : BitVec 32 := 0#32
  let v71 : BitVec 1 := Scalar.cmpi .slt c4_i32_25 c0_i32_29
  let v72 : BitVec 32 := Scalar.extui v71
  let v73 : BitVec 32 := Scalar.subi v70 v72
  let v74 : BitVec 1 := Scalar.cmpi .ne v68 v73
  let v75 : BitVec 32 := Scalar.remsi arg0 c4_i32_25
  let c0_i32_30 : BitVec 32 := 0#32
  let v76 : BitVec 1 := Scalar.cmpi .ne v75 c0_i32_30
  let v77 : BitVec 1 := Scalar.andi v74 v76
  let v63 : BitVec 32 := Scalar.divsi arg0 c4_i32_25
  let c1_i32_31 : BitVec 32 := 1#32
  let v78 : BitVec 32 := Scalar.subi v63 c1_i32_31
  let v79 : BitVec 32 := Scalar.select v77 v78 v63
  let c3_i32 : BitVec 32 := 3#32
  let v80 : BitVec 1 := Scalar.cmpi .eq v79 c3_i32
  let v81 : BitVec 32 := Scalar.extui v80
  let c0_i32_32 : BitVec 32 := 0#32
  let v82 : BitVec 1 := Scalar.cmpi .ne v81 c0_i32_32
  v82

def k0_cond6 (i : grid0.Coords) : BitVec 1 :=
  let arg0 : BitVec 32 := BitVec.ofNat 32 (i 0).val
  let c0_i32_34 : BitVec 32 := 0#32
  let v84 : BitVec 1 := Scalar.cmpi .sgt arg0 c0_i32_34
  let v85 : BitVec 32 := Scalar.extui v84
  let c0_i32_35 : BitVec 32 := 0#32
  let v86 : BitVec 1 := Scalar.cmpi .slt arg0 c0_i32_35
  let v87 : BitVec 32 := Scalar.extui v86
  let v88 : BitVec 32 := Scalar.subi v85 v87
  let c4_i32_33 : BitVec 32 := 4#32
  let c0_i32_36 : BitVec 32 := 0#32
  let v89 : BitVec 1 := Scalar.cmpi .sgt c4_i32_33 c0_i32_36
  let v90 : BitVec 32 := Scalar.extui v89
  let c0_i32_37 : BitVec 32 := 0#32
  let v91 : BitVec 1 := Scalar.cmpi .slt c4_i32_33 c0_i32_37
  let v92 : BitVec 32 := Scalar.extui v91
  let v93 : BitVec 32 := Scalar.subi v90 v92
  let v94 : BitVec 1 := Scalar.cmpi .ne v88 v93
  let v95 : BitVec 32 := Scalar.remsi arg0 c4_i32_33
  let c0_i32_38 : BitVec 32 := 0#32
  let v96 : BitVec 1 := Scalar.cmpi .ne v95 c0_i32_38
  let v97 : BitVec 1 := Scalar.andi v94 v96
  let v83 : BitVec 32 := Scalar.divsi arg0 c4_i32_33
  let c1_i32_39 : BitVec 32 := 1#32
  let v98 : BitVec 32 := Scalar.subi v83 c1_i32_39
  let v99 : BitVec 32 := Scalar.select v97 v98 v83
  let c4_i32_40 : BitVec 32 := 4#32
  let v100 : BitVec 1 := Scalar.cmpi .eq v99 c4_i32_40
  let v101 : BitVec 32 := Scalar.extui v100
  let c0_i32_41 : BitVec 32 := 0#32
  let v102 : BitVec 1 := Scalar.cmpi .ne v101 c0_i32_41
  v102

def k0_cond7 (i : grid0.Coords) : BitVec 1 :=
  let arg0 : BitVec 32 := BitVec.ofNat 32 (i 0).val
  let c0_i32_43 : BitVec 32 := 0#32
  let v104 : BitVec 1 := Scalar.cmpi .sgt arg0 c0_i32_43
  let v105 : BitVec 32 := Scalar.extui v104
  let c0_i32_44 : BitVec 32 := 0#32
  let v106 : BitVec 1 := Scalar.cmpi .slt arg0 c0_i32_44
  let v107 : BitVec 32 := Scalar.extui v106
  let v108 : BitVec 32 := Scalar.subi v105 v107
  let c4_i32_42 : BitVec 32 := 4#32
  let c0_i32_45 : BitVec 32 := 0#32
  let v109 : BitVec 1 := Scalar.cmpi .sgt c4_i32_42 c0_i32_45
  let v110 : BitVec 32 := Scalar.extui v109
  let c0_i32_46 : BitVec 32 := 0#32
  let v111 : BitVec 1 := Scalar.cmpi .slt c4_i32_42 c0_i32_46
  let v112 : BitVec 32 := Scalar.extui v111
  let v113 : BitVec 32 := Scalar.subi v110 v112
  let v114 : BitVec 1 := Scalar.cmpi .ne v108 v113
  let v115 : BitVec 32 := Scalar.remsi arg0 c4_i32_42
  let c0_i32_47 : BitVec 32 := 0#32
  let v116 : BitVec 1 := Scalar.cmpi .ne v115 c0_i32_47
  let v117 : BitVec 1 := Scalar.andi v114 v116
  let v103 : BitVec 32 := Scalar.divsi arg0 c4_i32_42
  let c1_i32_48 : BitVec 32 := 1#32
  let v118 : BitVec 32 := Scalar.subi v103 c1_i32_48
  let v119 : BitVec 32 := Scalar.select v117 v118 v103
  let c5_i32 : BitVec 32 := 5#32
  let v120 : BitVec 1 := Scalar.cmpi .eq v119 c5_i32
  let v121 : BitVec 32 := Scalar.extui v120
  let c0_i32_49 : BitVec 32 := 0#32
  let v122 : BitVec 1 := Scalar.cmpi .ne v121 c0_i32_49
  v122

def k0_cond8 (i : grid0.Coords) : BitVec 1 :=
  let arg0 : BitVec 32 := BitVec.ofNat 32 (i 0).val
  let c0_i32_51 : BitVec 32 := 0#32
  let v124 : BitVec 1 := Scalar.cmpi .sgt arg0 c0_i32_51
  let v125 : BitVec 32 := Scalar.extui v124
  let c0_i32_52 : BitVec 32 := 0#32
  let v126 : BitVec 1 := Scalar.cmpi .slt arg0 c0_i32_52
  let v127 : BitVec 32 := Scalar.extui v126
  let v128 : BitVec 32 := Scalar.subi v125 v127
  let c4_i32_50 : BitVec 32 := 4#32
  let c0_i32_53 : BitVec 32 := 0#32
  let v129 : BitVec 1 := Scalar.cmpi .sgt c4_i32_50 c0_i32_53
  let v130 : BitVec 32 := Scalar.extui v129
  let c0_i32_54 : BitVec 32 := 0#32
  let v131 : BitVec 1 := Scalar.cmpi .slt c4_i32_50 c0_i32_54
  let v132 : BitVec 32 := Scalar.extui v131
  let v133 : BitVec 32 := Scalar.subi v130 v132
  let v134 : BitVec 1 := Scalar.cmpi .ne v128 v133
  let v135 : BitVec 32 := Scalar.remsi arg0 c4_i32_50
  let c0_i32_55 : BitVec 32 := 0#32
  let v136 : BitVec 1 := Scalar.cmpi .ne v135 c0_i32_55
  let v137 : BitVec 1 := Scalar.andi v134 v136
  let v123 : BitVec 32 := Scalar.divsi arg0 c4_i32_50
  let c1_i32_56 : BitVec 32 := 1#32
  let v138 : BitVec 32 := Scalar.subi v123 c1_i32_56
  let v139 : BitVec 32 := Scalar.select v137 v138 v123
  let c6_i32 : BitVec 32 := 6#32
  let v140 : BitVec 1 := Scalar.cmpi .eq v139 c6_i32
  let v141 : BitVec 32 := Scalar.extui v140
  let c0_i32_57 : BitVec 32 := 0#32
  let v142 : BitVec 1 := Scalar.cmpi .ne v141 c0_i32_57
  v142

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .eq v16 c2_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 1 := Scalar.cmpi .eq v16 c3_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .eq v16 c4_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 1 := Scalar.cmpi .eq v16 c5_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 1 := Scalar.cmpi .eq v16 c6_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8208x2048 : Shape := ⟨2, ![8208, 2048]⟩
abbrev S8208x14336 : Shape := ⟨2, ![8208, 14336]⟩
abbrev S_ : Shape := ⟨0, ![]⟩
abbrev S2048x14336 : Shape := ⟨2, ![2048, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 16
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x2048, .f32⟩
  | .hbm, ⟨3, _⟩ => ⟨S8208x2048, .f32⟩
  | .hbm, ⟨4, _⟩ => ⟨S8208x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x14336, .f32⟩
  | .hbm, ⟨9, _⟩ => ⟨S_, .f32⟩
  | .hbm, ⟨10, _⟩ => ⟨S2048x14336, .f32⟩
  | .hbm, ⟨11, _⟩ => ⟨S8208x14336, .f32⟩
  | .hbm, ⟨12, _⟩ => ⟨S14336x2048, .f32⟩
  | .hbm, ⟨13, _⟩ => ⟨S2048x14336, .f32⟩
  | .hbm, ⟨14, _⟩ => ⟨S2048x4x3584, .f32⟩
  | .hbm, ⟨15, _⟩ => ⟨S4x2048x3584, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel2.lean ====
abbrev S8208x2048 : Shape := ⟨2, ![8208, 2048]⟩
abbrev S2048x2048 : Shape := ⟨2, ![2048, 2048]⟩
abbrev S912x2048 : Shape := ⟨2, ![912, 2048]⟩
abbrev S912x1024 : Shape := ⟨2, ![912, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x2048, .bf16⟩
  | .hbm, ⟨3, _⟩ => ⟨S2048x2048, .f32⟩
  | .local _ .vmem, ⟨0, _⟩ => ⟨S912x2048, .bf16⟩
  | .local _ .vmem, ⟨1, _⟩ => ⟨S912x2048, .bf16⟩
  | .local _ .vmem, ⟨2, _⟩ => ⟨S912x1024, .f32⟩
  | .local _ .vmem, ⟨3, _⟩ => ⟨S912x1024, .f32⟩
  | .local _ .vmem, ⟨4, _⟩ => ⟨S2048x1024, .f32⟩
  | .local _ .vmem, ⟨5, _⟩ => ⟨S2048x1024, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8208x2048 : Shape := ⟨2, ![8208, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S_, .f32⟩
  | .hbm, ⟨3, _⟩ => ⟨S2048x2048, .f32⟩
  | .hbm, ⟨4, _⟩ => ⟨S8208x2048, .f32⟩
  | .hbm, ⟨5, _⟩ => ⟨S2048x2048, .f32⟩
  | .hbm, ⟨6, _⟩ => ⟨S2048x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x2048 : Shape := ⟨2, ![2048, 2048]⟩
abbrev S8208x2048 : Shape := ⟨2, ![8208, 2048]⟩
abbrev S912x2048 : Shape := ⟨2, ![912, 2048]⟩
abbrev S1024x2048 : Shape := ⟨2, ![1024, 2048]⟩
abbrev S912x1024 : Shape := ⟨2, ![912, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8208x2048, .f32⟩
  | .hbm, ⟨2, _⟩ => ⟨S8208x2048, .bf16⟩
  | .hbm, ⟨3, _⟩ => ⟨S2048x2048, .bf16⟩
  | .hbm, ⟨4, _⟩ => ⟨S8208x2048, .f32⟩
  | .local _ .vmem, ⟨0, _⟩ => ⟨S912x2048, .bf16⟩
  | .local _ .vmem, ⟨1, _⟩ => ⟨S912x2048, .bf16⟩
  | .local _ .vmem, ⟨2, _⟩ => ⟨S1024x2048, .bf16⟩
  | .local _ .vmem, ⟨3, _⟩ => ⟨S1024x2048, .bf16⟩
  | .local _ .vmem, ⟨4, _⟩ => ⟨S912x1024, .f32⟩
  | .local _ .vmem, ⟨5, _⟩ => ⟨S912x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S912x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩
abbrev S8208x2048 : Shape := ⟨2, ![8208, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8208x2048, .f32⟩
  | .hbm, ⟨2, _⟩ => ⟨S_, .f32⟩
  | .hbm, ⟨3, _⟩ => ⟨S8208x2048, .f32⟩
  | .hbm, ⟨4, _⟩ => ⟨S8208x2048, .f32⟩
  | .hbm, ⟨5, _⟩ => ⟨S8208x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8208x2048 : Shape := ⟨2, ![8208, 2048]⟩
abbrev S2048 : Shape := ⟨1, ![2048]⟩
abbrev S2048x14336 : Shape := ⟨2, ![2048, 14336]⟩
abbrev S1x2048 : Shape := ⟨2, ![1, 2048]⟩
abbrev S2048x4x3584 : Shape := ⟨3, ![2048, 4, 3584]⟩
abbrev S4x2048x3584 : Shape := ⟨3, ![4, 2048, 3584]⟩
abbrev S8208x14336 : Shape := ⟨2, ![8208, 14336]⟩
abbrev S912x2048 : Shape := ⟨2, ![912, 2048]⟩
abbrev S1x2048x1792 : Shape := ⟨3, ![1, 2048, 1792]⟩
abbrev S912x1792 : Shape := ⟨2, ![912, 1792]⟩
abbrev S16x2048 : Shape := ⟨2, ![16, 2048]⟩
abbrev S16 : Shape := ⟨1, ![16]⟩
abbrev S16x1 : Shape := ⟨2, ![16, 1]⟩
abbrev S2048x1792 : Shape := ⟨2, ![2048, 1792]⟩

abbrev nBuf : Space → Nat
  | .hbm => 9
  | .vmem => 9
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S1x2048, .f32⟩
  | .hbm, ⟨4, _⟩ => ⟨S2048x4x3584, .f32⟩
  | .hbm, ⟨5, _⟩ => ⟨S4x2048x3584, .f32⟩
  | .hbm, ⟨6, _⟩ => ⟨S4x2048x3584, .bf16⟩
  | .hbm, ⟨7, _⟩ => ⟨S8208x14336, .f32⟩
  | .hbm, ⟨8, _⟩ => ⟨S8208x2048, .bf16⟩
  | .local _ .vmem, ⟨0, _⟩ => ⟨S912x2048, .f32⟩
  | .local _ .vmem, ⟨1, _⟩ => ⟨S912x2048, .f32⟩
  | .local _ .vmem, ⟨2, _⟩ => ⟨S1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S912x1792, .f32⟩
  | .local _ .vmem, ⟨6, _⟩ => ⟨S912x1792, .f32⟩
  | .local _ .vmem, ⟨7, _⟩ => ⟨S912x2048, .bf16⟩
  | .local _ .vmem, ⟨8, _⟩ => ⟨S912x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c19_i32 : BitVec 32 := 19#32
  let v9 : BitVec 32 := Scalar.addi c0_i32_7 c19_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let c0_i32_9 : BitVec 32 := 0#32
  let v11 : BitVec 32 := Scalar.addi v10 c0_i32_9
  let c16_i32 : BitVec 32 := 16#32
  let v12 : BitVec 32 := Scalar.muli v11 c16_i32
  v12
def k0_mult2 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let c0_i32_9 : BitVec 32 := 0#32
  let v11 : BitVec 32 := Scalar.addi v10 c0_i32_9
  let c16_i32 : BitVec 32 := 16#32
  let v12 : BitVec 32 := Scalar.muli v11 c16_i32
  let v13 : BitVec 32 := v12
  let c0_i32_10 : BitVec 32 := 0#32
  let v14 : BitVec 32 := Scalar.addi v13 c0_i32_10
  v14
def k0_off1 (k0_t1 : Fin k0_t1_loop.trips) (c0_i32_9 : BitVec 32) : Fin 2 → Nat :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let v11 : BitVec 32 := Scalar.addi v10 c0_i32_9
  let c16_i32 : BitVec 32 := 16#32
  let v12 : BitVec 32 := Scalar.muli v11 c16_i32
  let v13 : BitVec 32 := v12
  let c0_i32_10 : BitVec 32 := 0#32
  let v14 : BitVec 32 := Scalar.addi v13 c0_i32_10
  let v15 : BitVec 32 := v14
  let v16 : Index := Scalar.indexCast v15
  let c0_11 : Index := 0#32
  ![v16.toNat, 0]
def k0_mult3 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_18 : BitVec 32 := 3#32
  let v35 : BitVec 32 := Scalar.muli arg7 c3_i32_18
  let c1_i32_19 : BitVec 32 := 1#32
  let v36 : BitVec 32 := Scalar.addi v35 c1_i32_19
  let c16_i32_20 : BitVec 32 := 16#32
  let v37 : BitVec 32 := Scalar.muli v36 c16_i32_20
  v37
def k0_mult4 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_18 : BitVec 32 := 3#32
  let v35 : BitVec 32 := Scalar.muli arg7 c3_i32_18
  let c1_i32_19 : BitVec 32 := 1#32
  let v36 : BitVec 32 := Scalar.addi v35 c1_i32_19
  let c16_i32_20 : BitVec 32 := 16#32
  let v37 : BitVec 32 := Scalar.muli v36 c16_i32_20
  let v38 : BitVec 32 := v37
  let c0_i32_21 : BitVec 32 := 0#32
  let v39 : BitVec 32 := Scalar.addi v38 c0_i32_21
  v39
def k0_mult5 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_29 : BitVec 32 := 3#32
  let v60 : BitVec 32 := Scalar.muli arg7 c3_i32_29
  let c2_i32 : BitVec 32 := 2#32
  let v61 : BitVec 32 := Scalar.addi v60 c2_i32
  let c16_i32_30 : BitVec 32 := 16#32
  let v62 : BitVec 32 := Scalar.muli v61 c16_i32_30
  v62
def k0_mult6 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_29 : BitVec 32 := 3#32
  let v60 : BitVec 32 := Scalar.muli arg7 c3_i32_29
  let c2_i32 : BitVec 32 := 2#32
  let v61 : BitVec 32 := Scalar.addi v60 c2_i32
  let c16_i32_30 : BitVec 32 := 16#32
  let v62 : BitVec 32 := Scalar.muli v61 c16_i32_30
  let v63 : BitVec 32 := v62
  let c0_i32_31 : BitVec 32 := 0#32
  let v64 : BitVec 32 := Scalar.addi v63 c0_i32_31
  v64
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S912x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8208x2048 : Shape := ⟨2, ![8208, 2048]⟩
abbrev S2048 : Shape := ⟨1, ![2048]⟩
abbrev S2048x14336 : Shape := ⟨2, ![2048, 14336]⟩
abbrev S_ : Shape := ⟨0, ![]⟩
abbrev S8208 : Shape := ⟨1, ![8208]⟩
abbrev S8208x1 : Shape := ⟨2, ![8208, 1]⟩
abbrev S1x2048 : Shape := ⟨2, ![1, 2048]⟩
abbrev S8208x14336 : Shape := ⟨2, ![8208, 14336]⟩

abbrev nBuf : Space → Nat
  | .hbm => 21
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S8208x2048, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x2048, .f32⟩
  | .hbm, ⟨15, _⟩ => ⟨S8208x2048, .f32⟩
  | .hbm, ⟨16, _⟩ => ⟨S1x2048, .f32⟩
  | .hbm, ⟨17, _⟩ => ⟨S8208x2048, .f32⟩
  | .hbm, ⟨18, _⟩ => ⟨S8208x2048, .f32⟩
  | .hbm, ⟨19, _⟩ => ⟨S8208x14336, .f32⟩
  | .hbm, ⟨20, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8208x2048 : Shape := ⟨2, ![8208, 2048]⟩
abbrev S2048 : Shape := ⟨1, ![2048]⟩
abbrev S2048x14336 : Shape := ⟨2, ![2048, 14336]⟩
abbrev S2048x4x3584 : Shape := ⟨3, ![2048, 4, 3584]⟩
abbrev S4x2048x3584 : Shape := ⟨3, ![4, 2048, 3584]⟩
abbrev S1x2048 : Shape := ⟨2, ![1, 2048]⟩
abbrev S912x512 : Shape := ⟨2, ![912, 512]⟩
abbrev S1x2048x512 : Shape := ⟨3, ![1, 2048, 512]⟩
abbrev S912x2048 : Shape := ⟨2, ![912, 2048]⟩
abbrev S8x2048 : Shape := ⟨2, ![8, 2048]⟩
abbrev S2048x512 : Shape := ⟨2, ![2048, 512]⟩
abbrev S16x2048 : Shape := ⟨2, ![16, 2048]⟩
abbrev S16 : Shape := ⟨1, ![16]⟩
abbrev S16x1 : Shape := ⟨2, ![16, 1]⟩

abbrev nBuf : Space → Nat
  | .hbm => 24
  | .vmem => 25
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S8208x2048, .f32⟩
  | .hbm, ⟨4, _⟩ => ⟨S8208x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S8208x2048, .f32⟩
  | .hbm, ⟨10, _⟩ => ⟨S8208x2048, .f32⟩
  | .hbm, ⟨11, _⟩ => ⟨S8208x2048, .bf16⟩
  | .hbm, ⟨12, _⟩ => ⟨S8208x2048, .bf16⟩
  | .hbm, ⟨13, _⟩ => ⟨S8208x2048, .bf16⟩
  | .hbm, ⟨14, _⟩ => ⟨S8208x2048, .bf16⟩
  | .hbm, ⟨15, _⟩ => ⟨S8208x2048, .bf16⟩
  | .hbm, ⟨16, _⟩ => ⟨S8208x2048, .bf16⟩
  | .hbm, ⟨17, _⟩ => ⟨S8208x2048, .bf16⟩
  | .hbm, ⟨18, _⟩ => ⟨S2048x4x3584, .f32⟩
  | .hbm, ⟨19, _⟩ => ⟨S4x2048x3584, .f32⟩
  | .hbm, ⟨20, _⟩ => ⟨S4x2048x3584, .bf16⟩
  | .hbm, ⟨21, _⟩ => ⟨S1x2048, .f32⟩
  | .hbm, ⟨22, _⟩ => ⟨S8208x2048, .f32⟩
  | .hbm, ⟨23, _⟩ => ⟨S1x2048, .f32⟩
  | .local _ .vmem, ⟨0, _⟩ => ⟨S912x512, .bf16⟩
  | .local _ .vmem, ⟨1, _⟩ => ⟨S912x512, .bf16⟩
  | .local _ .vmem, ⟨2, _⟩ => ⟨S912x512, .bf16⟩
  | .local _ .vmem, ⟨3, _⟩ => ⟨S912x512, .bf16⟩
  | .local _ .vmem, ⟨4, _⟩ => ⟨S912x512, .bf16⟩
  | .local _ .vmem, ⟨5, _⟩ => ⟨S912x512, .bf16⟩
  | .local _ .vmem, ⟨6, _⟩ => ⟨S912x512, .bf16⟩
  | .local _ .vmem, ⟨7, _⟩ => ⟨S912x512, .bf16⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S912x2048, .f32⟩
  | .local _ .vmem, ⟨17, _⟩ => ⟨S912x2048, .f32⟩
  | .local _ .vmem, ⟨18, _⟩ => ⟨S1x2048, .f32⟩
  | .local _ .vmem, ⟨19, _⟩ => ⟨S912x2048, .f32⟩
  | .local _ .vmem, ⟨20, _⟩ => ⟨S912x2048, .f32⟩
  | .local _ .vmem, ⟨21, _⟩ => ⟨S912x2048, .f32⟩
  | .local _ .vmem, ⟨22, _⟩ => ⟨S912x2048, .f32⟩
  | .local _ .vmem, ⟨23, _⟩ => ⟨S1x2048, .f32⟩
  | .local _ .vmem, ⟨24, _⟩ => ⟨S8x2048, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![9, 28], ![false, false]⟩

def k0_cond10 (i : grid0.Coords) : BitVec 1 :=
  let arg1 : BitVec 32 := BitVec.ofNat 32 (i 1).val
  let c27_i32 : BitVec 32 := 27#32
  let v148 : BitVec 1 := Scalar.cmpi .eq arg1 c27_i32
  let v149 : BitVec 32 := Scalar.extui v148
  let c0_i32_61 : BitVec 32 := 0#32
  let v150 : BitVec 1 := Scalar.cmpi .ne v149 c0_i32_61
  v150

@[reducible] def k0_t1_loop : Scf.Loop 32 :=
  let c0_i32_62 : BitVec 32 := 0#32
  let c19_i32 : BitVec 32 := 19#32
  let v151 : BitVec 32 := Scalar.addi c0_i32_62 c19_i32
  let c1_i32_63 : BitVec 32 := 1#32
  ⟨c0_i32_62, v151, c1_i32_63⟩
def k0_mult1 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let c0_i32_69 : BitVec 32 := 0#32
  let v157 : BitVec 32 := Scalar.addi v156 c0_i32_69
  let c16_i32 : BitVec 32 := 16#32
  let v158 : BitVec 32 := Scalar.muli v157 c16_i32
  v158
def k0_mult2 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let c0_i32_69 : BitVec 32 := 0#32
  let v157 : BitVec 32 := Scalar.addi v156 c0_i32_69
  let c16_i32 : BitVec 32 := 16#32
  let v158 : BitVec 32 := Scalar.muli v157 c16_i32
  let v159 : BitVec 32 := v158
  let c0_i32_70 : BitVec 32 := 0#32
  let v160 : BitVec 32 := Scalar.addi v159 c0_i32_70
  v160
def k0_off1 (k0_t1 : Fin k0_t1_loop.trips) (c0_i32_69 : BitVec 32) : Fin 2 → Nat :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let v157 : BitVec 32 := Scalar.addi v156 c0_i32_69
  let c16_i32 : BitVec 32 := 16#32
  let v158 : BitVec 32 := Scalar.muli v157 c16_i32
  let v159 : BitVec 32 := v158
  let c0_i32_70 : BitVec 32 := 0#32
  let v160 : BitVec 32 := Scalar.addi v159 c0_i32_70
  let v161 : BitVec 32 := v160
  let v162 : Index := Scalar.indexCast v161
  let c0_71 : Index := 0#32
  ![v162.toNat, 0]
def k0_mult3 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_86 : BitVec 32 := 3#32
  let v205 : BitVec 32 := Scalar.muli arg16 c3_i32_86
  let c1_i32_87 : BitVec 32 := 1#32
  let v206 : BitVec 32 := Scalar.addi v205 c1_i32_87
  let c16_i32_88 : BitVec 32 := 16#32
  let v207 : BitVec 32 := Scalar.muli v206 c16_i32_88
  v207
def k0_mult4 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_86 : BitVec 32 := 3#32
  let v205 : BitVec 32 := Scalar.muli arg16 c3_i32_86
  let c1_i32_87 : BitVec 32 := 1#32
  let v206 : BitVec 32 := Scalar.addi v205 c1_i32_87
  let c16_i32_88 : BitVec 32 := 16#32
  let v207 : BitVec 32 := Scalar.muli v206 c16_i32_88
  let v208 : BitVec 32 := v207
  let c0_i32_89 : BitVec 32 := 0#32
  let v209 : BitVec 32 := Scalar.addi v208 c0_i32_89
  v209
def k0_mult5 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_105 : BitVec 32 := 3#32
  let v254 : BitVec 32 := Scalar.muli arg16 c3_i32_105
  let c2_i32_106 : BitVec 32 := 2#32
  let v255 : BitVec 32 := Scalar.addi v254 c2_i32_106
  let c16_i32_107 : BitVec 32 := 16#32
  let v256 : BitVec 32 := Scalar.muli v255 c16_i32_107
  v256
def k0_mult6 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_105 : BitVec 32 := 3#32
  let v254 : BitVec 32 := Scalar.muli arg16 c3_i32_105
  let c2_i32_106 : BitVec 32 := 2#32
  let v255 : BitVec 32 := Scalar.addi v254 c2_i32_106
  let c16_i32_107 : BitVec 32 := 16#32
  let v256 : BitVec 32 := Scalar.muli v255 c16_i32_107
  let v257 : BitVec 32 := v256
  let c0_i32_108 : BitVec 32 := 0#32
  let v258 : BitVec 32 := Scalar.addi v257 c0_i32_108
  v258
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .slt arg1 c0_i32_5
  let v12 : BitVec 32 := Scalar.extui v11
  let v13 : BitVec 32 := Scalar.subi v10 v12
  let c4_i32 : BitVec 32 := 4#32
  let c0_i32_6 : BitVec 32 := 0#32
  let v14 : BitVec 1 := Scalar.cmpi .sgt c4_i32 c0_i32_6
  let v15 : BitVec 32 := Scalar.extui v14
  let c0_i32_7 : BitVec 32 := 0#32
  let v16 : BitVec 1 := Scalar.cmpi .slt c4_i32 c0_i32_7
  let v17 : BitVec 32 := Scalar.extui v16
  let v18 : BitVec 32 := Scalar.subi v15 v17
  let v19 : BitVec 1 := Scalar.cmpi .ne v13 v18
  let v20 : BitVec 32 := Scalar.remsi arg1 c4_i32
  let c0_i32_8 : BitVec 32 := 0#32
  let v21 : BitVec 1 := Scalar.cmpi .ne v20 c0_i32_8
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c0_i32_9 : BitVec 32 := 0#32
  let v25 : BitVec 1 := Scalar.cmpi .eq v24 c0_i32_9
  let v26 : BitVec 32 := Scalar.extui v25
  let c0_i32_10 : BitVec 32 := 0#32
  let v27 : BitVec 1 := Scalar.cmpi .ne v26 c0_i32_10
  v27

def k0_cond4 (i : grid0.Coords) : BitVec 1 :=
  let arg1 : BitVec 32 := BitVec.ofNat 32 (i 1).val
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .slt arg1 c0_i32_13
  let v32 : BitVec 32 := Scalar.extui v31
  let v33 : BitVec 32 := Scalar.subi v30 v32
  let c4_i32_11 : BitVec 32 := 4#32
  let c0_i32_14 : BitVec 32 := 0#32
  let v34 : BitVec 1 := Scalar.cmpi .sgt c4_i32_11 c0_i32_14
  let v35 : BitVec 32 := Scalar.extui v34
  let c0_i32_15 : BitVec 32 := 0#32
  let v36 : BitVec 1 := Scalar.cmpi .slt c4_i32_11 c0_i32_15
  let v37 : BitVec 32 := Scalar.extui v36
  let v38 : BitVec 32 := Scalar.subi v35 v37
  let v39 : BitVec 1 := Scalar.cmpi .ne v33 v38
  let v40 : BitVec 32 := Scalar.remsi arg1 c4_i32_11
  let c0_i32_16 : BitVec 32 := 0#32
  let v41 : BitVec 1 := Scalar.cmpi .ne v40 c0_i32_16
  let v42 : BitVec 1 := Scalar.andi v39 v41
  let v28 : BitVec 32 := Scalar.divsi arg1 c4_i32_11
  let c1_i32_17 : BitVec 32 := 1#32
  let v43 : BitVec 32 := Scalar.subi v28 c1_i32_17
  let v44 : BitVec 32 := Scalar.select v42 v43 v28
  let c1_i32_18 : BitVec 32 := 1#32
  let v45 : BitVec 1 := Scalar.cmpi .eq v44 c1_i32_18
  let v46 : BitVec 32 := Scalar.extui v45
  let c0_i32_19 : BitVec 32 := 0#32
  let v47 : BitVec 1 := Scalar.cmpi .ne v46 c0_i32_19
  v47

def k0_cond5 (i : grid0.Coords) : BitVec 1 :=
  let arg1 : BitVec 32 := BitVec.ofNat 32 (i 1).val
  let c0_i32_21 : BitVec 32 := 0#32
  let v49 : BitVec 1 := Scalar.cmpi .sgt arg1 c0_i32_21
  let v50 : BitVec 32 := Scalar.extui v49
  let c0_i32_22 : BitVec 32 := 0#32
  let v51 : BitVec 1 := Scalar.cmpi .slt arg1 c0_i32_22
  let v52 : BitVec 32 := Scalar.extui v51
  let v53 : BitVec 32 := Scalar.subi v50 v52
  let c4_i32_20 : BitVec 32 := 4#32
  let c0_i32_23 : BitVec 32 := 0#32
  let v54 : BitVec 1 := Scalar.cmpi .sgt c4_i32_20 c0_i32_23
  let v55 : BitVec 32 := Scalar.extui v54
  let c0_i32_24 : BitVec 32 := 0#32
  let v56 : BitVec 1 := Scalar.cmpi .slt c4_i32_20 c0_i32_24
  let v57 : BitVec 32 := Scalar.extui v56
  let v58 : BitVec 32 := Scalar.subi v55 v57
  let v59 : BitVec 1 := Scalar.cmpi .ne v53 v58
  let v60 : BitVec 32 := Scalar.remsi arg1 c4_i32_20
  let c0_i32_25 : BitVec 32 := 0#32
  let v61 : BitVec 1 := Scalar.cmpi .ne v60 c0_i32_25
  let v62 : BitVec 1 := Scalar.andi v59 v61
  let v48 : BitVec 32 := Scalar.divsi arg1 c4_i32_20
  let c1_i32_26 : BitVec 32 := 1#32
  let v63 : BitVec 32 := Scalar.subi v48 c1_i32_26
  let v64 : BitVec 32 := Scalar.select v62 v63 v48
  let c2_i32 : BitVec 32 := 2#32
  let v65 : BitVec 1 := Scalar.cmpi .eq v64 c2_i32
  let v66 : BitVec 32 := Scalar.extui v65
  let c0_i32_27 : BitVec 32 := 0#32
  let v67 : BitVec 1 := Scalar.cmpi .ne v66 c0_i32_27
  v67

def k0_cond6 (i : grid0.Coords) : BitVec 1 :=
  let arg1 : BitVec 32 := BitVec.ofNat 32 (i 1).val
  let c0_i32_29 : BitVec 32 := 0#32
  let v69 : BitVec 1 := Scalar.cmpi .sgt arg1 c0_i32_29
  let v70 : BitVec 32 := Scalar.extui v69
  let c0_i32_30 : BitVec 32 := 0#32
  let v71 : BitVec 1 := Scalar.cmpi .slt arg1 c0_i32_30
  let v72 : BitVec 32 := Scalar.extui v71
  let v73 : BitVec 32 := Scalar.subi v70 v72
  let c4_i32_28 : BitVec 32 := 4#32
  let c0_i32_31 : BitVec 32 := 0#32
  let v74 : BitVec 1 := Scalar.cmpi .sgt c4_i32_28 c0_i32_31
  let v75 : BitVec 32 := Scalar.extui v74
  let c0_i32_32 : BitVec 32 := 0#32
  let v76 : BitVec 1 := Scalar.cmpi .slt c4_i32_28 c0_i32_32
  let v77 : BitVec 32 := Scalar.extui v76
  let v78 : BitVec 32 := Scalar.subi v75 v77
  let v79 : BitVec 1 := Scalar.cmpi .ne v73 v78
  let v80 : BitVec 32 := Scalar.remsi arg1 c4_i32_28
  let c0_i32_33 : BitVec 32 := 0#32
  let v81 : BitVec 1 := Scalar.cmpi .ne v80 c0_i32_33
  let v82 : BitVec 1 := Scalar.andi v79 v81
  let v68 : BitVec 32 := Scalar.divsi arg1 c4_i32_28
  let c1_i32_34 : BitVec 32 := 1#32
  let v83 : BitVec 32 := Scalar.subi v68 c1_i32_34
  let v84 : BitVec 32 := Scalar.select v82 v83 v68
  let c3_i32 : BitVec 32 := 3#32
  let v85 : BitVec 1 := Scalar.cmpi .eq v84 c3_i32
  let v86 : BitVec 32 := Scalar.extui v85
  let c0_i32_35 : BitVec 32 := 0#32
  let v87 : BitVec 1 := Scalar.cmpi .ne v86 c0_i32_35
  v87

def k0_cond7 (i : grid0.Coords) : BitVec 1 :=
  let arg1 : BitVec 32 := BitVec.ofNat 32 (i 1).val
  let c0_i32_37 : BitVec 32 := 0#32
  let v89 : BitVec 1 := Scalar.cmpi .sgt arg1 c0_i32_37
  let v90 : BitVec 32 := Scalar.extui v89
  let c0_i32_38 : BitVec 32 := 0#32
  let v91 : BitVec 1 := Scalar.cmpi .slt arg1 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi arg1 c4_i32_36
  let c0_i32_41 : BitVec 32 := 0#32
  let v101 : BitVec 1 := Scalar.cmpi .ne v100 c0_i32_41
  let v102 : BitVec 1 := Scalar.andi v99 v101
  let v88 : BitVec 32 := Scalar.divsi arg1 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 1 := Scalar.cmpi .eq v104 c4_i32_43
  let v106 : BitVec 32 := Scalar.extui v105
  let c0_i32_44 : BitVec 32 := 0#32
  let v107 : BitVec 1 := Scalar.cmpi .ne v106 c0_i32_44
  v107

def k0_cond8 (i : grid0.Coords) : BitVec 1 :=
  let arg1 : BitVec 32 := BitVec.ofNat 32 (i 1).val
  let c0_i32_46 : BitVec 32 := 0#32
  let v109 : BitVec 1 := Scalar.cmpi .sgt arg1 c0_i32_46
  let v110 : BitVec 32 := Scalar.extui v109
  let c0_i32_47 : BitVec 32 := 0#32
  let v111 : BitVec 1 := Scalar.cmpi .slt arg1 c0_i32_47
  let v112 : BitVec 32 := Scalar.extui v111
  let v113 : BitVec 32 := Scalar.subi v110 v112
  let c4_i32_45 : BitVec 32 := 4#32
  let c0_i32_48 : BitVec 32 := 0#32
  let v114 : BitVec 1 := Scalar.cmpi .sgt c4_i32_45 c0_i32_48
  let v115 : BitVec 32 := Scalar.extui v114
  let c0_i32_49 : BitVec 32 := 0#32
  let v116 : BitVec 1 := Scalar.cmpi .slt c4_i32_45 c0_i32_49
  let v117 : BitVec 32 := Scalar.extui v116
  let v118 : BitVec 32 := Scalar.subi v115 v117
  let v119 : BitVec 1 := Scalar.cmpi .ne v113 v118
  let v120 : BitVec 32 := Scalar.remsi arg1 c4_i32_45
  let c0_i32_50 : BitVec 32 := 0#32
  let v121 : BitVec 1 := Scalar.cmpi .ne v120 c0_i32_50
  let v122 : BitVec 1 := Scalar.andi v119 v121
  let v108 : BitVec 32 := Scalar.divsi arg1 c4_i32_45
  let c1_i32_51 : BitVec 32 := 1#32
  let v123 : BitVec 32 := Scalar.subi v108 c1_i32_51
  let v124 : BitVec 32 := Scalar.select v122 v123 v108
  let c5_i32 : BitVec 32 := 5#32
  let v125 : BitVec 1 := Scalar.cmpi .eq v124 c5_i32
  let v126 : BitVec 32 := Scalar.extui v125
  let c0_i32_52 : BitVec 32 := 0#32
  let v127 : BitVec 1 := Scalar.cmpi .ne v126 c0_i32_52
  v127

def k0_cond9 (i : grid0.Coords) : BitVec 1 :=
  let arg1 : BitVec 32 := BitVec.ofNat 32 (i 1).val
  let c0_i32_54 : BitVec 32 := 0#32
  let v129 : BitVec 1 := Scalar.cmpi .sgt arg1 c0_i32_54
  let v130 : BitVec 32 := Scalar.extui v129
  let c0_i32_55 : BitVec 32 := 0#32
  let v131 : BitVec 1 := Scalar.cmpi .slt arg1 c0_i32_55
  let v132 : BitVec 32 := Scalar.extui v131
  let v133 : BitVec 32 := Scalar.subi v130 v132
  let c4_i32_53 : BitVec 32 := 4#32
  let c0_i32_56 : BitVec 32 := 0#32
  let v134 : BitVec 1 := Scalar.cmpi .sgt c4_i32_53 c0_i32_56
  let v135 : BitVec 32 := Scalar.extui v134
  let c0_i32_57 : BitVec 32 := 0#32
  let v136 : BitVec 1 := Scalar.cmpi .slt c4_i32_53 c0_i32_57
  let v137 : BitVec 32 := Scalar.extui v136
  let v138 : BitVec 32 := Scalar.subi v135 v137
  let v139 : BitVec 1 := Scalar.cmpi .ne v133 v138
  let v140 : BitVec 32 := Scalar.remsi arg1 c4_i32_53
  let c0_i32_58 : BitVec 32 := 0#32
  let v141 : BitVec 1 := Scalar.cmpi .ne v140 c0_i32_58
  let v142 : BitVec 1 := Scalar.andi v139 v141
  let v128 : BitVec 32 := Scalar.divsi arg1 c4_i32_53
  let c1_i32_59 : BitVec 32 := 1#32
  let v143 : BitVec 32 := Scalar.subi v128 c1_i32_59
  let v144 : BitVec 32 := Scalar.select v142 v143 v128
  let c6_i32 : BitVec 32 := 6#32
  let v145 : BitVec 1 := Scalar.cmpi .eq v144 c6_i32
  let v146 : BitVec 32 := Scalar.extui v145
  let c0_i32_60 : BitVec 32 := 0#32
  let v147 : BitVec 1 := Scalar.cmpi .ne v146 c0_i32_60
  v147

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S912x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S912x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S912x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S912x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S912x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference5Ideal.lean ====
abbrev S8208x2048 : Shape := ⟨2, ![8208, 2048]⟩
abbrev S2048 : Shape := ⟨1, ![2048]⟩
abbrev S2048x14336 : Shape := ⟨2, ![2048, 14336]⟩
abbrev S8208x14336 : Shape := ⟨2, ![8208, 14336]⟩
abbrev S_ : Shape := ⟨0, ![]⟩
abbrev S8208 : Shape := ⟨1, ![8208]⟩
abbrev S8208x1 : Shape := ⟨2, ![8208, 1]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S8208x2048, .f32⟩
  | .hbm, ⟨4, _⟩ => ⟨S8208x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S8208x2048, .f32⟩
  | .hbm, ⟨10, _⟩ => ⟨S8208x2048, .f32⟩
  | .hbm, ⟨11, _⟩ => ⟨S8208x14336, .f32⟩
  | .hbm, ⟨12, _⟩ => ⟨S8208x2048, .f32⟩
  | .hbm, ⟨13, _⟩ => ⟨S_, .f32⟩
  | .hbm, ⟨14, _⟩ => ⟨S8208, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S_, .f32⟩
  | .hbm, ⟨20, _⟩ => ⟨S8208x1, .f32⟩
  | .hbm, ⟨21, _⟩ => ⟨S8208x1, .f32⟩
  | .hbm, ⟨22, _⟩ => ⟨S8208x1, .f32⟩
  | .hbm, ⟨23, _⟩ => ⟨S8208x1, .f32⟩
  | .hbm, ⟨24, _⟩ => ⟨S_, .f32⟩
  | .hbm, ⟨25, _⟩ => ⟨S8208x1, .f32⟩
  | .hbm, ⟨26, _⟩ => ⟨S8208x1, .f32⟩
  | .hbm, ⟨27, _⟩ => ⟨S8208x2048, .f32⟩
  | .hbm, ⟨28, _⟩ => ⟨S8208x2048, .f32⟩
  | .hbm, ⟨29, _⟩ => ⟨S1x2048, .f32⟩
  | .hbm, ⟨30, _⟩ => ⟨S8208x2048, .f32⟩
  | .hbm, ⟨31, _⟩ => ⟨S8208x2048, .f32⟩
  | .hbm, ⟨32, _⟩ => ⟨S8208x14336, .f32⟩
  | .hbm, ⟨33, _⟩ => ⟨S8208x2048, .f32⟩
  | .hbm, ⟨34, _⟩ => ⟨S8208x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8208x2048, .f32⟩
  | .hbm, ⟨39, _⟩ => ⟨S8208x2048, .f32⟩
  | .hbm, ⟨40, _⟩ => ⟨S_, .f32⟩
  | .hbm, ⟨41, _⟩ => ⟨S2048, .f32⟩
  | .hbm, ⟨42, _⟩ => ⟨S8208x2048, .f32⟩
  | .hbm, ⟨43, _⟩ => ⟨S_, .f32⟩
  | .hbm, ⟨44, _⟩ => ⟨S8208, .f32⟩
  | .hbm, ⟨45, _⟩ => ⟨S8208x1, .f32⟩
  | .hbm, ⟨46, _⟩ => ⟨S8208x2048, .f32⟩
  | .hbm, ⟨47, _⟩ => ⟨S8208x2048, .f32⟩
  | .hbm, ⟨48, _⟩ => ⟨S8208x1, .f32⟩
  | .hbm, ⟨49, _⟩ => ⟨S_, .f32⟩
  | .hbm, ⟨50, _⟩ => ⟨S8208x1, .f32⟩
  | .hbm, ⟨51, _⟩ => ⟨S8208x1, .f32⟩
  | .hbm, ⟨52, _⟩ => ⟨S_, .f32⟩
  | .hbm, ⟨53, _⟩ => ⟨S8208, .f32⟩
  | .hbm, ⟨54, _⟩ => ⟨S8208x2048, .f32⟩
  | .hbm, ⟨55, _⟩ => ⟨S8208x2048, .f32⟩
  | .hbm, ⟨56, _⟩ => ⟨S8208x2048, .f32⟩
  | .hbm, ⟨57, _⟩ => ⟨S8208x2048, .f32⟩
  | .hbm, ⟨58, _⟩ => ⟨S8208x2048, .f32⟩
  | .hbm, ⟨59, _⟩ => ⟨S8208x2048, .f32⟩
  | .hbm, ⟨60, _⟩ => ⟨S1x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel6.lean ====
abbrev S8208x2048 : Shape := ⟨2, ![8208, 2048]⟩
abbrev S8208x14336 : Shape := ⟨2, ![8208, 14336]⟩
abbrev S2048x2048 : Shape := ⟨2, ![2048, 2048]⟩
abbrev S912x2048 : Shape := ⟨2, ![912, 2048]⟩
abbrev S912x512 : Shape := ⟨2, ![912, 512]⟩
abbrev S2048x512 : Shape := ⟨2, ![2048, 512]⟩

abbrev nBuf : Space → Nat
  | .hbm => 12
  | .vmem => 18
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S8208x2048, .bf16⟩
  | .hbm, ⟨6, _⟩ => ⟨S8208x2048, .bf16⟩
  | .hbm, ⟨7, _⟩ => ⟨S2048x2048, .bf16⟩
  | .hbm, ⟨8, _⟩ => ⟨S2048x2048, .bf16⟩
  | .hbm, ⟨9, _⟩ => ⟨S8208x2048, .bf16⟩
  | .hbm, ⟨10, _⟩ => ⟨S8208x2048, .bf16⟩
  | .hbm, ⟨11, _⟩ => ⟨S8208x2048, .bf16⟩
  | .local _ .vmem, ⟨0, _⟩ => ⟨S912x2048, .bf16⟩
  | .local _ .vmem, ⟨1, _⟩ => ⟨S912x2048, .bf16⟩
  | .local _ .vmem, ⟨2, _⟩ => ⟨S912x2048, .bf16⟩
  | .local _ .vmem, ⟨3, _⟩ => ⟨S912x2048, .bf16⟩
  | .local _ .vmem, ⟨4, _⟩ => ⟨S912x512, .f32⟩
  | .local _ .vmem, ⟨5, _⟩ => ⟨S912x512, .f32⟩
  | .local _ .vmem, ⟨6, _⟩ => ⟨S912x512, .f32⟩
  | .local _ .vmem, ⟨7, _⟩ => ⟨S912x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S912x512, .bf16⟩
  | .local _ .vmem, ⟨17, _⟩ => ⟨S912x512, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S912x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S912x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S912x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8208x2048 : Shape := ⟨2, ![8208, 2048]⟩
abbrev S8208x14336 : Shape := ⟨2, ![8208, 14336]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S8208x2048, .f32⟩
  | .hbm, ⟨10, _⟩ => ⟨S8208x2048, .f32⟩
  | .hbm, ⟨11, _⟩ => ⟨S_, .f32⟩
  | .hbm, ⟨12, _⟩ => ⟨S8208x2048, .f32⟩
  | .hbm, ⟨13, _⟩ => ⟨S8208x2048, .f32⟩
  | .hbm, ⟨14, _⟩ => ⟨S_, .f32⟩
  | .hbm, ⟨15, _⟩ => ⟨S8208x2048, .f32⟩
  | .hbm, ⟨16, _⟩ => ⟨S8208x2048, .f32⟩
  | .hbm, ⟨17, _⟩ => ⟨S8208x2048, .f32⟩
  | .hbm, ⟨18, _⟩ => ⟨S8208x2048, .f32⟩
  | .hbm, ⟨19, _⟩ => ⟨S8208x2048, .f32⟩
  | .hbm, ⟨20, _⟩ => ⟨S_, .f32⟩
  | .hbm, ⟨21, _⟩ => ⟨S8208x2048, .f32⟩
  | .hbm, ⟨22, _⟩ => ⟨S8208x2048, .f32⟩
  | .hbm, ⟨23, _⟩ => ⟨S_, .f32⟩
  | .hbm, ⟨24, _⟩ => ⟨S8208x2048, .f32⟩
  | .hbm, ⟨25, _⟩ => ⟨S8208x2048, .f32⟩
  | .hbm, ⟨26, _⟩ => ⟨S8208x2048, .f32⟩
  | .hbm, ⟨27, _⟩ => ⟨S8208x2048, .f32⟩
  | .hbm, ⟨28, _⟩ => ⟨S8208x2048, .bf16⟩
  | .hbm, ⟨29, _⟩ => ⟨S8208x2048, .bf16⟩
  | .hbm, ⟨30, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S8208x2048 : Shape := ⟨2, ![8208, 2048]⟩
abbrev S2048x2048 : Shape := ⟨2, ![2048, 2048]⟩
abbrev S912x1024 : Shape := ⟨2, ![912, 1024]⟩
abbrev S912x2048 : Shape := ⟨2, ![912, 2048]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S2048x2048, .f32⟩
  | .hbm, ⟨3, _⟩ => ⟨S8208x2048, .bf16⟩
  | .hbm, ⟨4, _⟩ => ⟨S2048x2048, .bf16⟩
  | .hbm, ⟨5, _⟩ => ⟨S8208x2048, .f32⟩
  | .local _ .vmem, ⟨0, _⟩ => ⟨S912x1024, .f32⟩
  | .local _ .vmem, ⟨1, _⟩ => ⟨S912x1024, .f32⟩
  | .local _ .vmem, ⟨2, _⟩ => ⟨S912x2048, .bf16⟩
  | .local _ .vmem, ⟨3, _⟩ => ⟨S912x2048, .bf16⟩
  | .local _ .vmem, ⟨4, _⟩ => ⟨S2048x1024, .bf16⟩
  | .local _ .vmem, ⟨5, _⟩ => ⟨S2048x1024, .bf16⟩
  | .local _ .vmem, ⟨6, _⟩ => ⟨S912x1024, .f32⟩
  | .local _ .vmem, ⟨7, _⟩ => ⟨S912x1024, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S912x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8208x2048 : Shape := ⟨2, ![8208, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S2048x2048, .f32⟩
  | .hbm, ⟨3, _⟩ => ⟨S8208x2048, .f32⟩
  | .hbm, ⟨4, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8208x2048 : Shape := ⟨2, ![8208, 2048]⟩
abbrev S2048x2048 : Shape := ⟨2, ![2048, 2048]⟩
abbrev S8208x14336 : Shape := ⟨2, ![8208, 14336]⟩
abbrev S912x2048 : Shape := ⟨2, ![912, 2048]⟩
abbrev S512x2048 : Shape := ⟨2, ![512, 2048]⟩
abbrev S912x512 : Shape := ⟨2, ![912, 512]⟩

abbrev nBuf : Space → Nat
  | .hbm => 12
  | .vmem => 21
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x14336, .f32⟩
  | .hbm, ⟨3, _⟩ => ⟨S8208x2048, .f32⟩
  | .hbm, ⟨4, _⟩ => ⟨S8208x2048, .f32⟩
  | .hbm, ⟨5, _⟩ => ⟨S2048x2048, .bf16⟩
  | .hbm, ⟨6, _⟩ => ⟨S8208x2048, .bf16⟩
  | .hbm, ⟨7, _⟩ => ⟨S8208x2048, .bf16⟩
  | .hbm, ⟨8, _⟩ => ⟨S8208x2048, .bf16⟩
  | .hbm, ⟨9, _⟩ => ⟨S8208x2048, .bf16⟩
  | .hbm, ⟨10, _⟩ => ⟨S8208x2048, .bf16⟩
  | .hbm, ⟨11, _⟩ => ⟨S8208x2048, .bf16⟩
  | .local _ .vmem, ⟨0, _⟩ => ⟨S912x2048, .f32⟩
  | .local _ .vmem, ⟨1, _⟩ => ⟨S912x2048, .f32⟩
  | .local _ .vmem, ⟨2, _⟩ => ⟨S512x2048, .bf16⟩
  | .local _ .vmem, ⟨3, _⟩ => ⟨S512x2048, .bf16⟩
  | .local _ .vmem, ⟨4, _⟩ => ⟨S912x512, .f32⟩
  | .local _ .vmem, ⟨5, _⟩ => ⟨S912x512, .f32⟩
  | .local _ .vmem, ⟨6, _⟩ => ⟨S912x512, .f32⟩
  | .local _ .vmem, ⟨7, _⟩ => ⟨S912x512, .f32⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S912x512, .bf16⟩
  | .local _ .vmem, ⟨17, _⟩ => ⟨S912x512, .bf16⟩
  | .local _ .vmem, ⟨18, _⟩ => ⟨S912x512, .bf16⟩
  | .local _ .vmem, ⟨19, _⟩ => ⟨S912x512, .bf16⟩
  | .local _ .vmem, ⟨20, _⟩ => ⟨S912x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S912x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S912x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S912x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S8208x2048 : Shape := ⟨2, ![8208, 2048]⟩
abbrev S2048x2048 : Shape := ⟨2, ![2048, 2048]⟩
abbrev S8208x14336 : Shape := ⟨2, ![8208, 14336]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x14336, .f32⟩
  | .hbm, ⟨3, _⟩ => ⟨S8208x2048, .f32⟩
  | .hbm, ⟨4, _⟩ => ⟨S8208x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S_, .f32⟩
  | .hbm, ⟨10, _⟩ => ⟨S8208x2048, .f32⟩
  | .hbm, ⟨11, _⟩ => ⟨S8208x2048, .f32⟩
  | .hbm, ⟨12, _⟩ => ⟨S_, .f32⟩
  | .hbm, ⟨13, _⟩ => ⟨S8208x2048, .f32⟩
  | .hbm, ⟨14, _⟩ => ⟨S8208x2048, .f32⟩
  | .hbm, ⟨15, _⟩ => ⟨S_, .f32⟩
  | .hbm, ⟨16, _⟩ => ⟨S8208x2048, .f32⟩
  | .hbm, ⟨17, _⟩ => ⟨S8208x2048, .f32⟩
  | .hbm, ⟨18, _⟩ => ⟨S8208x2048, .f32⟩
  | .hbm, ⟨19, _⟩ => ⟨S8208x2048, .f32⟩
  | .hbm, ⟨20, _⟩ => ⟨S8208x2048, .f32⟩
  | .hbm, ⟨21, _⟩ => ⟨S8208x2048, .f32⟩
  | .hbm, ⟨22, _⟩ => ⟨S_, .f32⟩
  | .hbm, ⟨23, _⟩ => ⟨S8208x2048, .f32⟩
  | .hbm, ⟨24, _⟩ => ⟨S8208x2048, .f32⟩
  | .hbm, ⟨25, _⟩ => ⟨S_, .f32⟩
  | .hbm, ⟨26, _⟩ => ⟨S8208x2048, .f32⟩
  | .hbm, ⟨27, _⟩ => ⟨S8208x2048, .f32⟩
  | .hbm, ⟨28, _⟩ => ⟨S_, .f32⟩
  | .hbm, ⟨29, _⟩ => ⟨S8208x2048, .f32⟩
  | .hbm, ⟨30, _⟩ => ⟨S8208x2048, .f32⟩
  | .hbm, ⟨31, _⟩ => ⟨S8208x2048, .f32⟩
  | .hbm, ⟨32, _⟩ => ⟨S8208x2048, .f32⟩
  | .hbm, ⟨33, _⟩ => ⟨S8208x2048, .f32⟩
  | .hbm, ⟨34, _⟩ => ⟨S8208x2048, .f32⟩
  | .hbm, ⟨35, _⟩ => ⟨S8208x2048, .f32⟩
  | .hbm, ⟨36, _⟩ => ⟨S8208x2048, .f32⟩
  | .hbm, ⟨37, _⟩ => ⟨S8208x2048, .f32⟩
  | .hbm, ⟨38, _⟩ => ⟨S8208x2048, .f32⟩
  | .hbm, ⟨39, _⟩ => ⟨S8208x2048, .f32⟩
  | .hbm, ⟨40, _⟩ => ⟨S8208x2048, .f32⟩
  | .hbm, ⟨41, _⟩ => ⟨S8208x2048, .f32⟩
  | .hbm, ⟨42, _⟩ => ⟨S8208x2048, .bf16⟩
  | .hbm, ⟨43, _⟩ => ⟨S8208x2048, .bf16⟩
  | .hbm, ⟨44, _⟩ => ⟨S8208x2048, .bf16⟩
  | .hbm, ⟨45, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel9.lean ====
abbrev S4x2048 : Shape := ⟨2, ![4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel9Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference9Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S4x16x128x128 : Shape := ⟨4, ![4, 16, 128, 128]⟩
abbrev S8192x128 : Shape := ⟨2, ![8192, 128]⟩
abbrev S4096x128 : Shape := ⟨2, ![4096, 128]⟩

abbrev nBuf : Space → Nat
  | .hbm => 16
  | .vmem => 16
  | .smem => 0
  | _ => 0

abbrev bufTy : (tb : Table) → Fin (tcTables nBuf tb) → BufTy
  | .hbm, ⟨0, _⟩ => ⟨S4x16x128x128, .f32⟩
  | .hbm, ⟨1, _⟩ => ⟨S4x16x128x128, .f32⟩
  | .hbm, ⟨2, _⟩ => ⟨S4x16x128x128, .f32⟩
  | .hbm, ⟨3, _⟩ => ⟨S4x16x128x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S4x16x128x128, .f32⟩
  | .hbm, ⟨13, _⟩ => ⟨S4x16x128x128, .f32⟩
  | .hbm, ⟨14, _⟩ => ⟨S4x16x128x128, .f32⟩
  | .hbm, ⟨15, _⟩ => ⟨S4x16x128x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference10Ideal.lean ====
abbrev S4x16x128x128 : Shape := ⟨4, ![4, 16, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16x128x128, .f32⟩
  | .hbm, ⟨1, _⟩ => ⟨S4x16x128x128, .f32⟩
  | .hbm, ⟨2, _⟩ => ⟨S4x16x128x128, .f32⟩
  | .hbm, ⟨3, _⟩ => ⟨S4x16x128x128, .f32⟩
  | .hbm, ⟨4, _⟩ => ⟨S_, .f32⟩
  | .hbm, ⟨5, _⟩ => ⟨S4x16x128x128, .f32⟩
  | .hbm, ⟨6, _⟩ => ⟨S4x16x128x128, .f32⟩
  | .hbm, ⟨7, _⟩ => ⟨S_, .f32⟩
  | .hbm, ⟨8, _⟩ => ⟨S4x16x128x128, .f32⟩
  | .hbm, ⟨9, _⟩ => ⟨S4x16x128x128, .f32⟩
  | .hbm, ⟨10, _⟩ => ⟨S4x16x128x128, .f32⟩
  | .hbm, ⟨11, _⟩ => ⟨S_, .f32⟩
  | .hbm, ⟨12, _⟩ => ⟨S4x16x128x128, .f32⟩
  | .hbm, ⟨13, _⟩ => ⟨S4x16x128x128, .f32⟩
  | .hbm, ⟨14, _⟩ => ⟨S4x16x128x128, .f32⟩
  | .hbm, ⟨15, _⟩ => ⟨S_, .f32⟩
  | .hbm, ⟨16, _⟩ => ⟨S4x16x128x128, .f32⟩
  | .hbm, ⟨17, _⟩ => ⟨S4x16x128x128, .f32⟩
  | .hbm, ⟨18, _⟩ => ⟨S4x16x128x128, .f32⟩
  | .hbm, ⟨19, _⟩ => ⟨S_, .f32⟩
  | .hbm, ⟨20, _⟩ => ⟨S4x16x128x128, .f32⟩
  | .hbm, ⟨21, _⟩ => ⟨S4x16x128x128, .f32⟩
  | .hbm, ⟨22, _⟩ => ⟨S_, .f32⟩
  | .hbm, ⟨23, _⟩ => ⟨S4x16x128x128, .f32⟩
  | .hbm, ⟨24, _⟩ => ⟨S4x16x128x128, .f32⟩
  | .hbm, ⟨25, _⟩ => ⟨S4x16x128x128, .f32⟩
  | .hbm, ⟨26, _⟩ => ⟨S_, .f32⟩
  | .hbm, ⟨27, _⟩ => ⟨S4x16x128x128, .f32⟩
  | .hbm, ⟨28, _⟩ => ⟨S4x16x128x128, .f32⟩
  | .hbm, ⟨29, _⟩ => ⟨S4x16x128x128, .f32⟩
  | .hbm, ⟨30, _⟩ => ⟨S_, .f32⟩
  | .hbm, ⟨31, _⟩ => ⟨S4x16x128x128, .f32⟩
  | .hbm, ⟨32, _⟩ => ⟨S4x16x128x128, .f32⟩
  | .hbm, ⟨33, _⟩ => ⟨S4x16x128x128, .f32⟩
  | .hbm, ⟨34, _⟩ => ⟨S_, .f32⟩
  | .hbm, ⟨35, _⟩ => ⟨S4x16x128x128, .f32⟩
  | .hbm, ⟨36, _⟩ => ⟨S4x16x128x128, .f32⟩
  | _, _ => ⟨S4x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4x4x512 : Shape := ⟨3, ![4, 4, 512]⟩
abbrev S16x512 : Shape := ⟨2, ![16, 512]⟩

abbrev nBuf : Space → Nat
  | .hbm => 16
  | .vmem => 8
  | .smem => 0
  | _ => 0

abbrev bufTy : (tb : Table) → Fin (tcTables nBuf tb) → BufTy
  | .hbm, ⟨0, _⟩ => ⟨S4x4x512, .f32⟩
  | .hbm, ⟨1, _⟩ => ⟨S4x4x512, .f32⟩
  | .hbm, ⟨2, _⟩ => ⟨S4x4x512, .f32⟩
  | .hbm, ⟨3, _⟩ => ⟨S4x4x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S16x512, .f32⟩
  | .hbm, ⟨12, _⟩ => ⟨S4x4x512, .f32⟩
  | .hbm, ⟨13, _⟩ => ⟨S4x4x512, .f32⟩
  | .hbm, ⟨14, _⟩ => ⟨S4x4x512, .f32⟩
  | .hbm, ⟨15, _⟩ => ⟨S4x4x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S4x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference11Ideal.lean ====
abbrev S4x4x512 : Shape := ⟨3, ![4, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x512, .f32⟩
  | .hbm, ⟨1, _⟩ => ⟨S4x4x512, .f32⟩
  | .hbm, ⟨2, _⟩ => ⟨S4x4x512, .f32⟩
  | .hbm, ⟨3, _⟩ => ⟨S4x4x512, .f32⟩
  | .hbm, ⟨4, _⟩ => ⟨S_, .f32⟩
  | .hbm, ⟨5, _⟩ => ⟨S4x4x512, .f32⟩
  | .hbm, ⟨6, _⟩ => ⟨S4x4x512, .f32⟩
  | .hbm, ⟨7, _⟩ => ⟨S_, .f32⟩
  | .hbm, ⟨8, _⟩ => ⟨S4x4x512, .f32⟩
  | .hbm, ⟨9, _⟩ => ⟨S4x4x512, .f32⟩
  | .hbm, ⟨10, _⟩ => ⟨S4x4x512, .f32⟩
  | .hbm, ⟨11, _⟩ => ⟨S_, .f32⟩
  | .hbm, ⟨12, _⟩ => ⟨S4x4x512, .f32⟩
  | .hbm, ⟨13, _⟩ => ⟨S4x4x512, .f32⟩
  | .hbm, ⟨14, _⟩ => ⟨S4x4x512, .f32⟩
  | .hbm, ⟨15, _⟩ => ⟨S_, .f32⟩
  | .hbm, ⟨16, _⟩ => ⟨S4x4x512, .f32⟩
  | .hbm, ⟨17, _⟩ => ⟨S4x4x512, .f32⟩
  | .hbm, ⟨18, _⟩ => ⟨S4x4x512, .f32⟩
  | .hbm, ⟨19, _⟩ => ⟨S_, .f32⟩
  | .hbm, ⟨20, _⟩ => ⟨S4x4x512, .f32⟩
  | .hbm, ⟨21, _⟩ => ⟨S4x4x512, .f32⟩
  | .hbm, ⟨22, _⟩ => ⟨S_, .f32⟩
  | .hbm, ⟨23, _⟩ => ⟨S4x4x512, .f32⟩
  | .hbm, ⟨24, _⟩ => ⟨S4x4x512, .f32⟩
  | .hbm, ⟨25, _⟩ => ⟨S4x4x512, .f32⟩
  | .hbm, ⟨26, _⟩ => ⟨S_, .f32⟩
  | .hbm, ⟨27, _⟩ => ⟨S4x4x512, .f32⟩
  | .hbm, ⟨28, _⟩ => ⟨S4x4x512, .f32⟩
  | .hbm, ⟨29, _⟩ => ⟨S4x4x512, .f32⟩
  | .hbm, ⟨30, _⟩ => ⟨S_, .f32⟩
  | .hbm, ⟨31, _⟩ => ⟨S4x4x512, .f32⟩
  | .hbm, ⟨32, _⟩ => ⟨S4x4x512, .f32⟩
  | .hbm, ⟨33, _⟩ => ⟨S4x4x512, .f32⟩
  | .hbm, ⟨34, _⟩ => ⟨S_, .f32⟩
  | .hbm, ⟨35, _⟩ => ⟨S4x4x512, .f32⟩
  | .hbm, ⟨36, _⟩ => ⟨S4x4x512, .f32⟩
  | _, _ => ⟨S4x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4x31x512 : Shape := ⟨3, ![4, 31, 512]⟩
abbrev S124x512 : Shape := ⟨2, ![124, 512]⟩

abbrev nBuf : Space → Nat
  | .hbm => 16
  | .vmem => 8
  | .smem => 0
  | _ => 0

abbrev bufTy : (tb : Table) → Fin (tcTables nBuf tb) → BufTy
  | .hbm, ⟨0, _⟩ => ⟨S4x31x512, .f32⟩
  | .hbm, ⟨1, _⟩ => ⟨S4x31x512, .f32⟩
  | .hbm, ⟨2, _⟩ => ⟨S4x31x512, .f32⟩
  | .hbm, ⟨3, _⟩ => ⟨S4x31x512, .f32⟩
  | .hbm, ⟨4, _⟩ => ⟨S124x512, .f32⟩
  | .hbm, ⟨5, _⟩ => ⟨S124x512, .f32⟩
  | .hbm, ⟨6, _⟩ => ⟨S124x512, .f32⟩
  | .hbm, ⟨7, _⟩ => ⟨S124x512, .f32⟩
  | .hbm, ⟨8, _⟩ => ⟨S124x512, .f32⟩
  | .hbm, ⟨9, _⟩ => ⟨S124x512, .f32⟩
  | .hbm, ⟨10, _⟩ => ⟨S124x512, .f32⟩
  | .hbm, ⟨11, _⟩ => ⟨S124x512, .f32⟩
  | .hbm, ⟨12, _⟩ => ⟨S4x31x512, .f32⟩
  | .hbm, ⟨13, _⟩ => ⟨S4x31x512, .f32⟩
  | .hbm, ⟨14, _⟩ => ⟨S4x31x512, .f32⟩
  | .hbm, ⟨15, _⟩ => ⟨S4x31x512, .f32⟩
  | .local _ .vmem, ⟨0, _⟩ => ⟨S124x512, .f32⟩
  | .local _ .vmem, ⟨1, _⟩ => ⟨S124x512, .f32⟩
  | .local _ .vmem, ⟨2, _⟩ => ⟨S124x512, .f32⟩
  | .local _ .vmem, ⟨3, _⟩ => ⟨S124x512, .f32⟩
  | .local _ .vmem, ⟨4, _⟩ => ⟨S124x512, .f32⟩
  | .local _ .vmem, ⟨5, _⟩ => ⟨S124x512, .f32⟩
  | .local _ .vmem, ⟨6, _⟩ => ⟨S124x512, .f32⟩
  | .local _ .vmem, ⟨7, _⟩ => ⟨S124x512, .f32⟩
  | _, _ => ⟨S4x31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S124x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S4x31x512 : Shape := ⟨3, ![4, 31, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x31x512, .f32⟩
  | .hbm, ⟨1, _⟩ => ⟨S4x31x512, .f32⟩
  | .hbm, ⟨2, _⟩ => ⟨S4x31x512, .f32⟩
  | .hbm, ⟨3, _⟩ => ⟨S4x31x512, .f32⟩
  | .hbm, ⟨4, _⟩ => ⟨S_, .f32⟩
  | .hbm, ⟨5, _⟩ => ⟨S4x31x512, .f32⟩
  | .hbm, ⟨6, _⟩ => ⟨S4x31x512, .f32⟩
  | .hbm, ⟨7, _⟩ => ⟨S_, .f32⟩
  | .hbm, ⟨8, _⟩ => ⟨S4x31x512, .f32⟩
  | .hbm, ⟨9, _⟩ => ⟨S4x31x512, .f32⟩
  | .hbm, ⟨10, _⟩ => ⟨S4x31x512, .f32⟩
  | .hbm, ⟨11, _⟩ => ⟨S_, .f32⟩
  | .hbm, ⟨12, _⟩ => ⟨S4x31x512, .f32⟩
  | .hbm, ⟨13, _⟩ => ⟨S4x31x512, .f32⟩
  | .hbm, ⟨14, _⟩ => ⟨S4x31x512, .f32⟩
  | .hbm, ⟨15, _⟩ => ⟨S_, .f32⟩
  | .hbm, ⟨16, _⟩ => ⟨S4x31x512, .f32⟩
  | .hbm, ⟨17, _⟩ => ⟨S4x31x512, .f32⟩
  | .hbm, ⟨18, _⟩ => ⟨S4x31x512, .f32⟩
  | .hbm, ⟨19, _⟩ => ⟨S_, .f32⟩
  | .hbm, ⟨20, _⟩ => ⟨S4x31x512, .f32⟩
  | .hbm, ⟨21, _⟩ => ⟨S4x31x512, .f32⟩
  | .hbm, ⟨22, _⟩ => ⟨S_, .f32⟩
  | .hbm, ⟨23, _⟩ => ⟨S4x31x512, .f32⟩
  | .hbm, ⟨24, _⟩ => ⟨S4x31x512, .f32⟩
  | .hbm, ⟨25, _⟩ => ⟨S4x31x512, .f32⟩
  | .hbm, ⟨26, _⟩ => ⟨S_, .f32⟩
  | .hbm, ⟨27, _⟩ => ⟨S4x31x512, .f32⟩
  | .hbm, ⟨28, _⟩ => ⟨S4x31x512, .f32⟩
  | .hbm, ⟨29, _⟩ => ⟨S4x31x512, .f32⟩
  | .hbm, ⟨30, _⟩ => ⟨S_, .f32⟩
  | .hbm, ⟨31, _⟩ => ⟨S4x31x512, .f32⟩
  | .hbm, ⟨32, _⟩ => ⟨S4x31x512, .f32⟩
  | .hbm, ⟨33, _⟩ => ⟨S4x31x512, .f32⟩
  | .hbm, ⟨34, _⟩ => ⟨S_, .f32⟩
  | .hbm, ⟨35, _⟩ => ⟨S4x31x512, .f32⟩
  | .hbm, ⟨36, _⟩ => ⟨S4x31x512, .f32⟩
  | _, _ => ⟨S4x31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048 : Shape := ⟨1, ![2048]⟩
abbrev S1x2048 : Shape := ⟨2, ![1, 2048]⟩

abbrev nBuf : Space → Nat
  | .hbm => 16
  | .vmem => 8
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel14Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference14Ideal.lean ====
abbrev S2048 : Shape := ⟨1, ![2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x512x2048 : Shape := ⟨3, ![4, 512, 2048]⟩
abbrev S1 : Shape := ⟨1, ![1]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 15
  | .vmem => 30
  | .smem => 1
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S4x512x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32_4 : BitVec 32 := 0#32
  let v19 : BitVec 1 := Scalar.cmpi .eq arg0 c0_i32_4
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let v20 : BitVec 1 := Scalar.andi v19 v18
  let v21 : BitVec 32 := Scalar.extui v20
  let c0_i32_5 : BitVec 32 := 0#32
  let v22 : BitVec 1 := Scalar.cmpi .ne v21 c0_i32_5
  v22

def k0_cond2 (i : grid0.Coords) (v17 : BitVec 32) : BitVec 1 :=
  let arg0 : BitVec 32 := BitVec.ofNat 32 (i 0).val
  let c0_i32_6 : BitVec 32 := 0#32
  let v23 : BitVec 1 := Scalar.cmpi .eq arg0 c0_i32_6
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v24 : BitVec 1 := Scalar.xori v18 v_true
  let v25 : BitVec 1 := Scalar.andi v23 v24
  let v26 : BitVec 32 := Scalar.extui v25
  let c0_i32_7 : BitVec 32 := 0#32
  let v27 : BitVec 1 := Scalar.cmpi .ne v26 c0_i32_7
  v27

def k0_cond3 (i : grid0.Coords) (v17 : BitVec 32) : BitVec 1 :=
  let arg0 : BitVec 32 := BitVec.ofNat 32 (i 0).val
  let c1_i32_8 : BitVec 32 := 1#32
  let v28 : BitVec 1 := Scalar.cmpi .eq arg0 c1_i32_8
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let v29 : BitVec 1 := Scalar.andi v28 v18
  let v30 : BitVec 32 := Scalar.extui v29
  let c0_i32_9 : BitVec 32 := 0#32
  let v31 : BitVec 1 := Scalar.cmpi .ne v30 c0_i32_9
  v31

def k0_cond4 (i : grid0.Coords) (v17 : BitVec 32) : BitVec 1 :=
  let arg0 : BitVec 32 := BitVec.ofNat 32 (i 0).val
  let c1_i32_10 : BitVec 32 := 1#32
  let v32 : BitVec 1 := Scalar.cmpi .eq arg0 c1_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let true_11 : BitVec 1 := 1#1
  let v33 : BitVec 1 := Scalar.xori v18 true_11
  let v34 : BitVec 1 := Scalar.andi v32 v33
  let v35 : BitVec 32 := Scalar.extui v34
  let c0_i32_12 : BitVec 32 := 0#32
  let v36 : BitVec 1 := Scalar.cmpi .ne v35 c0_i32_12
  v36

def k0_cond5 (i : grid0.Coords) (v17 : BitVec 32) : BitVec 1 :=
  let arg0 : BitVec 32 := BitVec.ofNat 32 (i 0).val
  let c2_i32_13 : BitVec 32 := 2#32
  let v37 : BitVec 1 := Scalar.cmpi .eq arg0 c2_i32_13
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let v38 : BitVec 1 := Scalar.andi v37 v18
  let v39 : BitVec 32 := Scalar.extui v38
  let c0_i32_14 : BitVec 32 := 0#32
  let v40 : BitVec 1 := Scalar.cmpi .ne v39 c0_i32_14
  v40

def k0_cond6 (i : grid0.Coords) (v17 : BitVec 32) : BitVec 1 :=
  let arg0 : BitVec 32 := BitVec.ofNat 32 (i 0).val
  let c2_i32_15 : BitVec 32 := 2#32
  let v41 : BitVec 1 := Scalar.cmpi .eq arg0 c2_i32_15
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let true_16 : BitVec 1 := 1#1
  let v42 : BitVec 1 := Scalar.xori v18 true_16
  let v43 : BitVec 1 := Scalar.andi v41 v42
  let v44 : BitVec 32 := Scalar.extui v43
  let c0_i32_17 : BitVec 32 := 0#32
  let v45 : BitVec 1 := Scalar.cmpi .ne v44 c0_i32_17
  v45

def k0_cond7 (i : grid0.Coords) (v17 : BitVec 32) : BitVec 1 :=
  let arg0 : BitVec 32 := BitVec.ofNat 32 (i 0).val
  let c3_i32 : BitVec 32 := 3#32
  let v46 : BitVec 1 := Scalar.cmpi .eq arg0 c3_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let v47 : BitVec 1 := Scalar.andi v46 v18
  let v48 : BitVec 32 := Scalar.extui v47
  let c0_i32_18 : BitVec 32 := 0#32
  let v49 : BitVec 1 := Scalar.cmpi .ne v48 c0_i32_18
  v49

def k0_cond8 (i : grid0.Coords) (v17 : BitVec 32) : BitVec 1 :=
  let arg0 : BitVec 32 := BitVec.ofNat 32 (i 0).val
  let c3_i32_19 : BitVec 32 := 3#32
  let v50 : BitVec 1 := Scalar.cmpi .eq arg0 c3_i32_19
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v18 : BitVec 1 := Scalar.cmpi .eq v16 v17
  let true_20 : BitVec 1 := 1#1
  let v51 : BitVec 1 := Scalar.xori v18 true_20
  let v52 : BitVec 1 := Scalar.andi v50 v51
  let v53 : BitVec 32 := Scalar.extui v52
  let c0_i32_21 : BitVec 32 := 0#32
  let v54 : BitVec 1 := Scalar.cmpi .ne v53 c0_i32_21
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c2_i32_4 : BitVec 32 := 2#32
  let v19 : BitVec 1 := Scalar.cmpi .eq arg0 c2_i32_4
  let v20 : BitVec 1 := Scalar.andi v19 v18
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_8 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c2_i32_4 : BitVec 32 := 2#32
  let v19 : BitVec 1 := Scalar.cmpi .eq arg0 c2_i32_4
  let v_true : BitVec 1 := 1#1
  let v20 : BitVec 1 := Scalar.xori v18 v_true
  let v21 : BitVec 1 := Scalar.andi v19 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_9 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c3_i32 : BitVec 32 := 3#32
  let v19 : BitVec 1 := Scalar.cmpi .eq arg0 c3_i32
  let v20 : BitVec 1 := Scalar.andi v19 v18
  let c2_i32_4 : BitVec 32 := 2#32
  let c0_i32_5 : BitVec 32 := 0#32
  let v21 : BitVec 1 := Scalar.cmpi .eq c2_i32_4 c0_i32_5
  let c1_i32_6 : BitVec 32 := 1#32
  let v22 : BitVec 32 := Scalar.select v21 c1_i32_6 c2_i32_4
  let v23 : BitVec 32 := Scalar.remsi arg1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_10 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c3_i32 : BitVec 32 := 3#32
  let v19 : BitVec 1 := Scalar.cmpi .eq arg0 c3_i32
  let v_true : BitVec 1 := 1#1
  let v20 : BitVec 1 := Scalar.xori v18 v_true
  let v21 : BitVec 1 := Scalar.andi v19 v20
  let c2_i32_4 : BitVec 32 := 2#32
  let c0_i32_5 : BitVec 32 := 0#32
  let v22 : BitVec 1 := Scalar.cmpi .eq c2_i32_4 c0_i32_5
  let c1_i32_6 : BitVec 32 := 1#32
  let v23 : BitVec 32 := Scalar.select v22 c1_i32_6 c2_i32_4
  let v24 : BitVec 32 := Scalar.remsi arg1 v23
  let c0_i32_7 : BitVec 32 := 0#32
  let v25 : BitVec 1 := Scalar.cmpi .ne v24 c0_i32_7
  let c0_i32_8 : BitVec 32 := 0#32
  let v26 : BitVec 1 := Scalar.cmpi .slt v24 c0_i32_8
  let c0_i32_9 : BitVec 32 := 0#32
  let v27 : BitVec 1 := Scalar.cmpi .slt v23 c0_i32_9
  let v28 : BitVec 1 := Scalar.xori v26 v27
  let v29 : BitVec 1 := Scalar.andi v28 v25
  let v30 : BitVec 32 := Scalar.addi v24 v23
  let v31 : BitVec 32 := Scalar.select v29 v30 v24
  let c0_i32_10 : BitVec 32 := 0#32
  let v32 : BitVec 32 := Scalar.select v21 v31 c0_i32_10
  let c0_i32_11 : BitVec 32 := 0#32
  let c0_i32_12 : BitVec 32 := 0#32
  ![v32.toNat, c0_i32_11.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel16Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference16Ideal.lean ====
abbrev S4x512x2048 : Shape := ⟨3, ![4, 512, 2048]⟩
abbrev S1 : Shape := ⟨1, ![1]⟩
abbrev S256x2048 : Shape := ⟨2, ![256, 2048]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S1, .i32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S1x512x2048, .f32⟩
  | .hbm, ⟨37, _⟩ => ⟨S1x512x2048, .f32⟩
  | .hbm, ⟨38, _⟩ => ⟨S1x512x2048, .f32⟩
  | .hbm, ⟨39, _⟩ => ⟨S1x512x2048, .f32⟩
  | .hbm, ⟨40, _⟩ => ⟨S4x512x2048, .f32⟩
  | .hbm, ⟨41, _⟩ => ⟨S_, .f32⟩
  | .hbm, ⟨42, _⟩ => ⟨S4x512x2048, .f32⟩
  | .hbm, ⟨43, _⟩ => ⟨S4x512x2048, .f32⟩
  | .hbm, ⟨44, _⟩ => ⟨S_, .f32⟩
  | .hbm, ⟨45, _⟩ => ⟨S4x512x2048, .f32⟩
  | .hbm, ⟨46, _⟩ => ⟨S4x512x2048, .f32⟩
  | .hbm, ⟨47, _⟩ => ⟨S4x512x2048, .f32⟩
  | .hbm, ⟨48, _⟩ => ⟨S_, .f32⟩
  | .hbm, ⟨49, _⟩ => ⟨S4x512x2048, .f32⟩
  | .hbm, ⟨50, _⟩ => ⟨S4x512x2048, .f32⟩
  | .hbm, ⟨51, _⟩ => ⟨S4x512x2048, .f32⟩
  | .hbm, ⟨52, _⟩ => ⟨S_, .f32⟩
  | .hbm, ⟨53, _⟩ => ⟨S4x512x2048, .f32⟩
  | .hbm, ⟨54, _⟩ => ⟨S4x512x2048, .f32⟩
  | .hbm, ⟨55, _⟩ => ⟨S4x512x2048, .f32⟩
  | .hbm, ⟨56, _⟩ => ⟨S_, .f32⟩
  | .hbm, ⟨57, _⟩ => ⟨S4x512x2048, .f32⟩
  | .hbm, ⟨58, _⟩ => ⟨S4x512x2048, .f32⟩
  | .hbm, ⟨59, _⟩ => ⟨S_, .f32⟩
  | .hbm, ⟨60, _⟩ => ⟨S4x512x2048, .f32⟩
  | .hbm, ⟨61, _⟩ => ⟨S4x512x2048, .f32⟩
  | .hbm, ⟨62, _⟩ => ⟨S4x512x2048, .f32⟩
  | .hbm, ⟨63, _⟩ => ⟨S_, .f32⟩
  | .hbm, ⟨64, _⟩ => ⟨S4x512x2048, .f32⟩
  | .hbm, ⟨65, _⟩ => ⟨S4x512x2048, .f32⟩
  | .hbm, ⟨66, _⟩ => ⟨S4x512x2048, .f32⟩
  | .hbm, ⟨67, _⟩ => ⟨S_, .f32⟩
  | .hbm, ⟨68, _⟩ => ⟨S4x512x2048, .f32⟩
  | .hbm, ⟨69, _⟩ => ⟨S4x512x2048, .f32⟩
  | .hbm, ⟨70, _⟩ => ⟨S4x512x2048, .f32⟩
  | .hbm, ⟨71, _⟩ => ⟨S_, .f32⟩
  | .hbm, ⟨72, _⟩ => ⟨S4x512x2048, .f32⟩
  | .hbm, ⟨73, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel17.lean ====
abbrev S4x2048x3584 : Shape := ⟨3, ![4, 2048, 3584]⟩
abbrev S1 : Shape := ⟨1, ![1]⟩
abbrev S1024x3584 : Shape := ⟨2, ![1024, 3584]⟩
abbrev S1x64x3584 : Shape := ⟨3, ![1, 64, 3584]⟩
abbrev S64x3584 : Shape := ⟨2, ![64, 3584]⟩

abbrev nBuf : Space → Nat
  | .hbm => 15
  | .vmem => 30
  | .smem => 1
  | _ => 0

abbrev bufTy : (tb : Table) → Fin (tcTables nBuf tb) → BufTy
  | .hbm, ⟨0, _⟩ => ⟨S4x2048x3584, .f32⟩
  | .hbm, ⟨1, _⟩ => ⟨S4x2048x3584, .f32⟩
  | .hbm, ⟨2, _⟩ => ⟨S4x2048x3584, .f32⟩
  | .hbm, ⟨3, _⟩ => ⟨S1024x3584, .f32⟩
  | .hbm, ⟨4, _⟩ => ⟨S1024x3584, .f32⟩
  | .hbm, ⟨5, _⟩ => ⟨S1024x3584, .f32⟩
  | .hbm, ⟨6, _⟩ => ⟨S1024x3584, .f32⟩
  | .hbm, ⟨7, _⟩ => ⟨S1024x3584, .f32⟩
  | .hbm, ⟨8, _⟩ => ⟨S1024x3584, .f32⟩
  | .hbm, ⟨9, _⟩ => ⟨S1024x3584, .f32⟩
  | .hbm, ⟨10, _⟩ => ⟨S1024x3584, .f32⟩
  | .hbm, ⟨11, _⟩ => ⟨S4x2048x3584, .f32⟩
  | .hbm, ⟨12, _⟩ => ⟨S4x2048x3584, .f32⟩
  | .hbm, ⟨13, _⟩ => ⟨S4x2048x3584, .f32⟩
  | .hbm, ⟨14, _⟩ => ⟨S4x2048x3584, .f32⟩
  | .local _ .vmem, ⟨0, _⟩ => ⟨S1x64x3584, .f32⟩
  | .local _ .vmem, ⟨1, _⟩ => ⟨S1x64x3584, .f32⟩
  | .local _ .vmem, ⟨2, _⟩ => ⟨S1x64x3584, .f32⟩
  | .local _ .vmem, ⟨3, _⟩ => ⟨S1x64x3584, .f32⟩
  | .local _ .vmem, ⟨4, _⟩ => ⟨S1x64x3584, .f32⟩
  | .local _ .vmem, ⟨5, _⟩ => ⟨S1x64x3584, .f32⟩
  | .local _ .vmem, ⟨6, _⟩ => ⟨S64x3584, .f32⟩
  | .local _ .vmem, ⟨7, _⟩ => ⟨S64x3584, .f32⟩
  | .local _ .vmem, ⟨8, _⟩ => ⟨S64x3584, .f32⟩
  | .local _ .vmem, ⟨9, _⟩ => ⟨S64x3584, .f32⟩
  | .local _ .vmem, ⟨10, _⟩ => ⟨S64x3584, .f32⟩
  | .local _ .vmem, ⟨11, _⟩ => ⟨S64x3584, .f32⟩
  | .local _ .vmem, ⟨12, _⟩ => ⟨S64x3584, .f32⟩
  | .local _ .vmem, ⟨13, _⟩ => ⟨S64x3584, .f32⟩
  | .local _ .vmem, ⟨14, _⟩ => ⟨S64x3584, .f32⟩
  | .local _ .vmem, ⟨15, _⟩ => ⟨S64x3584, .f32⟩
  | .local _ .vmem, ⟨16, _⟩ => ⟨S64x3584, .f32⟩
  | .local _ .vmem, ⟨17, _⟩ => ⟨S64x3584, .f32⟩
  | .local _ .vmem, ⟨18, _⟩ => ⟨S64x3584, .f32⟩
  | .local _ .vmem, ⟨19, _⟩ => ⟨S64x3584, .f32⟩
  | .local _ .vmem, ⟨20, _⟩ => ⟨S64x3584, .f32⟩
  | .local _ .vmem, ⟨21, _⟩ => ⟨S64x3584, .f32⟩
  | .local _ .vmem, ⟨22, _⟩ => ⟨S1x64x3584, .f32⟩
  | .local _ .vmem, ⟨23, _⟩ => ⟨S1x64x3584, .f32⟩
  | .local _ .vmem, ⟨24, _⟩ => ⟨S1x64x3584, .f32⟩
  | .local _ .vmem, ⟨25, _⟩ => ⟨S1x64x3584, .f32⟩
  | .local _ .vmem, ⟨26, _⟩ => ⟨S1x64x3584, .f32⟩
  | .local _ .vmem, ⟨27, _⟩ => ⟨S1x64x3584, .f32⟩
  | .local _ .vmem, ⟨28, _⟩ => ⟨S1x64x3584, .f32⟩
  | .local _ .vmem, ⟨29, _⟩ => ⟨S1x64x3584, .f32⟩
  | .local _ .smem, ⟨0, _⟩ => ⟨S1, .i32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 32], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32_4 : BitVec 32 := 0#32
  let v19 : BitVec 1 := Scalar.cmpi .eq arg0 c0_i32_4
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let v20 : BitVec 1 := Scalar.andi v19 v18
  let v21 : BitVec 32 := Scalar.extui v20
  let c0_i32_5 : BitVec 32 := 0#32
  let v22 : BitVec 1 := Scalar.cmpi .ne v21 c0_i32_5
  v22

def k0_cond2 (i : grid0.Coords) (v17 : BitVec 32) : BitVec 1 :=
  let arg0 : BitVec 32 := BitVec.ofNat 32 (i 0).val
  let c0_i32_6 : BitVec 32 := 0#32
  let v23 : BitVec 1 := Scalar.cmpi .eq arg0 c0_i32_6
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v24 : BitVec 1 := Scalar.xori v18 v_true
  let v25 : BitVec 1 := Scalar.andi v23 v24
  let v26 : BitVec 32 := Scalar.extui v25
  let c0_i32_7 : BitVec 32 := 0#32
  let v27 : BitVec 1 := Scalar.cmpi .ne v26 c0_i32_7
  v27

def k0_cond3 (i : grid0.Coords) (v17 : BitVec 32) : BitVec 1 :=
  let arg0 : BitVec 32 := BitVec.ofNat 32 (i 0).val
  let c1_i32_8 : BitVec 32 := 1#32
  let v28 : BitVec 1 := Scalar.cmpi .eq arg0 c1_i32_8
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let v29 : BitVec 1 := Scalar.andi v28 v18
  let v30 : BitVec 32 := Scalar.extui v29
  let c0_i32_9 : BitVec 32 := 0#32
  let v31 : BitVec 1 := Scalar.cmpi .ne v30 c0_i32_9
  v31

def k0_cond4 (i : grid0.Coords) (v17 : BitVec 32) : BitVec 1 :=
  let arg0 : BitVec 32 := BitVec.ofNat 32 (i 0).val
  let c1_i32_10 : BitVec 32 := 1#32
  let v32 : BitVec 1 := Scalar.cmpi .eq arg0 c1_i32_10
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let true_11 : BitVec 1 := 1#1
  let v33 : BitVec 1 := Scalar.xori v18 true_11
  let v34 : BitVec 1 := Scalar.andi v32 v33
  let v35 : BitVec 32 := Scalar.extui v34
  let c0_i32_12 : BitVec 32 := 0#32
  let v36 : BitVec 1 := Scalar.cmpi .ne v35 c0_i32_12
  v36

def k0_cond5 (i : grid0.Coords) (v17 : BitVec 32) : BitVec 1 :=
  let arg0 : BitVec 32 := BitVec.ofNat 32 (i 0).val
  let c2_i32 : BitVec 32 := 2#32
  let v37 : BitVec 1 := Scalar.cmpi .eq arg0 c2_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let v38 : BitVec 1 := Scalar.andi v37 v18
  let v39 : BitVec 32 := Scalar.extui v38
  let c0_i32_13 : BitVec 32 := 0#32
  let v40 : BitVec 1 := Scalar.cmpi .ne v39 c0_i32_13
  v40

def k0_cond6 (i : grid0.Coords) (v17 : BitVec 32) : BitVec 1 :=
  let arg0 : BitVec 32 := BitVec.ofNat 32 (i 0).val
  let c2_i32_14 : BitVec 32 := 2#32
  let v41 : BitVec 1 := Scalar.cmpi .eq arg0 c2_i32_14
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let true_15 : BitVec 1 := 1#1
  let v42 : BitVec 1 := Scalar.xori v18 true_15
  let v43 : BitVec 1 := Scalar.andi v41 v42
  let v44 : BitVec 32 := Scalar.extui v43
  let c0_i32_16 : BitVec 32 := 0#32
  let v45 : BitVec 1 := Scalar.cmpi .ne v44 c0_i32_16
  v45

def k0_cond7 (i : grid0.Coords) (v17 : BitVec 32) : BitVec 1 :=
  let arg0 : BitVec 32 := BitVec.ofNat 32 (i 0).val
  let c3_i32 : BitVec 32 := 3#32
  let v46 : BitVec 1 := Scalar.cmpi .eq arg0 c3_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let v47 : BitVec 1 := Scalar.andi v46 v18
  let v48 : BitVec 32 := Scalar.extui v47
  let c0_i32_17 : BitVec 32 := 0#32
  let v49 : BitVec 1 := Scalar.cmpi .ne v48 c0_i32_17
  v49

def k0_cond8 (i : grid0.Coords) (v17 : BitVec 32) : BitVec 1 :=
  let arg0 : BitVec 32 := BitVec.ofNat 32 (i 0).val
  let c3_i32_18 : BitVec 32 := 3#32
  let v50 : BitVec 1 := Scalar.cmpi .eq arg0 c3_i32_18
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let v0 : BitVec 32 := Scalar.divsi arg1 c16_i32
  let c1_i32 : BitVec 32 := 1#32
  let v15 : BitVec 32 := Scalar.subi v0 c1_i32
  let v16 : BitVec 32 := Scalar.select v14 v15 v0
  let v18 : BitVec 1 := Scalar.cmpi .eq v16 v17
  let true_19 : BitVec 1 := 1#1
  let v51 : BitVec 1 := Scalar.xori v18 true_19
  let v52 : BitVec 1 := Scalar.andi v50 v51
  let v53 : BitVec 32 := Scalar.extui v52
  let c0_i32_20 : BitVec 32 := 0#32
  let v54 : BitVec 1 := Scalar.cmpi .ne v53 c0_i32_20
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v20 : BitVec 1 := Scalar.andi v19 v18
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_4 : BitVec 32 := 0#32
  let v19 : BitVec 1 := Scalar.cmpi .eq arg0 c0_i32_4
  let v_true : BitVec 1 := 1#1
  let v20 : BitVec 1 := Scalar.xori v18 v_true
  let v21 : BitVec 1 := Scalar.andi v19 v20
  let c16_i32_5 : BitVec 32 := 16#32
  let c0_i32_6 : BitVec 32 := 0#32
  let v22 : BitVec 1 := Scalar.cmpi .eq c16_i32_5 c0_i32_6
  let c1_i32_7 : BitVec 32 := 1#32
  let v23 : BitVec 32 := Scalar.select v22 c1_i32_7 c16_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v20 : BitVec 1 := Scalar.andi v19 v18
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.select v20 v30 c0_i32_11
  let c0_i32_12 : BitVec 32 := 0#32
  let c0_i32_13 : BitVec 32 := 0#32
  ![v31.toNat, c0_i32_12.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c1_i32_4 : BitVec 32 := 1#32
  let v19 : BitVec 1 := Scalar.cmpi .eq arg0 c1_i32_4
  let v_true : BitVec 1 := 1#1
  let v20 : BitVec 1 := Scalar.xori v18 v_true
  let v21 : BitVec 1 := Scalar.andi v19 v20
  let c16_i32_5 : BitVec 32 := 16#32
  let c0_i32_6 : BitVec 32 := 0#32
  let v22 : BitVec 1 := Scalar.cmpi .eq c16_i32_5 c0_i32_6
  let c1_i32_7 : BitVec 32 := 1#32
  let v23 : BitVec 32 := Scalar.select v22 c1_i32_7 c16_i32_5
  let v24 : BitVec 32 := Scalar.remsi arg1 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let v32 : BitVec 32 := Scalar.select v21 v31 c0_i32_11
  let c0_i32_12 : BitVec 32 := 0#32
  let c0_i32_13 : BitVec 32 := 0#32
  ![v32.toNat, c0_i32_12.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c2_i32 : BitVec 32 := 2#32
  let v19 : BitVec 1 := Scalar.cmpi .eq arg0 c2_i32
  let v20 : BitVec 1 := Scalar.andi v19 v18
  let c16_i32_4 : BitVec 32 := 16#32
  let c0_i32_5 : BitVec 32 := 0#32
  let v21 : BitVec 1 := Scalar.cmpi .eq c16_i32_4 c0_i32_5
  let c1_i32_6 : BitVec 32 := 1#32
  let v22 : BitVec 32 := Scalar.select v21 c1_i32_6 c16_i32_4
  let v23 : BitVec 32 := Scalar.remsi arg1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_8 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c2_i32 : BitVec 32 := 2#32
  let v19 : BitVec 1 := Scalar.cmpi .eq arg0 c2_i32
  let v_true : BitVec 1 := 1#1
  let v20 : BitVec 1 := Scalar.xori v18 v_true
  let v21 : BitVec 1 := Scalar.andi v19 v20
  let c16_i32_4 : BitVec 32 := 16#32
  let c0_i32_5 : BitVec 32 := 0#32
  let v22 : BitVec 1 := Scalar.cmpi .eq c16_i32_4 c0_i32_5
  let c1_i32_6 : BitVec 32 := 1#32
  let v23 : BitVec 32 := Scalar.select v22 c1_i32_6 c16_i32_4
  let v24 : BitVec 32 := Scalar.remsi arg1 v23
  let c0_i32_7 : BitVec 32 := 0#32
  let v25 : BitVec 1 := Scalar.cmpi .ne v24 c0_i32_7
  let c0_i32_8 : BitVec 32 := 0#32
  let v26 : BitVec 1 := Scalar.cmpi .slt v24 c0_i32_8
  let c0_i32_9 : BitVec 32 := 0#32
  let v27 : BitVec 1 := Scalar.cmpi .slt v23 c0_i32_9
  let v28 : BitVec 1 := Scalar.xori v26 v27
  let v29 : BitVec 1 := Scalar.andi v28 v25
  let v30 : BitVec 32 := Scalar.addi v24 v23
  let v31 : BitVec 32 := Scalar.select v29 v30 v24
  let c0_i32_10 : BitVec 32 := 0#32
  let v32 : BitVec 32 := Scalar.select v21 v31 c0_i32_10
  let c0_i32_11 : BitVec 32 := 0#32
  let c0_i32_12 : BitVec 32 := 0#32
  ![v32.toNat, c0_i32_11.toNat]

def cc0_transform_9 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c3_i32 : BitVec 32 := 3#32
  let v19 : BitVec 1 := Scalar.cmpi .eq arg0 c3_i32
  let v20 : BitVec 1 := Scalar.andi v19 v18
  let c16_i32_4 : BitVec 32 := 16#32
  let c0_i32_5 : BitVec 32 := 0#32
  let v21 : BitVec 1 := Scalar.cmpi .eq c16_i32_4 c0_i32_5
  let c1_i32_6 : BitVec 32 := 1#32
  let v22 : BitVec 32 := Scalar.select v21 c1_i32_6 c16_i32_4
  let v23 : BitVec 32 := Scalar.remsi arg1 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let v31 : BitVec 32 := Scalar.select v20 v30 c0_i32_10
  let c0_i32_11 : BitVec 32 := 0#32
  let c0_i32_12 : BitVec 32 := 0#32
  ![v31.toNat, c0_i32_11.toNat]

def cc0_transform_10 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c3_i32 : BitVec 32 := 3#32
  let v19 : BitVec 1 := Scalar.cmpi .eq arg0 c3_i32
  let v_true : BitVec 1 := 1#1
  let v20 : BitVec 1 := Scalar.xori v18 v_true
  let v21 : BitVec 1 := Scalar.andi v19 v20
  let c16_i32_4 : BitVec 32 := 16#32
  let c0_i32_5 : BitVec 32 := 0#32
  let v22 : BitVec 1 := Scalar.cmpi .eq c16_i32_4 c0_i32_5
  let c1_i32_6 : BitVec 32 := 1#32
  let v23 : BitVec 32 := Scalar.select v22 c1_i32_6 c16_i32_4
  let v24 : BitVec 32 := Scalar.remsi arg1 v23
  let c0_i32_7 : BitVec 32 := 0#32
  let v25 : BitVec 1 := Scalar.cmpi .ne v24 c0_i32_7
  let c0_i32_8 : BitVec 32 := 0#32
  let v26 : BitVec 1 := Scalar.cmpi .slt v24 c0_i32_8
  let c0_i32_9 : BitVec 32 := 0#32
  let v27 : BitVec 1 := Scalar.cmpi .slt v23 c0_i32_9
  let v28 : BitVec 1 := Scalar.xori v26 v27
  let v29 : BitVec 1 := Scalar.andi v28 v25
  let v30 : BitVec 32 := Scalar.addi v24 v23
  let v31 : BitVec 32 := Scalar.select v29 v30 v24
  let c0_i32_10 : BitVec 32 := 0#32
  let v32 : BitVec 32 := Scalar.select v21 v31 c0_i32_10
  let c0_i32_11 : BitVec 32 := 0#32
  let c0_i32_12 : BitVec 32 := 0#32
  ![v32.toNat, c0_i32_11.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x3584 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x3584 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x3584 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x3584 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x3584 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x3584 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel17Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference17Ideal.lean ====
abbrev S4x2048x3584 : Shape := ⟨3, ![4, 2048, 3584]⟩
abbrev S1 : Shape := ⟨1, ![1]⟩
abbrev S1024x3584 : Shape := ⟨2, ![1024, 3584]⟩
abbrev S_ : Shape := ⟨0, ![]⟩
abbrev S2048x3584 : Shape := ⟨2, ![2048, 3584]⟩
abbrev S1x2048x3584 : Shape := ⟨3, ![1, 2048, 3584]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S4x2048x3584, .f32⟩
  | .hbm, ⟨2, _⟩ => ⟨S4x2048x3584, .f32⟩
  | .hbm, ⟨3, _⟩ => ⟨S1, .i32⟩
  | .hbm, ⟨4, _⟩ => ⟨S1024x3584, .f32⟩
  | .hbm, ⟨5, _⟩ => ⟨S1024x3584, .f32⟩
  | .hbm, ⟨6, _⟩ => ⟨S1024x3584, .f32⟩
  | .hbm, ⟨7, _⟩ => ⟨S1024x3584, .f32⟩
  | .hbm, ⟨8, _⟩ => ⟨S1024x3584, .f32⟩
  | .hbm, ⟨9, _⟩ => ⟨S1024x3584, .f32⟩
  | .hbm, ⟨10, _⟩ => ⟨S1024x3584, .f32⟩
  | .hbm, ⟨11, _⟩ => ⟨S1024x3584, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S2048x3584, .f32⟩
  | .hbm, ⟨16, _⟩ => ⟨S2048x3584, .f32⟩
  | .hbm, ⟨17, _⟩ => ⟨S2048x3584, .f32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S2048x3584, .f32⟩
  | .hbm, ⟨22, _⟩ => ⟨S2048x3584, .f32⟩
  | .hbm, ⟨23, _⟩ => ⟨S2048x3584, .f32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S2048x3584, .f32⟩
  | .hbm, ⟨28, _⟩ => ⟨S2048x3584, .f32⟩
  | .hbm, ⟨29, _⟩ => ⟨S2048x3584, .f32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S2048x3584, .f32⟩
  | .hbm, ⟨34, _⟩ => ⟨S2048x3584, .f32⟩
  | .hbm, ⟨35, _⟩ => ⟨S2048x3584, .f32⟩
  | .hbm, ⟨36, _⟩ => ⟨S1x2048x3584, .f32⟩
  | .hbm, ⟨37, _⟩ => ⟨S1x2048x3584, .f32⟩
  | .hbm, ⟨38, _⟩ => ⟨S1x2048x3584, .f32⟩
  | .hbm, ⟨39, _⟩ => ⟨S1x2048x3584, .f32⟩
  | .hbm, ⟨40, _⟩ => ⟨S4x2048x3584, .f32⟩
  | .hbm, ⟨41, _⟩ => ⟨S_, .f32⟩
  | .hbm, ⟨42, _⟩ => ⟨S4x2048x3584, .f32⟩
  | .hbm, ⟨43, _⟩ => ⟨S4x2048x3584, .f32⟩
  | .hbm, ⟨44, _⟩ => ⟨S_, .f32⟩
  | .hbm, ⟨45, _⟩ => ⟨S4x2048x3584, .f32⟩
  | .hbm, ⟨46, _⟩ => ⟨S4x2048x3584, .f32⟩
  | .hbm, ⟨47, _⟩ => ⟨S4x2048x3584, .f32⟩
  | .hbm, ⟨48, _⟩ => ⟨S_, .f32⟩
  | .hbm, ⟨49, _⟩ => ⟨S4x2048x3584, .f32⟩
  | .hbm, ⟨50, _⟩ => ⟨S4x2048x3584, .f32⟩
  | .hbm, ⟨51, _⟩ => ⟨S4x2048x3584, .f32⟩
  | .hbm, ⟨52, _⟩ => ⟨S_, .f32⟩
  | .hbm, ⟨53, _⟩ => ⟨S4x2048x3584, .f32⟩
  | .hbm, ⟨54, _⟩ => ⟨S4x2048x3584, .f32⟩
  | .hbm, ⟨55, _⟩ => ⟨S4x2048x3584, .f32⟩
  | .hbm, ⟨56, _⟩ => ⟨S_, .f32⟩
  | .hbm, ⟨57, _⟩ => ⟨S4x2048x3584, .f32⟩
  | .hbm, ⟨58, _⟩ => ⟨S4x2048x3584, .f32⟩
  | .hbm, ⟨59, _⟩ => ⟨S_, .f32⟩
  | .hbm, ⟨60, _⟩ => ⟨S4x2048x3584, .f32⟩
  | .hbm, ⟨61, _⟩ => ⟨S4x2048x3584, .f32⟩
  | .hbm, ⟨62, _⟩ => ⟨S4x2048x3584, .f32⟩
  | .hbm, ⟨63, _⟩ => ⟨S_, .f32⟩
  | .hbm, ⟨64, _⟩ => ⟨S4x2048x3584, .f32⟩
  | .hbm, ⟨65, _⟩ => ⟨S4x2048x3584, .f32⟩
  | .hbm, ⟨66, _⟩ => ⟨S4x2048x3584, .f32⟩
  | .hbm, ⟨67, _⟩ => ⟨S_, .f32⟩
  | .hbm, ⟨68, _⟩ => ⟨S4x2048x3584, .f32⟩
  | .hbm, ⟨69, _⟩ => ⟨S4x2048x3584, .f32⟩
  | .hbm, ⟨70, _⟩ => ⟨S4x2048x3584, .f32⟩
  | .hbm, ⟨71, _⟩ => ⟨S_, .f32⟩
  | .hbm, ⟨72, _⟩ => ⟨S4x2048x3584, .f32⟩
  | .hbm, ⟨73, _⟩ => ⟨S4x2048x3584, .f32⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Seven.lean ====
/- Choosing one of seven column blocks. -/
module

public import Idealize.ShloMosaic.Lib.Pointwise

@[expose] public section

noncomputable section

namespace Cert.Seven

open Idealize.ShloMosaic

/-- The entry number `s` of seven. -/
def pick {α : Type} (x1 x2 x3 x4 x5 x6 x7 : α) (s : ℕ) : α :=
  if s = 0 then x1 else if s = 1 then x2 else if s = 2 then x3 else if s = 3 then x4 else if s = 4 then x5 else if s = 5 then x6 else x7

variable {α : Type} (x1 x2 x3 x4 x5 x6 x7 : α)
theorem pick_0 : pick x1 x2 x3 x4 x5 x6 x7 0 = x1 := rfl
theorem pick_1 : pick x1 x2 x3 x4 x5 x6 x7 1 = x2 := rfl
theorem pick_2 : pick x1 x2 x3 x4 x5 x6 x7 2 = x3 := rfl
theorem pick_3 : pick x1 x2 x3 x4 x5 x6 x7 3 = x4 := rfl
theorem pick_4 : pick x1 x2 x3 x4 x5 x6 x7 4 = x5 := rfl
theorem pick_5 : pick x1 x2 x3 x4 x5 x6 x7 5 = x6 := rfl
theorem pick_6 : pick x1 x2 x3 x4 x5 x6 x7 6 = x7 := rfl

/-- A value below seven is one of them. -/
theorem cases (s : ℕ) (h : s < 7) : s = 0 ∨ s = 1 ∨ s = 2 ∨ s = 3 ∨ s = 4 ∨ s = 5 ∨ s = 6 := by omega

end Cert.Seven

end
-- ==== Proof.Dwin.lean ====
/- The gradient of the combined input projection's weight: the kernel's array is the reference's term. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import proofs.«01_k».proof.Proof.Seven

@[expose] public section

set_option maxRecDepth 16384

noncomputable section

open Idealize.ShloMosaic Idealize.ShloMosaic.TcCoe Idealize.SL.Sem
open Idealize.ShloMosaic.Pipeline (Dat)

namespace Cert.KernelIdeal.Dwin

open Cert.KernelIdeal Cert.KernelIdeal.Gen

variable (m : (ℓ : Loc nD τ sig) → Buf (Elt Ideal) ℓ)

/-- The cotangent: seven arrays side by side. -/
abbrev cat (X1 X2 X3 X4 X5 X6 X7 : FVec Ideal S8208x2048 .f32) : FVec Ideal Cert.ReferenceIdeal.S8208x14336 .f32 :=
  concatenate Cert.ReferenceIdeal.S8208x14336 1 [⟨S8208x2048, X1⟩, ⟨S8208x2048, X2⟩, ⟨S8208x2048, X3⟩, ⟨S8208x2048, X4⟩, ⟨S8208x2048, X5⟩, ⟨S8208x2048, X6⟩, ⟨S8208x2048, X7⟩] Cert.ReferenceIdeal.Gen.concatenates_S8208x2048_S8208x2048_S8208x2048_S8208x2048_S8208x2048_S8208x2048_S8208x2048_S8208x14336_d1

/-- Column `n` of it is column `n % 2048` of array number `n / 2048`. -/
theorem cat_at (X1 X2 X3 X4 X5 X6 X7 : FVec Ideal S8208x2048 .f32) (l : Fin 8208) (n : Fin 14336) :
    cat X1 X2 X3 X4 X5 X6 X7 (ix2 l n) = Seven.pick X1 X2 X3 X4 X5 X6 X7 (n.val / 2048) (ix2 l ⟨n.val % 2048, Nat.mod_lt _ (by decide)⟩) := by
  pointwise [cat]
  rcases Seven.cases (n.val / 2048) (by omega) with h | h | h | h | h | h | h <;> rw [h] <;>
    simp only [Seven.pick_0, Seven.pick_1, Seven.pick_2, Seven.pick_3, Seven.pick_4, Seven.pick_5, Seven.pick_6] <;>
    repeat' first
      | rw [dif_pos (by omega)]; exact congrArg _ (congrArg (ix2 l) (Fin.ext (by show _ = n.val % 2048; simp only []; omega)))
      | rw [dif_neg (by omega)]
      | exact congrArg _ (congrArg (ix2 l) (Fin.ext (by show _ = n.val % 2048; simp only []; omega)))

/-- The reference's result over the arguments. -/
def ref (H X1 X2 X3 X4 X5 X6 X7 : FVec Ideal S8208x2048 .f32) : FVec Ideal S4x2048x3584 .f32 :=
  transpose S4x2048x3584 [1, 0, 2] (shapeCast Cert.ReferenceIdeal.S2048x4x3584 (transpose Cert.ReferenceIdeal.S2048x14336 [1, 0] (Host.dotGeneral Cert.ReferenceIdeal.dot_S8208x14336_S8208x2048_S14336x2048_0_0_1_1_n_n none (cat X1 X2 X3 X4 X5 X6 X7) H) Cert.ReferenceIdeal.Gen.transposes_S14336x2048_S2048x14336_1_0) Cert.ReferenceIdeal.Gen.shapeCasts_S2048x14336_S2048x4x3584) Cert.ReferenceIdeal.Gen.transposes_S2048x4x3584_S4x2048x3584_1_0_2

/-- It is a sum over all rows, of the input's column and the cotangent's. -/
theorem ref_at (H X1 X2 X3 X4 X5 X6 X7 : FVec Ideal S8208x2048 .f32) (q : Fin 4) (d : Fin 2048) (n : Fin 3584) :
    ref H X1 X2 X3 X4 X5 X6 X7 (ix3 q d n) = ∑ l : Fin 8208, H (ix2 l d)
      * Seven.pick X1 X2 X3 X4 X5 X6 X7 ((q.val * 3584 + n.val) / 2048) (ix2 l ⟨(q.val * 3584 + n.val) % 2048, Nat.mod_lt _ (by decide)⟩) := by
  have h : ref H X1 X2 X3 X4 X5 X6 X7 (ix3 q d n) = ∑ l : Fin 8208, cat X1 X2 X3 X4 X5 X6 X7 (ix2 l ⟨q.val * 3584 + n.val, by omega⟩) * H (ix2 l d) := by
    unfold ref
    generalize cat X1 X2 X3 X4 X5 X6 X7 = C
    pointwise []
  rw [h]
  exact Finset.sum_congr rfl fun l _ => by rw [cat_at, mul_comm]

/-- The block is zero before its first rows. -/
theorem zero_at (j) : k0_pay3 (F := Ideal) j = 0 := by pointwise [k0_pay3]

/-- A visit adds the product of its 912 rows (the same in each of the seven branches). -/
theorem step1_at (acc x0 x1 j) : k0_pay1 (F := Ideal) acc x0 x1 j
    = acc j + ∑ k : Fin 912, x0 (ix2 k (j 1)) * x1 (ix2 k (j 2)) := by pointwise [k0_pay1]
theorem step2_at (acc x0 x1 j) : k0_pay2 (F := Ideal) acc x0 x1 j
    = acc j + ∑ k : Fin 912, x0 (ix2 k (j 1)) * x1 (ix2 k (j 2)) := step1_at acc x0 x1 j
theorem step4_at (acc x0 x1 j) : k0_pay4 (F := Ideal) acc x0 x1 j
    = acc j + ∑ k : Fin 912, x0 (ix2 k (j 1)) * x1 (ix2 k (j 2)) := step1_at acc x0 x1 j
theorem step5_at (acc x0 x1 j) : k0_pay5 (F := Ideal) acc x0 x1 j
    = acc j + ∑ k : Fin 912, x0 (ix2 k (j 1)) * x1 (ix2 k (j 2)) := step1_at acc x0 x1 j
theorem step6_at (acc x0 x1 j) : k0_pay6 (F := Ideal) acc x0 x1 j
    = acc j + ∑ k : Fin 912, x0 (ix2 k (j 1)) * x1 (ix2 k (j 2)) := step1_at acc x0 x1 j
theorem step7_at (acc x0 x1 j) : k0_pay7 (F := Ideal) acc x0 x1 j
    = acc j + ∑ k : Fin 912, x0 (ix2 k (j 1)) * x1 (ix2 k (j 2)) := step1_at acc x0 x1 j
theorem step8_at (acc x0 x1 j) : k0_pay8 (F := Ideal) acc x0 x1 j
    = acc j + ∑ k : Fin 912, x0 (ix2 k (j 1)) * x1 (ix2 k (j 2)) := step1_at acc x0 x1 j

/-- The cotangent block a grid point uses. -/
def sel (c : Dev nD) (t : Fin cfg0.N) : FVec Ideal S912x512 .bf16 := Seven.pick (iblk m c 1 t) (iblk m c 2 t) (iblk m c 3 t) (iblk m c 4 t) (iblk m c 5 t) (iblk m c 6 t) (iblk m c 7 t) (t.val / 36)

/-- What a grid point adds to its block. -/
def part (c : Dev nD) (t : Fin cfg0.N) (j : S1x2048x512.Idx) : EReal :=
  ∑ k : Fin 912, (show FVec Ideal S912x2048 .bf16 from iblk m c 0 t) (ix2 k (j 1)) * sel m c t (ix2 k (j 2))

/-- The first visit of a block. -/
theorem reset (c : Dev nD) (t : Fin cfg0.N) (h : t.val % 9 = 0) (j) : outsAt0 m c t.val t.isLt j = 0 + part m c t j := by
  have hN : t.val < 252 := lt_of_lt_of_eq t.isLt N_0
  unfold part sel
  rcases Seven.cases (t.val / 36) (by omega) with hs | hs | hs | hs | hs | hs | hs
  · rw [outsAt0_A m c t h (by omega) (by omega) (by omega) (by omega) (by omega) (by omega) (by omega), hs, Seven.pick_0]; frame_out; simp only [step1_at, step2_at, step4_at, step5_at, step6_at, step7_at, step8_at, zero_at]
  · rw [outsAt0_C m c t h (by omega) (by omega) (by omega) (by omega) (by omega) (by omega) (by omega), hs, Seven.pick_1]; frame_out; simp only [step1_at, step2_at, step4_at, step5_at, step6_at, step7_at, step8_at, zero_at]
  · rw [outsAt0_E m c t h (by omega) (by omega) (by omega) (by omega) (by omega) (by omega) (by omega), hs, Seven.pick_2]; frame_out; simp only [step1_at, step2_at, step4_at, step5_at, step6_at, step7_at, step8_at, zero_at]
  · rw [outsAt0_G m c t h (by omega) (by omega) (by omega) (by omega) (by omega) (by omega) (by omega), hs, Seven.pick_3]; frame_out; simp only [step1_at, step2_at, step4_at, step5_at, step6_at, step7_at, step8_at, zero_at]
  · rw [outsAt0_I m c t h (by omega) (by omega) (by omega) (by omega) (by omega) (by omega) (by omega), hs, Seven.pick_4]; frame_out; simp only [step1_at, step2_at, step4_at, step5_at, step6_at, step7_at, step8_at, zero_at]
  · rw [outsAt0_K m c t h (by omega) (by omega) (by omega) (by omega) (by omega) (by omega) (by omega), hs, Seven.pick_5]; frame_out; simp only [step1_at, step2_at, step4_at, step5_at, step6_at, step7_at, step8_at, zero_at]
  · rw [outsAt0_M m c t h (by omega) (by omega) (by omega) (by omega) (by omega) (by omega) (by omega), hs, Seven.pick_6]; frame_out; simp only [step1_at, step2_at, step4_at, step5_at, step6_at, step7_at, step8_at, zero_at]

/-- A later visit. -/
theorem step (c : Dev nD) (t : Fin cfg0.N) (h : ¬t.val % 9 = 0) (j) :
    outsAt0 m c t.val t.isLt j = outsAt0 m c (t.val - 1) (Nat.lt_of_le_of_lt (Nat.sub_le _ _) t.isLt) j + part m c t j := by
  have hN : t.val < 252 := lt_of_lt_of_eq t.isLt N_0
  unfold part sel
  rcases Seven.cases (t.val / 36) (by omega) with hs | hs | hs | hs | hs | hs | hs
  · rw [outsAt0_B m c t h (by omega) (by omega) (by omega) (by omega) (by omega) (by omega) (by omega), hs, Seven.pick_0]; frame_out; simp only [step1_at, step2_at, step4_at, step5_at, step6_at, step7_at, step8_at]
  · rw [outsAt0_D m c t h (by omega) (by omega) (by omega) (by omega) (by omega) (by omega) (by omega), hs, Seven.pick_1]; frame_out; simp only [step1_at, step2_at, step4_at, step5_at, step6_at, step7_at, step8_at]
  · rw [outsAt0_F m c t h (by omega) (by omega) (by omega) (by omega) (by omega) (by omega) (by omega), hs, Seven.pick_2]; frame_out; simp only [step1_at, step2_at, step4_at, step5_at, step6_at, step7_at, step8_at]
  · rw [outsAt0_H m c t h (by omega) (by omega) (by omega) (by omega) (by omega) (by omega) (by omega), hs, Seven.pick_3]; frame_out; simp only [step1_at, step2_at, step4_at, step5_at, step6_at, step7_at, step8_at]
  · rw [outsAt0_J m c t h (by omega) (by omega) (by omega) (by omega) (by omega) (by omega) (by omega), hs, Seven.pick_4]; frame_out; simp only [step1_at, step2_at, step4_at, step5_at, step6_at, step7_at, step8_at]
  · rw [outsAt0_L m c t h (by omega) (by omega) (by omega) (by omega) (by omega) (by omega) (by omega), hs, Seven.pick_5]; frame_out; simp only [step1_at, step2_at, step4_at, step5_at, step6_at, step7_at, step8_at]
  · rw [outsAt0_N m c t h (by omega) (by omega) (by omega) (by omega) (by omega) (by omega) (by omega), hs, Seven.pick_6]; frame_out; simp only [step1_at, step2_at, step4_at, step5_at, step6_at, step7_at, step8_at]

/-- Which blocks a grid point reads and writes. -/
theorem idx : ∀ t : Fin cfg0.N, win0_0.index t = ![t.val % 9, 0] ∧ win0_8.index t = ![t.val / 63, 0, t.val / 9 % 7] :=
  (by decide +kernel : ∀ t : Fin grid0.N, _)
/-- The block of cotangent 1, at the points that use it. -/
theorem idx1 : ∀ t : Fin cfg0.N, t.val / 36 = 0 → win0_1.index t = ![t.val % 9, t.val / 9 % 4] :=
  (by decide +kernel : ∀ t : Fin grid0.N, _)
/-- The block of cotangent 2, at the points that use it. -/
theorem idx2 : ∀ t : Fin cfg0.N, t.val / 36 = 1 → win0_2.index t = ![t.val % 9, t.val / 9 % 4] :=
  (by decide +kernel : ∀ t : Fin grid0.N, _)
/-- The block of cotangent 3, at the points that use it. -/
theorem idx3 : ∀ t : Fin cfg0.N, t.val / 36 = 2 → win0_3.index t = ![t.val % 9, t.val / 9 % 4] :=
  (by decide +kernel : ∀ t : Fin grid0.N, _)
/-- The block of cotangent 4, at the points that use it. -/
theorem idx4 : ∀ t : Fin cfg0.N, t.val / 36 = 3 → win0_4.index t = ![t.val % 9, t.val / 9 % 4] :=
  (by decide +kernel : ∀ t : Fin grid0.N, _)
/-- The block of cotangent 5, at the points that use it. -/
theorem idx5 : ∀ t : Fin cfg0.N, t.val / 36 = 4 → win0_5.index t = ![t.val % 9, t.val / 9 % 4] :=
  (by decide +kernel : ∀ t : Fin grid0.N, _)
/-- The block of cotangent 6, at the points that use it. -/
theorem idx6 : ∀ t : Fin cfg0.N, t.val / 36 = 5 → win0_6.index t = ![t.val % 9, t.val / 9 % 4] :=
  (by decide +kernel : ∀ t : Fin grid0.N, _)
/-- The block of cotangent 7, at the points that use it. -/
theorem idx7 : ∀ t : Fin cfg0.N, t.val / 36 = 6 → win0_7.index t = ![t.val % 9, t.val / 9 % 4] :=
  (by decide +kernel : ∀ t : Fin grid0.N, _)

/-- The cotangent block of a grid point, read off the arrays. -/
theorem sel_at (c : Dev nD) (t : Fin cfg0.N) (k : Fin 912) (n : Fin 512) :
    sel m c t (ix2 k n) = Seven.pick (show FVec Ideal S8208x2048 .f32 from m ((c : Thread nD τ).loc main_arg1)) (show FVec Ideal S8208x2048 .f32 from m ((c : Thread nD τ).loc main_arg2)) (show FVec Ideal S8208x2048 .f32 from m ((c : Thread nD τ).loc main_arg3)) (show FVec Ideal S8208x2048 .f32 from m ((c : Thread nD τ).loc main_arg4)) (show FVec Ideal S8208x2048 .f32 from m ((c : Thread nD τ).loc main_arg5)) (show FVec Ideal S8208x2048 .f32 from m ((c : Thread nD τ).loc main_arg6)) (show FVec Ideal S8208x2048 .f32 from m ((c : Thread nD τ).loc main_arg7)) (t.val / 36)
      (ix2 ⟨t.val % 9 * 912 + k.val, by omega⟩ ⟨t.val / 9 % 4 * 512 + n.val, by omega⟩) := by
  have hN : t.val < 252 := lt_of_lt_of_eq t.isLt N_0
  unfold sel
  rcases Seven.cases (t.val / 36) (by omega) with hs | hs | hs | hs | hs | hs | hs
  · rw [hs, Seven.pick_0, Seven.pick_0]; blk_ext [iblk, V, idx1 t hs]
  · rw [hs, Seven.pick_1, Seven.pick_1]; blk_ext [iblk, V, idx2 t hs]
  · rw [hs, Seven.pick_2, Seven.pick_2]; blk_ext [iblk, V, idx3 t hs]
  · rw [hs, Seven.pick_3, Seven.pick_3]; blk_ext [iblk, V, idx4 t hs]
  · rw [hs, Seven.pick_4, Seven.pick_4]; blk_ext [iblk, V, idx5 t hs]
  · rw [hs, Seven.pick_5, Seven.pick_5]; blk_ext [iblk, V, idx6 t hs]
  · rw [hs, Seven.pick_6, Seven.pick_6]; blk_ext [iblk, V, idx7 t hs]

/-- The result array after the run. -/
theorem final (c : Dev nD) : (dats m 0 c).arrAt 8 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have hN : t.val < 252 := lt_of_lt_of_eq t.isLt N_0
  have hy := (y 2).isLt
  have hy2 : (y 2).val < 512 := (y 2).isLt
  have he : ((cfg0.win 8).blk t).view.emb y = ix3 (⟨t.val / 63, by omega⟩ : Fin 4) (⟨(y 1).val, (y 1).isLt⟩ : Fin 2048) (⟨t.val / 9 % 7 * 512 + (y 2).val, by omega⟩ : Fin 3584) := by
    blk_ext [idx t]
  blk_simp
  rw [after0_8, Pipeline.eq_sum_fin_of_reset_step_apply_of_flush (fun n h => outsAt0 m c n h) 9 (fun _ => 0) (part m c)
    (reset m c) (step m c) t ((flush0_8 t).mp hf) _, zero_add]
  refine Eq.trans ?_ (congrArg (ref _ _ _ _ _ _ _ _) he).symm
  rw [ref_at, show (t.val / 63 * 3584 + (t.val / 9 % 7 * 512 + (y 2).val)) / 2048 = t.val / 36 by omega]
  refine Fin.sum_mul_add_congr fun s k hl => ?_
  have hq : (9 * (t.val / 9) + s.val) / 36 = t.val / 36 := by omega
  refine congrArg₂ (fun u v : EReal => u * v) ?_ ((sel_at m c ⟨_, Pipeline.run_point_lt_of_flush t ((flush0_8 t).mp hf) s⟩ k ⟨(y 2).val, hy2⟩).trans ?_)
  · blk_ext [iblk, V, idx ⟨_, Pipeline.run_point_lt_of_flush t ((flush0_8 t).mp hf) s⟩]
  · dsimp only
    rw [hq]
    refine congrArg _ (congrArg₂ ix2 (Fin.ext ?_) (Fin.ext ?_)) <;> simp only [] <;> omega

end Cert.KernelIdeal.Dwin

end
-- ==== Proof.ClaimDwin.lean ====
/- The claim about the weight gradient of the combined input projection: the kernel's result is its reference's. -/
module

public import proofs.«01_k».proof.Defs
public import proofs.«01_k».proof.Proof.Dwin
public import proofs.«01_k».proof.Proof.Gen.KernelIdeal.Frame
public import proofs.«01_k».proof.Proof.Gen.ReferenceIdeal.Run
public import Idealize.ShloMosaic.Lib.Claim

@[expose] public section

set_option maxRecDepth 16384

noncomputable section

namespace Cert.Dwin

open Idealize.ShloMosaic Idealize.ShloMosaic.TcCoe Idealize.SL.Sem

/-- The reference terminates and leaves its arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both programs end with the same result. -/
theorem algebraic : Cert.algebraic_KernelIdeal_ReferenceIdeal := by
  pair_intro
  · run_from Cert.KernelIdeal.Gen.run_main m g
  · run_from Cert.ReferenceIdeal.Value.run m' g'
    obtain ⟨h0, h1, h2, h3, h4, h5, h6, h7⟩ := hagree c
    refine Eq.trans ?_ (Cert.KernelIdeal.Dwin.final m c).symm
    rw [← h1, ← h2, ← h3, ← h4, ← h5, ← h6, ← h7]
    rfl

end Cert.Dwin

end
-- ==== Proof.Tn.lean ====
/- The transposed product (gradient of a square weight): the kernel's array is the reference's term. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Tn

open Cert.Kernel2Ideal Cert.Kernel2Ideal.Gen

variable (m : (ℓ : Loc nD τ sig) → Buf (Elt Ideal) ℓ)

/-- The reference's result over the two arguments. -/
def ref (A : FVec Ideal S8208x2048 .f32) (C : FVec Ideal S8208x2048 .f32) : FVec Ideal S2048x2048 .f32 :=
  transpose S2048x2048 [1, 0] (Host.dotGeneral Cert.Reference2Ideal.dot_S8208x2048_S8208x2048_S2048x2048_0_0_1_1_n_n none C A) Cert.Reference2Ideal.Gen.transposes_S2048x2048_S2048x2048_1_0

/-- It is the sum over all rows. -/
theorem ref_at (A C : FVec Ideal S8208x2048 .f32) (j : S2048x2048.Idx) :
    ref A C j = ∑ l : Fin 8208, A (ix2 l (j 0)) * C (ix2 l (j 1)) := by
  pointwise [ref]
  exact Finset.sum_congr rfl fun l _ => mul_comm _ _

/-- The block is zero before its first rows. -/
theorem zero_at (j) : k0_pay1 (F := Ideal) j = 0 := by pointwise [k0_pay1]

/-- A visit adds the product of its 912 rows. -/
theorem step_at (acc x0 x1 j) : k0_pay2 (F := Ideal) acc x0 x1 j
    = acc j + ∑ k : Fin 912, x0 (ix2 k (j 0)) * x1 (ix2 k (j 1)) := by pointwise [k0_pay2]

/-- Which blocks a grid point reads and writes. -/
theorem idx : ∀ t : Fin cfg0.N, win0_0.index t = ![t.val % 9, 0] ∧ win0_1.index t = ![t.val % 9, t.val / 9] ∧ win0_2.index t = ![0, t.val / 9] :=
  (by decide +kernel : ∀ t : Fin grid0.N, _)

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 9 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  have hN : t.val < 18 := lt_of_lt_of_eq t.isLt N_0
  blk_point [iblk, V, idx t, idx ⟨_, Pipeline.run_point_lt_of_flush t ((flush0_2 t).mp hf) s⟩]

end Cert.Kernel2Ideal.Tn

end
-- ==== Proof.ClaimTn.lean ====
/- The claim about a weight gradient of a plain projection: the kernel's result is its reference's. -/
module

public import proofs.«01_k».proof.Defs
public import proofs.«01_k».proof.Proof.Tn
public import proofs.«01_k».proof.Proof.Gen.Kernel2Ideal.Frame
public import proofs.«01_k».proof.Proof.Gen.Reference2Ideal.Run
public import Idealize.ShloMosaic.Lib.Claim

@[expose] public section

set_option maxRecDepth 16384

noncomputable section

namespace Cert.Tn

open Idealize.ShloMosaic Idealize.ShloMosaic.TcCoe Idealize.SL.Sem

/-- The reference terminates and leaves its arguments. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Both programs end with the same result. -/
theorem algebraic : Cert.algebraic_Kernel2Ideal_Reference2Ideal := by
  pair_intro
  · run_from Cert.Kernel2Ideal.Gen.run_main m g
  · run_from Cert.Reference2Ideal.Value.run m' g'
    exact (Cert.Kernel2Ideal.Tn.final m c).symm

end Cert.Tn

end
-- ==== Proof.Nt.lean ====
/- A plain product with a transposed right factor (gradient of a product's left factor): the kernel's array is the reference's term. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Nt

open Cert.Kernel3Ideal Cert.Kernel3Ideal.Gen

variable (m : (ℓ : Loc nD τ sig) → Buf (Elt Ideal) ℓ)

/-- The reference's result over the weight and the cotangent. -/
def ref (W : FVec Ideal S2048x2048 .f32) (C : FVec Ideal S8208x2048 .f32) : FVec Ideal S8208x2048 .f32 :=
  Host.dotGeneral Cert.Reference3Ideal.dot_S8208x2048_S2048x2048_S8208x2048_1_1_0_0_n_n none C W

/-- Which blocks a grid point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- A point's block of the product. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Nt

end
-- ==== Proof.ClaimNt.lean ====
/- The claim about an input gradient of a plain projection: the kernel's result is its reference's. -/
module

public import proofs.«01_k».proof.Defs
public import proofs.«01_k».proof.Proof.Nt
public import proofs.«01_k».proof.Proof.Gen.Kernel3Ideal.Frame
public import proofs.«01_k».proof.Proof.Gen.Reference3Ideal.Run
public import Idealize.ShloMosaic.Lib.Claim

@[expose] public section

set_option maxRecDepth 16384

noncomputable section

namespace Cert.Nt

open Idealize.ShloMosaic Idealize.ShloMosaic.TcCoe Idealize.SL.Sem

/-- The reference terminates and leaves its arguments. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Both programs end with the same result. -/
theorem algebraic : Cert.algebraic_Kernel3Ideal_Reference3Ideal := by
  pair_intro
  · run_from Cert.Kernel3Ideal.Gen.run_main m g
  · run_from Cert.Reference3Ideal.Value.run m' g'
    exact (Cert.Kernel3Ideal.Nt.final m c).symm

end Cert.Nt

end
-- ==== Proof.InRow.lean ====
/- The row loop of the combined input projection: it leaves the normed rows, rounded, in the block the product reads. -/
module

public import proofs.«01_k».proof.Proof.Gen.Kernel4Ideal.Loops
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.Kernel4Ideal.InRow

open Cert.Kernel4Ideal Cert.Kernel4Ideal.Gen

/-- An entry of a normed row: the entry over the row's root mean square, times the norm's weight. -/
def norm {n : ℕ} (H : FVec Ideal ⟨2, ![n, 2048]⟩ .f32) (g : FVec Ideal S1x2048 .f32) (r : Fin n) (d : Fin 2048) : EReal :=
  H (ix2 r d) * Ideal.rsqrt (Ideal.div (∑ e : Fin 2048, H (ix2 r e) * H (ix2 r e)) (Ideal.ofBits .f32 0x45000000#32) + Ideal.ofBits .f32 0x358637BD#32) * g (ix2 0 d)

/-- The block of normed rows. -/
def normed (H : FVec Ideal S912x2048 .f32) (g : FVec Ideal S1x2048 .f32) : FVec Ideal S912x2048 .bf16 := fun y => norm (n := 912) H g (y 0) (y 1)

/-- An entry depends on its own row alone. -/
theorem norm_congr {n p : ℕ} {H : FVec Ideal ⟨2, ![n, 2048]⟩ .f32} {H' : FVec Ideal ⟨2, ![p, 2048]⟩ .f32} {g g' : FVec Ideal S1x2048 .f32} {r : Fin n} {q : Fin p}
    (hH : ∀ d, H (ix2 r d) = H' (ix2 q d)) (hg : g = g') (d : Fin 2048) : norm H g r d = norm H' g' q d := by
  subst hg
  unfold norm
  simp only [hH]

/-- The first rows of a trip's three blocks. -/
theorem starts : ∀ k : Fin k0_t1_loop.trips, k0_off1 k 0#32 = ![48 * k.val, 0] ∧ k0_off1 k 1#32 = ![48 * k.val + 16, 0] ∧ k0_off1 k 2#32 = ![48 * k.val + 32, 0] := by
  decide +kernel

/-- A row among the sixteen stored last. -/
theorem hit (a : Memref sig .tc .vmem S912x2048 .bf16) (f : BufTy.Contents (Elt Ideal) a.view.ty) {off : Fin 2 → ℕ} (o : ℕ)
    (inb : ∀ x, off x + S16x2048.size x ≤ S912x2048.size x) (w : FVec Ideal S16x2048 .bf16) (L : List (View.Piece (Elt Ideal) S912x2048 .bf16))
    (hoff : off = ![o, 0]) (r : Fin 912) (d : Fin 2048) (h : o ≤ r.val) (h' : r.val - o < 16) :
    a.view.read (Elt Ideal) (a.view.writes (Elt Ideal) f (⟨Rect.unit off S16x2048.size inb, w⟩ :: L)) (ix2 r d) = w (ix2 ⟨r.val - o, h'⟩ d) :=
  View.read_writes_cons_rows_of_mem a.view f inb w L (ix2 r d) (ix2 ⟨r.val - o, h'⟩ d) hoff (by show r.val = o + (r.val - o); omega) rfl

/-- A row that is not among them. -/
theorem miss (a : Memref sig .tc .vmem S912x2048 .bf16) (f : BufTy.Contents (Elt Ideal) a.view.ty) {off : Fin 2 → ℕ} (o : ℕ)
    (inb : ∀ x, off x + S16x2048.size x ≤ S912x2048.size x) (w : FVec Ideal S16x2048 .bf16) (L : List (View.Piece (Elt Ideal) S912x2048 .bf16))
    (hoff : off = ![o, 0]) (r : Fin 912) (d : Fin 2048) (h : r.val < o ∨ o + 16 ≤ r.val) :
    a.view.read (Elt Ideal) (a.view.writes (Elt Ideal) f (⟨Rect.unit off S16x2048.size inb, w⟩ :: L)) (ix2 r d) = a.view.read (Elt Ideal) (a.view.writes (Elt Ideal) f L) (ix2 r d) :=
  View.read_writes_cons_rows_of_not_mem a.view f inb w L (ix2 r d) hoff rfl h

/-- Sixteen rows as loaded. -/
theorem rows (a : Memref sig .tc .vmem S912x2048 .f32) (X : BufTy.Contents (Elt Ideal) a.view.ty) {off : Fin 2 → ℕ} (o : ℕ)
    (inb : ∀ x, off x + S16x2048.size x ≤ S912x2048.size x) (hoff : off = ![o, 0]) (r : Fin 16) (d : Fin 2048) (h : o + r.val < 912) :
    (show FVec Ideal S16x2048 .f32 from a.view.readAt (Elt Ideal) (Rect.unit (s := S912x2048) off S16x2048.size inb).toLoadRect X) (ix2 r d) = a.view.read (Elt Ideal) X (ix2 ⟨o + r.val, h⟩ d) := by
  subst hoff
  refine congrArg (fun y => a.view.read (Elt Ideal) X y) ?_
  funext x
  refine Fin.ext ?_
  match x with
  | ⟨0, _⟩ => show o + 1 * r.val = o + r.val; omega
  | ⟨1, _⟩ => show 0 + 1 * d.val = d.val; omega

/-- The three blocks of a trip store the same function of their rows. -/
theorem block_a (h : FVec Ideal S16x2048 .f32) (g : FVec Ideal S1x2048 .f32) (r : Fin 16) (e : Fin 2048) :
    k0_pay4 (F := Ideal) h g (ix2 r e) = norm (n := 16) h g r e := by
  pointwise [k0_pay4, norm]
theorem block_b (h : FVec Ideal S16x2048 .f32) (g : FVec Ideal S1x2048 .f32) (r : Fin 16) (e : Fin 2048) :
    k0_pay1 (F := Ideal) h (k0_pay5 h) k0_pay6 g (ix2 r e) = norm (n := 16) h g r e := by
  pointwise [k0_pay1, k0_pay5, k0_pay6, norm]
theorem block_c (h : FVec Ideal S16x2048 .f32) (g : FVec Ideal S1x2048 .f32) (r : Fin 16) (e : Fin 2048) :
    k0_pay2 (F := Ideal) h g (ix2 r e) = norm (n := 16) h g r e := by
  pointwise [k0_pay2, norm]

/-- One trip: forty-eight normed rows. -/
theorem trip (𝒱 : Variants) (c : Dev nD) (bd : Option 𝒱.V) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (k0_h1 : k0_cond1 i = 1#1) (X_arg2 : BufTy.Contents (Elt Ideal) arg2.view.ty) (X_arg3 : BufTy.Contents (Elt Ideal) arg3.view.ty) (k : Fin k0_t1_loop.trips) (f : BufTy.Contents (Elt Ideal) arg6.view.ty) (r : Fin 912) (d : Fin 2048) :
    arg6.view.read (Elt Ideal) (arg6.view.writes (Elt Ideal) f (trip_k0_t1 (F := Ideal) 𝒱 c bd i arg2 harg2 arg3 harg3 arg4 harg4 arg5 harg5 arg6 harg6 k0_h1 X_arg2 X_arg3 k).1) (ix2 r d)
      = if 48 * k.val ≤ r.val ∧ r.val < 48 * k.val + 48 then norm (n := 912) (arg2.view.read (Elt Ideal) X_arg2) (arg3.view.read (Elt Ideal) X_arg3) r d
        else arg6.view.read (Elt Ideal) f (ix2 r d) := by
  obtain ⟨h0, h1, h2⟩ := starts k
  unfold trip_k0_t1
  simp only []
  by_cases c2 : 48 * k.val + 32 ≤ r.val ∧ r.val < 48 * k.val + 32 + 16
  · rw [if_pos (by omega)]
    refine (hit arg6 f (48 * k.val + 32) _ _ _ h2 r d c2.1 (by omega)).trans ((block_c _ _ _ _).trans (norm_congr (fun e => ?_) (View.readAt_full _ _ _) d))
    refine (rows _ _ (48 * k.val + 32) _ h2 _ e (by show 48 * k.val + 32 + (r.val - (48 * k.val + 32)) < 912; omega)).trans (congrArg _ (congrArg (fun q : Fin 912 => ix2 q e) (Fin.ext ?_)))
    show 48 * k.val + 32 + (r.val - (48 * k.val + 32)) = r.val
    omega
  refine (miss arg6 f (48 * k.val + 32) _ _ _ h2 r d (by omega)).trans ?_
  by_cases c1 : 48 * k.val + 16 ≤ r.val ∧ r.val < 48 * k.val + 16 + 16
  · rw [if_pos (by omega)]
    refine (hit arg6 f (48 * k.val + 16) _ _ _ h1 r d c1.1 (by omega)).trans ((block_b _ _ _ _).trans (norm_congr (fun e => ?_) (View.readAt_full _ _ _) d))
    refine (rows _ _ (48 * k.val + 16) _ h1 _ e (by show 48 * k.val + 16 + (r.val - (48 * k.val + 16)) < 912; omega)).trans (congrArg _ (congrArg (fun q : Fin 912 => ix2 q e) (Fin.ext ?_)))
    show 48 * k.val + 16 + (r.val - (48 * k.val + 16)) = r.val
    omega
  refine (miss arg6 f (48 * k.val + 16) _ _ _ h1 r d (by omega)).trans ?_
  by_cases c0 : 48 * k.val ≤ r.val ∧ r.val < 48 * k.val + 16
  · rw [if_pos (by omega)]
    refine (hit arg6 f (48 * k.val) _ _ _ h0 r d c0.1 (by omega)).trans ((block_a _ _ _ _).trans (norm_congr (fun e => ?_) (View.readAt_full _ _ _) d))
    refine (rows _ _ (48 * k.val) _ h0 _ e (by show 48 * k.val + (r.val - (48 * k.val)) < 912; omega)).trans (congrArg _ (congrArg (fun q : Fin 912 => ix2 q e) (Fin.ext ?_)))
    show 48 * k.val + (r.val - (48 * k.val)) = r.val
    omega
  refine (miss arg6 f (48 * k.val) _ _ _ h0 r d (by omega)).trans ?_
  rw [if_neg (by omega)]
  rfl

/-- Before trip `k`, the first `48 k` rows are normed. -/
theorem sweep (𝒱 : Variants) (c : Dev nD) (bd : Option 𝒱.V) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (k0_h1 : k0_cond1 i = 1#1) (X_arg2 : BufTy.Contents (Elt Ideal) arg2.view.ty) (X_arg3 : BufTy.Contents (Elt Ideal) arg3.view.ty) (f : BufTy.Contents (Elt Ideal) arg6.view.ty) : ∀ k : ℕ, k ≤ 19 → ∀ (r : Fin 912) (d : Fin 2048),
    arg6.view.read (Elt Ideal) (arg6.view.writes (Elt Ideal) f (pb_k0_t1 (F := Ideal) 𝒱 c bd i arg2 harg2 arg3 harg3 arg4 harg4 arg5 harg5 arg6 harg6 k0_h1 X_arg2 X_arg3 k)) (ix2 r d)
      = if r.val < 48 * k then norm (n := 912) (arg2.view.read (Elt Ideal) X_arg2) (arg3.view.read (Elt Ideal) X_arg3) r d
        else arg6.view.read (Elt Ideal) f (ix2 r d)
  | 0, _, r, d => by rw [if_neg (by omega)]; rfl
  | k + 1, hk, r, d => by
    have ht : k < k0_t1_loop.trips := lt_of_lt_of_eq (show k < 19 by omega) (by decide +kernel)
    rw [show k + 1 = (⟨k, ht⟩ : Fin k0_t1_loop.trips).val + 1 from rfl, pb_k0_t1_succ (F := Ideal) 𝒱 c bd i arg2 harg2 arg3 harg3 arg4 harg4 arg5 harg5 arg6 harg6 k0_h1 X_arg2 X_arg3 ⟨k, ht⟩, View.writes_append]
    refine (trip 𝒱 c bd i arg2 harg2 arg3 harg3 arg4 harg4 arg5 harg5 arg6 harg6 k0_h1 X_arg2 X_arg3 ⟨k, ht⟩ _ r d).trans ?_
    by_cases h1 : 48 * k ≤ r.val ∧ r.val < 48 * k + 48
    · rw [if_pos h1, if_pos (by show r.val < 48 * (k + 1); omega)]
    · rw [if_neg h1]
      refine (sweep 𝒱 c bd i arg2 harg2 arg3 harg3 arg4 harg4 arg5 harg5 arg6 harg6 k0_h1 X_arg2 X_arg3 f k (by omega) r d).trans ?_
      by_cases h2 : r.val < 48 * k
      · rw [if_pos h2, if_pos (by show r.val < 48 * (k + 1); omega)]
      · rw [if_neg h2, if_neg (by show ¬r.val < 48 * (k + 1); omega)]

/-- The whole loop leaves the block of normed rows, whatever the buffer held. -/
theorem swept (𝒱 : Variants) (c : Dev nD) (bd : Option 𝒱.V) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (k0_h1 : k0_cond1 i = 1#1) (X_arg2 : BufTy.Contents (Elt Ideal) arg2.view.ty) (X_arg3 : BufTy.Contents (Elt Ideal) arg3.view.ty) (f : BufTy.Contents (Elt Ideal) arg6.view.ty) :
    arg6.view.read (Elt Ideal) (arg6.view.writes (Elt Ideal) f (pb_k0_t1 (F := Ideal) 𝒱 c bd i arg2 harg2 arg3 harg3 arg4 harg4 arg5 harg5 arg6 harg6 k0_h1 X_arg2 X_arg3 (Scf.trips k0_t1_loop.lb k0_t1_loop.ub k0_t1_loop.st)))
      = normed (arg2.view.read (Elt Ideal) X_arg2) (arg3.view.read (Elt Ideal) X_arg3) := by
  rw [show Scf.trips k0_t1_loop.lb k0_t1_loop.ub k0_t1_loop.st = 19 by decide +kernel]
  funext y
  obtain ⟨r, d, rfl⟩ : ∃ (r : Fin 912) (d : Fin 2048), y = ix2 r d := ⟨y 0, y 1, by
    funext x
    match x with
    | ⟨0, _⟩ => rfl
    | ⟨1, _⟩ => rfl⟩
  exact (sweep 𝒱 c bd i arg2 harg2 arg3 harg3 arg4 harg4 arg5 harg5 arg6 harg6 k0_h1 X_arg2 X_arg3 f 19 le_rfl r d).trans (if_pos (by show r.val < 912; exact r.isLt))

end Cert.Kernel4Ideal.InRow

end
-- ==== Proof.InRun.lean ====
/- One run of the combined input projection's kernel, at a grid point that norms the rows and at one that does not. -/
module

public import proofs.«01_k».proof.Proof.Gen.Kernel4Ideal.Frame
public import proofs.«01_k».proof.Proof.InRow

@[expose] public section

set_option maxRecDepth 16384

noncomputable section

namespace Cert.Kernel4Ideal.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen Cert.Kernel4Ideal.InRow

local notation "𝕄" => MT nD τ sig Unit (Elt Ideal) ℕ (UR sig nD τ) ℕ

/-- A whole store into the product's block, read back. -/
theorem stored (a : Memref sig .tc .vmem S912x1792 .f32) (f : BufTy.Contents (Elt Ideal) a.view.ty)
    (inb : ∀ x, (![0, 0] : Fin 2 → ℕ) x + S912x1792.size x ≤ S912x1792.size x) (w : FVec Ideal S912x1792 .f32) :
    a.view.read (Elt Ideal) (a.view.writes (Elt Ideal) f [⟨Rect.unit ![0, 0] S912x1792.size inb, w⟩]) = w := by
  funext y
  exact View.read_writes_cons_rows_of_mem (o := 0) a.view f inb w [] y y rfl (by show (y 0).val = 0 + (y 0).val; omega) rfl

theorem product_congr (a a' : Vec Ideal S912x2048 .bf16) (b b' : Vec Ideal S1x2048x1792 .bf16) (ha : a = a') (hb : b = b') : k0_pay3 (F := Ideal) a b = k0_pay3 a' b' := by
  rw [ha, hb]

set_option maxHeartbeats 1000000 in
/-- Where the row tile is new, the rows are normed first: the buffers end with the normed rows and their product with the
    weight's block. -/
theorem first (c : Dev nD) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (hc : k0_cond1 i = 1#1)
    (x0 : Vec Ideal S912x2048 .f32) (x1 : Vec Ideal S1x2048 .f32) (x2 : Vec Ideal S1x2048x1792 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (normed x0 x1) x2) ∗ owns (c : Thread nD τ) arg6 fullShare (normed x0 x1)) -∗ K ⟨⟩))
      ⊢ wp frame (wpE (defs₀ (F := Ideal)) Variants.none c none) E (cc0_in_proj_fwd i arg2 harg2 arg3 harg3 arg4 harg4 arg5 harg5 arg6 harg6) K := by
  simp only [cc0_in_proj_fwd_eq_skeleton]; unfold cc0_in_proj_fwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    · ipureintro
      refine (stored arg5 _ _ _).trans (product_congr _ _ _ _ ?_ ?_)
      · refine (View.readAt_full _ _ _).trans ((swept _ _ _ _ arg2 harg2 arg3 harg3 arg4 harg4 arg5 harg5 arg6 harg6 hc _ _ _).trans ?_)
        rw [harg2.read_unread, harg3.read_unread]
      · exact (View.readAt_full _ _ _).trans (harg4.read_unread _)
  iexists _; isplitr
  swap; · iexact H4
  ipureintro
  refine (swept _ _ _ _ arg2 harg2 arg3 harg3 arg4 harg4 arg5 harg5 arg6 harg6 hc _ _ _).trans ?_
  rw [harg2.read_unread, harg3.read_unread]

set_option maxHeartbeats 1000000 in
/-- At the other points the normed rows are there already, and stay. -/
theorem later (c : Dev nD) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (hc : ¬k0_cond1 i = 1#1)
    (x0 : Vec Ideal S912x2048 .f32) (x1 : Vec Ideal S1x2048 .f32) (x2 : Vec Ideal S1x2048x1792 .bf16) (h : Vec Ideal S912x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare h
        ∗ (iprop(owns (c : Thread nD τ) arg2 fullShare x0 ∗ owns (c : Thread nD τ) arg3 fullShare x1 ∗ owns (c : Thread nD τ) arg4 fullShare x2 ∗ owns (c : Thread nD τ) arg5 fullShare (k0_pay3 h x2) ∗ owns (c : Thread nD τ) arg6 fullShare h) -∗ K ⟨⟩))
      ⊢ wp frame (wpE (defs₀ (F := Ideal)) Variants.none c none) E (cc0_in_proj_fwd i arg2 harg2 arg3 harg3 arg4 harg4 arg5 harg5 arg6 harg6) K := by
  simp only [cc0_in_proj_fwd_eq_skeleton]; unfold cc0_in_proj_fwd_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    · ipureintro
      exact (stored arg5 _ _ _).trans (product_congr _ _ _ _ ((View.readAt_full _ _ _).trans (harg6.read_unread _)) ((View.readAt_full _ _ _).trans (harg4.read_unread _)))
  iexists _; isplitr; · ipureintro; exact harg6.read_unread _
  iexact H4

end Cert.Kernel4Ideal.InRun

end
-- ==== Proof.InFrame.lean ====
/- The combined input projection's launch: what its buffers hold at every grid point, and what its arrays end with. -/
module

public import proofs.«01_k».proof.Proof.InRun
public import Idealize.ShloMosaic.Lib.Claim
public import Idealize.ShloMosaic.Lib.Pipeline.TableIdle

@[expose] public section

set_option maxRecDepth 16384

noncomputable section

namespace Cert.Kernel4Ideal.InFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen Cert.Kernel4Ideal.InRow

local notation "𝕄" => MT nD τ sig Unit (Elt Ideal) ℕ (UR sig nD τ) ℕ

variable (m : (ℓ : Loc nD τ sig) → Buf (Elt Ideal) ℓ) (ρ : Dev nD → PrngReg)

/-- The rows are normed at the first of each row tile's eight points. -/
theorem norms_iff (t : Fin cfg0.N) : k0_cond1 (grid0.coords t) = 1#1 ↔ t.val % 8 = 0 := by
  have ht : t.val < 72 := Nat.lt_of_lt_of_eq t.isLt N_0
  have e0 : (grid0.coords t 0).val = t.val / 8 % 9 := Pipeline.Grid.coords_val t 0 (by decide) rfl
  have e1 : (grid0.coords t 1).val = t.val / 1 % 8 := Pipeline.Grid.coords_val t 1 (by decide) rfl
  simp only [k0_cond1, e0, e1]
  word_cmp

theorem busy : ∀ t : Fin cfg0.N, k0_cond1 (grid0.coords t) = 1#1 → cfg0.idle 4 (grid0.coords t) = false := by decide +kernel
theorem idle : ∀ t : Fin cfg0.N, ¬k0_cond1 (grid0.coords t) = 1#1 → cfg0.idle 4 (grid0.coords t) = true := by decide +kernel

/-- Which positions find nothing stored in the normed rows' buffer: the first of each row tile. -/
def unstored (n : ℕ) : Bool := n % 8 == 0
theorem unstored_step : ∀ t : Fin cfg0.N, unstored (t.val + 1) = ((cfg0.win 4).flush t || (cfg0.idle 4 (cfg0.grid.coords t) && unstored t.val)) := by decide +kernel
theorem unstored_eq (t : Fin cfg0.N) : cfg0.fresh 4 t.val = unstored t.val :=
  Pipeline.Cfg.fresh_tab cfg0 4 unstored rfl unstored_step t.val (Nat.le_of_lt t.isLt)

/-- The point at which a point's row tile was normed. -/
def start (t : Fin cfg0.N) : Fin cfg0.N := ⟨t.val - t.val % 8, lt_of_le_of_lt (Nat.sub_le _ _) t.isLt⟩

/-- The normed rows of a point's row tile. -/
def held (c : Dev nD) (t : Fin cfg0.N) : Vec Ideal S912x2048 .bf16 := normed (iblk m c 0 (start t)) (iblk m c 1 (start t))

theorem held_first (c : Dev nD) (t : Fin cfg0.N) (h : t.val % 8 = 0) : held m c t = normed (iblk m c 0 t) (iblk m c 1 t) := by
  unfold held
  rw [show start t = t from Fin.ext (by show t.val - t.val % 8 = t.val; omega)]

theorem held_later (c : Dev nD) (t : Fin cfg0.N) (h : ¬t.val % 8 = 0) (hl : t.val - 1 < cfg0.N) : held m c t = held m c ⟨t.val - 1, hl⟩ := by
  unfold held
  rw [show start t = start ⟨t.val - 1, hl⟩ from Fin.ext (by show t.val - t.val % 8 = t.val - 1 - (t.val - 1) % 8; omega)]

/-- After each point: the inputs' blocks as fetched, the product's block, and the normed rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (F := Ideal) (held m c t) (iblk m c 2 t)
    | ⟨4, _⟩ => held m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (F := Ideal) (held m c t) (iblk m c 2 t) := by dsimp only [dats]
theorem after4 (c : Dev nD) (t : Fin cfg0.N) : (dats m 0 c).after 4 t = held m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Where the rows are not normed, their buffer holds those normed at the start of the tile. -/
theorem before4 (c : Dev nD) (t : Fin cfg0.N) (h : ¬t.val % 8 = 0) (d) : (dats m 0 c).before 4 t d = held m c t := by
  rw [Dat.before_out_traj _ 4 rfl (fun _ _ => rfl) (fun t _ hi _ => by
      rw [after4, after4]
      refine held_later m c t (fun h0 => ?_) _
      rw [busy t ((norms_iff t).mpr h0)] at hi
      exact absurd hi Bool.false_ne_true) t.val t rfl d,
    if_neg (by rw [unstored_eq t]; unfold unstored; simpa using h)]
  exact (held_later m c t h _).symm

abbrev stg0 (t : Fin cfg0.N) : Memref sig .tc .vmem S912x2048 .f32 := win0_0.stage (cfg0.slots t 0)
abbrev stg1 (t : Fin cfg0.N) : Memref sig .tc .vmem S1x2048 .f32 := win0_1.stage (cfg0.slots t 1)
abbrev stg2 (t : Fin cfg0.N) : Memref sig .tc .vmem S1x2048x1792 .bf16 := win0_2.stage (cfg0.slots t 2)
abbrev stg3 (t : Fin cfg0.N) : Memref sig .tc .vmem S912x1792 .f32 := win0_3.stage (cfg0.slots t 3)
abbrev stg4 (t : Fin cfg0.N) : Memref sig .tc .vmem S912x2048 .bf16 := win0_4.stage (cfg0.slots t 4)

set_option maxHeartbeats 800000 in
/-- One grid point, from what the buffers held before it to what they hold after it. -/
theorem point (c : Dev nD) (t : Fin cfg0.N) :
    iprop((dats m 0 c).Φ t.castSucc ∗ (dats m 0 c).owesAt () t.castSucc
      ∗ (∃ d, owns (c : Thread nD τ) (stg0 t) fullShare ((dats m 0 c).before 0 t d))
      ∗ (∃ d, owns (c : Thread nD τ) (stg1 t) fullShare ((dats m 0 c).before 1 t d))
      ∗ (∃ d, owns (c : Thread nD τ) (stg2 t) fullShare ((dats m 0 c).before 2 t d))
      ∗ (∃ d, owns (c : Thread nD τ) (stg3 t) fullShare ((dats m 0 c).before 3 t d))
      ∗ (∃ d, owns (c : Thread nD τ) (stg4 t) fullShare ((dats m 0 c).before 4 t d)))
    ⊢ wp frame (wpE (defs₀ (F := Ideal)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t)) := by
  unfold bodyAt0
  simp only [before0, before1, before2]
  rw [show (dats m 0 c).Φ t.succ = (dats m 0 c).Φ t.castSucc from rfl,
    show (dats m 0 c).owesAt () t.succ = (dats m 0 c).owesAt () t.castSucc from rfl]
  by_cases h0 : t.val % 8 = 0
  · have hc := (norms_iff t).mpr h0
    rw [show (dats m 0 c).leavesExact 0 t = owns (c : Thread nD τ) (stg0 t) fullShare ((dats m 0 c).after 0 t) from by
      unfold Dat.leavesExact; rw [show cfg0.idle 0 (grid0.coords t) = false from rfl], after0]
    rw [show (dats m 0 c).leavesExact 1 t = owns (c : Thread nD τ) (stg1 t) fullShare ((dats m 0 c).after 1 t) from by
      unfold Dat.leavesExact; rw [show cfg0.idle 1 (grid0.coords t) = false from rfl], after1]
    rw [show (dats m 0 c).leavesExact 2 t = owns (c : Thread nD τ) (stg2 t) fullShare ((dats m 0 c).after 2 t) from by
      unfold Dat.leavesExact; rw [show cfg0.idle 2 (grid0.coords t) = false from rfl], after2]
    rw [show (dats m 0 c).leavesExact 3 t = owns (c : Thread nD τ) (stg3 t) fullShare ((dats m 0 c).after 3 t) from by
      unfold Dat.leavesExact; rw [show cfg0.idle 3 (grid0.coords t) = false from rfl], after3]
    rw [show (dats m 0 c).leavesExact 4 t = owns (c : Thread nD τ) (stg4 t) fullShare ((dats m 0 c).after 4 t) from by
      unfold Dat.leavesExact; rw [busy t hc], after4, held_first m c t h0]
    iintro ⟨HΦ, Ho, ⟨%d0, H0⟩, ⟨%d1, H1⟩, ⟨%d2, H2⟩, ⟨%d3, H3⟩, ⟨%d4, H4⟩⟩
    iapply (InRun.first c (grid0.coords t) _ _ _ _ _ _ _ _ _ _ hc (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hc : ¬k0_cond1 (grid0.coords t) = 1#1 := fun h => h0 ((norms_iff t).mp h)
    rw [show (dats m 0 c).leavesExact 0 t = owns (c : Thread nD τ) (stg0 t) fullShare ((dats m 0 c).after 0 t) from by
      unfold Dat.leavesExact; rw [show cfg0.idle 0 (grid0.coords t) = false from rfl], after0]
    rw [show (dats m 0 c).leavesExact 1 t = owns (c : Thread nD τ) (stg1 t) fullShare ((dats m 0 c).after 1 t) from by
      unfold Dat.leavesExact; rw [show cfg0.idle 1 (grid0.coords t) = false from rfl], after1]
    rw [show (dats m 0 c).leavesExact 2 t = owns (c : Thread nD τ) (stg2 t) fullShare ((dats m 0 c).after 2 t) from by
      unfold Dat.leavesExact; rw [show cfg0.idle 2 (grid0.coords t) = false from rfl], after2]
    rw [show (dats m 0 c).leavesExact 3 t = owns (c : Thread nD τ) (stg3 t) fullShare ((dats m 0 c).after 3 t) from by
      unfold Dat.leavesExact; rw [show cfg0.idle 3 (grid0.coords t) = false from rfl], after3]
    have h4 : owns (c : Thread nD τ) (stg4 t) fullShare (held m c t) ⊢ (dats m 0 c).leavesExact 4 t := by
      cases hf : (cfg0.win 4).flush t with
      | true =>
        rw [show (dats m 0 c).leavesExact 4 t = owns (c : Thread nD τ) (stg4 t) fullShare ((dats m 0 c).after 4 t) from by
          unfold Dat.leavesExact; rw [idle t hc, hf], after4]
      | false =>
        rw [Dat.leavesExact_idle _ 4 t (idle t hc) hf]
        simp only [before4 m c t h0]
        iintro H
        iexists (held m c t)
        iexact H
    simp only [before4 m c t h0]
    iintro ⟨HΦ, Ho, ⟨%d0, H0⟩, ⟨%d1, H1⟩, ⟨%d2, H2⟩, ⟨%d3, H3⟩, ⟨%d4, H4⟩⟩
    iapply (InRun.later c (grid0.coords t) _ _ _ _ _ _ _ _ _ _ hc (iblk m c 0 t) (iblk m c 1 t) (iblk m c 2 t) (held m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply h4
    iexact H4

theorem body_obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (point m c t) rfl .rfl fun _ => .rfl

set_option backward.isDefEq.respectTransparency.types false in
/-- The launch: every array ends at what the points wrote, and every semaphore counter at zero. -/
theorem launched : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (launched m ρ)

/-- The idealized kernel terminates, leaves its arguments, and leaves the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (launched m ρ))

end Cert.Kernel4Ideal.InFrame

end
-- ==== Proof.InProj.lean ====
/- The combined input projection: the kernel's two arrays are the reference's. -/
module

public import proofs.«01_k».proof.Proof.InFrame
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference4Ideal.In

open Cert.Reference4Ideal Cert.Reference4Ideal.Gen
open Cert.Kernel4Ideal.InRow (norm)

/-- Each row's mean square, with the small constant added. -/
def ms (h : FVec Ideal S8208x2048 .f32) : FVec Ideal S8208x1 .f32 :=
  addf (Host.divf (broadcastInDim S8208x1 ![0] bcast_S8208_S8208x1_0 (Host.reduceAdd (mulf h h) (constant S_ .f32 0x00000000#32) reducesTo_S8208x2048_S8208_d1 h_S_)) (broadcastInDim S8208x1 ![] bcast_S_S8208x1 (constant S_ .f32 0x45000000#32))) (broadcastInDim S8208x1 ![] bcast_S_S8208x1 (constant S_ .f32 0x358637BD#32))

/-- The normed input, over the arguments. -/
def hn (h : FVec Ideal S8208x2048 .f32) (g : FVec Ideal S2048 .f32) : FVec Ideal S8208x2048 .f32 :=
  mulf (mulf h (broadcastInDim S8208x2048 ![0, 1] bcast_S8208x1_S8208x2048_0_1 (Host.rsqrt (ms h)))) (broadcastInDim S8208x2048 ![0, 1] bcast_S1x2048_S8208x2048_0_1 (broadcastInDim S1x2048 ![1] bcast_S2048_S1x2048_1 g))

/-- Its rounding, the second result. -/
def hnr (h : FVec Ideal S8208x2048 .f32) (g : FVec Ideal S2048 .f32) : FVec Ideal S8208x2048 .bf16 := truncf .bf16 (hn h g) bitsLt_bf16_f32

/-- The product, the first result. -/
def z (h : FVec Ideal S8208x2048 .f32) (g : FVec Ideal S2048 .f32) (w : FVec Ideal S2048x14336 .f32) : FVec Ideal S8208x14336 .f32 :=
  Host.dotGeneral dot_S8208x2048_S2048x14336_S8208x14336_1_0_0_1_n_n none (hn h g) w

theorem ms_at (h : FVec Ideal S8208x2048 .f32) (r : Fin 8208) (q : Fin 1) : ms h (ix2 r q)
    = Ideal.div (∑ d : Fin 2048, h (ix2 r d) * h (ix2 r d)) (Ideal.ofBits .f32 0x45000000#32) + Ideal.ofBits .f32 0x358637BD#32 := by
  pointwise [ms]

theorem hn_at (h : FVec Ideal S8208x2048 .f32) (g : FVec Ideal S2048 .f32) (g1 : FVec Ideal S1x2048 .f32) (hg : ∀ d : Fin 2048, g1 (ix2 0 d) = g (ix1 d))
    (r : Fin 8208) (d : Fin 2048) : hn h g (ix2 r d) = norm (n := 8208) h g1 r d := by
  have e : ∀ M : FVec Ideal S8208x1 .f32, (fun M => mulf (mulf h (broadcastInDim S8208x2048 ![0, 1] bcast_S8208x1_S8208x2048_0_1 (Host.rsqrt M))) (broadcastInDim S8208x2048 ![0, 1] bcast_S1x2048_S8208x2048_0_1 (broadcastInDim S1x2048 ![1] bcast_S2048_S1x2048_1 g))) M (ix2 r d)
      = h (ix2 r d) * Ideal.rsqrt (M (ix2 r 0)) * g (ix1 d) := by
    intro M
    pointwise []
  refine (e (ms h)).trans ?_
  rw [ms_at, ← hg]
  rfl

theorem hnr_at (h : FVec Ideal S8208x2048 .f32) (g : FVec Ideal S2048 .f32) (r : Fin 8208) (d : Fin 2048) : hnr h g (ix2 r d) = hn h g (ix2 r d) := by
  unfold hnr
  generalize hn h g = x
  pointwise []

theorem z_at (h : FVec Ideal S8208x2048 .f32) (g : FVec Ideal S2048 .f32) (w : FVec Ideal S2048x14336 .f32) (r : Fin 8208) (n : Fin 14336) :
    z h g w (ix2 r n) = ∑ d : Fin 2048, hn h g (ix2 r d) * w (ix2 d n) := by
  unfold z
  generalize hn h g = x
  pointwise []

end Cert.Reference4Ideal.In

namespace Cert.Kernel4Ideal.In

open Cert.Kernel4Ideal Cert.Kernel4Ideal.Gen Cert.Kernel4Ideal.InRow Cert.Kernel4Ideal.InFrame
open Cert.Reference4Ideal.In (hn hnr z hn_at hnr_at z_at)

variable (m : (ℓ : Loc nD τ sig) → Buf (Elt Ideal) ℓ)

/-- The arguments. -/
abbrev argH (c : Dev nD) : FVec Ideal S8208x2048 .f32 := m ((c : Thread nD τ).loc main_arg0)
abbrev argG (c : Dev nD) : FVec Ideal S2048 .f32 := m ((c : Thread nD τ).loc main_arg1)
abbrev argW (c : Dev nD) : FVec Ideal S2048x14336 .f32 := m ((c : Thread nD τ).loc main_arg2)

/-- Where each window's block lies. -/
theorem places : ∀ t : Fin cfg0.N, win0_0.index t = ![t.val / 8, 0] ∧ win0_1.index t = ![0, 0] ∧ win0_2.index t = ![t.val % 8 / 2, 0, t.val % 8 % 2] ∧ win0_3.index t = ![t.val / 8, t.val % 8] ∧ win0_4.index t = ![t.val / 8, 0] :=
  (by decide +kernel : ∀ t : Fin grid0.N, _)

/-- The blocks, read off the arrays. -/
theorem hblk (c : Dev nD) (t : Fin cfg0.N) (r : Fin 912) (d : Fin 2048) :
    (show FVec Ideal S912x2048 .f32 from iblk m c 0 t) (ix2 r d) = argH m c (ix2 ⟨t.val / 8 * 912 + r.val, by have := lt_of_lt_of_eq t.isLt N_0; omega⟩ d) := by
  have hN : t.val < 72 := lt_of_lt_of_eq t.isLt N_0
  blk_ext [iblk, V, places t]
theorem gblk (c : Dev nD) (t : Fin cfg0.N) (d : Fin 2048) : (show FVec Ideal S1x2048 .f32 from iblk m c 1 t) (ix2 0 d) = argG m c (ix1 d) := by
  have hN : t.val < 72 := lt_of_lt_of_eq t.isLt N_0
  have he : ((cfg0.win 1).blk t).view.emb (ix2 0 d) = ix2 (0 : Fin 1) d := by
    blk_ext [places t]
  have hv : StableHlo.after hostOps0 (fun b => m (c, b)) (Proc.tc.devRef main_v0)
      = broadcastInDim S1x2048 ![1] bcast_S2048_S1x2048_1 (argG m c) := by
    entry_read; rfl
  blk_simp [iblk, V]
  rw [he, hv]
  pointwise []

/-- The weight laid out by chip, read at an index. -/
theorem slab (w : FVec Ideal S2048x14336 .f32) (q : Fin 4) (d : Fin 2048) (n : Fin 3584) :
    truncf (F := Ideal) .bf16 (transpose S4x2048x3584 [1, 0, 2] (shapeCast S2048x4x3584 w shapeCasts_S2048x14336_S2048x4x3584) transposes_S2048x4x3584_S4x2048x3584_1_0_2) bitsLt_bf16_f32 (ix3 q d n)
      = w (ix2 d ⟨q.val * 3584 + n.val, by omega⟩) := by
  pointwise []

theorem wblk (c : Dev nD) (t : Fin cfg0.N) (d : Fin 2048) (n : Fin 1792) :
    (show FVec Ideal S1x2048x1792 .bf16 from iblk m c 2 t) (ix3 0 d n) = argW m c (ix2 d ⟨t.val % 8 * 1792 + n.val, by omega⟩) := by
  have hN : t.val < 72 := lt_of_lt_of_eq t.isLt N_0
  have he : ((cfg0.win 2).blk t).view.emb (ix3 0 d n) = ix3 (⟨t.val % 8 / 2, by omega⟩ : Fin 4) d (⟨t.val % 8 % 2 * 1792 + n.val, by omega⟩ : Fin 3584) := by
    blk_ext [places t]
  have hv : StableHlo.after hostOps0 (fun b => m (c, b)) (Proc.tc.devRef main_v3)
      = truncf (F := Ideal) .bf16 (transpose S4x2048x3584 [1, 0, 2] (shapeCast S2048x4x3584 (argW m c) shapeCasts_S2048x14336_S2048x4x3584) transposes_S2048x4x3584_S4x2048x3584_1_0_2) bitsLt_bf16_f32 := by
    entry_read; rfl
  blk_simp [iblk, V]
  rw [he, hv]
  refine (slab _ _ _ _).trans (congrArg _ (congrArg (ix2 d) (Fin.ext ?_)))
  simp only []
  omega

/-- The normed rows of a grid point's row tile. -/
theorem held_at (c : Dev nD) (t : Fin cfg0.N) (r : Fin 912) (d : Fin 2048) :
    held m c t (ix2 r d) = hn (argH m c) (argG m c) (ix2 ⟨t.val / 8 * 912 + r.val, by have := lt_of_lt_of_eq t.isLt N_0; omega⟩ d) := by
  have hN : t.val < 72 := lt_of_lt_of_eq t.isLt N_0
  rw [hn_at _ _ (show FVec Ideal S1x2048 .f32 from iblk m c 1 (start t)) (gblk m c (start t))]
  show norm (n := 912) (iblk m c 0 (start t)) (iblk m c 1 (start t)) r d = _
  refine norm_congr (fun e => (hblk m c (start t) r e).trans (congrArg (fun q : Fin 8208 => argH m c (ix2 q e)) (Fin.ext ?_))) rfl d
  show (t.val - t.val % 8) / 8 * 912 + r.val = t.val / 8 * 912 + r.val
  omega

theorem product_at (a : Vec Ideal S912x2048 .bf16) (b : Vec Ideal S1x2048x1792 .bf16) (r : Fin 912) (n : Fin 1792) :
    k0_pay3 (F := Ideal) a b (ix2 r n) = ∑ d : Fin 2048, a (ix2 r d) * b (ix3 0 d n) := by
  pointwise [k0_pay3]

/-- The product's array after the run. -/
theorem final3 (c : Dev nD) : (dats m 0 c).arrAt 3 (cfgs 0).N = z (argH m c) (argG m c) (argW m c) := by
  refine (dats m 0 c).arrAt_eq_of_covers 3 _ (by decide +kernel) fun t hf y => ?_
  have hN : t.val < 72 := lt_of_lt_of_eq t.isLt N_0
  have hy0 : (y 0).val < 912 := (y 0).isLt
  have hy1 : (y 1).val < 1792 := (y 1).isLt
  have he : ((cfg0.win 3).blk t).view.emb y = ix2 (⟨t.val / 8 * 912 + (y 0).val, by omega⟩ : Fin 8208) (⟨t.val % 8 * 1792 + (y 1).val, by omega⟩ : Fin 14336) := by
    blk_ext [places t]
  have hy : y = ix2 (⟨(y 0).val, (y 0).isLt⟩ : Fin 912) (⟨(y 1).val, (y 1).isLt⟩ : Fin 1792) := by
    funext x; match x with
    | ⟨0, _⟩ => rfl
    | ⟨1, _⟩ => rfl
  blk_simp
  rw [after3]
  refine Eq.trans ?_ (congrArg (z _ _ _) he).symm
  refine (congrArg (k0_pay3 (F := Ideal) (held m c t) (iblk m c 2 t)) hy).trans ((product_at _ _ _ _).trans ?_)
  rw [z_at]
  exact Finset.sum_congr rfl fun d _ => congrArg₂ (fun u v : EReal => u * v) (held_at m c t _ d) (wblk m c t d _)

/-- The normed input's array after the run. -/
theorem final4 (c : Dev nD) : (dats m 0 c).arrAt 4 (cfgs 0).N = hnr (argH m c) (argG m c) := by
  refine (dats m 0 c).arrAt_eq_of_covers 4 _ (by decide +kernel) fun t hf y => ?_
  have hN : t.val < 72 := lt_of_lt_of_eq t.isLt N_0
  have hy0 : (y 0).val < 912 := (y 0).isLt
  have he : ((cfg0.win 4).blk t).view.emb y = ix2 (⟨t.val / 8 * 912 + (y 0).val, by omega⟩ : Fin 8208) (⟨(y 1).val, (y 1).isLt⟩ : Fin 2048) := by
    blk_ext [places t]
  have hy : y = ix2 (⟨(y 0).val, (y 0).isLt⟩ : Fin 912) (⟨(y 1).val, (y 1).isLt⟩ : Fin 2048) := by
    funext x; match x with
    | ⟨0, _⟩ => rfl
    | ⟨1, _⟩ => rfl
  blk_simp
  rw [after4]
  refine Eq.trans ?_ (congrArg (hnr _ _) he).symm
  exact (congrArg (held m c t) hy).trans ((held_at m c t _ _).trans (hnr_at _ _ _ _).symm)

end Cert.Kernel4Ideal.In

end
-- ==== Proof.ClaimInProj.lean ====
/- The claim about the norm and the combined input projection: the kernel's two results are its reference's. -/
module

public import proofs.«01_k».proof.Defs
public import proofs.«01_k».proof.Proof.InProj
public import proofs.«01_k».proof.Proof.Gen.Reference4Ideal.Run
public import Idealize.ShloMosaic.Lib.Claim

@[expose] public section

set_option maxRecDepth 16384

noncomputable section

namespace Cert.InProj

open Idealize.ShloMosaic Idealize.ShloMosaic.TcCoe Idealize.SL.Sem

/-- The reference terminates and leaves its arguments. -/
theorem frame_reference : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

set_option maxHeartbeats 4000000 in
/-- Both programs end with the same two results. -/
theorem algebraic : Cert.algebraic_Kernel4Ideal_Reference4Ideal := by
  pair_intro
  · run_from Cert.Kernel4Ideal.InFrame.run_main m g
  · run_from Cert.Reference4Ideal.Value.run m' g'
    · obtain ⟨h0, h1, h2⟩ := hagree c
      refine Eq.trans ?_ (Cert.Kernel4Ideal.In.final3 m c).symm
      unfold Cert.Kernel4Ideal.In.argH Cert.Kernel4Ideal.In.argG Cert.Kernel4Ideal.In.argW
      rw [← h0, ← h1, ← h2]
      rfl
    · obtain ⟨h0, h1, h2⟩ := hagree c
      refine Eq.trans ?_ (Cert.Kernel4Ideal.In.final4 m c).symm
      unfold Cert.Kernel4Ideal.In.argH Cert.Kernel4Ideal.In.argG
      rw [← h0, ← h1]
      rfl

end Cert.InProj

end
-- ==== Proof.InBits.lean ====
/- The frame of the norm and combined input projection's call, on machine numbers: it ends, leaves its arguments, and leaves the counters at zero. -/
module

public import proofs.«01_k».proof.Proof.Gen.Kernel4.Launch
public import proofs.«01_k».proof.Proof.Gen.Kernel4.Skeleton
public import proofs.«01_k».proof.Proof.Gen.Kernel4.Loops
public import proofs.«01_k».proof.Proof.Gen.Kernel4.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4.InBits

open Cert.Kernel4 Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel4`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 72 := Nat.lt_of_lt_of_eq t.isLt N_0
    have e0 : (grid0.coords t 0).val = t.val / 8 % 9 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S912x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1792 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S912x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S912x2048 .bf16 := win0_4.stage (cfg0.slots t 4)
abbrev hs0_4 (t : Fin cfg0.N) : (ms0_4 t).IsWhole := hstage0_4 ((cfg0.slots t 4).cast nbuf0_4)

-- (the run's proof term is large: checking it walks past the default budget)
set_option maxHeartbeats 1000000 in
/-- The body's triple IN CASE A (`scf.if` 0 taken: points 0, 8, … 64: 9 of 72): on whole staging memrefs — the inputs' at their contents,
    the FORGOTTEN outputs' (3, 4) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (hc0 : cond0_0 i)
    (x0 : Vec F S912x2048 .f32) (x1 : Vec F S1x2048 .f32) (x2 : Vec F S1x2048x1792 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
          ⊢ wp frame (wpE (defs₀ (F := F)) Variants.none c none) E (cc0_in_proj_fwd i arg2 harg2 arg3 harg3 arg4 harg4 arg5 harg5 arg6 harg6) K := by
    intro E K
    simp only [cc0_in_proj_fwd_eq_skeleton]; unfold cc0_in_proj_fwd_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    iexists _, _; isplitr; swap; · iexact H4
    ipureintro; rfl

-- (the run's proof term is large: checking it walks past the default budget)
set_option maxHeartbeats 1000000 in
/-- The body's triple IN CASE B (`scf.if` 0 not taken: points 1, 2, … 71: 63 of 72): on whole staging memrefs — the inputs' at their contents,
    the FORGOTTEN outputs' (3, 4) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S912x2048 .f32) (harg2 : arg2.IsWhole) (arg3 : Memref sig .tc .vmem S1x2048 .f32) (harg3 : arg3.IsWhole) (arg4 : Memref sig .tc .vmem S1x2048x1792 .bf16) (harg4 : arg4.IsWhole) (arg5 : Memref sig .tc .vmem S912x1792 .f32) (harg5 : arg5.IsWhole) (arg6 : Memref sig .tc .vmem S912x2048 .bf16) (harg6 : arg6.IsWhole) (hc0 : ¬cond0_0 i)
    (x0 : Vec F S912x2048 .f32) (x1 : Vec F S1x2048 .f32) (x2 : Vec F S1x2048x1792 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
          ⊢ wp frame (wpE (defs₀ (F := F)) Variants.none c none) E (cc0_in_proj_fwd i arg2 harg2 arg3 harg3 arg4 harg4 arg5 harg5 arg6 harg6) K := by
    intro E K
    simp only [cc0_in_proj_fwd_eq_skeleton]; unfold cc0_in_proj_fwd_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    iexists _, _; isplitr; swap; · iexact H4
    ipureintro; rfl

/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 72 := lt_of_lt_of_eq t.isLt (show cfg0.N = 72 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel4`'s statement (Defs.lean) at any `F` — Proof.lean cites it at `Bits`:
    `theorem Cert.Proof.claim : Cert.Claim := ⟨Cert.Kernel4.Gen.facts, fun m ρ _ => Cert.Kernel4.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4.InBits

end
-- ==== Proof.DinAcc.lean ====
/- The product of the input projection's backward pass, as it grows in the input gradient's block over the 28 visits of a
   row tile. -/
module

public import proofs.«01_k».proof.Proof.Gen.Kernel5Ideal.Frame
public import Idealize.ShloMosaic.Lib.Pipeline.ValueKit
public import Idealize.ShloMosaic.Lib.Pointwise
public import proofs.«01_k».proof.Proof.Seven

@[expose] public section

set_option maxRecDepth 16384

noncomputable section

open Idealize.ShloMosaic Idealize.ShloMosaic.TcCoe Idealize.SL.Sem
open Idealize.ShloMosaic.Pipeline (Dat)

namespace Cert.Kernel5Ideal.Din

open Cert.Kernel5Ideal Cert.Kernel5Ideal.Gen

variable (m : (ℓ : Loc nD τ sig) → Buf (Elt Ideal) ℓ)

/-- The two fills. -/
theorem zero_at (j) : k0_pay24 (F := Ideal) j = 0 := by pointwise [k0_pay24]
theorem zero8_at (j) : k0_pay25 (F := Ideal) j = 0 := by pointwise [k0_pay25]

/-- A visit adds the product of its 512 columns (the same in each of the seven branches). -/
theorem s1 (acc x0 x1 j) : k0_pay1 (F := Ideal) acc x0 x1 j = acc j + ∑ k : Fin 512, x0 (ix2 (j 0) k) * x1 (ix3 0 (j 1) k) := by pointwise [k0_pay1]
theorem s2 (acc x0 x1 j) : k0_pay2 (F := Ideal) acc x0 x1 j = acc j + ∑ k : Fin 512, x0 (ix2 (j 0) k) * x1 (ix3 0 (j 1) k) := s1 acc x0 x1 j
theorem s26 (acc x0 x1 j) : k0_pay26 (F := Ideal) acc x0 x1 j = acc j + ∑ k : Fin 512, x0 (ix2 (j 0) k) * x1 (ix3 0 (j 1) k) := s1 acc x0 x1 j
theorem s27 (acc x0 x1 j) : k0_pay27 (F := Ideal) acc x0 x1 j = acc j + ∑ k : Fin 512, x0 (ix2 (j 0) k) * x1 (ix3 0 (j 1) k) := s1 acc x0 x1 j
theorem s28 (acc x0 x1 j) : k0_pay28 (F := Ideal) acc x0 x1 j = acc j + ∑ k : Fin 512, x0 (ix2 (j 0) k) * x1 (ix3 0 (j 1) k) := s1 acc x0 x1 j
theorem s29 (acc x0 x1 j) : k0_pay29 (F := Ideal) acc x0 x1 j = acc j + ∑ k : Fin 512, x0 (ix2 (j 0) k) * x1 (ix3 0 (j 1) k) := s1 acc x0 x1 j
theorem s30 (acc x0 x1 j) : k0_pay30 (F := Ideal) acc x0 x1 j = acc j + ∑ k : Fin 512, x0 (ix2 (j 0) k) * x1 (ix3 0 (j 1) k) := s1 acc x0 x1 j

/-- The cotangent block a grid point uses. -/
def sel (c : Dev nD) (t : Fin cfg0.N) : FVec Ideal S912x512 .bf16 := Seven.pick (iblk m c 0 t) (iblk m c 1 t) (iblk m c 2 t) (iblk m c 3 t) (iblk m c 4 t) (iblk m c 5 t) (iblk m c 6 t) (t.val % 28 / 4)

/-- What a grid point adds to its block. -/
def term (c : Dev nD) (t : Fin cfg0.N) (j : S912x2048.Idx) : EReal :=
  ∑ k : Fin 512, sel m c t (ix2 (j 0) k) * (show FVec Ideal S1x2048x512 .bf16 from iblk m c 7 t) (ix3 0 (j 1) k)

/-- The point before, of a point. -/
theorem pred_lt (t : Fin cfg0.N) : t.val - 1 < cfg0.N := Nat.lt_of_le_of_lt (Nat.sub_le _ _) t.isLt

/-- The growing product: the block after the point, before the row loop of a tile's last point rewrites it. -/
def acc (c : Dev nD) (n : ℕ) (h : n < cfg0.N) (j : S912x2048.Idx) : EReal :=
  if n % 28 = 27 then (outsAt0 m c (n - 1) (Nat.lt_of_le_of_lt (Nat.sub_le _ _) h)).1 j + term m c ⟨n, h⟩ j else (outsAt0 m c n h).1 j

/-- The first visit of a tile. -/
theorem reset (c : Dev nD) (t : Fin cfg0.N) (h : t.val % 28 = 0) (j) : acc m c t.val t.isLt j = 0 + term m c t j := by
  have hN : t.val < 252 := lt_of_lt_of_eq t.isLt N_0
  unfold acc term sel
  rw [if_neg (by omega), show t.val % 28 / 4 = 0 by omega, Seven.pick_0]
  by_cases h0 : t.val = 0
  · rw [outsAt0_A m c t (by omega) (by omega) (by omega) (by omega) (by omega) (by omega) (by omega) (by omega) (by omega) (by omega)]; frame_out; simp only [s1, s2, s26, s27, s28, s29, s30, zero_at]
  · rw [outsAt0_J m c t (by omega) (by omega) (by omega) (by omega) (by omega) (by omega) (by omega) (by omega) (by omega) (by omega)]; frame_out; simp only [s1, s2, s26, s27, s28, s29, s30, zero_at]

/-- A later visit that is not the last. -/
theorem grow (c : Dev nD) (t : Fin cfg0.N) (h : ¬t.val % 28 = 0) (h' : ¬t.val % 28 = 27) (j) :
    (outsAt0 m c t.val t.isLt).1 j = (outsAt0 m c (t.val - 1) (pred_lt t)).1 j + term m c t j := by
  have hN : t.val < 252 := lt_of_lt_of_eq t.isLt N_0
  unfold term sel
  rcases Seven.cases (t.val % 28 / 4) (by omega) with hs | hs | hs | hs | hs | hs | hs
  · rw [outsAt0_B m c t (by omega) (by omega) (by omega) (by omega) (by omega) (by omega) (by omega) (by omega) (by omega) (by omega), hs, Seven.pick_0]; frame_out; simp only [s1, s2, s26, s27, s28, s29, s30]
  · rw [outsAt0_C m c t (by omega) (by omega) (by omega) (by omega) (by omega) (by omega) (by omega) (by omega) (by omega) (by omega), hs, Seven.pick_1]; frame_out; simp only [s1, s2, s26, s27, s28, s29, s30]
  · rw [outsAt0_D m c t (by omega) (by omega) (by omega) (by omega) (by omega) (by omega) (by omega) (by omega) (by omega) (by omega), hs, Seven.pick_2]; frame_out; simp only [s1, s2, s26, s27, s28, s29, s30]
  · rw [outsAt0_E m c t (by omega) (by omega) (by omega) (by omega) (by omega) (by omega) (by omega) (by omega) (by omega) (by omega), hs, Seven.pick_3]; frame_out; simp only [s1, s2, s26, s27, s28, s29, s30]
  · rw [outsAt0_F m c t (by omega) (by omega) (by omega) (by omega) (by omega) (by omega) (by omega) (by omega) (by omega) (by omega), hs, Seven.pick_4]; frame_out; simp only [s1, s2, s26, s27, s28, s29, s30]
  · rw [outsAt0_G m c t (by omega) (by omega) (by omega) (by omega) (by omega) (by omega) (by omega) (by omega) (by omega) (by omega), hs, Seven.pick_5]; frame_out; simp only [s1, s2, s26, s27, s28, s29, s30]
  · rw [outsAt0_H m c t (by omega) (by omega) (by omega) (by omega) (by omega) (by omega) (by omega) (by omega) (by omega) (by omega), hs, Seven.pick_6]; frame_out; simp only [s1, s2, s26, s27, s28, s29, s30]

/-- A later visit. -/
theorem step (c : Dev nD) (t : Fin cfg0.N) (h : ¬t.val % 28 = 0) (j) :
    acc m c t.val t.isLt j = acc m c (t.val - 1) (Nat.lt_of_le_of_lt (Nat.sub_le _ _) t.isLt) j + term m c t j := by
  unfold acc
  rw [if_neg (show ¬(t.val - 1) % 28 = 27 by omega)]
  by_cases h' : t.val % 28 = 27
  · rw [if_pos h']
  · rw [if_neg h']; exact grow m c t h h' j

/-- The block of cotangent 1, at the points that use it. -/
theorem idx0 : ∀ t : Fin cfg0.N, t.val % 28 / 4 = 0 → win0_0.index t = ![t.val / 28, t.val % 4] :=
  (by decide +kernel : ∀ t : Fin grid0.N, _)
/-- The block of cotangent 2, at the points that use it. -/
theorem idx1 : ∀ t : Fin cfg0.N, t.val % 28 / 4 = 1 → win0_1.index t = ![t.val / 28, t.val % 4] :=
  (by decide +kernel : ∀ t : Fin grid0.N, _)
/-- The block of cotangent 3, at the points that use it. -/
theorem idx2 : ∀ t : Fin cfg0.N, t.val % 28 / 4 = 2 → win0_2.index t = ![t.val / 28, t.val % 4] :=
  (by decide +kernel : ∀ t : Fin grid0.N, _)
/-- The block of cotangent 4, at the points that use it. -/
theorem idx3 : ∀ t : Fin cfg0.N, t.val % 28 / 4 = 3 → win0_3.index t = ![t.val / 28, t.val % 4] :=
  (by decide +kernel : ∀ t : Fin grid0.N, _)
/-- The block of cotangent 5, at the points that use it. -/
theorem idx4 : ∀ t : Fin cfg0.N, t.val % 28 / 4 = 4 → win0_4.index t = ![t.val / 28, t.val % 4] :=
  (by decide +kernel : ∀ t : Fin grid0.N, _)
/-- The block of cotangent 6, at the points that use it. -/
theorem idx5 : ∀ t : Fin cfg0.N, t.val % 28 / 4 = 5 → win0_5.index t = ![t.val / 28, t.val % 4] :=
  (by decide +kernel : ∀ t : Fin grid0.N, _)
/-- The block of cotangent 7, at the points that use it. -/
theorem idx6 : ∀ t : Fin cfg0.N, t.val % 28 / 4 = 6 → win0_6.index t = ![t.val / 28, t.val % 4] :=
  (by decide +kernel : ∀ t : Fin grid0.N, _)
/-- The blocks of the other operands and of the results. -/
theorem idxw : ∀ t : Fin cfg0.N, win0_7.index t = ![t.val % 28 / 7, 0, t.val % 28 % 7] ∧ win0_8.index t = ![t.val / 28, 0] ∧ win0_9.index t = ![0, 0] ∧ win0_10.index t = ![t.val / 28, 0] ∧ win0_11.index t = ![t.val / 28, 0] ∧ win0_12.index t = ![0, 0] :=
  (by decide +kernel : ∀ t : Fin grid0.N, _)

/-- The cotangent block of a grid point, read off the arrays. -/
theorem sel_at (c : Dev nD) (t : Fin cfg0.N) (k : Fin 912) (n : Fin 512) :
    sel m c t (ix2 k n) = Seven.pick (show FVec Ideal S8208x2048 .f32 from m ((c : Thread nD τ).loc main_arg4)) (show FVec Ideal S8208x2048 .f32 from m ((c : Thread nD τ).loc main_arg5)) (show FVec Ideal S8208x2048 .f32 from m ((c : Thread nD τ).loc main_arg6)) (show FVec Ideal S8208x2048 .f32 from m ((c : Thread nD τ).loc main_arg7)) (show FVec Ideal S8208x2048 .f32 from m ((c : Thread nD τ).loc main_arg8)) (show FVec Ideal S8208x2048 .f32 from m ((c : Thread nD τ).loc main_arg9)) (show FVec Ideal S8208x2048 .f32 from m ((c : Thread nD τ).loc main_arg10)) (t.val % 28 / 4)
      (ix2 ⟨t.val / 28 * 912 + k.val, by have := lt_of_lt_of_eq t.isLt N_0; omega⟩ ⟨t.val % 4 * 512 + n.val, by omega⟩) := by
  have hN : t.val < 252 := lt_of_lt_of_eq t.isLt N_0
  unfold sel
  rcases Seven.cases (t.val % 28 / 4) (by omega) with hs | hs | hs | hs | hs | hs | hs
  · rw [hs, Seven.pick_0, Seven.pick_0]; blk_ext [iblk, V, idx0 t hs]
  · rw [hs, Seven.pick_1, Seven.pick_1]; blk_ext [iblk, V, idx1 t hs]
  · rw [hs, Seven.pick_2, Seven.pick_2]; blk_ext [iblk, V, idx2 t hs]
  · rw [hs, Seven.pick_3, Seven.pick_3]; blk_ext [iblk, V, idx3 t hs]
  · rw [hs, Seven.pick_4, Seven.pick_4]; blk_ext [iblk, V, idx4 t hs]
  · rw [hs, Seven.pick_5, Seven.pick_5]; blk_ext [iblk, V, idx5 t hs]
  · rw [hs, Seven.pick_6, Seven.pick_6]; blk_ext [iblk, V, idx6 t hs]

/-- The weight as the kernel gets it: column `n` of chip `q`. -/
theorem wt_at (w : FVec Ideal S2048x14336 .f32) (q : Fin 4) (d : Fin 2048) (n : Fin 3584) :
    transpose S4x2048x3584 [1, 0, 2] (shapeCast S2048x4x3584 w shapeCasts_S2048x14336_S2048x4x3584) transposes_S2048x4x3584_S4x2048x3584_1_0_2 (ix3 q d n)
      = w (ix2 d ⟨q.val * 3584 + n.val, by omega⟩) := by
  pointwise []

/-- The weight block of a grid point, read off the array. -/
theorem wblk_at (c : Dev nD) (t : Fin cfg0.N) (d : Fin 2048) (n : Fin 512) :
    (show FVec Ideal S1x2048x512 .bf16 from iblk m c 7 t) (ix3 0 d n) = (show FVec Ideal S2048x14336 .f32 from m ((c : Thread nD τ).loc main_arg2))
      (ix2 d ⟨t.val % 28 * 512 + n.val, by omega⟩) := by
  have hN : t.val < 252 := lt_of_lt_of_eq t.isLt N_0
  have he : ((cfg0.win 7).blk t).view.emb (ix3 0 d n) = ix3 (⟨t.val % 28 / 7, by omega⟩ : Fin 4) d (⟨t.val % 28 % 7 * 512 + n.val, by omega⟩ : Fin 3584) := by
    blk_ext [idxw t]
  have hv : StableHlo.after hostOps0 (fun b => m (c, b)) (Proc.tc.devRef main_v9)
      = truncf (F := Ideal) .bf16 (transpose S4x2048x3584 [1, 0, 2] (shapeCast S2048x4x3584 (show FVec Ideal S2048x14336 .f32 from m ((c : Thread nD τ).loc main_arg2)) shapeCasts_S2048x14336_S2048x4x3584) transposes_S2048x4x3584_S4x2048x3584_1_0_2) bitsLt_bf16_f32 := by
    entry_read; rfl
  blk_simp [iblk, V]
  rw [he, hv]
  refine (wt_at _ _ _ _).trans (congrArg _ (congrArg (ix2 d) (Fin.ext ?_)))
  simp only []
  omega

/-- The product's term at a grid point, read off the arrays. -/
theorem term_at (c : Dev nD) (t : Fin cfg0.N) (r : Fin 912) (d : Fin 2048) : term m c t (ix2 r d)
    = ∑ k : Fin 512, Seven.pick (show FVec Ideal S8208x2048 .f32 from m ((c : Thread nD τ).loc main_arg4)) (show FVec Ideal S8208x2048 .f32 from m ((c : Thread nD τ).loc main_arg5)) (show FVec Ideal S8208x2048 .f32 from m ((c : Thread nD τ).loc main_arg6)) (show FVec Ideal S8208x2048 .f32 from m ((c : Thread nD τ).loc main_arg7)) (show FVec Ideal S8208x2048 .f32 from m ((c : Thread nD τ).loc main_arg8)) (show FVec Ideal S8208x2048 .f32 from m ((c : Thread nD τ).loc main_arg9)) (show FVec Ideal S8208x2048 .f32 from m ((c : Thread nD τ).loc main_arg10)) (t.val % 28 / 4)
      (ix2 ⟨t.val / 28 * 912 + r.val, by have := lt_of_lt_of_eq t.isLt N_0; omega⟩ ⟨t.val % 4 * 512 + k.val, by omega⟩)
      * (show FVec Ideal S2048x14336 .f32 from m ((c : Thread nD τ).loc main_arg2)) (ix2 d ⟨t.val % 28 * 512 + k.val, by omega⟩) :=
  Finset.sum_congr rfl fun k _ => congrArg₂ (fun u v : EReal => u * v) (sel_at m c t r k) (wblk_at m c t d k)

/-- The norm's input, its weight and the gradient coming past it, in a grid point's blocks. -/
theorem hblk_at (c : Dev nD) (t : Fin cfg0.N) (r : Fin 912) (d : Fin 2048) :
    (show FVec Ideal S912x2048 .f32 from iblk m c 8 t) (ix2 r d) = (show FVec Ideal S8208x2048 .f32 from m ((c : Thread nD τ).loc main_arg0))
      (ix2 ⟨t.val / 28 * 912 + r.val, by have := lt_of_lt_of_eq t.isLt N_0; omega⟩ d) := by
  have hN : t.val < 252 := lt_of_lt_of_eq t.isLt N_0
  blk_ext [iblk, V, idxw t]
theorem pblk_at (c : Dev nD) (t : Fin cfg0.N) (r : Fin 912) (d : Fin 2048) :
    (show FVec Ideal S912x2048 .f32 from iblk m c 10 t) (ix2 r d) = (show FVec Ideal S8208x2048 .f32 from m ((c : Thread nD τ).loc main_arg3))
      (ix2 ⟨t.val / 28 * 912 + r.val, by have := lt_of_lt_of_eq t.isLt N_0; omega⟩ d) := by
  have hN : t.val < 252 := lt_of_lt_of_eq t.isLt N_0
  blk_ext [iblk, V, idxw t]
theorem gblk_at (c : Dev nD) (t : Fin cfg0.N) (d : Fin 2048) :
    (show FVec Ideal S1x2048 .f32 from iblk m c 9 t) (ix2 0 d) = (show FVec Ideal S2048 .f32 from m ((c : Thread nD τ).loc main_arg1)) (ix1 d) := by
  have hN : t.val < 252 := lt_of_lt_of_eq t.isLt N_0
  have he : ((cfg0.win 9).blk t).view.emb (ix2 0 d) = ix2 (0 : Fin 1) d := by
    blk_ext [idxw t]
  have hv : StableHlo.after hostOps0 (fun b => m (c, b)) (Proc.tc.devRef main_v10)
      = broadcastInDim S1x2048 ![1] bcast_S2048_S1x2048_1 (show FVec Ideal S2048 .f32 from m ((c : Thread nD τ).loc main_arg1)) := by
    entry_read; rfl
  blk_simp [iblk, V]
  rw [he, hv]
  pointwise []

/-- The point of a tile's last visit holds the whole product. -/
theorem acc_eq (c : Dev nD) (t : Fin cfg0.N) (h : t.val % 28 = 27) (r : Fin 912) (d : Fin 2048) : acc m c t.val t.isLt (ix2 r d)
    = ∑ n : Fin 14336, Seven.pick (show FVec Ideal S8208x2048 .f32 from m ((c : Thread nD τ).loc main_arg4)) (show FVec Ideal S8208x2048 .f32 from m ((c : Thread nD τ).loc main_arg5)) (show FVec Ideal S8208x2048 .f32 from m ((c : Thread nD τ).loc main_arg6)) (show FVec Ideal S8208x2048 .f32 from m ((c : Thread nD τ).loc main_arg7)) (show FVec Ideal S8208x2048 .f32 from m ((c : Thread nD τ).loc main_arg8)) (show FVec Ideal S8208x2048 .f32 from m ((c : Thread nD τ).loc main_arg9)) (show FVec Ideal S8208x2048 .f32 from m ((c : Thread nD τ).loc main_arg10)) (n.val / 2048)
      (ix2 ⟨t.val / 28 * 912 + r.val, by have := lt_of_lt_of_eq t.isLt N_0; omega⟩ ⟨n.val % 2048, Nat.mod_lt _ (by decide)⟩)
      * (show FVec Ideal S2048x14336 .f32 from m ((c : Thread nD τ).loc main_arg2)) (ix2 d n) := by
  have hN : t.val < 252 := lt_of_lt_of_eq t.isLt N_0
  rw [Pipeline.eq_sum_fin_of_reset_step_apply_of_flush (fun n h => acc m c n h) 28 (fun _ => 0) (term m c)
    (reset m c) (step m c) t h _, zero_add]
  refine (Finset.sum_congr rfl fun s _ => term_at m c _ r d).trans ?_
  refine Fin.sum_mul_add_congr fun s k hl => ?_
  have e1 : (28 * (t.val / 28) + s.val) % 28 / 4 = (s.val * 512 + k.val) / 2048 := by omega
  refine congrArg₂ (fun u v : EReal => u * v) ?_ (congrArg _ (congrArg (ix2 d) (Fin.ext ?_)))
  · dsimp only
    rw [e1]
    refine congrArg _ (congrArg₂ ix2 (Fin.ext ?_) (Fin.ext ?_)) <;> simp only [] <;> omega
  · simp only []; omega

end Cert.Kernel5Ideal.Din

end
-- ==== Proof.DinRow.lean ====
/- The row loop of the input projection's backward pass: what its sweep leaves in the input gradient's block and in the
   eight partial rows of the norm weight's gradient. -/
module

public import proofs.«01_k».proof.Proof.Gen.Kernel5Ideal.Loops
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.Kernel5Ideal.DinRow

open Cert.Kernel5Ideal Cert.Kernel5Ideal.Gen

/-- The reciprocal root mean square of a row. -/
def rinv {n : ℕ} (H : FVec Ideal ⟨2, ![n, 2048]⟩ .f32) (r : Fin n) : EReal :=
  Ideal.rsqrt (Ideal.div (∑ d : Fin 2048, H (ix2 r d) * H (ix2 r d)) (Ideal.ofBits .f32 0x45000000#32) + Ideal.ofBits .f32 0x358637BD#32)

/-- What the loop stores in a row of the input gradient: the norm's gradient, added to the gradient coming past it. -/
def newDh {n : ℕ} (H : FVec Ideal ⟨2, ![n, 2048]⟩ .f32) (g : FVec Ideal S1x2048 .f32) (A D : FVec Ideal ⟨2, ![n, 2048]⟩ .f32) (r : Fin n) (d : Fin 2048) : EReal :=
  A (ix2 r d) + rinv H r * (D (ix2 r d) * g (ix2 0 d) - H (ix2 r d) * rinv H r * Ideal.div (∑ e : Fin 2048, D (ix2 r e) * g (ix2 0 e) * (H (ix2 r e) * rinv H r)) (Ideal.ofBits .f32 0x45000000#32))

/-- A row's contribution to the gradient of the norm's weight. -/
def part {n : ℕ} (H D : FVec Ideal ⟨2, ![n, 2048]⟩ .f32) (r : Fin n) (d : Fin 2048) : EReal :=
  D (ix2 r d) * (H (ix2 r d) * rinv H r)

/-- The rows of the loop's three blocks. -/
theorem off : ∀ k : Fin k0_t1_loop.trips, k0_off1 k 0#32 = ![48 * k.val, 0] ∧ k0_off1 k 1#32 = ![48 * k.val + 16, 0] ∧ k0_off1 k 2#32 = ![48 * k.val + 32, 0] := by
  decide +kernel

/-- Reading a buffer just after sixteen of its rows were stored: one of them. -/
theorem hit (a : Memref sig .tc .vmem S912x2048 .f32) (f : BufTy.Contents (Elt Ideal) a.view.ty) {off : Fin 2 → ℕ} (o : ℕ)
    (inb : ∀ x, off x + S16x2048.size x ≤ S912x2048.size x) (w : FVec Ideal S16x2048 .f32) (L : List (View.Piece (Elt Ideal) S912x2048 .f32))
    (hoff : off = ![o, 0]) (r : Fin 912) (d : Fin 2048) (h : o ≤ r.val) (h' : r.val - o < 16) :
    a.view.read (Elt Ideal) (a.view.writes (Elt Ideal) f (⟨Rect.unit off S16x2048.size inb, w⟩ :: L)) (ix2 r d) = w (ix2 ⟨r.val - o, h'⟩ d) :=
  View.read_writes_cons_rows_of_mem a.view f inb w L (ix2 r d) (ix2 ⟨r.val - o, h'⟩ d) hoff (by show r.val = o + (r.val - o); omega) rfl

/-- And a row that was not among them. -/
theorem miss (a : Memref sig .tc .vmem S912x2048 .f32) (f : BufTy.Contents (Elt Ideal) a.view.ty) {off : Fin 2 → ℕ} (o : ℕ)
    (inb : ∀ x, off x + S16x2048.size x ≤ S912x2048.size x) (w : FVec Ideal S16x2048 .f32) (L : List (View.Piece (Elt Ideal) S912x2048 .f32))
    (hoff : off = ![o, 0]) (r : Fin 912) (d : Fin 2048) (h : r.val < o ∨ o + 16 ≤ r.val) :
    a.view.read (Elt Ideal) (a.view.writes (Elt Ideal) f (⟨Rect.unit off S16x2048.size inb, w⟩ :: L)) (ix2 r d) = a.view.read (Elt Ideal) (a.view.writes (Elt Ideal) f L) (ix2 r d) :=
  View.read_writes_cons_rows_of_not_mem a.view f inb w L (ix2 r d) hoff rfl h

/-- A block of sixteen rows of a buffer. -/
theorem rows (a : Memref sig .tc .vmem S912x2048 .f32) (X : BufTy.Contents (Elt Ideal) a.view.ty) {off : Fin 2 → ℕ} (o : ℕ)
    (inb : ∀ x, off x + S16x2048.size x ≤ S912x2048.size x) (hoff : off = ![o, 0]) (r : Fin 16) (d : Fin 2048) (h : o + r.val < 912) :
    (show FVec Ideal S16x2048 .f32 from a.view.readAt (Elt Ideal) (Rect.unit (s := S912x2048) off S16x2048.size inb).toLoadRect X) (ix2 r d) = a.view.read (Elt Ideal) X (ix2 ⟨o + r.val, h⟩ d) := by
  subst hoff
  refine congrArg (fun y => a.view.read (Elt Ideal) X y) ?_
  funext x
  refine Fin.ext ?_
  match x with
  | ⟨0, _⟩ => show o + 1 * r.val = o + r.val; omega
  | ⟨1, _⟩ => show 0 + 1 * d.val = d.val; omega

/-- A row's results depend on that row alone. -/
theorem newDh_congr {n p : ℕ} {H A D : FVec Ideal ⟨2, ![n, 2048]⟩ .f32} {H' A' D' : FVec Ideal ⟨2, ![p, 2048]⟩ .f32} {g g' : FVec Ideal S1x2048 .f32} {r : Fin n} {q : Fin p}
    (hH : ∀ d, H (ix2 r d) = H' (ix2 q d)) (hg : g = g') (hA : ∀ d, A (ix2 r d) = A' (ix2 q d)) (hD : ∀ d, D (ix2 r d) = D' (ix2 q d)) (d : Fin 2048) :
    newDh H g A D r d = newDh H' g' A' D' q d := by
  subst hg
  unfold newDh rinv
  simp only [hH, hA, hD]

theorem part_congr {n p : ℕ} {H D : FVec Ideal ⟨2, ![n, 2048]⟩ .f32} {H' D' : FVec Ideal ⟨2, ![p, 2048]⟩ .f32} {r : Fin n} {q : Fin p}
    (hH : ∀ d, H (ix2 r d) = H' (ix2 q d)) (hD : ∀ d, D (ix2 r d) = D' (ix2 q d)) (d : Fin 2048) : part H D r d = part H' D' q d := by
  unfold part rinv
  simp only [hH, hD]

/-- The three blocks of a trip store the same function of their rows. -/
theorem pay_a (h d a : FVec Ideal S16x2048 .f32) (g : FVec Ideal S1x2048 .f32) (r : Fin 16) (e : Fin 2048) :
    k0_pay13 (F := Ideal) (k0_pay6 h) (k0_pay7 h) (k0_pay10 d g) a (k0_pay11 h d g) k0_pay12 (ix2 r e) = newDh (n := 16) h g a d r e := by
  pointwise [k0_pay13, k0_pay6, k0_pay7, k0_pay8, k0_pay10, k0_pay11, k0_pay12, newDh, rinv]
theorem pay_b (h d a : FVec Ideal S16x2048 .f32) (g : FVec Ideal S1x2048 .f32) (r : Fin 16) (e : Fin 2048) :
    k0_pay19 (F := Ideal) (k0_pay14 h) (k0_pay15 h) (k0_pay16 d) (k0_pay18 g) a (ix2 r e) = newDh (n := 16) h g a d r e := by
  pointwise [k0_pay19, k0_pay14, k0_pay15, k0_pay16, k0_pay18, newDh, rinv]
theorem pay_c (h d a : FVec Ideal S16x2048 .f32) (g : FVec Ideal S1x2048 .f32) (r : Fin 16) (e : Fin 2048) :
    k0_pay4 (F := Ideal) (k0_pay20 h) (k0_pay21 h) (k0_pay22 d) g a (ix2 r e) = newDh (n := 16) h g a d r e := by
  pointwise [k0_pay4, k0_pay20, k0_pay21, k0_pay22, newDh, rinv]

/-- And add the same to the eight partial rows. -/
theorem acc_a (h d : FVec Ideal S16x2048 .f32) (v : FVec Ideal S8x2048 .f32) (s : Fin 8) (e : Fin 2048) :
    k0_pay9 (F := Ideal) h d v (ix2 s e) = v (ix2 s e) + (part (n := 16) h d ⟨s.val, by omega⟩ e + part (n := 16) h d ⟨8 + s.val, by omega⟩ e) := by
  pointwise [k0_pay9, k0_pay8, k0_pay7, k0_pay6, part, rinv]
theorem acc_b (h d : FVec Ideal S16x2048 .f32) (v : FVec Ideal S8x2048 .f32) (s : Fin 8) (e : Fin 2048) :
    k0_pay17 (F := Ideal) h d v (ix2 s e) = v (ix2 s e) + (part (n := 16) h d ⟨s.val, by omega⟩ e + part (n := 16) h d ⟨8 + s.val, by omega⟩ e) := by
  pointwise [k0_pay17, k0_pay16, k0_pay15, k0_pay14, part, rinv]
theorem acc_c (h d : FVec Ideal S16x2048 .f32) (v : FVec Ideal S8x2048 .f32) (s : Fin 8) (e : Fin 2048) :
    k0_pay3 (F := Ideal) (k0_pay23 h d v) (ix2 s e) = v (ix2 s e) + (part (n := 16) h d ⟨s.val, by omega⟩ e + part (n := 16) h d ⟨8 + s.val, by omega⟩ e) := by
  pointwise [k0_pay3, k0_pay23, k0_pay22, k0_pay21, k0_pay20, part, rinv]

/-- One trip's effect on the input gradient's block: forty-eight rows. -/
theorem trip_13 (𝒱 : Variants) (c : Dev nD) (bd : Option 𝒱.V) (i : grid0.Coords) (arg2 : Memref sig .tc .vmem S912x512 .bf16) (harg2 : arg2.IsWhole) (arg3 : Memref sig .tc .vmem S912x512 .bf16) (harg3 : arg3.IsWhole) (arg4 : Memref sig .tc .vmem S912x512 .bf16) (harg4 : arg4.IsWhole) (arg5 : Memref sig .tc .vmem S912x512 .bf16) (harg5 : arg5.IsWhole) (arg6 : Memref sig .tc .vmem S912x512 .bf16) (harg6 : arg6.IsWhole) (arg7 : Memref sig .tc .vmem S912x512 .bf16) (harg7 : arg7.IsWhole) (arg8 : Memref sig .tc .vmem S912x512 .bf16) (harg8 : arg8.IsWhole) (arg9 : Memref sig .tc .vmem S1x2048x512 .bf16) (harg9 : arg9.IsWhole) (arg10 : Memref sig .tc .vmem S912x2048 .f32) (harg10 : arg10.IsWhole) (arg11 : Memref sig .tc .vmem S1x2048 .f32) (harg11 : arg11.IsWhole) (arg12 : Memref sig .tc .vmem S912x2048 .f32) (harg12 : arg12.IsWhole) (arg13 : Memref sig .tc .vmem S912x2048 .f32) (harg13 : arg13.IsWhole) (arg14 : Memref sig .tc .vmem S1x2048 .f32) (harg14 : arg14.IsWhole) (arg15 : Memref sig .tc .vmem S8x2048 .f32) (harg15 : arg15.IsWhole) (k0_h10 : k0_cond10 i = 1#1) (X_arg10 : BufTy.Contents (Elt Ideal) arg10.view.ty) (X_arg11 : BufTy.Contents (Elt Ideal) arg11.view.ty) (X_arg12 : BufTy.Contents (Elt Ideal) arg12.view.ty) (k : Fin k0_t1_loop.trips) (f13 : BufTy.Contents (Elt Ideal) arg13.view.ty) (f15 : BufTy.Contents (Elt Ideal) arg15.view.ty) (r : Fin 912) (d : Fin 2048) :
    arg13.view.read (Elt Ideal) (arg13.view.writes (Elt Ideal) f13 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 k).1 f13 f15)) (ix2 r d)
      = if 48 * k.val ≤ r.val ∧ r.val < 48 * k.val + 48 then newDh (n := 912) (arg10.view.read (Elt Ideal) X_arg10) (arg11.view.read (Elt Ideal) X_arg11) (arg12.view.read (Elt Ideal) X_arg12) (arg13.view.read (Elt Ideal) f13) r d
        else arg13.view.read (Elt Ideal) f13 (ix2 r d) := by
  obtain ⟨h0, h1, h2⟩ := off k
  unfold trip_k0_t1
  simp only []
  by_cases c2 : 48 * k.val + 32 ≤ r.val ∧ r.val < 48 * k.val + 48
  · rw [if_pos (by omega)]
    refine (hit arg13 f13 (48 * k.val + 32) _ _ _ h2 r d c2.1 (by omega)).trans ((pay_c _ _ _ _ _ _).trans (newDh_congr (fun e => ?_) (View.readAt_full _ _ _) (fun e => ?_) (fun e => ?_) d)) <;>
      refine (rows _ _ (48 * k.val + 32) _ h2 _ e (by show 48 * k.val + 32 + (r.val - (48 * k.val + 32)) < 912; omega)).trans (congrArg _ (congrArg (fun q : Fin 912 => ix2 q e) (Fin.ext ?_))) <;>
      (show 48 * k.val + 32 + (r.val - (48 * k.val + 32)) = r.val) <;> omega
  refine (miss arg13 f13 (48 * k.val + 32) _ _ _ h2 r d (by omega)).trans ?_
  by_cases c1 : 48 * k.val + 16 ≤ r.val ∧ r.val < 48 * k.val + 32
  · rw [if_pos (by omega)]
    refine (hit arg13 f13 (48 * k.val + 16) _ _ _ h1 r d c1.1 (by omega)).trans ((pay_b _ _ _ _ _ _).trans (newDh_congr (fun e => ?_) (View.readAt_full _ _ _) (fun e => ?_) (fun e => ?_) d)) <;>
      refine (rows _ _ (48 * k.val + 16) _ h1 _ e (by show 48 * k.val + 16 + (r.val - (48 * k.val + 16)) < 912; omega)).trans (congrArg _ (congrArg (fun q : Fin 912 => ix2 q e) (Fin.ext ?_))) <;>
      (show 48 * k.val + 16 + (r.val - (48 * k.val + 16)) = r.val) <;> omega
  refine (miss arg13 f13 (48 * k.val + 16) _ _ _ h1 r d (by omega)).trans ?_
  by_cases c0 : 48 * k.val ≤ r.val ∧ r.val < 48 * k.val + 16
  · rw [if_pos (by omega)]
    refine (hit arg13 f13 (48 * k.val) _ _ _ h0 r d c0.1 (by omega)).trans ((pay_a _ _ _ _ _ _).trans (newDh_congr (fun e => ?_) (View.readAt_full _ _ _) (fun e => ?_) (fun e => ?_) d)) <;>
      refine (rows _ _ (48 * k.val) _ h0 _ e (by show 48 * k.val + (r.val - 48 * k.val) < 912; omega)).trans (congrArg _ (congrArg (fun q : Fin 912 => ix2 q e) (Fin.ext ?_))) <;>
      (show 48 * k.val + (r.val - 48 * k.val) = r.val) <;> omega
  refine (miss arg13 f13 (48 * k.val) _ _ _ h0 r d (by omega)).trans ?_
  rw [if_neg (by omega)]
  rfl

/-- A whole store into the eight partial rows. -/
theorem hit8 (a : Memref sig .tc .vmem S8x2048 .f32) (f : BufTy.Contents (Elt Ideal) a.view.ty)
    (inb : ∀ x, (![0, 0] : Fin 2 → ℕ) x + S8x2048.size x ≤ S8x2048.size x) (w : FVec Ideal S8x2048 .f32) (L : List (View.Piece (Elt Ideal) S8x2048 .f32)) (s : Fin 8) (d : Fin 2048) :
    a.view.read (Elt Ideal) (a.view.writes (Elt Ideal) f (⟨Rect.unit ![0, 0] S8x2048.size inb, w⟩ :: L)) (ix2 s d) = w (ix2 s d) :=
  View.read_writes_cons_rows_of_mem (o := 0) a.view f inb w L (ix2 s d) (ix2 s d) rfl (by show s.val = 0 + s.val; omega) rfl

/-- A load of the eight rows. -/
theorem full8 (a : Memref sig .tc .vmem S8x2048 .f32) (f : BufTy.Contents (Elt Ideal) a.view.ty) (inb : ∀ x, (![0, 0] : Fin 2 → ℕ) x + S8x2048.size x ≤ S8x2048.size x) (s : Fin 8) (d : Fin 2048) :
    (show FVec Ideal S8x2048 .f32 from a.view.readAt (Elt Ideal) (Rect.unit (s := S8x2048) ![0, 0] S8x2048.size inb).toLoadRect f) (ix2 s d) = a.view.read (Elt Ideal) f (ix2 s d) :=
  congrFun (View.readAt_full a.view f inb) (ix2 s d)

/-- A load of the eight rows just after they were stored. -/
theorem cov8 (a : Memref sig .tc .vmem S8x2048 .f32) (inb inb' : ∀ x, (![0, 0] : Fin 2 → ℕ) x + S8x2048.size x ≤ S8x2048.size x) (w : FVec Ideal S8x2048 .f32) (L : List (View.Piece (Elt Ideal) S8x2048 .f32)) (s : Fin 8) (d : Fin 2048) :
    (show FVec Ideal S8x2048 .f32 from a.view.readCov (⟨Rect.unit ![0, 0] S8x2048.size inb', w⟩ :: L) (Rect.unit (s := S8x2048) ![0, 0] S8x2048.size inb).toLoadRect) (ix2 s d) = w (ix2 s d) :=
  (full8 a (a.view.writes (Elt Ideal) a.view.junk (⟨Rect.unit ![0, 0] S8x2048.size inb', w⟩ :: L)) inb s d).trans (hit8 a _ inb' w L s d)

theorem regroup (x a b c d e f : EReal) : x + (a + b + c + d + e + f) = x + (a + b) + (c + d) + (e + f) := by
  simp only [add_assoc]

set_option maxHeartbeats 1600000 in
/-- One trip's effect on the eight partial rows. -/
theorem trip_15 (𝒱 : Variants) (c : Dev nD) (bd : Option 𝒱.V) (i : grid0.Coords) (arg2 : Memref sig .tc .vmem S912x512 .bf16) (harg2 : arg2.IsWhole) (arg3 : Memref sig .tc .vmem S912x512 .bf16) (harg3 : arg3.IsWhole) (arg4 : Memref sig .tc .vmem S912x512 .bf16) (harg4 : arg4.IsWhole) (arg5 : Memref sig .tc .vmem S912x512 .bf16) (harg5 : arg5.IsWhole) (arg6 : Memref sig .tc .vmem S912x512 .bf16) (harg6 : arg6.IsWhole) (arg7 : Memref sig .tc .vmem S912x512 .bf16) (harg7 : arg7.IsWhole) (arg8 : Memref sig .tc .vmem S912x512 .bf16) (harg8 : arg8.IsWhole) (arg9 : Memref sig .tc .vmem S1x2048x512 .bf16) (harg9 : arg9.IsWhole) (arg10 : Memref sig .tc .vmem S912x2048 .f32) (harg10 : arg10.IsWhole) (arg11 : Memref sig .tc .vmem S1x2048 .f32) (harg11 : arg11.IsWhole) (arg12 : Memref sig .tc .vmem S912x2048 .f32) (harg12 : arg12.IsWhole) (arg13 : Memref sig .tc .vmem S912x2048 .f32) (harg13 : arg13.IsWhole) (arg14 : Memref sig .tc .vmem S1x2048 .f32) (harg14 : arg14.IsWhole) (arg15 : Memref sig .tc .vmem S8x2048 .f32) (harg15 : arg15.IsWhole) (k0_h10 : k0_cond10 i = 1#1) (X_arg10 : BufTy.Contents (Elt Ideal) arg10.view.ty) (X_arg11 : BufTy.Contents (Elt Ideal) arg11.view.ty) (X_arg12 : BufTy.Contents (Elt Ideal) arg12.view.ty) (k : Fin k0_t1_loop.trips) (f13 : BufTy.Contents (Elt Ideal) arg13.view.ty) (f15 : BufTy.Contents (Elt Ideal) arg15.view.ty) (s : Fin 8) (d : Fin 2048) (hk : k.val < 19) :
    arg15.view.read (Elt Ideal) (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 k).2.1 f13 f15)) (ix2 s d)
      = (show EReal from arg15.view.read (Elt Ideal) f15 (ix2 s d)) + ∑ b : Fin 6, part (n := 912) (arg10.view.read (Elt Ideal) X_arg10) (arg13.view.read (Elt Ideal) f13) ⟨48 * k.val + 8 * b.val + s.val, by omega⟩ d := by
  obtain ⟨h0, h1, h2⟩ := off k
  unfold trip_k0_t1
  simp only []
  refine (hit8 arg15 f15 _ _ _ s d).trans ((acc_c _ _ _ _ _).trans ?_)
  rw [Fin.sum_univ_six, regroup]
  refine congrArg₂ (fun u v : EReal => u + v) ?_ (congrArg₂ (fun u v : EReal => u + v) ?_ ?_)
  on_goal 2 =>
    refine part_congr (fun e => ?_) (fun e => ?_) d <;>
      refine (rows _ _ (48 * k.val + 32) _ h2 _ e (by simp only []; omega)).trans (congrArg _ (congrArg (fun q : Fin 912 => ix2 q e) (Fin.ext ?_))) <;>
      (show 48 * k.val + 32 + s.val = 48 * k.val + 32 + s.val) <;> omega
  on_goal 2 =>
    refine part_congr (fun e => ?_) (fun e => ?_) d <;>
      refine (rows _ _ (48 * k.val + 32) _ h2 _ e (by simp only []; omega)).trans (congrArg _ (congrArg (fun q : Fin 912 => ix2 q e) (Fin.ext ?_))) <;>
      (show 48 * k.val + 32 + (8 + s.val) = 48 * k.val + 40 + s.val) <;> omega
  refine (cov8 arg15 _ _ _ _ s d).trans ((acc_b _ _ _ _ _).trans ?_)
  refine congrArg₂ (fun u v : EReal => u + v) ?_ (congrArg₂ (fun u v : EReal => u + v) ?_ ?_)
  on_goal 2 =>
    refine part_congr (fun e => ?_) (fun e => ?_) d <;>
      refine (rows _ _ (48 * k.val + 16) _ h1 _ e (by simp only []; omega)).trans (congrArg _ (congrArg (fun q : Fin 912 => ix2 q e) (Fin.ext ?_))) <;>
      (show 48 * k.val + 16 + s.val = 48 * k.val + 16 + s.val) <;> omega
  on_goal 2 =>
    refine part_congr (fun e => ?_) (fun e => ?_) d <;>
      refine (rows _ _ (48 * k.val + 16) _ h1 _ e (by simp only []; omega)).trans (congrArg _ (congrArg (fun q : Fin 912 => ix2 q e) (Fin.ext ?_))) <;>
      (show 48 * k.val + 16 + (8 + s.val) = 48 * k.val + 24 + s.val) <;> omega
  refine (cov8 arg15 _ _ _ _ s d).trans ((acc_a _ _ _ _ _).trans ?_)
  refine congrArg₂ (fun u v : EReal => u + v) ?_ (congrArg₂ (fun u v : EReal => u + v) ?_ ?_)
  on_goal 2 =>
    refine part_congr (fun e => ?_) (fun e => ?_) d <;>
      refine (rows _ _ (48 * k.val) _ h0 _ e (by simp only []; omega)).trans (congrArg _ (congrArg (fun q : Fin 912 => ix2 q e) (Fin.ext ?_))) <;>
      (show 48 * k.val + s.val = 48 * k.val + 0 + s.val) <;> omega
  on_goal 2 =>
    refine part_congr (fun e => ?_) (fun e => ?_) d <;>
      refine (rows _ _ (48 * k.val) _ h0 _ e (by simp only []; omega)).trans (congrArg _ (congrArg (fun q : Fin 912 => ix2 q e) (Fin.ext ?_))) <;>
      (show 48 * k.val + (8 + s.val) = 48 * k.val + 8 + s.val) <;> omega
  exact full8 arg15 f15 _ s d

/-- A row's contribution, for a row number that is any natural number. -/
def partN (H D : FVec Ideal S912x2048 .f32) (n : ℕ) (d : Fin 2048) : EReal :=
  if h : n < 912 then part (n := 912) H D ⟨n, h⟩ d else 0

set_option maxHeartbeats 1600000 in
/-- The sweep before trip `k`: the first `48 k` rows hold their new contents, the others what they held, and the eight
    partial rows have taken up the rows so far. -/
theorem sweep (𝒱 : Variants) (c : Dev nD) (bd : Option 𝒱.V) (i : grid0.Coords) (arg2 : Memref sig .tc .vmem S912x512 .bf16) (harg2 : arg2.IsWhole) (arg3 : Memref sig .tc .vmem S912x512 .bf16) (harg3 : arg3.IsWhole) (arg4 : Memref sig .tc .vmem S912x512 .bf16) (harg4 : arg4.IsWhole) (arg5 : Memref sig .tc .vmem S912x512 .bf16) (harg5 : arg5.IsWhole) (arg6 : Memref sig .tc .vmem S912x512 .bf16) (harg6 : arg6.IsWhole) (arg7 : Memref sig .tc .vmem S912x512 .bf16) (harg7 : arg7.IsWhole) (arg8 : Memref sig .tc .vmem S912x512 .bf16) (harg8 : arg8.IsWhole) (arg9 : Memref sig .tc .vmem S1x2048x512 .bf16) (harg9 : arg9.IsWhole) (arg10 : Memref sig .tc .vmem S912x2048 .f32) (harg10 : arg10.IsWhole) (arg11 : Memref sig .tc .vmem S1x2048 .f32) (harg11 : arg11.IsWhole) (arg12 : Memref sig .tc .vmem S912x2048 .f32) (harg12 : arg12.IsWhole) (arg13 : Memref sig .tc .vmem S912x2048 .f32) (harg13 : arg13.IsWhole) (arg14 : Memref sig .tc .vmem S1x2048 .f32) (harg14 : arg14.IsWhole) (arg15 : Memref sig .tc .vmem S8x2048 .f32) (harg15 : arg15.IsWhole) (k0_h10 : k0_cond10 i = 1#1) (X_arg10 : BufTy.Contents (Elt Ideal) arg10.view.ty) (X_arg11 : BufTy.Contents (Elt Ideal) arg11.view.ty) (X_arg12 : BufTy.Contents (Elt Ideal) arg12.view.ty) (G13 : BufTy.Contents (Elt Ideal) arg13.view.ty) (G15 : BufTy.Contents (Elt Ideal) arg15.view.ty) : ∀ k : ℕ, k ≤ 19 →
    (∀ (r : Fin 912) (d : Fin 2048), arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 G13 G15 k).1) (ix2 r d)
      = if r.val < 48 * k then newDh (n := 912) (arg10.view.read (Elt Ideal) X_arg10) (arg11.view.read (Elt Ideal) X_arg11) (arg12.view.read (Elt Ideal) X_arg12) (arg13.view.read (Elt Ideal) G13) r d
        else arg13.view.read (Elt Ideal) G13 (ix2 r d))
    ∧ ∀ (s : Fin 8) (d : Fin 2048), arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 G13 G15 k).2) (ix2 s d)
      = (show EReal from arg15.view.read (Elt Ideal) G15 (ix2 s d)) + ∑ b ∈ Finset.range (6 * k), partN (arg10.view.read (Elt Ideal) X_arg10) (arg13.view.read (Elt Ideal) G13) (8 * b + s.val) d
  | 0, _ => ⟨fun r d => by rw [if_neg (by omega)]; rfl, fun s d => by
      rw [Nat.mul_zero, Finset.sum_range_zero, add_zero]; rfl⟩
  | k + 1, hk => by
    obtain ⟨i13, i15⟩ := sweep 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 G13 G15 k (by omega)
    have ht : k < k0_t1_loop.trips := lt_of_lt_of_eq (show k < 19 by omega) (by decide +kernel)
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 G13 G15 ⟨k, ht⟩
    refine ⟨fun r d => ?_, fun s d => ?_⟩
    · rw [show k + 1 = (⟨k, ht⟩ : Fin k0_t1_loop.trips).val + 1 from rfl, hs, View.writes_append]
      refine (trip_13 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 ⟨k, ht⟩ _ _ r d).trans ?_
      by_cases h1 : 48 * k ≤ r.val ∧ r.val < 48 * k + 48
      · rw [if_pos h1, if_pos (by show r.val < 48 * (k + 1); omega)]
        refine newDh_congr (fun _ => rfl) rfl (fun _ => rfl) (fun e => ?_) d
        exact (i13 r e).trans (if_neg (by omega))
      · rw [if_neg h1]
        refine (i13 r d).trans ?_
        by_cases h2 : r.val < 48 * k
        · rw [if_pos h2, if_pos (by show r.val < 48 * (k + 1); omega)]
        · rw [if_neg h2, if_neg (by show ¬r.val < 48 * (k + 1); omega)]
    · rw [show k + 1 = (⟨k, ht⟩ : Fin k0_t1_loop.trips).val + 1 from rfl, hs, View.writes_append]
      refine (trip_15 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h10 X_arg10 X_arg11 X_arg12 ⟨k, ht⟩ _ _ s d (by show k < 19; omega)).trans ?_
      rw [show 6 * ((⟨k, ht⟩ : Fin k0_t1_loop.trips).val + 1) = 6 * k + 6 from rfl, Finset.sum_range_add, ← add_assoc]
      refine congrArg₂ (fun u v : EReal => u + v) (i15 s d) ?_
      rw [Finset.sum_range]
      refine Finset.sum_congr rfl fun b _ => ?_
      unfold partN
      rw [dif_pos (show 8 * (6 * k + b.val) + s.val < 912 by omega)]
      rw [show (⟨8 * (6 * k + b.val) + s.val, by omega⟩ : Fin 912) = ⟨48 * k + 8 * b.val + s.val, by omega⟩ from Fin.ext (by show 8 * (6 * k + b.val) + s.val = 48 * k + 8 * b.val + s.val; omega)]
      refine part_congr (fun _ => rfl) (fun e => ?_) d
      exact (i13 _ e).trans (if_neg (by show ¬(48 * k + 8 * b.val + s.val < 48 * k); omega))

end Cert.Kernel5Ideal.DinRow

end
-- ==== Proof.DinI.lean ====
/- The last visit of a row tile: the row loop over the finished product. -/
module

public import proofs.«01_k».proof.Proof.DinAcc
public import proofs.«01_k».proof.Proof.DinRow

@[expose] public section

set_option maxRecDepth 16384

noncomputable section

open Idealize.ShloMosaic Idealize.ShloMosaic.TcCoe Idealize.SL.Sem
open Idealize.ShloMosaic.Pipeline (Dat)

namespace Cert.Kernel5Ideal.Din

open Cert.Kernel5Ideal Cert.Kernel5Ideal.Gen Cert.Kernel5Ideal.DinRow

variable (m : (ℓ : Loc nD τ sig) → Buf (Elt Ideal) ℓ)

/-- One store over a whole buffer leaves what was stored. -/
theorem whole (a : Memref sig .tc .vmem S912x2048 .f32) (f : BufTy.Contents (Elt Ideal) a.view.ty) (inb : ∀ x, (![0, 0] : Fin 2 → ℕ) x + S912x2048.size x ≤ S912x2048.size x)
    (w : FVec Ideal S912x2048 .f32) (j : S912x2048.Idx) :
    a.view.read (Elt Ideal) (a.view.writes (Elt Ideal) f [⟨Rect.unit ![0, 0] S912x2048.size inb, w⟩]) j = w j := by
  refine (View.read_writes_cons_rows_of_mem a.view f inb w [] j j rfl ?_ ?_) <;> simp

/-- What the last product leaves in the block. -/
theorem last_acc (c : Dev nD) (t : Fin cfg0.N) (h : t.val % 28 = 27) (r : Fin 912) (d : Fin 2048) : (ms0_11 t).view.read (Elt Ideal) ((ms0_11 t).view.writes (Elt Ideal) (ms0_11 t).view.junk
    (kernelRun0_I.sl.H11_1 c (ms0_6 t) (hs0_6 t) (ms0_7 t) (hs0_7 t) (ms0_11 t) (hs0_11 t) (iblk m c 6 t) (iblk m c 7 t) (outsAt0 m c (t.val - 1) (pred_lt t)).1)) (ix2 r d) = acc m c t.val t.isLt (ix2 r d) := by
  unfold kernelRun0_I.sl.H11_1
  refine (whole (ms0_11 t) _ _ _ _).trans ?_
  rw [s2, View.readAt_full, View.readAt_full, View.readAt_full, Memref.IsWhole.read_unread, Memref.IsWhole.read_unread, Memref.IsWhole.read_unread]
  unfold acc
  rw [if_pos h]
  unfold term sel
  rw [show t.val % 28 / 4 = 6 by omega, Seven.pick_6]

set_option maxHeartbeats 1000000 in
/-- The input gradient's block after a tile's last point. -/
theorem last_dh (c : Dev nD) (t : Fin cfg0.N) (h : t.val % 28 = 27) (r : Fin 912) (d : Fin 2048) : (outsAt0 m c t.val t.isLt).1 (ix2 r d)
    = newDh (n := 912) (iblk m c 8 t) (iblk m c 9 t) (iblk m c 10 t) (acc m c t.val t.isLt) r d := by
  have hN : t.val < 252 := lt_of_lt_of_eq t.isLt N_0
  have hpos : (show S912x2048.Idx → EReal from acc m c t.val t.isLt) = fun j => (outsAt0 m c (t.val - 1) (pred_lt t)).1 j + term m c t j := by
    funext j; exact if_pos h
  rw [outsAt0_I m c t (by omega) (by omega) (by omega) (by omega) (by omega) (by omega) (by omega) (by omega) (by omega) (by omega)]
  simp only []
  unfold out0_I_11
  refine (congrFun (View.read_writes_of_cover VO0_11 VO0_11.junk (ms0_11 t).view (ms0_11 t).view.junk _ (by apply cover0_I_11)) (ix2 r d)).trans ?_
  unfold kernelRun0_I
  simp only []
  rw [View.writes_append]
  refine (sweep Variants.none c none (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ scM0_0 _ _ _ _ _ _ _ 19 (by omega)).1 r d |>.trans ?_
  rw [if_pos (by omega)]
  refine newDh_congr (fun e => ?_) ?_ (fun e => ?_) (fun e => last_acc m c t h r e) d
  · rw [Memref.IsWhole.read_unread]
  · rw [Memref.IsWhole.read_unread]
  · rw [Memref.IsWhole.read_unread]

set_option maxHeartbeats 1000000 in
/-- The eight partial rows after it. -/
theorem last_rows (c : Dev nD) (t : Fin cfg0.N) (h : t.val % 28 = 27) (s : Fin 8) (d : Fin 2048) : (outsAt0 m c t.val t.isLt).2.2 (ix2 s d)
    = (outsAt0 m c (t.val - 1) (pred_lt t)).2.2 (ix2 s d) + ∑ b ∈ Finset.range 114, partN (iblk m c 8 t) (acc m c t.val t.isLt) (8 * b + s.val) d := by
  have hN : t.val < 252 := lt_of_lt_of_eq t.isLt N_0
  rw [outsAt0_I m c t (by omega) (by omega) (by omega) (by omega) (by omega) (by omega) (by omega) (by omega) (by omega) (by omega)]
  simp only []
  unfold sout0_I_0
  unfold kernelRun0_I
  simp only []
  refine (sweep Variants.none c none (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ scM0_0 _ _ _ _ _ _ _ 19 (by omega)).2 s d |>.trans ?_
  refine congrArg₂ (fun u v : EReal => u + v) ?_ (Finset.sum_congr rfl fun b hb => ?_)
  · exact congrFun (Memref.IsWhole.read_unread _ _) _
  · have hb' : b < 114 := Finset.mem_range.mp hb
    unfold partN
    rw [dif_pos (by omega), dif_pos (by omega)]
    refine part_congr (fun e => ?_) (fun e => last_acc m c t h _ e) d
    rw [Memref.IsWhole.read_unread]

/-- The sum over the eight rows. -/
theorem pay5_at (v : Vec Ideal S8x2048 .f32) (z : Fin 1) (d : Fin 2048) : k0_pay5 (F := Ideal) v (ix2 z d) = ∑ s : Fin 8, v (ix2 s d) := by
  pointwise [k0_pay5]

set_option maxHeartbeats 1000000 in
/-- The norm weight's gradient after it: the sum of the eight partial rows. -/
theorem last_dg (c : Dev nD) (t : Fin cfg0.N) (h : t.val % 28 = 27) (z : Fin 1) (d : Fin 2048) : (outsAt0 m c t.val t.isLt).2.1 (ix2 z d)
    = ∑ s : Fin 8, (outsAt0 m c t.val t.isLt).2.2 (ix2 s d) := by
  have hN : t.val < 252 := lt_of_lt_of_eq t.isLt N_0
  rw [outsAt0_I m c t (by omega) (by omega) (by omega) (by omega) (by omega) (by omega) (by omega) (by omega) (by omega) (by omega)]
  simp only []
  unfold out0_I_12 sout0_I_0
  unfold kernelRun0_I
  simp only []
  refine (View.read_writes_cons_rows_of_mem VO0_12 VO0_12.junk _ _ [] (ix2 z d) (ix2 z d) rfl (by simp) (by simp)).trans ?_
  refine (pay5_at _ z d).trans (Finset.sum_congr rfl fun x _ => ?_)
  unfold kernelRun0_I.sl.v152
  exact congrFun (View.readAt_full _ _ _) _

/-- Other points leave the partial rows alone. -/
theorem keep_rows (c : Dev nD) (t : Fin cfg0.N) (h0 : t.val ≠ 0) (h : ¬t.val % 28 = 27) : (outsAt0 m c t.val t.isLt).2.2
    = (outsAt0 m c (t.val - 1) (pred_lt t)).2.2 := by
  have hN : t.val < 252 := lt_of_lt_of_eq t.isLt N_0
  by_cases h1 : t.val % 28 = 0
  · rw [outsAt0_J m c t (by omega) (by omega) (by omega) (by omega) (by omega) (by omega) (by omega) (by omega) (by omega) (by omega)]
    simp only []
    unfold sout0_J_0
    rfl
  rcases Seven.cases (t.val % 28 / 4) (by omega) with hs | hs | hs | hs | hs | hs | hs
  · rw [outsAt0_B m c t (by omega) (by omega) (by omega) (by omega) (by omega) (by omega) (by omega) (by omega) (by omega) (by omega)]
    simp only []
    unfold sout0_B_0
    rfl
  · rw [outsAt0_C m c t (by omega) (by omega) (by omega) (by omega) (by omega) (by omega) (by omega) (by omega) (by omega) (by omega)]
    simp only []
    unfold sout0_C_0
    rfl
  · rw [outsAt0_D m c t (by omega) (by omega) (by omega) (by omega) (by omega) (by omega) (by omega) (by omega) (by omega) (by omega)]
    simp only []
    unfold sout0_D_0
    rfl
  · rw [outsAt0_E m c t (by omega) (by omega) (by omega) (by omega) (by omega) (by omega) (by omega) (by omega) (by omega) (by omega)]
    simp only []
    unfold sout0_E_0
    rfl
  · rw [outsAt0_F m c t (by omega) (by omega) (by omega) (by omega) (by omega) (by omega) (by omega) (by omega) (by omega) (by omega)]
    simp only []
    unfold sout0_F_0
    rfl
  · rw [outsAt0_G m c t (by omega) (by omega) (by omega) (by omega) (by omega) (by omega) (by omega) (by omega) (by omega) (by omega)]
    simp only []
    unfold sout0_G_0
    rfl
  · rw [outsAt0_H m c t (by omega) (by omega) (by omega) (by omega) (by omega) (by omega) (by omega) (by omega) (by omega) (by omega)]
    simp only []
    unfold sout0_H_0
    rfl

/-- They are zero after the first. -/
theorem first_rows (c : Dev nD) (t : Fin cfg0.N) (h0 : t.val = 0) (s : Fin 8) (d : Fin 2048) : (outsAt0 m c t.val t.isLt).2.2 (ix2 s d) = 0 := by
  have hN : t.val < 252 := lt_of_lt_of_eq t.isLt N_0
  rw [outsAt0_A m c t (by omega) (by omega) (by omega) (by omega) (by omega) (by omega) (by omega) (by omega) (by omega) (by omega)]; frame_out; rw [zero8_at]

end Cert.Kernel5Ideal.Din

end
-- ==== Proof.Consts.lean ====
/- The constants that the proofs read, as real numbers. -/
module

public import Idealize.ShloMosaic.Lib.Pointwise
public import Idealize.ShloMosaic.Lib.Pipeline.ValueKit

@[expose] public section

noncomputable section

namespace Cert.Consts

open Idealize.ShloMosaic

theorem c2048 : Ideal.ofBits .f32 0x45000000#32 = ((2048 : ℝ) : EReal) := by
  simp [Ideal.ofBits, Ideal.ieee]; rw [← EReal.coe_mul]; norm_num
theorem chalf : Ideal.ofBits .f32 0xBF000000#32 = ((-(1 / 2) : ℝ) : EReal) := by
  simp [Ideal.ofBits, Ideal.ieee]; rw [← EReal.coe_mul]; norm_num
theorem ceps : ∃ e : ℝ, 0 < e ∧ Ideal.ofBits .f32 0x358637BD#32 = (e : EReal) := by
  refine ⟨_, ?_, by simp [Ideal.ofBits, Ideal.ieee]; rfl⟩
  norm_num
theorem half : (FloatOps.ofBits .f32 0x3F000000#32 : Ideal .f32) = ((1 / 2 : ℝ) : EReal) := by
  simp [Ideal.ofBits, Ideal.ieee]; rw [← EReal.coe_mul]; norm_num
theorem one : (FloatOps.ofBits .f32 0x3F800000#32 : Ideal .f32) = ((1 : ℝ) : EReal) := by
  simp [Ideal.ofBits, Ideal.ieee]; rw [← EReal.coe_mul]; norm_num

/-- The optimiser's two corrections. -/
theorem correction1 : Ideal.ofBits .f32 0x3F26BD02#32 = ((5463681 / 8388608 : ℝ) : EReal) := by
  simp [Ideal.ofBits, Ideal.ieee]; rw [← EReal.coe_mul]; norm_num
theorem correction2 : Ideal.ofBits .f32 0x3C231ACC#32 = ((2672307 / 268435456 : ℝ) : EReal) := by
  simp [Ideal.ofBits, Ideal.ieee]; rw [← EReal.coe_mul]; norm_num

end Cert.Consts

end
-- ==== Proof.DinRef.lean ====
/- The reference's gradient through the norm and the combined projection, read at an index, in the form the kernel's row
   loop computes. -/
module

public import proofs.«01_k».proof.Proof.Consts
public import proofs.«01_k».proof.Proof.DinRow
public import proofs.«01_k».proof.Proof.Gen.Reference5Ideal.Run
public import proofs.«01_k».proof.Proof.Seven

@[expose] public section

set_option maxRecDepth 16384

noncomputable section

open Idealize.ShloMosaic Idealize.ShloMosaic.TcCoe Idealize.SL.Sem
open Cert.Kernel5Ideal.DinRow (rinv newDh part)

namespace Cert.Reference5Ideal.Din

open Cert.Reference5Ideal Cert.Reference5Ideal.Gen

/-- The cotangent: seven arrays side by side. -/
abbrev cat (X1 X2 X3 X4 X5 X6 X7 : FVec Ideal S8208x2048 .f32) : FVec Ideal S8208x14336 .f32 :=
  concatenate S8208x14336 1 [⟨S8208x2048, X1⟩, ⟨S8208x2048, X2⟩, ⟨S8208x2048, X3⟩, ⟨S8208x2048, X4⟩, ⟨S8208x2048, X5⟩, ⟨S8208x2048, X6⟩, ⟨S8208x2048, X7⟩] concatenates_S8208x2048_S8208x2048_S8208x2048_S8208x2048_S8208x2048_S8208x2048_S8208x2048_S8208x14336_d1

/-- Column `n` of it is column `n % 2048` of array number `n / 2048`. -/
theorem cat_at (X1 X2 X3 X4 X5 X6 X7 : FVec Ideal S8208x2048 .f32) (l : Fin 8208) (n : Fin 14336) :
    cat X1 X2 X3 X4 X5 X6 X7 (ix2 l n) = Seven.pick X1 X2 X3 X4 X5 X6 X7 (n.val / 2048) (ix2 l ⟨n.val % 2048, Nat.mod_lt _ (by decide)⟩) := by
  pointwise [cat]
  rcases Seven.cases (n.val / 2048) (by omega) with h | h | h | h | h | h | h <;> rw [h] <;>
    simp only [Seven.pick_0, Seven.pick_1, Seven.pick_2, Seven.pick_3, Seven.pick_4, Seven.pick_5, Seven.pick_6] <;>
    repeat' first
      | rw [dif_pos (by omega)]; exact congrArg _ (congrArg (ix2 l) (Fin.ext (by show _ = n.val % 2048; simp only []; omega)))
      | rw [dif_neg (by omega)]
      | exact congrArg _ (congrArg (ix2 l) (Fin.ext (by show _ = n.val % 2048; simp only []; omega)))

/-- The cotangent of the normed input. -/
def dyOf (C : FVec Ideal S8208x14336 .f32) (w : FVec Ideal S2048x14336 .f32) : FVec Ideal S8208x2048 .f32 :=
  Host.dotGeneral dot_S8208x14336_S2048x14336_S8208x2048_1_1_0_0_n_n none C w

theorem dyOf_at (C : FVec Ideal S8208x14336 .f32) (w : FVec Ideal S2048x14336 .f32) (r : Fin 8208) (d : Fin 2048) :
    dyOf C w (ix2 r d) = ∑ n : Fin 14336, C (ix2 r n) * w (ix2 d n) := by pointwise [dyOf]

/-- Each row's mean square, with the small constant added. -/
def ms (h : FVec Ideal S8208x2048 .f32) : FVec Ideal S8208x1 .f32 :=
  addf (Host.divf (broadcastInDim S8208x1 ![0] bcast_S8208_S8208x1_0 (Host.reduceAdd (mulf h h) (constant S_ .f32 0x00000000#32) reducesTo_S8208x2048_S8208_d1 h_S_)) (broadcastInDim S8208x1 ![] bcast_S_S8208x1 (constant S_ .f32 0x45000000#32))) (broadcastInDim S8208x1 ![] bcast_S_S8208x1 (constant S_ .f32 0x358637BD#32))

/-- The cotangent of a row's mean square, divided by the row's length. -/
def slope (h : FVec Ideal S8208x2048 .f32) (g : FVec Ideal S2048 .f32) (dy : FVec Ideal S8208x2048 .f32) : FVec Ideal S8208 .f32 :=
  Host.reduceAdd (Host.divf (mulf (shapeCast _ (Host.reduceAdd (mulf h (mulf dy (broadcastInDim S8208x2048 ![0, 1] bcast_S1x2048_S8208x2048_0_1 (broadcastInDim S1x2048 ![1] bcast_S2048_S1x2048_1 g)))) (constant S_ .f32 0x00000000#32) reducesTo_S8208x2048_S8208_d1 h_S_) shapeCasts_S8208_S8208x1) (mulf (broadcastInDim S8208x1 ![] bcast_S_S8208x1 (constant S_ .f32 0xBF000000#32)) (Host.divf (Host.rsqrt (ms h)) (ms h)))) (broadcastInDim S8208x1 ![] bcast_S_S8208x1 (constant S_ .f32 0x45000000#32))) (constant S_ .f32 0x00000000#32) reducesTo_S8208x1_S8208_d1 h_S_

/-- The gradient of the input, over the arguments. -/
def refDh (h : FVec Ideal S8208x2048 .f32) (g : FVec Ideal S2048 .f32) (p dy : FVec Ideal S8208x2048 .f32) : FVec Ideal S8208x2048 .f32 :=
  addf p (addf (addf (mulf (mulf dy (broadcastInDim S8208x2048 ![0, 1] bcast_S1x2048_S8208x2048_0_1 (broadcastInDim S1x2048 ![1] bcast_S2048_S1x2048_1 g))) (broadcastInDim S8208x2048 ![0, 1] bcast_S8208x1_S8208x2048_0_1 (Host.rsqrt (ms h)))) (mulf h (broadcastInDim S8208x2048 ![0] bcast_S8208_S8208x2048_0 (slope h g dy)))) (mulf (broadcastInDim S8208x2048 ![0] bcast_S8208_S8208x2048_0 (slope h g dy)) h))

/-- The gradient of the norm's weight, over the arguments. -/
def refDg (h dy : FVec Ideal S8208x2048 .f32) : FVec Ideal S1x2048 .f32 :=
  broadcastInDim S1x2048 ![1] bcast_S2048_S1x2048_1 (Host.reduceAdd (shapeCast _ (Host.reduceAdd (mulf (mulf h (broadcastInDim S8208x2048 ![0, 1] bcast_S8208x1_S8208x2048_0_1 (Host.rsqrt (ms h)))) dy) (constant S_ .f32 0x00000000#32) reducesTo_S8208x2048_S2048_d0 h_S_) shapeCasts_S2048_S1x2048) (constant S_ .f32 0x00000000#32) reducesTo_S1x2048_S2048_d0 h_S_)

/-- The mean square at a row. -/
def msq (h : FVec Ideal S8208x2048 .f32) (r : Fin 8208) : EReal :=
  Ideal.div (∑ d : Fin 2048, h (ix2 r d) * h (ix2 r d)) (Ideal.ofBits .f32 0x45000000#32) + Ideal.ofBits .f32 0x358637BD#32

theorem ms_at (h : FVec Ideal S8208x2048 .f32) (r : Fin 8208) (z : Fin 1) : ms h (ix2 r z) = msq h r := by
  pointwise [ms, msq]

theorem slope_at (h : FVec Ideal S8208x2048 .f32) (g : FVec Ideal S2048 .f32) (dy : FVec Ideal S8208x2048 .f32) (r : Fin 8208) :
    slope h g dy (ix1 r) = Ideal.div ((∑ e : Fin 2048, h (ix2 r e) * (dy (ix2 r e) * g (ix1 e)))
      * (Ideal.ofBits .f32 0xBF000000#32 * Ideal.div (Ideal.rsqrt (msq h r)) (msq h r))) (Ideal.ofBits .f32 0x45000000#32) := by
  have e : ∀ M : FVec Ideal S8208x1 .f32, (fun M => (Host.reduceAdd (Host.divf (mulf (shapeCast _ (Host.reduceAdd (mulf h (mulf dy (broadcastInDim S8208x2048 ![0, 1] bcast_S1x2048_S8208x2048_0_1 (broadcastInDim S1x2048 ![1] bcast_S2048_S1x2048_1 g)))) (constant S_ .f32 0x00000000#32) reducesTo_S8208x2048_S8208_d1 h_S_) shapeCasts_S8208_S8208x1) (mulf (broadcastInDim S8208x1 ![] bcast_S_S8208x1 (constant S_ .f32 0xBF000000#32)) (Host.divf (Host.rsqrt M) M))) (broadcastInDim S8208x1 ![] bcast_S_S8208x1 (constant S_ .f32 0x45000000#32))) (constant S_ .f32 0x00000000#32) reducesTo_S8208x1_S8208_d1 h_S_)) M (ix1 r) = Ideal.div ((∑ e : Fin 2048, h (ix2 r e) * (dy (ix2 r e) * g (ix1 e)))
      * (Ideal.ofBits .f32 0xBF000000#32 * Ideal.div (Ideal.rsqrt (M (ix2 r 0))) (M (ix2 r 0)))) (Ideal.ofBits .f32 0x45000000#32) := by
    intro M
    pointwise []
    exact Fin.sum_univ_one _
  exact (e (ms h)).trans (by rw [ms_at])

theorem refDh_at (h : FVec Ideal S8208x2048 .f32) (g : FVec Ideal S2048 .f32) (p dy : FVec Ideal S8208x2048 .f32) (r : Fin 8208) (d : Fin 2048) :
    refDh h g p dy (ix2 r d) = p (ix2 r d) + ((dy (ix2 r d) * g (ix1 d) * Ideal.rsqrt (msq h r) + h (ix2 r d) * slope h g dy (ix1 r)) + slope h g dy (ix1 r) * h (ix2 r d)) := by
  have e : ∀ (M : FVec Ideal S8208x1 .f32) (s : FVec Ideal S8208 .f32), (fun M s => addf p (addf (addf (mulf (mulf dy (broadcastInDim S8208x2048 ![0, 1] bcast_S1x2048_S8208x2048_0_1 (broadcastInDim S1x2048 ![1] bcast_S2048_S1x2048_1 g))) (broadcastInDim S8208x2048 ![0, 1] bcast_S8208x1_S8208x2048_0_1 (Host.rsqrt M))) (mulf h (broadcastInDim S8208x2048 ![0] bcast_S8208_S8208x2048_0 s))) (mulf (broadcastInDim S8208x2048 ![0] bcast_S8208_S8208x2048_0 s) h))) M s (ix2 r d)
      = p (ix2 r d) + ((dy (ix2 r d) * g (ix1 d) * Ideal.rsqrt (M (ix2 r 0)) + h (ix2 r d) * s (ix1 r)) + s (ix1 r) * h (ix2 r d)) := by
    intro M s
    pointwise []
  exact (e (ms h) (slope h g dy)).trans (by rw [ms_at])

theorem refDg_at (h dy : FVec Ideal S8208x2048 .f32) (z : Fin 1) (d : Fin 2048) :
    refDg h dy (ix2 z d) = ∑ r : Fin 8208, part (n := 8208) h dy r d := by
  have e : ∀ M : FVec Ideal S8208x1 .f32, (fun M => broadcastInDim S1x2048 ![1] bcast_S2048_S1x2048_1 (Host.reduceAdd (shapeCast _ (Host.reduceAdd (mulf (mulf h (broadcastInDim S8208x2048 ![0, 1] bcast_S8208x1_S8208x2048_0_1 (Host.rsqrt M))) dy) (constant S_ .f32 0x00000000#32) reducesTo_S8208x2048_S2048_d0 h_S_) shapeCasts_S2048_S1x2048) (constant S_ .f32 0x00000000#32) reducesTo_S1x2048_S2048_d0 h_S_)) M (ix2 z d) = ∑ r : Fin 8208, h (ix2 r d) * Ideal.rsqrt (M (ix2 r 0)) * dy (ix2 r d) := by
    intro M
    pointwise []
    exact Fin.sum_univ_one _
  refine (e (ms h)).trans (Finset.sum_congr rfl fun r _ => ?_)
  rw [ms_at]
  exact mul_comm _ _

/-! The law behind the two forms of the input's gradient. -/

theorem sum_nonneg' {n : ℕ} (x : Fin n → EReal) : 0 ≤ ∑ d, x d * x d :=
  Finset.sum_nonneg fun d _ => by
    rcases le_total 0 (x d) with h | h
    · exact EReal.mul_nonneg h h
    · exact EReal.mul_nonneg_iff.mpr (Or.inr ⟨h, h⟩)

theorem msq_pos (h : FVec Ideal S8208x2048 .f32) (r : Fin 8208) : 0 < msq h r := by
  obtain ⟨e, he, hb⟩ := Consts.ceps
  unfold msq
  rw [hb, Consts.c2048, Ideal.div_coe (by norm_num)]
  have h0 : 0 ≤ (∑ d : Fin 2048, h (ix2 r d) * h (ix2 r d)) * ((1 / 2048 : ℝ) : EReal) :=
    EReal.mul_nonneg (sum_nonneg' fun d => h (ix2 r d)) (by exact_mod_cast (by norm_num : (0 : ℝ) ≤ 1 / 2048))
  exact lt_of_lt_of_le (by exact_mod_cast he : (0 : EReal) < (e : EReal)) (by simpa using add_le_add_left h0 (e : EReal))

/-- The reciprocal root of a positive number is a real, and dividing it by the number is its cube. -/
theorem rsqrt_cube (v : EReal) (hv : 0 < v) : ∃ q : ℝ, 0 ≤ q ∧ Ideal.rsqrt v = (q : EReal) ∧ Ideal.div (Ideal.rsqrt v) v = ((q * q * q : ℝ) : EReal) := by
  induction v using EReal.rec with
  | bot => exact absurd hv (by simp)
  | top => exact ⟨0, le_rfl, rfl, by rw [show Ideal.rsqrt ⊤ = 0 from rfl]; simp [Ideal.div]⟩
  | coe v =>
    have hv' : 0 < v := by exact_mod_cast hv
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (by linarith), if_neg hv'.ne']
    refine ⟨(Real.sqrt v)⁻¹, by positivity, hr, ?_⟩
    rw [hr, Ideal.div_coe hv'.ne', ← EReal.coe_mul]
    congr 1
    have h1 : Real.sqrt v ≠ 0 := (Real.sqrt_pos.mpr hv').ne'
    have h2 : v = Real.sqrt v * Real.sqrt v := (Real.mul_self_sqrt hv'.le).symm
    field_simp
    rw [sq]; exact h2.symm

/-- A nonnegative real factor goes into a sum. -/
theorem sum_mul_real {n : ℕ} (f : Fin n → EReal) (q : ℝ) (hq : 0 ≤ q) : ∑ e, f e * (q : EReal) = (∑ e, f e) * (q : EReal) := by
  classical
  have : ∀ s : Finset (Fin n), ∑ e ∈ s, f e * (q : EReal) = (∑ e ∈ s, f e) * (q : EReal) := by
    intro s
    induction s using Finset.induction_on with
    | empty => simp
    | insert a s ha ih =>
      rw [Finset.sum_insert ha, Finset.sum_insert ha, ih, EReal.right_distrib_of_nonneg_of_ne_top (by exact_mod_cast hq) (EReal.coe_ne_top q)]
  exact this _

theorem law (y x t : EReal) (q : ℝ) (hq : 0 ≤ q) :
    (y * (q : EReal) + x * (t * (((-(1 / 2) : ℝ) : EReal) * ((q * q * q : ℝ) : EReal)) * ((1 / 2048 : ℝ) : EReal))) + (t * (((-(1 / 2) : ℝ) : EReal) * ((q * q * q : ℝ) : EReal)) * ((1 / 2048 : ℝ) : EReal)) * x
      = (q : EReal) * (y - x * (q : EReal) * (t * (q : EReal) * ((1 / 2048 : ℝ) : EReal))) := by
  have hq' : (0 : EReal) ≤ (q : EReal) := by exact_mod_cast hq
  have two : ∀ a : EReal, a + a = ((2 : ℝ) : EReal) * a := fun a => by
    rw [show ((2 : ℝ) : EReal) = ((1 : ℝ) : EReal) + ((1 : ℝ) : EReal) by rw [← EReal.coe_add]; norm_num, EReal.coe_one, EReal.right_distrib_of_nonneg (by norm_num) (by norm_num), one_mul]
  rw [sub_eq_add_neg, EReal.left_distrib_of_nonneg_of_ne_top hq' (EReal.coe_ne_top q), mul_neg, mul_comm _ x, add_assoc, two, mul_comm y]
  congr 1
  have l : ((2 : ℝ) : EReal) * (x * (t * (((-(1 / 2) : ℝ) : EReal) * ((q * q * q : ℝ) : EReal)) * ((1 / 2048 : ℝ) : EReal)))
      = (x * t) * ((2 * (-(1 / 2)) * (q * q * q) * (1 / 2048) : ℝ) : EReal) := by
    simp only [EReal.coe_mul]; ac_rfl
  have r : (q : EReal) * (x * (q : EReal) * (t * (q : EReal) * ((1 / 2048 : ℝ) : EReal))) = (x * t) * ((q * q * q * (1 / 2048) : ℝ) : EReal) := by
    simp only [EReal.coe_mul]; ac_rfl
  rw [l, r, ← mul_neg, ← EReal.coe_neg]
  congr 2
  ring

/-- The reference's input gradient is what the kernel's row loop stores. -/
theorem refDh_eq (h : FVec Ideal S8208x2048 .f32) (g : FVec Ideal S2048 .f32) (p dy : FVec Ideal S8208x2048 .f32) (g1 : FVec Ideal S1x2048 .f32)
    (hg : ∀ d : Fin 2048, g1 (ix2 0 d) = g (ix1 d)) (r : Fin 8208) (d : Fin 2048) :
    refDh h g p dy (ix2 r d) = newDh (n := 8208) h g1 p dy r d := by
  rw [refDh_at, slope_at]
  unfold newDh
  simp only [hg]
  refine congrArg (fun u : EReal => p (ix2 r d) + u) ?_
  have hr : rinv (n := 8208) h r = Ideal.rsqrt (msq h r) := rfl
  obtain ⟨q, hq, h1, h2⟩ := rsqrt_cube (msq h r) (msq_pos h r)
  have hs : ∑ e : Fin 2048, dy (ix2 r e) * g (ix1 e) * (h (ix2 r e) * (q : EReal)) = (∑ e : Fin 2048, h (ix2 r e) * (dy (ix2 r e) * g (ix1 e))) * (q : EReal) := by
    rw [← sum_mul_real _ q hq]
    exact Finset.sum_congr rfl fun e _ => by rw [← mul_assoc, mul_comm (dy (ix2 r e) * g (ix1 e)) (h (ix2 r e))]
  rw [hr, h2, h1, hs, Consts.c2048, Consts.chalf, Ideal.div_coe (by norm_num), Ideal.div_coe (by norm_num)]
  exact law _ _ _ q hq

end Cert.Reference5Ideal.Din

end
-- ==== Proof.Din.lean ====
/- The backward pass through the norm and the combined input projection: the kernel's two arrays are the reference's. -/
module

public import proofs.«01_k».proof.Proof.DinI
public import proofs.«01_k».proof.Proof.DinRef

@[expose] public section

set_option maxRecDepth 16384

noncomputable section

open Idealize.ShloMosaic Idealize.ShloMosaic.TcCoe Idealize.SL.Sem
open Idealize.ShloMosaic.Pipeline (Dat)

namespace Cert.Kernel5Ideal.Din

open Cert.Kernel5Ideal Cert.Kernel5Ideal.Gen Cert.Kernel5Ideal.DinRow
open Cert.Reference5Ideal.Din (cat cat_at dyOf dyOf_at refDh refDg refDh_eq refDg_at)

variable (m : (ℓ : Loc nD τ sig) → Buf (Elt Ideal) ℓ)

/-- The cotangent of the normed input, over the run's arguments. -/
def dy (c : Dev nD) : FVec Ideal S8208x2048 .f32 := dyOf (cat (show FVec Ideal S8208x2048 .f32 from m ((c : Thread nD τ).loc main_arg4)) (show FVec Ideal S8208x2048 .f32 from m ((c : Thread nD τ).loc main_arg5)) (show FVec Ideal S8208x2048 .f32 from m ((c : Thread nD τ).loc main_arg6)) (show FVec Ideal S8208x2048 .f32 from m ((c : Thread nD τ).loc main_arg7)) (show FVec Ideal S8208x2048 .f32 from m ((c : Thread nD τ).loc main_arg8)) (show FVec Ideal S8208x2048 .f32 from m ((c : Thread nD τ).loc main_arg9)) (show FVec Ideal S8208x2048 .f32 from m ((c : Thread nD τ).loc main_arg10))) (show FVec Ideal S2048x14336 .f32 from m ((c : Thread nD τ).loc main_arg2))

/-- A tile's finished product is its rows of that cotangent. -/
theorem acc_dy (c : Dev nD) (t : Fin cfg0.N) (h : t.val % 28 = 27) (r : Fin 912) (d : Fin 2048) : acc m c t.val t.isLt (ix2 r d)
    = dy m c (ix2 ⟨t.val / 28 * 912 + r.val, by have := lt_of_lt_of_eq t.isLt N_0; omega⟩ d) := by
  rw [acc_eq m c t h]
  unfold dy
  rw [dyOf_at]
  exact Finset.sum_congr rfl fun n _ => congrArg (fun u : EReal => u * _) (cat_at _ _ _ _ _ _ _ _ n).symm

/-- The input gradient's array after the run. -/
theorem final11 (c : Dev nD) : (dats m 0 c).arrAt 11 (cfgs 0).N
    = refDh (show FVec Ideal S8208x2048 .f32 from m ((c : Thread nD τ).loc main_arg0)) (show FVec Ideal S2048 .f32 from m ((c : Thread nD τ).loc main_arg1)) (show FVec Ideal S8208x2048 .f32 from m ((c : Thread nD τ).loc main_arg3)) (dy m c) := by
  refine (dats m 0 c).arrAt_eq_of_covers 11 _ (by decide +kernel) fun t hf y => ?_
  have hN : t.val < 252 := lt_of_lt_of_eq t.isLt N_0
  have ht := (flush0_11 t).mp hf
  have hy0 : (y 0).val < 912 := (y 0).isLt
  have he : ((cfg0.win 11).blk t).view.emb y = ix2 (⟨t.val / 28 * 912 + (y 0).val, by omega⟩ : Fin 8208) (⟨(y 1).val, (y 1).isLt⟩ : Fin 2048) := by
    blk_ext [idxw t]
  have hy : y = ix2 (⟨(y 0).val, (y 0).isLt⟩ : Fin 912) (⟨(y 1).val, (y 1).isLt⟩ : Fin 2048) := by
    funext x; match x with
    | ⟨0, _⟩ => rfl
    | ⟨1, _⟩ => rfl
  blk_simp
  rw [after0_11]
  refine Eq.trans ?_ (congrArg (refDh _ _ _ _) he).symm
  refine (congrArg (outsAt0 m c t.val t.isLt).1 hy).trans ((last_dh m c t ht _ _).trans ?_)
  refine Eq.trans ?_ (refDh_eq _ _ _ _ (show FVec Ideal S1x2048 .f32 from iblk m c 9 t) (fun d => gblk_at m c t d) _ _).symm
  exact newDh_congr (fun e => hblk_at m c t _ e) rfl (fun e => pblk_at m c t _ e) (fun e => acc_dy m c t ht _ e) _

/-- A row's contribution, for a row number that is any natural number. -/
def row (c : Dev nD) (d : Fin 2048) (n : ℕ) : EReal := if h : n < 8208 then part (n := 8208) (show FVec Ideal S8208x2048 .f32 from m ((c : Thread nD τ).loc main_arg0)) (dy m c) ⟨n, h⟩ d else 0

/-- A tile's rows in the eight partial sums. -/
theorem tile_row (c : Dev nD) (t : Fin cfg0.N) (h : t.val % 28 = 27) (d : Fin 2048) (n : ℕ) (hn : n < 912) :
    partN (iblk m c 8 t) (acc m c t.val t.isLt) n d = row m c d (912 * (t.val / 28) + n) := by
  have hN : t.val < 252 := lt_of_lt_of_eq t.isLt N_0
  unfold partN row
  rw [dif_pos hn, dif_pos (by omega)]
  have e : (⟨912 * (t.val / 28) + n, by omega⟩ : Fin 8208) = ⟨t.val / 28 * 912 + n, by omega⟩ := Fin.ext (by simp only []; omega)
  rw [e]
  exact part_congr (fun e => hblk_at m c t ⟨n, hn⟩ e) (fun e => acc_dy m c t h ⟨n, hn⟩ e) d

/-- The partial sums after any point. -/
theorem rows_eq (c : Dev nD) (s : Fin 8) (d : Fin 2048) : ∀ (n : ℕ) (h : n < cfg0.N), (outsAt0 m c n h).2.2 (ix2 s d)
    = ∑ i ∈ Finset.range ((n + 1) / 28), ∑ b ∈ Finset.range 114, row m c d (912 * i + (8 * b + s.val))
  | 0, h => (first_rows m c ⟨0, h⟩ rfl s d).trans (by simp)
  | n + 1, h => by
    have ih := rows_eq c s d n (by omega)
    by_cases h7 : (n + 1) % 28 = 27
    · refine (last_rows m c ⟨n + 1, h⟩ h7 s d).trans ?_
      rw [show (n + 1 + 1) / 28 = (n + 1) / 28 + 1 by omega, Finset.sum_range_succ _ ((n + 1) / 28)]
      refine congrArg₂ (fun u v : EReal => u + v) ih (Finset.sum_congr rfl fun b hb => ?_)
      have hb' : b < 114 := Finset.mem_range.mp hb
      exact tile_row m c ⟨n + 1, h⟩ h7 d _ (by omega)
    · refine (congrFun (keep_rows m c ⟨n + 1, h⟩ (by simp) h7) _).trans ?_
      rw [show (n + 1 + 1) / 28 = (n + 1) / 28 by omega]
      exact ih

/-- The norm weight's gradient after the run. -/
theorem final12 (c : Dev nD) : (dats m 0 c).arrAt 12 (cfgs 0).N = refDg (show FVec Ideal S8208x2048 .f32 from m ((c : Thread nD τ).loc main_arg0)) (dy m c) := by
  refine (dats m 0 c).arrAt_eq_of_covers 12 _ (by decide +kernel) fun t hf y => ?_
  have hN : t.val < 252 := lt_of_lt_of_eq t.isLt N_0
  have ht := (flush0_12 t).mp hf
  have he : ((cfg0.win 12).blk t).view.emb y = ix2 (0 : Fin 1) (⟨(y 1).val, (y 1).isLt⟩ : Fin 2048) := by
    blk_ext [idxw t]
  have hy0 : (y 0).val < 1 := (y 0).isLt
  have hy : y = ix2 (0 : Fin 1) (⟨(y 1).val, (y 1).isLt⟩ : Fin 2048) := by
    funext x; match x with
    | ⟨0, _⟩ => exact Fin.ext (by show (y 0).val = 0; omega)
    | ⟨1, _⟩ => rfl
  blk_simp
  rw [after0_12]
  refine Eq.trans ?_ (congrArg (refDg _ _) he).symm
  refine (congrArg (outsAt0 m c t.val t.isLt).2.1 hy).trans ((last_dg m c t (by omega) _ _).trans ?_)
  rw [refDg_at]
  generalize (⟨(y 1).val, (y 1).isLt⟩ : Fin 2048) = d
  refine (Finset.sum_congr rfl fun s _ => rows_eq m c s d t.val t.isLt).trans ?_
  rw [show (t.val + 1) / 28 = 9 by omega, Finset.sum_comm, Finset.sum_range]
  refine Eq.trans (Finset.sum_congr rfl fun i _ => ?_) (Fin.sum_mul_add_congr (L := 8208) (S := 9) (n := 912) (F := fun i k => row m c d (912 * i.val + k.val)) fun i k hl => ?_)
  · rw [Finset.sum_comm, Finset.sum_range]
    exact Fin.sum_mul_add_congr (L := 912) (S := 114) (n := 8) fun b s hl => by
      show row m c d (912 * i.val + (8 * b.val + s.val)) = row m c d (912 * i.val + (b.val * 8 + s.val))
      rw [Nat.mul_comm 8]
  · show row m c d (912 * i.val + k.val) = _
    unfold row
    rw [dif_pos (by omega)]
    exact congrArg (fun n => part _ _ n d) (Fin.ext (by show 912 * i.val + k.val = i.val * 912 + k.val; omega))

end Cert.Kernel5Ideal.Din

end
-- ==== Proof.ClaimDin.lean ====
/- The claim about the gradient through the norm and the combined input projection: the kernel's two results are its
   reference's. -/
module

public import proofs.«01_k».proof.Defs
public import proofs.«01_k».proof.Proof.Din
public import proofs.«01_k».proof.Proof.Gen.Kernel5Ideal.Frame
public import proofs.«01_k».proof.Proof.Gen.Reference5Ideal.Run
public import Idealize.ShloMosaic.Lib.Claim

@[expose] public section

set_option maxRecDepth 16384

noncomputable section

namespace Cert.Din

open Idealize.ShloMosaic Idealize.ShloMosaic.TcCoe Idealize.SL.Sem

/-- The reference terminates and leaves its arguments. -/
theorem frame_reference : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

set_option maxHeartbeats 4000000 in
/-- Both programs end with the same two results. -/
theorem algebraic : Cert.algebraic_Kernel5Ideal_Reference5Ideal := by
  pair_intro
  · run_from Cert.Kernel5Ideal.Gen.run_main m g
  · run_from Cert.Reference5Ideal.Value.run m' g'
    · obtain ⟨h0, h1, h2, h3, h4, h5, h6, h7, h8, h9, h10⟩ := hagree c
      refine Eq.trans ?_ (Cert.Kernel5Ideal.Din.final11 m c).symm
      unfold Cert.Kernel5Ideal.Din.dy
      rw [← h0, ← h1, ← h2, ← h3, ← h4, ← h5, ← h6, ← h7, ← h8, ← h9, ← h10]
      rfl
    · obtain ⟨h0, h1, h2, h3, h4, h5, h6, h7, h8, h9, h10⟩ := hagree c
      refine Eq.trans ?_ (Cert.Kernel5Ideal.Din.final12 m c).symm
      unfold Cert.Kernel5Ideal.Din.dy
      rw [← h0, ← h2, ← h4, ← h5, ← h6, ← h7, ← h8, ← h9, ← h10]
      rfl

end Cert.Din

end
-- ==== Proof.Sigm.lean ====
/- The logistic function by the hyperbolic tangent. -/
module

public import Idealize.ShloMosaic.Lib.Pointwise
public import proofs.«01_k».proof.Proof.Consts

@[expose] public section

noncomputable section

namespace Cert.Sigm

open Idealize.ShloMosaic

/-- Half of the tangent of the half plus a half, over the reals. -/
theorem real (r : ℝ) : (1 / 2 : ℝ) * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have h3 := Real.exp_pos (1 / 2 * r)
  have h4 := Real.exp_pos (-(1 / 2 * r))
  rw [Real.tanh_eq_sinh_div_cosh, Real.sinh_eq, Real.cosh_eq, h1]
  generalize Real.exp (1 / 2 * r) = a at *
  generalize Real.exp (-(1 / 2 * r)) = b at *
  have h5 : 0 < a + b := by positivity
  have h6 : 0 < 1 + b * b := by positivity
  field_simp
  linear_combination 2 * b * h2

theorem half : (FloatOps.ofBits .f32 0x3F000000#32 : Ideal .f32) = ((1 / 2 : ℝ) : EReal) := Consts.half

theorem one : (FloatOps.ofBits .f32 0x3F800000#32 : Ideal .f32) = ((1 : ℝ) : EReal) := Consts.one

/-- The kernel's spelling of the logistic function is the quotient's. -/
theorem eq (v : EReal) : ((1 / 2 : ℝ) : EReal) * Ideal.tanh (((1 / 2 : ℝ) : EReal) * v) + ((1 / 2 : ℝ) : EReal)
    = Ideal.div ((1 : ℝ) : EReal) (((1 : ℝ) : EReal) + Ideal.exp (-v)) := by
  induction v using EReal.rec with
  | bot =>
    rw [EReal.coe_mul_bot_of_pos (by norm_num), Ideal.tanh_bot, EReal.neg_bot, Ideal.exp_top, EReal.coe_add_top, Ideal.div]
    simp
    norm_cast
    norm_num
  | top =>
    rw [EReal.coe_mul_top_of_pos (by norm_num), Ideal.tanh_top, EReal.neg_top, Ideal.exp_bot, Ideal.div]
    simp
    norm_cast
    norm_num
  | coe r =>
    rw [← EReal.coe_mul, Ideal.tanh_coe, ← EReal.coe_neg, Ideal.exp_coe, ← EReal.coe_add, ← EReal.coe_mul, ← EReal.coe_add, real r,
      Ideal.div_coe (by positivity), ← EReal.coe_mul]
    norm_num

end Cert.Sigm

end
-- ==== Proof.Merge.lean ====
/- The two gated projections and their sum: the kernel's three arrays are the reference's terms. -/
module

public import proofs.«01_k».proof.Proof.Gen.Kernel6Ideal.Frame
public import proofs.«01_k».proof.Proof.Gen.Reference6Ideal.Run
public import proofs.«01_k».proof.Proof.Sigm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Merge

open Cert.Kernel6Ideal Cert.Kernel6Ideal.Gen

variable (m : (ℓ : Loc nD τ sig) → Buf (Elt Ideal) ℓ)

/-- One branch's projection. -/
def proj (Y : FVec Ideal S8208x2048 .f32) (W : FVec Ideal S2048x2048 .f32) : FVec Ideal S8208x2048 .f32 :=
  Host.dotGeneral Cert.Reference6Ideal.dot_S8208x2048_S2048x2048_S8208x2048_1_0_0_1_n_n none Y W

/-- The logistic function of an array, as the reference prints it. -/
def sg (v : FVec Ideal S8208x2048 .f32) : FVec Ideal S8208x2048 .f32 :=
  Host.divf (broadcastInDim S8208x2048 ![] Cert.Reference6Ideal.Facts₀.bcast_S_S8208x2048 (constant Cert.Reference6Ideal.S_ .f32 0x3F800000#32))
    (addf (broadcastInDim S8208x2048 ![] Cert.Reference6Ideal.Facts₀.bcast_S_S8208x2048 (constant Cert.Reference6Ideal.S_ .f32 0x3F800000#32)) (Host.exp (Host.negf v)))

/-- The first gate's logits. -/
def za (Z : FVec Ideal S8208x14336 .f32) : FVec Ideal S8208x2048 .f32 :=
  extractStridedSlice S8208x2048 ![0, 10240] Z Cert.Reference6Ideal.Facts₀.slices_S8208x14336_S8208x2048_0_10240
/-- The second gate's logits. -/
def zb (Z : FVec Ideal S8208x14336 .f32) : FVec Ideal S8208x2048 .f32 :=
  extractStridedSlice S8208x2048 ![0, 12288] Z Cert.Reference6Ideal.Facts₀.slices_S8208x14336_S8208x2048_0_12288

/-- The merged branches. -/
def merged (Ya Yb : FVec Ideal S8208x2048 .f32) (Z : FVec Ideal S8208x14336 .f32) (Wa Wb : FVec Ideal S2048x2048 .f32) : FVec Ideal S8208x2048 .f32 :=
  addf (mulf (sg (za Z)) (proj Ya Wa)) (mulf (sg (zb Z)) (proj Yb Wb))

theorem sg_at (v : FVec Ideal S8208x2048 .f32) (i) : sg v i
    = ((1 / 2 : ℝ) : EReal) * Ideal.tanh (((1 / 2 : ℝ) : EReal) * v i) + ((1 / 2 : ℝ) : EReal) := by
  rw [Sigm.eq, ← Sigm.one]
  rfl

theorem pay4_at (x0 x2 x5 x7 x10 x19) (y) : k0_pay4 (F := Ideal) x0 x2 x5 x7 x10 x19 y
    = (((1 / 2 : ℝ) : EReal) * Ideal.tanh (((1 / 2 : ℝ) : EReal) * x10 y) + ((1 / 2 : ℝ) : EReal)) * k0_pay2 x0 x2 y
      + (((1 / 2 : ℝ) : EReal) * Ideal.tanh (((1 / 2 : ℝ) : EReal) * x19 y) + ((1 / 2 : ℝ) : EReal)) * k0_pay3 x5 x7 y := by
  rw [← Sigm.half]
  rfl

/-- Which blocks a grid point reads and writes. -/
theorem idx : ∀ t : Fin cfg0.N, win0_0.index t = ![t.val / 4, 0] ∧ win0_1.index t = ![t.val / 4, 0]
    ∧ win0_2.index t = ![t.val / 4, 20 + t.val % 4] ∧ win0_3.index t = ![t.val / 4, 24 + t.val % 4]
    ∧ win0_4.index t = ![0, t.val % 4] ∧ win0_5.index t = ![0, t.val % 4]
    ∧ win0_6.index t = ![t.val / 4, t.val % 4] ∧ win0_7.index t = ![t.val / 4, t.val % 4] ∧ win0_8.index t = ![t.val / 4, t.val % 4] :=
  (by decide +kernel : ∀ t : Fin grid0.N, _)

/-- A point's block of the first projection. -/
theorem point_a (c : Dev nD) (t : Fin cfg0.N) (y) : k0_pay2 (iblk m c 0 t) (iblk m c 4 t) y
    = proj (m ((c : Thread nD τ).loc main_arg0)) (m ((c : Thread nD τ).loc main_arg3)) (((cfg0.win 7).blk t).view.emb y) := by
  pointwise [k0_pay2, proj]
  blk_point [iblk, V, idx t]

/-- A point's block of the second projection. -/
theorem point_b (c : Dev nD) (t : Fin cfg0.N) (y) : k0_pay3 (iblk m c 1 t) (iblk m c 5 t) y
    = proj (m ((c : Thread nD τ).loc main_arg1)) (m ((c : Thread nD τ).loc main_arg4)) (((cfg0.win 8).blk t).view.emb y) := by
  pointwise [k0_pay3, proj]
  blk_point [iblk, V, idx t]

/-- A point's block of the first gate's logits. -/
theorem gate_a (c : Dev nD) (t : Fin cfg0.N) (y) : iblk m c 2 t y
    = za (m ((c : Thread nD τ).loc main_arg2)) (((cfg0.win 6).blk t).view.emb y) := by
  pointwise [za]
  blk_point [iblk, V, idx t]

/-- A point's block of the second gate's logits. -/
theorem gate_b (c : Dev nD) (t : Fin cfg0.N) (y) : iblk m c 3 t y
    = zb (m ((c : Thread nD τ).loc main_arg2)) (((cfg0.win 6).blk t).view.emb y) := by
  pointwise [zb]
  blk_point [iblk, V, idx t]

/-- The three outputs write the same places. -/
theorem emb_7 (t : Fin cfg0.N) (y) : ((cfg0.win 7).blk t).view.emb y = ((cfg0.win 6).blk t).view.emb y := rfl
theorem emb_8 (t : Fin cfg0.N) (y) : ((cfg0.win 8).blk t).view.emb y = ((cfg0.win 6).blk t).view.emb y := rfl

/-- A point's block of the merged branches. -/
theorem point (c : Dev nD) (t : Fin cfg0.N) (y) : k0_pay4 (iblk m c 0 t) (iblk m c 4 t) (iblk m c 1 t) (iblk m c 5 t) (iblk m c 2 t) (iblk m c 3 t) y
    = merged (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  refine (pay4_at _ _ _ _ _ _ y).trans ?_
  rw [point_a m c t y, point_b m c t y, gate_a m c t y, gate_b m c t y, ← sg_at, ← sg_at]
  rfl

/-- The merged branches after the run. -/
theorem final6 (c : Dev nD) : (dats m 0 c).arrAt 6 (cfgs 0).N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

/-- The first projection after the run. -/
theorem final7 (c : Dev nD) : (dats m 0 c).arrAt 7 (cfgs 0).N
    = proj (m ((c : Thread nD τ).loc main_arg0)) (m ((c : Thread nD τ).loc main_arg3)) := by
  refine (dats m 0 c).arrAt_eq_of_covers 7 _ (by decide +kernel) fun t _ y => ?_
  blk_simp
  rw [after0_7]; frame_out
  exact point_a m c t y

/-- The second projection after the run. -/
theorem final8 (c : Dev nD) : (dats m 0 c).arrAt 8 (cfgs 0).N
    = proj (m ((c : Thread nD τ).loc main_arg1)) (m ((c : Thread nD τ).loc main_arg4)) := by
  refine (dats m 0 c).arrAt_eq_of_covers 8 _ (by decide +kernel) fun t _ y => ?_
  blk_simp
  rw [after0_8]; frame_out
  exact point_b m c t y

end Cert.Kernel6Ideal.Merge

end
-- ==== Proof.ClaimMerge.lean ====
/- The claim about the gated merge with its two projections: the kernel's results are its reference's. -/
module

public import proofs.«01_k».proof.Defs
public import proofs.«01_k».proof.Proof.Merge
public import proofs.«01_k».proof.Proof.Gen.Kernel6Ideal.Frame
public import proofs.«01_k».proof.Proof.Gen.Reference6Ideal.Run
public import Idealize.ShloMosaic.Lib.Claim

@[expose] public section

set_option maxRecDepth 16384

noncomputable section

namespace Cert.Merge

open Idealize.ShloMosaic Idealize.ShloMosaic.TcCoe Idealize.SL.Sem

/-- The reference terminates and leaves its arguments. -/
theorem frame_reference : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

set_option maxHeartbeats 4000000 in
/-- Both programs end with the same results. -/
theorem algebraic : Cert.algebraic_Kernel6Ideal_Reference6Ideal := by
  pair_intro
  · run_from Cert.Kernel6Ideal.Gen.run_main m g
  · run_from Cert.Reference6Ideal.Value.run m' g'
    · obtain ⟨h0, h1, h2, h3, h4⟩ := hagree c
      refine Eq.trans ?_ (Cert.Kernel6Ideal.Merge.final6 m c).symm
      rw [← h0, ← h1, ← h2, ← h3, ← h4]
      rfl
    · obtain ⟨h0, h1, h2, h3, h4⟩ := hagree c
      refine Eq.trans ?_ (Cert.Kernel6Ideal.Merge.final7 m c).symm
      rw [← h0, ← h3]
      rfl
    · obtain ⟨h0, h1, h2, h3, h4⟩ := hagree c
      refine Eq.trans ?_ (Cert.Kernel6Ideal.Merge.final8 m c).symm
      rw [← h1, ← h4]
      rfl

end Cert.Merge

end
-- ==== Proof.Out.lean ====
/- The output projection with the residual: the kernel's array is the reference's term. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Out

open Cert.Kernel7Ideal Cert.Kernel7Ideal.Gen

variable (m : (ℓ : Loc nD τ sig) → Buf (Elt Ideal) ℓ)

/-- The reference's result over the residual, the merged branches and the weight. -/
def ref (H M : FVec Ideal S8208x2048 .f32) (W : FVec Ideal S2048x2048 .f32) : FVec Ideal S8208x2048 .f32 :=
  addf H (Host.dotGeneral Cert.Reference7Ideal.dot_S8208x2048_S2048x2048_S8208x2048_1_0_0_1_n_n none M W)

/-- Which blocks a grid point reads and writes. -/
theorem idx : ∀ t : Fin cfg0.N, win0_0.index t = ![t.val / 2, t.val % 2] ∧ win0_1.index t = ![t.val / 2, 0]
    ∧ win0_2.index t = ![0, t.val % 2] ∧ win0_3.index t = ![t.val / 2, t.val % 2] :=
  (by decide +kernel : ∀ t : Fin grid0.N, _)

/-- A point's block of the sum. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref]
  blk_point [iblk, V, idx t]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.Out

end
-- ==== Proof.ClaimOut.lean ====
/- The claim about the output projection and the residual: the kernel's result is its reference's. -/
module

public import proofs.«01_k».proof.Defs
public import proofs.«01_k».proof.Proof.Out
public import proofs.«01_k».proof.Proof.Gen.Kernel7Ideal.Frame
public import proofs.«01_k».proof.Proof.Gen.Reference7Ideal.Run
public import Idealize.ShloMosaic.Lib.Claim

@[expose] public section

set_option maxRecDepth 16384

noncomputable section

namespace Cert.Out

open Idealize.ShloMosaic Idealize.ShloMosaic.TcCoe Idealize.SL.Sem

/-- The reference terminates and leaves its arguments. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Both programs end with the same result. -/
theorem algebraic : Cert.algebraic_Kernel7Ideal_Reference7Ideal := by
  pair_intro
  · run_from Cert.Kernel7Ideal.Gen.run_main m g
  · run_from Cert.Reference7Ideal.Value.run m' g'
    exact (Cert.Kernel7Ideal.Out.final m c).symm

end Cert.Out

end
-- ==== Proof.Dmerged.lean ====
/- The gradient through the output projection and the two gates: the kernel's four arrays are the reference's terms. -/
module

public import proofs.«01_k».proof.Proof.Gen.Kernel8Ideal.Frame
public import proofs.«01_k».proof.Proof.Gen.Reference8Ideal.Run
public import proofs.«01_k».proof.Proof.Sigm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Dmerged

open Cert.Kernel8Ideal Cert.Kernel8Ideal.Gen

variable (m : (ℓ : Loc nD τ sig) → Buf (Elt Ideal) ℓ)

/-- The gradient of the merged branches. -/
def dm (C : FVec Ideal S8208x2048 .f32) (W : FVec Ideal S2048x2048 .f32) : FVec Ideal S8208x2048 .f32 :=
  Host.dotGeneral Cert.Reference8Ideal.dot_S8208x2048_S2048x2048_S8208x2048_1_1_0_0_n_n none C W

/-- An array of ones. -/
def ones : FVec Ideal S8208x2048 .f32 :=
  broadcastInDim S8208x2048 ![] Cert.Reference8Ideal.Facts₀.bcast_S_S8208x2048 (constant Cert.Reference8Ideal.S_ .f32 0x3F800000#32)

/-- The logistic function of an array, as the reference prints it. -/
def sg (v : FVec Ideal S8208x2048 .f32) : FVec Ideal S8208x2048 .f32 :=
  Host.divf ones (addf ones (Host.exp (Host.negf v)))

/-- The first gate's logits. -/
def za (Z : FVec Ideal S8208x14336 .f32) : FVec Ideal S8208x2048 .f32 :=
  extractStridedSlice S8208x2048 ![0, 10240] Z Cert.Reference8Ideal.Facts₀.slices_S8208x14336_S8208x2048_0_10240
/-- The second gate's logits. -/
def zb (Z : FVec Ideal S8208x14336 .f32) : FVec Ideal S8208x2048 .f32 :=
  extractStridedSlice S8208x2048 ![0, 12288] Z Cert.Reference8Ideal.Facts₀.slices_S8208x14336_S8208x2048_0_12288

/-- A branch's gradient: the gate times the merged gradient. -/
def dp (g d : FVec Ideal S8208x2048 .f32) : FVec Ideal S8208x2048 .f32 := mulf (sg g) d

/-- A gate's gradient. -/
def dz (g d p : FVec Ideal S8208x2048 .f32) : FVec Ideal S8208x2048 .f32 :=
  mulf (mulf d p) (mulf (sg g) (subf ones (sg g)))

/-- The logistic function as the kernel computes it. -/
def half (v : EReal) : EReal := ((1 / 2 : ℝ) : EReal) * Ideal.tanh (((1 / 2 : ℝ) : EReal) * v) + ((1 / 2 : ℝ) : EReal)

theorem sg_at (v : FVec Ideal S8208x2048 .f32) (i) : sg v i = half (v i) := by
  unfold half
  rw [Sigm.eq, ← Sigm.one]
  rfl

theorem pay5_at (v) (y) : k0_pay5 (F := Ideal) v y = half (v y) := by
  unfold half
  rw [← Sigm.half]
  rfl

theorem pay6_at (v) (y) : k0_pay6 (F := Ideal) v y = half (v y) := by
  unfold half
  rw [← Sigm.half]
  rfl

/-- Which blocks a grid point reads and writes. -/
theorem idx : ∀ t : Fin cfg0.N, win0_0.index t = ![t.val / 4, 0] ∧ win0_1.index t = ![t.val % 4, 0]
    ∧ win0_2.index t = ![t.val / 4, 20 + t.val % 4] ∧ win0_3.index t = ![t.val / 4, 24 + t.val % 4]
    ∧ win0_4.index t = ![t.val / 4, t.val % 4] ∧ win0_5.index t = ![t.val / 4, t.val % 4]
    ∧ win0_6.index t = ![t.val / 4, t.val % 4] ∧ win0_7.index t = ![t.val / 4, t.val % 4]
    ∧ win0_8.index t = ![t.val / 4, t.val % 4] ∧ win0_9.index t = ![t.val / 4, t.val % 4] :=
  (by decide +kernel : ∀ t : Fin grid0.N, _)

theorem N_0 : cfg0.N = 36 := rfl

/-- The rows of the cotangent a point's tile reads, by the tile's number. -/
def rows (C : FVec Ideal S8208x2048 .f32) (n : ℕ) (hn : n < cfg0.N) : FVec Ideal S912x2048 .bf16 :=
  fun j => C (ix2 ⟨n / 4 * 912 + (j 0).val, by
    have h1 : (j 0).val < 912 := (j 0).isLt
    have h2 : n < 36 := hn
    omega⟩ ⟨(j 1).val, (j 1).isLt⟩)

/-- The tile's block of the cotangent. -/
theorem block (c : Dev nD) (t : Fin cfg0.N) : k0_pay3 (iblk m c 0 t) = rows (m ((c : Thread nD τ).loc main_arg0)) t.val t.isLt := by
  funext y
  pointwise [k0_pay3, rows]
  blk_point [iblk, V, idx t]

/-- What the scratch holds after a point. -/
theorem scratch (c : Dev nD) : ∀ (n : ℕ) (hn : n < cfg0.N), (outsAt0 m c n hn).2.2.2.2 = rows (m ((c : Thread nD τ).loc main_arg0)) n hn
  | n, hn => by
    by_cases h : n % 4 = 0
    · have e := outsAt0_A m c ⟨n, hn⟩ h
      simp only [] at e
      rw [e]
      simp only []
      refine Eq.trans ?_ (block m c ⟨n, hn⟩)
      frame_out
    · have e := outsAt0_B m c ⟨n, hn⟩ h
      simp only [] at e
      rw [e]
      simp only []
      refine Eq.trans ?_ ((scratch c (n - 1) (by omega)).trans ?_)
      · unfold sout0_B_0
        rfl
      · unfold rows
        simp only [show (n - 1) / 4 = n / 4 by omega]

/-- A point's block of the merged gradient. -/
theorem point_d (c : Dev nD) (t : Fin cfg0.N) (y) : k0_pay4 (rows (m ((c : Thread nD τ).loc main_arg0)) t.val t.isLt) (iblk m c 1 t) y
    = dm (m ((c : Thread nD τ).loc main_arg0)) (m ((c : Thread nD τ).loc main_arg1)) (((cfg0.win 6).blk t).view.emb y) := by
  pointwise [k0_pay4, dm, rows]
  blk_point [iblk, V, idx t]

/-- A point's block of the first gate's logits. -/
theorem gate_a (c : Dev nD) (t : Fin cfg0.N) (y) : iblk m c 2 t y
    = za (m ((c : Thread nD τ).loc main_arg2)) (((cfg0.win 6).blk t).view.emb y) := by
  pointwise [za]
  blk_point [iblk, V, idx t]

/-- A point's block of the second gate's logits. -/
theorem gate_b (c : Dev nD) (t : Fin cfg0.N) (y) : iblk m c 3 t y
    = zb (m ((c : Thread nD τ).loc main_arg2)) (((cfg0.win 6).blk t).view.emb y) := by
  pointwise [zb]
  blk_point [iblk, V, idx t]

/-- A point's block of the first branch's projection. -/
theorem proj_a (c : Dev nD) (t : Fin cfg0.N) (y) : iblk m c 4 t y
    = m ((c : Thread nD τ).loc main_arg3) (((cfg0.win 6).blk t).view.emb y) := by
  blk_point [iblk, V, idx t]

/-- A point's block of the second branch's projection. -/
theorem proj_b (c : Dev nD) (t : Fin cfg0.N) (y) : iblk m c 5 t y
    = m ((c : Thread nD τ).loc main_arg4) (((cfg0.win 6).blk t).view.emb y) := by
  blk_point [iblk, V, idx t]

theorem point6 (c : Dev nD) (t : Fin cfg0.N) (y) : k0_pay7 (rows (m ((c : Thread nD τ).loc main_arg0)) t.val t.isLt) (iblk m c 1 t) (iblk m c 2 t) y
    = dp (za (m ((c : Thread nD τ).loc main_arg2))) (dm (m ((c : Thread nD τ).loc main_arg0)) (m ((c : Thread nD τ).loc main_arg1))) (((cfg0.win 6).blk t).view.emb y) := by
  refine (mul_comm _ _ : _ = k0_pay5 (iblk m c 2 t) y * k0_pay4 (rows (m ((c : Thread nD τ).loc main_arg0)) t.val t.isLt) (iblk m c 1 t) y).trans ?_
  rw [pay5_at, point_d m c t y, gate_a m c t y, ← sg_at]
  rfl

theorem point7 (c : Dev nD) (t : Fin cfg0.N) (y) : k0_pay8 (rows (m ((c : Thread nD τ).loc main_arg0)) t.val t.isLt) (iblk m c 1 t) (iblk m c 3 t) y
    = dp (zb (m ((c : Thread nD τ).loc main_arg2))) (dm (m ((c : Thread nD τ).loc main_arg0)) (m ((c : Thread nD τ).loc main_arg1))) (((cfg0.win 6).blk t).view.emb y) := by
  refine (mul_comm _ _ : _ = k0_pay6 (iblk m c 3 t) y * k0_pay4 (rows (m ((c : Thread nD τ).loc main_arg0)) t.val t.isLt) (iblk m c 1 t) y).trans ?_
  rw [pay6_at, point_d m c t y, gate_b m c t y, ← sg_at]
  rfl

/-- A gate's gradient at an index. -/
theorem dz_at (g d p : FVec Ideal S8208x2048 .f32) (i) : dz g d p i = d i * p i * (half (g i) * ((FloatOps.ofBits .f32 0x3F800000#32 : Ideal .f32) - half (g i))) := by
  rw [← sg_at]
  rfl

theorem point8 (c : Dev nD) (t : Fin cfg0.N) (y) : k0_pay1 (k0_pay4 (rows (m ((c : Thread nD τ).loc main_arg0)) t.val t.isLt) (iblk m c 1 t)) (k0_pay5 (iblk m c 2 t)) (k0_pay9 (iblk m c 4 t)) y
    = dz (za (m ((c : Thread nD τ).loc main_arg2))) (dm (m ((c : Thread nD τ).loc main_arg0)) (m ((c : Thread nD τ).loc main_arg1))) (m ((c : Thread nD τ).loc main_arg3)) (((cfg0.win 6).blk t).view.emb y) := by
  rw [dz_at, ← point_d m c t y, ← gate_a m c t y, ← proj_a m c t y, ← pay5_at]
  pointwise [k0_pay1, k0_pay9]

theorem point9 (c : Dev nD) (t : Fin cfg0.N) (y) : k0_pay2 (k0_pay4 (rows (m ((c : Thread nD τ).loc main_arg0)) t.val t.isLt) (iblk m c 1 t)) (k0_pay6 (iblk m c 3 t)) (iblk m c 5 t) y
    = dz (zb (m ((c : Thread nD τ).loc main_arg2))) (dm (m ((c : Thread nD τ).loc main_arg0)) (m ((c : Thread nD τ).loc main_arg1))) (m ((c : Thread nD τ).loc main_arg4)) (((cfg0.win 6).blk t).view.emb y) := by
  rw [dz_at, ← point_d m c t y, ← gate_b m c t y, ← proj_b m c t y, ← pay6_at]
  pointwise [k0_pay2]

/-- The scratch's contents, read whole. -/
theorem read_scratch (s : Vec Ideal S912x2048 .bf16) :
    View.read (Elt Ideal) (View.whole cc0_scratch0) ((Memref.isWhole_whole cc0_scratch0).unread s) = s :=
  Memref.IsWhole.read_unread (Memref.isWhole_whole cc0_scratch0) s

/-- Between two points of one tile the scratch stays. -/
theorem scratch_same (c : Dev nD) (t : Fin cfg0.N) (h : ¬t.val % 4 = 0) : (outsAt0 m c (t.val - 1) (Nat.lt_of_le_of_lt (Nat.sub_le _ _) t.isLt)).2.2.2.2
    = rows (m ((c : Thread nD τ).loc main_arg0)) t.val t.isLt := by
  refine (scratch m c (t.val - 1) _).trans ?_
  unfold rows
  simp only [show (t.val - 1) / 4 = t.val / 4 by omega]

/-- The first branch's gradient after the run. -/
theorem final6 (c : Dev nD) : (dats m 0 c).arrAt 6 (cfgs 0).N
    = dp (za (m ((c : Thread nD τ).loc main_arg2))) (dm (m ((c : Thread nD τ).loc main_arg0)) (m ((c : Thread nD τ).loc main_arg1))) := by
  refine (dats m 0 c).arrAt_eq_of_covers 6 _ (by decide +kernel) fun t _ y => ?_
  blk_simp
  rw [after0_6]
  refine Eq.trans ?_ (point6 m c t y)
  by_cases h : t.val % 4 = 0
  · rw [outsAt0_A m c t h]
    simp only []
    rw [← block m c t]
    frame_out
  · rw [outsAt0_B m c t h]
    simp only []
    rw [← scratch_same m c t h]
    frame_out
    rw [read_scratch]

/-- The second branch's gradient after the run. -/
theorem final7 (c : Dev nD) : (dats m 0 c).arrAt 7 (cfgs 0).N
    = dp (zb (m ((c : Thread nD τ).loc main_arg2))) (dm (m ((c : Thread nD τ).loc main_arg0)) (m ((c : Thread nD τ).loc main_arg1))) := by
  refine (dats m 0 c).arrAt_eq_of_covers 7 _ (by decide +kernel) fun t _ y => ?_
  blk_simp
  rw [after0_7]
  refine Eq.trans ?_ (point7 m c t y)
  by_cases h : t.val % 4 = 0
  · rw [outsAt0_A m c t h]
    simp only []
    rw [← block m c t]
    frame_out
  · rw [outsAt0_B m c t h]
    simp only []
    rw [← scratch_same m c t h]
    frame_out
    rw [read_scratch]

/-- The first gate's gradient after the run. -/
theorem final8 (c : Dev nD) : (dats m 0 c).arrAt 8 (cfgs 0).N
    = dz (za (m ((c : Thread nD τ).loc main_arg2))) (dm (m ((c : Thread nD τ).loc main_arg0)) (m ((c : Thread nD τ).loc main_arg1))) (m ((c : Thread nD τ).loc main_arg3)) := by
  refine (dats m 0 c).arrAt_eq_of_covers 8 _ (by decide +kernel) fun t _ y => ?_
  blk_simp
  rw [after0_8]
  refine Eq.trans ?_ (point8 m c t y)
  by_cases h : t.val % 4 = 0
  · rw [outsAt0_A m c t h]
    simp only []
    rw [← block m c t]
    frame_out
  · rw [outsAt0_B m c t h]
    simp only []
    rw [← scratch_same m c t h]
    frame_out
    rw [read_scratch]

/-- The second gate's gradient after the run. -/
theorem final9 (c : Dev nD) : (dats m 0 c).arrAt 9 (cfgs 0).N
    = dz (zb (m ((c : Thread nD τ).loc main_arg2))) (dm (m ((c : Thread nD τ).loc main_arg0)) (m ((c : Thread nD τ).loc main_arg1))) (m ((c : Thread nD τ).loc main_arg4)) := by
  refine (dats m 0 c).arrAt_eq_of_covers 9 _ (by decide +kernel) fun t _ y => ?_
  blk_simp
  rw [after0_9]
  refine Eq.trans ?_ (point9 m c t y)
  by_cases h : t.val % 4 = 0
  · rw [outsAt0_A m c t h]
    simp only []
    rw [← block m c t]
    frame_out
  · rw [outsAt0_B m c t h]
    simp only []
    rw [← scratch_same m c t h]
    frame_out
    rw [read_scratch]

end Cert.Kernel8Ideal.Dmerged

end
-- ==== Proof.ClaimDmerged.lean ====
/- The claim about the gradient of the gated merge: the kernel's results are its reference's. -/
module

public import proofs.«01_k».proof.Defs
public import proofs.«01_k».proof.Proof.Dmerged
public import proofs.«01_k».proof.Proof.Gen.Kernel8Ideal.Frame
public import proofs.«01_k».proof.Proof.Gen.Reference8Ideal.Run
public import Idealize.ShloMosaic.Lib.Claim

@[expose] public section

set_option maxRecDepth 16384

noncomputable section

namespace Cert.Dmerged

open Idealize.ShloMosaic Idealize.ShloMosaic.TcCoe Idealize.SL.Sem

/-- The reference terminates and leaves its arguments. -/
theorem frame_reference : Cert.quiescent_Reference8Ideal := fun m g _ =>
  (θ_run Cert.Reference8Ideal.defs _ _).mono (fun r h => ⟨fun c => (h c).2.2.2.2, sem_eq_zero_of_no_sems (by decide) r.2⟩)
    (Cert.Reference8Ideal.Value.run (F := Ideal) m g)

set_option maxHeartbeats 4000000 in
/-- Both programs end with the same results. -/
theorem algebraic : Cert.algebraic_Kernel8Ideal_Reference8Ideal := by
  pair_intro
  · run_from Cert.Kernel8Ideal.Gen.run_main m g
  · run_from Cert.Reference8Ideal.Value.run m' g'
    · obtain ⟨h0, h1, h2, h3, h4⟩ := hagree c
      refine Eq.trans ?_ (Cert.Kernel8Ideal.Dmerged.final6 m c).symm
      rw [← h0, ← h1, ← h2]
      rfl
    · obtain ⟨h0, h1, h2, h3, h4⟩ := hagree c
      refine Eq.trans ?_ (Cert.Kernel8Ideal.Dmerged.final7 m c).symm
      rw [← h0, ← h1, ← h2]
      rfl
    · obtain ⟨h0, h1, h2, h3, h4⟩ := hagree c
      refine Eq.trans ?_ (Cert.Kernel8Ideal.Dmerged.final8 m c).symm
      rw [← h0, ← h1, ← h2, ← h3]
      rfl
    · obtain ⟨h0, h1, h2, h3, h4⟩ := hagree c
      refine Eq.trans ?_ (Cert.Kernel8Ideal.Dmerged.final9 m c).symm
      rw [← h0, ← h1, ← h2, ← h4]
      rfl

end Cert.Dmerged

end
-- ==== Proof.Adam.lean ====
/- One element of the optimiser's step. -/
module

public import Idealize.ShloMosaic.Lib.Pointwise
public import Idealize.ShloMosaic.Lib.Pipeline.ValueKit
public import proofs.«01_k».proof.Proof.Consts

@[expose] public section

noncomputable section

namespace Cert.Adam

open Idealize.ShloMosaic

/-- The new first moment of an element. -/
def newM (g m : EReal) : EReal := Ideal.ofBits .f32 0x3F666666#32 * m + Ideal.ofBits .f32 0x3DCCCCCD#32 * g

/-- The new second moment of an element. -/
def newV (g v : EReal) : EReal := Ideal.ofBits .f32 0x3F7FBE77#32 * v + Ideal.ofBits .f32 0x3A83126F#32 * (g * g)

/-- The change of an element, from its corrected moments. -/
def change (w a b : EReal) : EReal :=
  Ideal.ofBits .f32 0xBA83126F#32 * (Ideal.div a (Ideal.sqrt b + Ideal.ofBits .f32 0x322BCC77#32) + Ideal.ofBits .f32 0x3C23D70A#32 * w)

/-- The change of an element, over the arguments: the moments are divided by their corrections. -/
def delta (w g m v : EReal) : EReal :=
  change w (Ideal.div (newM g m) (Ideal.ofBits .f32 0x3F26BD02#32)) (Ideal.div (newV g v) (Ideal.ofBits .f32 0x3C231ACC#32))

/-- Multiplying by the first named reciprocal is dividing by the first correction. -/
theorem first (x : EReal) : x * ((8388608 / 5463681 : ℝ) : EReal) = Ideal.div x (Ideal.ofBits .f32 0x3F26BD02#32) := by
  rw [Cert.Consts.correction1, Ideal.div_coe (by norm_num), one_div, inv_div]

/-- Multiplying by the second named reciprocal is dividing by the second correction. -/
theorem second (x : EReal) : x * ((268435456 / 2672307 : ℝ) : EReal) = Ideal.div x (Ideal.ofBits .f32 0x3C231ACC#32) := by
  rw [Cert.Consts.correction2, Ideal.div_coe (by norm_num), one_div, inv_div]

end Cert.Adam

end
-- ==== Proof.Adam9.lean ====
/- The optimiser's step of the vector weights: the kernel's four results are the reference's. -/
module

public import proofs.«01_k».proof.Defs
public import proofs.«01_k».proof.Proof.Adam
public import proofs.«01_k».proof.Proof.Gen.Kernel9Ideal.Frame
public import proofs.«01_k».proof.Proof.Gen.Reference9Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Adam

open Cert.Kernel9Ideal Cert.Kernel9Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S4x2048 .f32) (y) : (k0_pay1 g m : FVec Ideal S4x2048 .f32) y = newM (g y) (m y) := by
  pointwise [k0_pay1, k0_pay2, k0_pay3, newM]
theorem moment2 (g v : Vec Ideal S4x2048 .f32) (y) : (k0_pay2 g v : FVec Ideal S4x2048 .f32) y = newV (g y) (v y) := by
  pointwise [k0_pay1, k0_pay2, k0_pay3, newV]
theorem step (w g m v : Vec Ideal S4x2048 .f32) (y) : (k0_pay3 g m v w : FVec Ideal S4x2048 .f32) y = delta (w y) (g y) (m y) (v y) := by
  have e : (k0_pay3 g m v w : FVec Ideal S4x2048 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, change, newM, newV]
  rw [e, named1, named2, Cert.Adam.first, Cert.Adam.second, delta]

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S4x2048.Idx) : S4x2048.Idx := ix2 (⟨t.val * 4 + (y 0).val, by have h1 : t.val < 1 := lt_of_lt_of_eq t.isLt N_0; have h2 : (y 0).val < 4 := (y 0).isLt; omega⟩ : Fin 4) (⟨(y 1).val, (y 1).isLt⟩ : Fin 2048)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S4x2048.Idx) : (show FVec Ideal S4x2048 .f32 from iblk m c 0 t) y = (m ((c : Thread nD τ).loc main_arg0) : FVec Ideal S4x2048 .f32) (pos t y) := by
  show (V m c main_arg0) (((cfg0.win 0).blk t).view.emb y) = _
  rw [emb0]
theorem read1 (c : Dev nD) (t : Fin cfg0.N) (y : S4x2048.Idx) : (show FVec Ideal S4x2048 .f32 from iblk m c 1 t) y = (m ((c : Thread nD τ).loc main_arg1) : FVec Ideal S4x2048 .f32) (pos t y) := by
  show (V m c main_arg1) (((cfg0.win 1).blk t).view.emb y) = _
  rw [emb1]
theorem read2 (c : Dev nD) (t : Fin cfg0.N) (y : S4x2048.Idx) : (show FVec Ideal S4x2048 .f32 from iblk m c 2 t) y = (m ((c : Thread nD τ).loc main_arg2) : FVec Ideal S4x2048 .f32) (pos t y) := by
  show (V m c main_arg2) (((cfg0.win 2).blk t).view.emb y) = _
  rw [emb2]
theorem read3 (c : Dev nD) (t : Fin cfg0.N) (y : S4x2048.Idx) : (show FVec Ideal S4x2048 .f32 from iblk m c 3 t) y = (m ((c : Thread nD τ).loc main_arg3) : FVec Ideal S4x2048 .f32) (pos t y) := by
  show (V m c main_arg3) (((cfg0.win 3).blk t).view.emb y) = _
  rw [emb3]

/-- The four arrays after the run. -/
theorem final4 (c : Dev nD) : (dats m 0 c).arrAt 4 (cfgs 0).N = (m ((c : Thread nD τ).loc main_arg1) : FVec Ideal S4x2048 .f32) := by
  refine (dats m 0 c).arrAt_eq_of_covers 4 _ (by decide +kernel) fun t _ y => ?_
  blk_simp
  rw [after0_4]; frame_out
  refine Eq.trans ?_ (congrArg (m ((c : Thread nD τ).loc main_arg1) : FVec Ideal S4x2048 .f32) (emb4 t y).symm)
  exact read1 m c t y
theorem final5 (c : Dev nD) : (dats m 0 c).arrAt 5 (cfgs 0).N = (fun y => delta ((m ((c : Thread nD τ).loc main_arg0)) y) ((m ((c : Thread nD τ).loc main_arg1)) y) ((m ((c : Thread nD τ).loc main_arg2)) y) ((m ((c : Thread nD τ).loc main_arg3)) y) : FVec Ideal S4x2048 .f32) := by
  refine (dats m 0 c).arrAt_eq_of_covers 5 _ (by decide +kernel) fun t _ y => ?_
  blk_simp
  rw [after0_5]; frame_out
  refine Eq.trans ?_ (congrArg (fun y => delta ((m ((c : Thread nD τ).loc main_arg0)) y) ((m ((c : Thread nD τ).loc main_arg1)) y) ((m ((c : Thread nD τ).loc main_arg2)) y) ((m ((c : Thread nD τ).loc main_arg3)) y) : FVec Ideal S4x2048 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM ((m ((c : Thread nD τ).loc main_arg1)) y) ((m ((c : Thread nD τ).loc main_arg2)) y) : FVec Ideal S4x2048 .f32) := by
  refine (dats m 0 c).arrAt_eq_of_covers 6 _ (by decide +kernel) fun t _ y => ?_
  blk_simp
  rw [after0_6]; frame_out
  refine Eq.trans ?_ (congrArg (fun y => newM ((m ((c : Thread nD τ).loc main_arg1)) y) ((m ((c : Thread nD τ).loc main_arg2)) y) : FVec Ideal S4x2048 .f32) (emb6 t y).symm)
  rw [moment1]
  exact congr (congrArg newM (read1 m c t y)) (read2 m c t y)
theorem final7 (c : Dev nD) : (dats m 0 c).arrAt 7 (cfgs 0).N = (fun y => newV ((m ((c : Thread nD τ).loc main_arg1)) y) ((m ((c : Thread nD τ).loc main_arg3)) y) : FVec Ideal S4x2048 .f32) := by
  refine (dats m 0 c).arrAt_eq_of_covers 7 _ (by decide +kernel) fun t _ y => ?_
  blk_simp
  rw [after0_7]; frame_out
  refine Eq.trans ?_ (congrArg (fun y => newV ((m ((c : Thread nD τ).loc main_arg1)) y) ((m ((c : Thread nD τ).loc main_arg3)) y) : FVec Ideal S4x2048 .f32) (emb7 t y).symm)
  rw [moment2]
  exact congr (congrArg newV (read1 m c t y)) (read3 m c t y)

end Cert.Kernel9Ideal.Adam

namespace Cert.Adam9

open Cert.Adam (newM newV change delta)

/-- The reference terminates and leaves its arguments. -/
theorem frame_reference : Cert.quiescent_Reference9Ideal := fun m g _ =>
  (θ_run Cert.Reference9Ideal.defs _ _).mono (fun r h => ⟨fun c => (h c).2.2.2.2, sem_eq_zero_of_no_sems (by decide) r.2⟩)
    (Cert.Reference9Ideal.Value.run (F := Ideal) m g)

/-- The two named reciprocals are what the table says. -/
theorem preserves : Cert.preserves_Kernel9_Kernel9Ideal :=
  ⟨IdealRules.named_const.statement Cert.Kernel9Ideal.κ "c1" .f32 0x3FC48605#32 ((8388608 / 5463681 : ℝ) : EReal) rfl,
    IdealRules.named_const.statement Cert.Kernel9Ideal.κ "c2" .f32 0x42C8E6D3#32 ((268435456 / 2672307 : ℝ) : EReal) rfl⟩

open Cert.Reference9Ideal Cert.Reference9Ideal.Gen in
/-- The reference's terms, element by element. -/
theorem change_at (w g m v : FVec Ideal S4x2048 .f32) :
    mulf (broadcastInDim S4x2048 ![] bcast_S_S4x2048 (constant S_ .f32 0xBA83126F#32)) (addf (Host.divf (Host.divf (addf (mulf (broadcastInDim S4x2048 ![] bcast_S_S4x2048 (constant S_ .f32 0x3F666666#32)) m) (mulf (broadcastInDim S4x2048 ![] bcast_S_S4x2048 (constant S_ .f32 0x3DCCCCCD#32)) g)) (broadcastInDim S4x2048 ![] bcast_S_S4x2048 (constant S_ .f32 0x3F26BD02#32))) (addf (Host.sqrt (Host.divf (addf (mulf (broadcastInDim S4x2048 ![] bcast_S_S4x2048 (constant S_ .f32 0x3F7FBE77#32)) v) (mulf (broadcastInDim S4x2048 ![] bcast_S_S4x2048 (constant S_ .f32 0x3A83126F#32)) (mulf g g))) (broadcastInDim S4x2048 ![] bcast_S_S4x2048 (constant S_ .f32 0x3C231ACC#32)))) (broadcastInDim S4x2048 ![] bcast_S_S4x2048 (constant S_ .f32 0x322BCC77#32)))) (mulf (broadcastInDim S4x2048 ![] bcast_S_S4x2048 (constant S_ .f32 0x3C23D70A#32)) w))
      = fun y => delta (w y) (g y) (m y) (v y) := by
  funext y
  pointwise [delta, change, newM, newV]
open Cert.Reference9Ideal Cert.Reference9Ideal.Gen in
theorem moment_m_at (g m : FVec Ideal S4x2048 .f32) :
    addf (mulf (broadcastInDim S4x2048 ![] bcast_S_S4x2048 (constant S_ .f32 0x3F666666#32)) m) (mulf (broadcastInDim S4x2048 ![] bcast_S_S4x2048 (constant S_ .f32 0x3DCCCCCD#32)) g) = fun y => newM (g y) (m y) := by
  funext y
  pointwise [newM, newV]
open Cert.Reference9Ideal Cert.Reference9Ideal.Gen in
theorem moment_v_at (g v : FVec Ideal S4x2048 .f32) :
    addf (mulf (broadcastInDim S4x2048 ![] bcast_S_S4x2048 (constant S_ .f32 0x3F7FBE77#32)) v) (mulf (broadcastInDim S4x2048 ![] bcast_S_S4x2048 (constant S_ .f32 0x3A83126F#32)) (mulf g g)) = fun y => newV (g y) (v y) := by
  funext y
  pointwise [newM, newV]

set_option maxHeartbeats 4000000 in
/-- Both programs end with the same four results. -/
theorem algebraic : Cert.algebraic_Kernel9Ideal_Reference9Ideal := by
  pair_intro
  · run_from Cert.Kernel9Ideal.Gen.run_main m g
  · run_from Cert.Reference9Ideal.Value.run m' g'
    · obtain ⟨h0, h1, h2, h3⟩ := hagree c
      refine Eq.trans ?_ (Cert.Kernel9Ideal.Adam.final4 m c).symm
      rw [← h1]
    · obtain ⟨h0, h1, h2, h3⟩ := hagree c
      refine Eq.trans ?_ (Cert.Kernel9Ideal.Adam.final5 m c).symm
      rw [← h0, ← h1, ← h2, ← h3]
      exact change_at _ _ _ _
    · obtain ⟨h0, h1, h2, h3⟩ := hagree c
      refine Eq.trans ?_ (Cert.Kernel9Ideal.Adam.final6 m c).symm
      rw [← h1, ← h2]
      exact moment_m_at _ _
    · obtain ⟨h0, h1, h2, h3⟩ := hagree c
      refine Eq.trans ?_ (Cert.Kernel9Ideal.Adam.final7 m c).symm
      rw [← h1, ← h3]
      exact moment_v_at _ _

end Cert.Adam9

end
-- ==== Proof.Adam10.lean ====
/- The optimiser's step of the gate weights: the kernel's four results are the reference's. -/
module

public import proofs.«01_k».proof.Defs
public import proofs.«01_k».proof.Proof.Adam
public import proofs.«01_k».proof.Proof.Gen.Kernel10Ideal.Frame
public import proofs.«01_k».proof.Proof.Gen.Reference10Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Adam

open Cert.Kernel10Ideal Cert.Kernel10Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S4096x128 .f32) (y) : (k0_pay3 g m : FVec Ideal S4096x128 .f32) y = newM (g y) (m y) := by
  pointwise [k0_pay1, k0_pay2, k0_pay3, k0_pay4, k0_pay5, newM]
theorem moment2 (g v : Vec Ideal S4096x128 .f32) (y) : (k0_pay4 g v : FVec Ideal S4096x128 .f32) y = newV (g y) (v y) := by
  pointwise [k0_pay1, k0_pay2, k0_pay3, k0_pay4, k0_pay5, newV]
theorem step (w g m v : Vec Ideal S4096x128 .f32) (y) : (k0_pay1 (k0_pay5 g m v w) (Scalar.ofBits .f32 0xBA83126F#32) : FVec Ideal S4096x128 .f32) y = delta (w y) (g y) (m y) (v y) := by
  have e : (k0_pay1 (k0_pay5 g m v w) (Scalar.ofBits .f32 0xBA83126F#32) : FVec Ideal S4096x128 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, k0_pay4, k0_pay5, change, newM, newV]
  rw [e, named1, named2, Cert.Adam.first, Cert.Adam.second, delta]

/-- The arrays that the launch reads, as laid out in rows. -/
theorem rows0 (c : Dev nD) : V m c main_v0 = shapeCast S8192x128 (m ((c : Thread nD τ).loc main_arg0)) shapeCasts_S4x16x128x128_S8192x128 := by
  entry_read; rfl
theorem rows1 (c : Dev nD) : V m c main_v1 = shapeCast S8192x128 (m ((c : Thread nD τ).loc main_arg1)) shapeCasts_S4x16x128x128_S8192x128 := by
  entry_read; rfl
theorem rows2 (c : Dev nD) : V m c main_v2 = shapeCast S8192x128 (m ((c : Thread nD τ).loc main_arg2)) shapeCasts_S4x16x128x128_S8192x128 := by
  entry_read; rfl
theorem rows3 (c : Dev nD) : V m c main_v3 = shapeCast S8192x128 (m ((c : Thread nD τ).loc main_arg3)) shapeCasts_S4x16x128x128_S8192x128 := by
  entry_read; rfl

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S4096x128.Idx) : S8192x128.Idx := ix2 (⟨t.val * 4096 + (y 0).val, by have h1 : t.val < 2 := lt_of_lt_of_eq t.isLt N_0; have h2 : (y 0).val < 4096 := (y 0).isLt; omega⟩ : Fin 8192) (⟨(y 1).val, (y 1).isLt⟩ : Fin 128)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S4096x128.Idx) : (show FVec Ideal S4096x128 .f32 from iblk m c 0 t) y = ((shapeCast S8192x128 (m ((c : Thread nD τ).loc main_arg0)) shapeCasts_S4x16x128x128_S8192x128) : FVec Ideal S8192x128 .f32) (pos t y) := by
  show (V m c main_v0) (((cfg0.win 0).blk t).view.emb y) = _
  rw [emb0]
  rw [rows0]
theorem read1 (c : Dev nD) (t : Fin cfg0.N) (y : S4096x128.Idx) : (show FVec Ideal S4096x128 .f32 from iblk m c 1 t) y = ((shapeCast S8192x128 (m ((c : Thread nD τ).loc main_arg1)) shapeCasts_S4x16x128x128_S8192x128) : FVec Ideal S8192x128 .f32) (pos t y) := by
  show (V m c main_v1) (((cfg0.win 1).blk t).view.emb y) = _
  rw [emb1]
  rw [rows1]
theorem read2 (c : Dev nD) (t : Fin cfg0.N) (y : S4096x128.Idx) : (show FVec Ideal S4096x128 .f32 from iblk m c 2 t) y = ((shapeCast S8192x128 (m ((c : Thread nD τ).loc main_arg2)) shapeCasts_S4x16x128x128_S8192x128) : FVec Ideal S8192x128 .f32) (pos t y) := by
  show (V m c main_v2) (((cfg0.win 2).blk t).view.emb y) = _
  rw [emb2]
  rw [rows2]
theorem read3 (c : Dev nD) (t : Fin cfg0.N) (y : S4096x128.Idx) : (show FVec Ideal S4096x128 .f32 from iblk m c 3 t) y = ((shapeCast S8192x128 (m ((c : Thread nD τ).loc main_arg3)) shapeCasts_S4x16x128x128_S8192x128) : FVec Ideal S8192x128 .f32) (pos t y) := by
  show (V m c main_v3) (((cfg0.win 3).blk t).view.emb y) = _
  rw [emb3]
  rw [rows3]

/-- The four arrays after the run. -/
theorem final4 (c : Dev nD) : (dats m 0 c).arrAt 4 (cfgs 0).N = ((shapeCast S8192x128 (m ((c : Thread nD τ).loc main_arg1)) shapeCasts_S4x16x128x128_S8192x128) : FVec Ideal S8192x128 .f32) := by
  refine (dats m 0 c).arrAt_eq_of_covers 4 _ (by decide +kernel) fun t _ y => ?_
  blk_simp
  rw [after0_4]; frame_out
  refine Eq.trans ?_ (congrArg ((shapeCast S8192x128 (m ((c : Thread nD τ).loc main_arg1)) shapeCasts_S4x16x128x128_S8192x128) : FVec Ideal S8192x128 .f32) (emb4 t y).symm)
  exact (show (k0_pay2 (F := Ideal) (iblk m c 1 t)) y = (show FVec Ideal S4096x128 .f32 from iblk m c 1 t) y by pointwise [k0_pay2]).trans (read1 m c t y)
theorem final5 (c : Dev nD) : (dats m 0 c).arrAt 5 (cfgs 0).N = (fun y => delta (((shapeCast S8192x128 (m ((c : Thread nD τ).loc main_arg0)) shapeCasts_S4x16x128x128_S8192x128)) y) (((shapeCast S8192x128 (m ((c : Thread nD τ).loc main_arg1)) shapeCasts_S4x16x128x128_S8192x128)) y) (((shapeCast S8192x128 (m ((c : Thread nD τ).loc main_arg2)) shapeCasts_S4x16x128x128_S8192x128)) y) (((shapeCast S8192x128 (m ((c : Thread nD τ).loc main_arg3)) shapeCasts_S4x16x128x128_S8192x128)) y) : FVec Ideal S8192x128 .f32) := by
  refine (dats m 0 c).arrAt_eq_of_covers 5 _ (by decide +kernel) fun t _ y => ?_
  blk_simp
  rw [after0_5]; frame_out
  refine Eq.trans ?_ (congrArg (fun y => delta (((shapeCast S8192x128 (m ((c : Thread nD τ).loc main_arg0)) shapeCasts_S4x16x128x128_S8192x128)) y) (((shapeCast S8192x128 (m ((c : Thread nD τ).loc main_arg1)) shapeCasts_S4x16x128x128_S8192x128)) y) (((shapeCast S8192x128 (m ((c : Thread nD τ).loc main_arg2)) shapeCasts_S4x16x128x128_S8192x128)) y) (((shapeCast S8192x128 (m ((c : Thread nD τ).loc main_arg3)) shapeCasts_S4x16x128x128_S8192x128)) y) : FVec Ideal S8192x128 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM (((shapeCast S8192x128 (m ((c : Thread nD τ).loc main_arg1)) shapeCasts_S4x16x128x128_S8192x128)) y) (((shapeCast S8192x128 (m ((c : Thread nD τ).loc main_arg2)) shapeCasts_S4x16x128x128_S8192x128)) y) : FVec Ideal S8192x128 .f32) := by
  refine (dats m 0 c).arrAt_eq_of_covers 6 _ (by decide +kernel) fun t _ y => ?_
  blk_simp
  rw [after0_6]; frame_out
  refine Eq.trans ?_ (congrArg (fun y => newM (((shapeCast S8192x128 (m ((c : Thread nD τ).loc main_arg1)) shapeCasts_S4x16x128x128_S8192x128)) y) (((shapeCast S8192x128 (m ((c : Thread nD τ).loc main_arg2)) shapeCasts_S4x16x128x128_S8192x128)) y) : FVec Ideal S8192x128 .f32) (emb6 t y).symm)
  rw [moment1]
  exact congr (congrArg newM (read1 m c t y)) (read2 m c t y)
theorem final7 (c : Dev nD) : (dats m 0 c).arrAt 7 (cfgs 0).N = (fun y => newV (((shapeCast S8192x128 (m ((c : Thread nD τ).loc main_arg1)) shapeCasts_S4x16x128x128_S8192x128)) y) (((shapeCast S8192x128 (m ((c : Thread nD τ).loc main_arg3)) shapeCasts_S4x16x128x128_S8192x128)) y) : FVec Ideal S8192x128 .f32) := by
  refine (dats m 0 c).arrAt_eq_of_covers 7 _ (by decide +kernel) fun t _ y => ?_
  blk_simp
  rw [after0_7]; frame_out
  refine Eq.trans ?_ (congrArg (fun y => newV (((shapeCast S8192x128 (m ((c : Thread nD τ).loc main_arg1)) shapeCasts_S4x16x128x128_S8192x128)) y) (((shapeCast S8192x128 (m ((c : Thread nD τ).loc main_arg3)) shapeCasts_S4x16x128x128_S8192x128)) y) : FVec Ideal S8192x128 .f32) (emb7 t y).symm)
  rw [moment2]
  exact congr (congrArg newV (read1 m c t y)) (read3 m c t y)

/-- The four results are the arrays, laid out as the weight is. -/
theorem result0 (c : Dev nD) : Pipeline.afterTail₀ cfgs (dats m) 0 (V0 m) [hostOps1] c main_v5
    = shapeCast S4x16x128x128 (show FVec Ideal S8192x128 .f32 from (dats m 0 c).arrAt 4 (cfgs 0).N) shapeCasts_S8192x128_S4x16x128x128 := by
  unfold Pipeline.afterTail₀
  have e := Pipeline.withArrays_arr spec0 winFacts0.arr_inj c (V0 m c) (fun w => (dats m 0 c).arrAt w (cfgs 0).N) 4
  simp only [hostOps1, List.flatten_cons, List.flatten_nil, List.append_nil]
  after_results_simp
  exact congrArg (fun X : FVec Ideal S8192x128 .f32 => shapeCast S4x16x128x128 X shapeCasts_S8192x128_S4x16x128x128) e
theorem result1 (c : Dev nD) : Pipeline.afterTail₀ cfgs (dats m) 0 (V0 m) [hostOps1] c main_v6
    = shapeCast S4x16x128x128 (show FVec Ideal S8192x128 .f32 from (dats m 0 c).arrAt 5 (cfgs 0).N) shapeCasts_S8192x128_S4x16x128x128 := by
  unfold Pipeline.afterTail₀
  have e := Pipeline.withArrays_arr spec0 winFacts0.arr_inj c (V0 m c) (fun w => (dats m 0 c).arrAt w (cfgs 0).N) 5
  simp only [hostOps1, List.flatten_cons, List.flatten_nil, List.append_nil]
  after_results_simp
  exact congrArg (fun X : FVec Ideal S8192x128 .f32 => shapeCast S4x16x128x128 X shapeCasts_S8192x128_S4x16x128x128) e
theorem result2 (c : Dev nD) : Pipeline.afterTail₀ cfgs (dats m) 0 (V0 m) [hostOps1] c main_v7
    = shapeCast S4x16x128x128 (show FVec Ideal S8192x128 .f32 from (dats m 0 c).arrAt 6 (cfgs 0).N) shapeCasts_S8192x128_S4x16x128x128 := by
  unfold Pipeline.afterTail₀
  have e := Pipeline.withArrays_arr spec0 winFacts0.arr_inj c (V0 m c) (fun w => (dats m 0 c).arrAt w (cfgs 0).N) 6
  simp only [hostOps1, List.flatten_cons, List.flatten_nil, List.append_nil]
  after_results_simp
  exact congrArg (fun X : FVec Ideal S8192x128 .f32 => shapeCast S4x16x128x128 X shapeCasts_S8192x128_S4x16x128x128) e
theorem result3 (c : Dev nD) : Pipeline.afterTail₀ cfgs (dats m) 0 (V0 m) [hostOps1] c main_v8
    = shapeCast S4x16x128x128 (show FVec Ideal S8192x128 .f32 from (dats m 0 c).arrAt 7 (cfgs 0).N) shapeCasts_S8192x128_S4x16x128x128 := by
  unfold Pipeline.afterTail₀
  have e := Pipeline.withArrays_arr spec0 winFacts0.arr_inj c (V0 m c) (fun w => (dats m 0 c).arrAt w (cfgs 0).N) 7
  simp only [hostOps1, List.flatten_cons, List.flatten_nil, List.append_nil]
  after_results_simp
  exact congrArg (fun X : FVec Ideal S8192x128 .f32 => shapeCast S4x16x128x128 X shapeCasts_S8192x128_S4x16x128x128) e

/-- The run, with the results over the arguments. -/
theorem value0 (c : Dev nD) : Pipeline.afterTail₀ cfgs (dats m) 0 (V0 m) [hostOps1] c main_v5 = (m ((c : Thread nD τ).loc main_arg1) : FVec Ideal S4x16x128x128 .f32) :=
  (result0 m c).trans ((congrArg (fun X : FVec Ideal S8192x128 .f32 => shapeCast S4x16x128x128 X shapeCasts_S8192x128_S4x16x128x128) (final4 m c)).trans
    (shapeCast_shapeCast _ _ _))
theorem value1 (c : Dev nD) : Pipeline.afterTail₀ cfgs (dats m) 0 (V0 m) [hostOps1] c main_v6 = (fun y => delta ((m ((c : Thread nD τ).loc main_arg0)) y) ((m ((c : Thread nD τ).loc main_arg1)) y) ((m ((c : Thread nD τ).loc main_arg2)) y) ((m ((c : Thread nD τ).loc main_arg3)) y) : FVec Ideal S4x16x128x128 .f32) :=
  (result1 m c).trans ((congrArg (fun X : FVec Ideal S8192x128 .f32 => shapeCast S4x16x128x128 X shapeCasts_S8192x128_S4x16x128x128) (final5 m c)).trans
    (funext fun y => congr (congr (congr (congrArg delta (congrFun (shapeCast_shapeCast (m ((c : Thread nD τ).loc main_arg0)) shapeCasts_S4x16x128x128_S8192x128 shapeCasts_S8192x128_S4x16x128x128) y)) (congrFun (shapeCast_shapeCast (m ((c : Thread nD τ).loc main_arg1)) shapeCasts_S4x16x128x128_S8192x128 shapeCasts_S8192x128_S4x16x128x128) y)) (congrFun (shapeCast_shapeCast (m ((c : Thread nD τ).loc main_arg2)) shapeCasts_S4x16x128x128_S8192x128 shapeCasts_S8192x128_S4x16x128x128) y)) (congrFun (shapeCast_shapeCast (m ((c : Thread nD τ).loc main_arg3)) shapeCasts_S4x16x128x128_S8192x128 shapeCasts_S8192x128_S4x16x128x128) y)))
theorem value2 (c : Dev nD) : Pipeline.afterTail₀ cfgs (dats m) 0 (V0 m) [hostOps1] c main_v7 = (fun y => newM ((m ((c : Thread nD τ).loc main_arg1)) y) ((m ((c : Thread nD τ).loc main_arg2)) y) : FVec Ideal S4x16x128x128 .f32) :=
  (result2 m c).trans ((congrArg (fun X : FVec Ideal S8192x128 .f32 => shapeCast S4x16x128x128 X shapeCasts_S8192x128_S4x16x128x128) (final6 m c)).trans
    (funext fun y => congr (congrArg newM (congrFun (shapeCast_shapeCast (m ((c : Thread nD τ).loc main_arg1)) shapeCasts_S4x16x128x128_S8192x128 shapeCasts_S8192x128_S4x16x128x128) y)) (congrFun (shapeCast_shapeCast (m ((c : Thread nD τ).loc main_arg2)) shapeCasts_S4x16x128x128_S8192x128 shapeCasts_S8192x128_S4x16x128x128) y)))
theorem value3 (c : Dev nD) : Pipeline.afterTail₀ cfgs (dats m) 0 (V0 m) [hostOps1] c main_v8 = (fun y => newV ((m ((c : Thread nD τ).loc main_arg1)) y) ((m ((c : Thread nD τ).loc main_arg3)) y) : FVec Ideal S4x16x128x128 .f32) :=
  (result3 m c).trans ((congrArg (fun X : FVec Ideal S8192x128 .f32 => shapeCast S4x16x128x128 X shapeCasts_S8192x128_S4x16x128x128) (final7 m c)).trans
    (funext fun y => congr (congrArg newV (congrFun (shapeCast_shapeCast (m ((c : Thread nD τ).loc main_arg1)) shapeCasts_S4x16x128x128_S8192x128 shapeCasts_S8192x128_S4x16x128x128) y)) (congrFun (shapeCast_shapeCast (m ((c : Thread nD τ).loc main_arg3)) shapeCasts_S4x16x128x128_S8192x128 shapeCasts_S8192x128_S4x16x128x128) y)))

theorem run (ρ : Dev nD → PrngReg) : θ_run defs (onTc (τ := τ) (main (F := Ideal))) ⟨m, fun _ => 0, ρ⟩ (fun r => ∀ c : Dev nD,
      r.2.mem ((c.tc : Thread nD τ).loc main_v5) = (m ((c : Thread nD τ).loc main_arg1) : FVec Ideal S4x16x128x128 .f32)
      ∧ r.2.mem ((c.tc : Thread nD τ).loc main_v6) = (fun y => delta ((m ((c : Thread nD τ).loc main_arg0)) y) ((m ((c : Thread nD τ).loc main_arg1)) y) ((m ((c : Thread nD τ).loc main_arg2)) y) ((m ((c : Thread nD τ).loc main_arg3)) y) : FVec Ideal S4x16x128x128 .f32)
      ∧ r.2.mem ((c.tc : Thread nD τ).loc main_v7) = (fun y => newM ((m ((c : Thread nD τ).loc main_arg1)) y) ((m ((c : Thread nD τ).loc main_arg2)) y) : FVec Ideal S4x16x128x128 .f32)
      ∧ r.2.mem ((c.tc : Thread nD τ).loc main_v8) = (fun y => newV ((m ((c : Thread nD τ).loc main_arg1)) y) ((m ((c : Thread nD τ).loc main_arg3)) y) : FVec Ideal S4x16x128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (value0 m c),
    ((h c).2 main_v6 (Pipeline.mem_restRefs_of main_v6 (by decide) (by decide))).trans (value1 m c),
    ((h c).2 main_v7 (Pipeline.mem_restRefs_of main_v7 (by decide) (by decide))).trans (value2 m c),
    ((h c).2 main_v8 (Pipeline.mem_restRefs_of main_v8 (by decide) (by decide))).trans (value3 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel10Ideal.Adam

namespace Cert.Adam10

open Cert.Adam (newM newV change delta)

/-- The reference terminates and leaves its arguments. -/
theorem frame_reference : Cert.quiescent_Reference10Ideal := fun m g _ =>
  (θ_run Cert.Reference10Ideal.defs _ _).mono (fun r h => ⟨fun c => (h c).2.2.2.2, sem_eq_zero_of_no_sems (by decide) r.2⟩)
    (Cert.Reference10Ideal.Value.run (F := Ideal) m g)

/-- The two named reciprocals are what the table says. -/
theorem preserves : Cert.preserves_Kernel10_Kernel10Ideal :=
  ⟨IdealRules.named_const.statement Cert.Kernel10Ideal.κ "c1" .f32 0x3FC48605#32 ((8388608 / 5463681 : ℝ) : EReal) rfl,
    IdealRules.named_const.statement Cert.Kernel10Ideal.κ "c2" .f32 0x42C8E6D3#32 ((268435456 / 2672307 : ℝ) : EReal) rfl⟩

open Cert.Reference10Ideal Cert.Reference10Ideal.Gen in
/-- The reference's terms, element by element. -/
theorem change_at (w g m v : FVec Ideal S4x16x128x128 .f32) :
    mulf (broadcastInDim S4x16x128x128 ![] bcast_S_S4x16x128x128 (constant S_ .f32 0xBA83126F#32)) (addf (Host.divf (Host.divf (addf (mulf (broadcastInDim S4x16x128x128 ![] bcast_S_S4x16x128x128 (constant S_ .f32 0x3F666666#32)) m) (mulf (broadcastInDim S4x16x128x128 ![] bcast_S_S4x16x128x128 (constant S_ .f32 0x3DCCCCCD#32)) g)) (broadcastInDim S4x16x128x128 ![] bcast_S_S4x16x128x128 (constant S_ .f32 0x3F26BD02#32))) (addf (Host.sqrt (Host.divf (addf (mulf (broadcastInDim S4x16x128x128 ![] bcast_S_S4x16x128x128 (constant S_ .f32 0x3F7FBE77#32)) v) (mulf (broadcastInDim S4x16x128x128 ![] bcast_S_S4x16x128x128 (constant S_ .f32 0x3A83126F#32)) (mulf g g))) (broadcastInDim S4x16x128x128 ![] bcast_S_S4x16x128x128 (constant S_ .f32 0x3C231ACC#32)))) (broadcastInDim S4x16x128x128 ![] bcast_S_S4x16x128x128 (constant S_ .f32 0x322BCC77#32)))) (mulf (broadcastInDim S4x16x128x128 ![] bcast_S_S4x16x128x128 (constant S_ .f32 0x3C23D70A#32)) w))
      = fun y => delta (w y) (g y) (m y) (v y) := by
  funext y
  pointwise [delta, change, newM, newV]
open Cert.Reference10Ideal Cert.Reference10Ideal.Gen in
theorem moment_m_at (g m : FVec Ideal S4x16x128x128 .f32) :
    addf (mulf (broadcastInDim S4x16x128x128 ![] bcast_S_S4x16x128x128 (constant S_ .f32 0x3F666666#32)) m) (mulf (broadcastInDim S4x16x128x128 ![] bcast_S_S4x16x128x128 (constant S_ .f32 0x3DCCCCCD#32)) g) = fun y => newM (g y) (m y) := by
  funext y
  pointwise [newM, newV]
open Cert.Reference10Ideal Cert.Reference10Ideal.Gen in
theorem moment_v_at (g v : FVec Ideal S4x16x128x128 .f32) :
    addf (mulf (broadcastInDim S4x16x128x128 ![] bcast_S_S4x16x128x128 (constant S_ .f32 0x3F7FBE77#32)) v) (mulf (broadcastInDim S4x16x128x128 ![] bcast_S_S4x16x128x128 (constant S_ .f32 0x3A83126F#32)) (mulf g g)) = fun y => newV (g y) (v y) := by
  funext y
  pointwise [newM, newV]

set_option maxHeartbeats 4000000 in
/-- Both programs end with the same four results. -/
theorem algebraic : Cert.algebraic_Kernel10Ideal_Reference10Ideal := by
  pair_intro
  · run_from Cert.Kernel10Ideal.Adam.run m g
  · run_from Cert.Reference10Ideal.Value.run m' g'
    · obtain ⟨h0, h1, h2, h3⟩ := hagree c
      exact change_at _ _ _ _
    · obtain ⟨h0, h1, h2, h3⟩ := hagree c
      exact moment_m_at _ _
    · obtain ⟨h0, h1, h2, h3⟩ := hagree c
      exact moment_v_at _ _

end Cert.Adam10

end
-- ==== Proof.Adam11.lean ====
/- The optimiser's step of the short convolution: the kernel's four results are the reference's. -/
module

public import proofs.«01_k».proof.Defs
public import proofs.«01_k».proof.Proof.Adam
public import proofs.«01_k».proof.Proof.Gen.Kernel11Ideal.Frame
public import proofs.«01_k».proof.Proof.Gen.Reference11Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Adam

open Cert.Kernel11Ideal Cert.Kernel11Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S16x512 .f32) (y) : (k0_pay3 g m : FVec Ideal S16x512 .f32) y = newM (g y) (m y) := by
  pointwise [k0_pay1, k0_pay2, k0_pay3, k0_pay4, k0_pay5, newM]
theorem moment2 (g v : Vec Ideal S16x512 .f32) (y) : (k0_pay4 g v : FVec Ideal S16x512 .f32) y = newV (g y) (v y) := by
  pointwise [k0_pay1, k0_pay2, k0_pay3, k0_pay4, k0_pay5, newV]
theorem step (w g m v : Vec Ideal S16x512 .f32) (y) : (k0_pay1 (k0_pay5 g m v w) (Scalar.ofBits .f32 0xBA83126F#32) : FVec Ideal S16x512 .f32) y = delta (w y) (g y) (m y) (v y) := by
  have e : (k0_pay1 (k0_pay5 g m v w) (Scalar.ofBits .f32 0xBA83126F#32) : FVec Ideal S16x512 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, k0_pay4, k0_pay5, change, newM, newV]
  rw [e, named1, named2, Cert.Adam.first, Cert.Adam.second, delta]

/-- The arrays that the launch reads, as laid out in rows. -/
theorem rows0 (c : Dev nD) : V m c main_v0 = shapeCast S16x512 (m ((c : Thread nD τ).loc main_arg0)) shapeCasts_S4x4x512_S16x512 := by
  entry_read; rfl
theorem rows1 (c : Dev nD) : V m c main_v1 = shapeCast S16x512 (m ((c : Thread nD τ).loc main_arg1)) shapeCasts_S4x4x512_S16x512 := by
  entry_read; rfl
theorem rows2 (c : Dev nD) : V m c main_v2 = shapeCast S16x512 (m ((c : Thread nD τ).loc main_arg2)) shapeCasts_S4x4x512_S16x512 := by
  entry_read; rfl
theorem rows3 (c : Dev nD) : V m c main_v3 = shapeCast S16x512 (m ((c : Thread nD τ).loc main_arg3)) shapeCasts_S4x4x512_S16x512 := by
  entry_read; rfl

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S16x512.Idx) : S16x512.Idx := ix2 (⟨t.val * 16 + (y 0).val, by have h1 : t.val < 1 := lt_of_lt_of_eq t.isLt N_0; have h2 : (y 0).val < 16 := (y 0).isLt; omega⟩ : Fin 16) (⟨(y 1).val, (y 1).isLt⟩ : Fin 512)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S16x512.Idx) : (show FVec Ideal S16x512 .f32 from iblk m c 0 t) y = ((shapeCast S16x512 (m ((c : Thread nD τ).loc main_arg0)) shapeCasts_S4x4x512_S16x512) : FVec Ideal S16x512 .f32) (pos t y) := by
  show (V m c main_v0) (((cfg0.win 0).blk t).view.emb y) = _
  rw [emb0]
  rw [rows0]
theorem read1 (c : Dev nD) (t : Fin cfg0.N) (y : S16x512.Idx) : (show FVec Ideal S16x512 .f32 from iblk m c 1 t) y = ((shapeCast S16x512 (m ((c : Thread nD τ).loc main_arg1)) shapeCasts_S4x4x512_S16x512) : FVec Ideal S16x512 .f32) (pos t y) := by
  show (V m c main_v1) (((cfg0.win 1).blk t).view.emb y) = _
  rw [emb1]
  rw [rows1]
theorem read2 (c : Dev nD) (t : Fin cfg0.N) (y : S16x512.Idx) : (show FVec Ideal S16x512 .f32 from iblk m c 2 t) y = ((shapeCast S16x512 (m ((c : Thread nD τ).loc main_arg2)) shapeCasts_S4x4x512_S16x512) : FVec Ideal S16x512 .f32) (pos t y) := by
  show (V m c main_v2) (((cfg0.win 2).blk t).view.emb y) = _
  rw [emb2]
  rw [rows2]
theorem read3 (c : Dev nD) (t : Fin cfg0.N) (y : S16x512.Idx) : (show FVec Ideal S16x512 .f32 from iblk m c 3 t) y = ((shapeCast S16x512 (m ((c : Thread nD τ).loc main_arg3)) shapeCasts_S4x4x512_S16x512) : FVec Ideal S16x512 .f32) (pos t y) := by
  show (V m c main_v3) (((cfg0.win 3).blk t).view.emb y) = _
  rw [emb3]
  rw [rows3]

/-- The four arrays after the run. -/
theorem final4 (c : Dev nD) : (dats m 0 c).arrAt 4 (cfgs 0).N = ((shapeCast S16x512 (m ((c : Thread nD τ).loc main_arg1)) shapeCasts_S4x4x512_S16x512) : FVec Ideal S16x512 .f32) := by
  refine (dats m 0 c).arrAt_eq_of_covers 4 _ (by decide +kernel) fun t _ y => ?_
  blk_simp
  rw [after0_4]; frame_out
  refine Eq.trans ?_ (congrArg ((shapeCast S16x512 (m ((c : Thread nD τ).loc main_arg1)) shapeCasts_S4x4x512_S16x512) : FVec Ideal S16x512 .f32) (emb4 t y).symm)
  exact (show (k0_pay2 (F := Ideal) (iblk m c 1 t)) y = (show FVec Ideal S16x512 .f32 from iblk m c 1 t) y by pointwise [k0_pay2]).trans (read1 m c t y)
theorem final5 (c : Dev nD) : (dats m 0 c).arrAt 5 (cfgs 0).N = (fun y => delta (((shapeCast S16x512 (m ((c : Thread nD τ).loc main_arg0)) shapeCasts_S4x4x512_S16x512)) y) (((shapeCast S16x512 (m ((c : Thread nD τ).loc main_arg1)) shapeCasts_S4x4x512_S16x512)) y) (((shapeCast S16x512 (m ((c : Thread nD τ).loc main_arg2)) shapeCasts_S4x4x512_S16x512)) y) (((shapeCast S16x512 (m ((c : Thread nD τ).loc main_arg3)) shapeCasts_S4x4x512_S16x512)) y) : FVec Ideal S16x512 .f32) := by
  refine (dats m 0 c).arrAt_eq_of_covers 5 _ (by decide +kernel) fun t _ y => ?_
  blk_simp
  rw [after0_5]; frame_out
  refine Eq.trans ?_ (congrArg (fun y => delta (((shapeCast S16x512 (m ((c : Thread nD τ).loc main_arg0)) shapeCasts_S4x4x512_S16x512)) y) (((shapeCast S16x512 (m ((c : Thread nD τ).loc main_arg1)) shapeCasts_S4x4x512_S16x512)) y) (((shapeCast S16x512 (m ((c : Thread nD τ).loc main_arg2)) shapeCasts_S4x4x512_S16x512)) y) (((shapeCast S16x512 (m ((c : Thread nD τ).loc main_arg3)) shapeCasts_S4x4x512_S16x512)) y) : FVec Ideal S16x512 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM (((shapeCast S16x512 (m ((c : Thread nD τ).loc main_arg1)) shapeCasts_S4x4x512_S16x512)) y) (((shapeCast S16x512 (m ((c : Thread nD τ).loc main_arg2)) shapeCasts_S4x4x512_S16x512)) y) : FVec Ideal S16x512 .f32) := by
  refine (dats m 0 c).arrAt_eq_of_covers 6 _ (by decide +kernel) fun t _ y => ?_
  blk_simp
  rw [after0_6]; frame_out
  refine Eq.trans ?_ (congrArg (fun y => newM (((shapeCast S16x512 (m ((c : Thread nD τ).loc main_arg1)) shapeCasts_S4x4x512_S16x512)) y) (((shapeCast S16x512 (m ((c : Thread nD τ).loc main_arg2)) shapeCasts_S4x4x512_S16x512)) y) : FVec Ideal S16x512 .f32) (emb6 t y).symm)
  rw [moment1]
  exact congr (congrArg newM (read1 m c t y)) (read2 m c t y)
theorem final7 (c : Dev nD) : (dats m 0 c).arrAt 7 (cfgs 0).N = (fun y => newV (((shapeCast S16x512 (m ((c : Thread nD τ).loc main_arg1)) shapeCasts_S4x4x512_S16x512)) y) (((shapeCast S16x512 (m ((c : Thread nD τ).loc main_arg3)) shapeCasts_S4x4x512_S16x512)) y) : FVec Ideal S16x512 .f32) := by
  refine (dats m 0 c).arrAt_eq_of_covers 7 _ (by decide +kernel) fun t _ y => ?_
  blk_simp
  rw [after0_7]; frame_out
  refine Eq.trans ?_ (congrArg (fun y => newV (((shapeCast S16x512 (m ((c : Thread nD τ).loc main_arg1)) shapeCasts_S4x4x512_S16x512)) y) (((shapeCast S16x512 (m ((c : Thread nD τ).loc main_arg3)) shapeCasts_S4x4x512_S16x512)) y) : FVec Ideal S16x512 .f32) (emb7 t y).symm)
  rw [moment2]
  exact congr (congrArg newV (read1 m c t y)) (read3 m c t y)

/-- The four results are the arrays, laid out as the weight is. -/
theorem result0 (c : Dev nD) : Pipeline.afterTail₀ cfgs (dats m) 0 (V0 m) [hostOps1] c main_v5
    = shapeCast S4x4x512 (show FVec Ideal S16x512 .f32 from (dats m 0 c).arrAt 4 (cfgs 0).N) shapeCasts_S16x512_S4x4x512 := by
  unfold Pipeline.afterTail₀
  have e := Pipeline.withArrays_arr spec0 winFacts0.arr_inj c (V0 m c) (fun w => (dats m 0 c).arrAt w (cfgs 0).N) 4
  simp only [hostOps1, List.flatten_cons, List.flatten_nil, List.append_nil]
  after_results_simp
  exact congrArg (fun X : FVec Ideal S16x512 .f32 => shapeCast S4x4x512 X shapeCasts_S16x512_S4x4x512) e
theorem result1 (c : Dev nD) : Pipeline.afterTail₀ cfgs (dats m) 0 (V0 m) [hostOps1] c main_v6
    = shapeCast S4x4x512 (show FVec Ideal S16x512 .f32 from (dats m 0 c).arrAt 5 (cfgs 0).N) shapeCasts_S16x512_S4x4x512 := by
  unfold Pipeline.afterTail₀
  have e := Pipeline.withArrays_arr spec0 winFacts0.arr_inj c (V0 m c) (fun w => (dats m 0 c).arrAt w (cfgs 0).N) 5
  simp only [hostOps1, List.flatten_cons, List.flatten_nil, List.append_nil]
  after_results_simp
  exact congrArg (fun X : FVec Ideal S16x512 .f32 => shapeCast S4x4x512 X shapeCasts_S16x512_S4x4x512) e
theorem result2 (c : Dev nD) : Pipeline.afterTail₀ cfgs (dats m) 0 (V0 m) [hostOps1] c main_v7
    = shapeCast S4x4x512 (show FVec Ideal S16x512 .f32 from (dats m 0 c).arrAt 6 (cfgs 0).N) shapeCasts_S16x512_S4x4x512 := by
  unfold Pipeline.afterTail₀
  have e := Pipeline.withArrays_arr spec0 winFacts0.arr_inj c (V0 m c) (fun w => (dats m 0 c).arrAt w (cfgs 0).N) 6
  simp only [hostOps1, List.flatten_cons, List.flatten_nil, List.append_nil]
  after_results_simp
  exact congrArg (fun X : FVec Ideal S16x512 .f32 => shapeCast S4x4x512 X shapeCasts_S16x512_S4x4x512) e
theorem result3 (c : Dev nD) : Pipeline.afterTail₀ cfgs (dats m) 0 (V0 m) [hostOps1] c main_v8
    = shapeCast S4x4x512 (show FVec Ideal S16x512 .f32 from (dats m 0 c).arrAt 7 (cfgs 0).N) shapeCasts_S16x512_S4x4x512 := by
  unfold Pipeline.afterTail₀
  have e := Pipeline.withArrays_arr spec0 winFacts0.arr_inj c (V0 m c) (fun w => (dats m 0 c).arrAt w (cfgs 0).N) 7
  simp only [hostOps1, List.flatten_cons, List.flatten_nil, List.append_nil]
  after_results_simp
  exact congrArg (fun X : FVec Ideal S16x512 .f32 => shapeCast S4x4x512 X shapeCasts_S16x512_S4x4x512) e

/-- The run, with the results over the arguments. -/
theorem value0 (c : Dev nD) : Pipeline.afterTail₀ cfgs (dats m) 0 (V0 m) [hostOps1] c main_v5 = (m ((c : Thread nD τ).loc main_arg1) : FVec Ideal S4x4x512 .f32) :=
  (result0 m c).trans ((congrArg (fun X : FVec Ideal S16x512 .f32 => shapeCast S4x4x512 X shapeCasts_S16x512_S4x4x512) (final4 m c)).trans
    (shapeCast_shapeCast _ _ _))
theorem value1 (c : Dev nD) : Pipeline.afterTail₀ cfgs (dats m) 0 (V0 m) [hostOps1] c main_v6 = (fun y => delta ((m ((c : Thread nD τ).loc main_arg0)) y) ((m ((c : Thread nD τ).loc main_arg1)) y) ((m ((c : Thread nD τ).loc main_arg2)) y) ((m ((c : Thread nD τ).loc main_arg3)) y) : FVec Ideal S4x4x512 .f32) :=
  (result1 m c).trans ((congrArg (fun X : FVec Ideal S16x512 .f32 => shapeCast S4x4x512 X shapeCasts_S16x512_S4x4x512) (final5 m c)).trans
    (funext fun y => congr (congr (congr (congrArg delta (congrFun (shapeCast_shapeCast (m ((c : Thread nD τ).loc main_arg0)) shapeCasts_S4x4x512_S16x512 shapeCasts_S16x512_S4x4x512) y)) (congrFun (shapeCast_shapeCast (m ((c : Thread nD τ).loc main_arg1)) shapeCasts_S4x4x512_S16x512 shapeCasts_S16x512_S4x4x512) y)) (congrFun (shapeCast_shapeCast (m ((c : Thread nD τ).loc main_arg2)) shapeCasts_S4x4x512_S16x512 shapeCasts_S16x512_S4x4x512) y)) (congrFun (shapeCast_shapeCast (m ((c : Thread nD τ).loc main_arg3)) shapeCasts_S4x4x512_S16x512 shapeCasts_S16x512_S4x4x512) y)))
theorem value2 (c : Dev nD) : Pipeline.afterTail₀ cfgs (dats m) 0 (V0 m) [hostOps1] c main_v7 = (fun y => newM ((m ((c : Thread nD τ).loc main_arg1)) y) ((m ((c : Thread nD τ).loc main_arg2)) y) : FVec Ideal S4x4x512 .f32) :=
  (result2 m c).trans ((congrArg (fun X : FVec Ideal S16x512 .f32 => shapeCast S4x4x512 X shapeCasts_S16x512_S4x4x512) (final6 m c)).trans
    (funext fun y => congr (congrArg newM (congrFun (shapeCast_shapeCast (m ((c : Thread nD τ).loc main_arg1)) shapeCasts_S4x4x512_S16x512 shapeCasts_S16x512_S4x4x512) y)) (congrFun (shapeCast_shapeCast (m ((c : Thread nD τ).loc main_arg2)) shapeCasts_S4x4x512_S16x512 shapeCasts_S16x512_S4x4x512) y)))
theorem value3 (c : Dev nD) : Pipeline.afterTail₀ cfgs (dats m) 0 (V0 m) [hostOps1] c main_v8 = (fun y => newV ((m ((c : Thread nD τ).loc main_arg1)) y) ((m ((c : Thread nD τ).loc main_arg3)) y) : FVec Ideal S4x4x512 .f32) :=
  (result3 m c).trans ((congrArg (fun X : FVec Ideal S16x512 .f32 => shapeCast S4x4x512 X shapeCasts_S16x512_S4x4x512) (final7 m c)).trans
    (funext fun y => congr (congrArg newV (congrFun (shapeCast_shapeCast (m ((c : Thread nD τ).loc main_arg1)) shapeCasts_S4x4x512_S16x512 shapeCasts_S16x512_S4x4x512) y)) (congrFun (shapeCast_shapeCast (m ((c : Thread nD τ).loc main_arg3)) shapeCasts_S4x4x512_S16x512 shapeCasts_S16x512_S4x4x512) y)))

theorem run (ρ : Dev nD → PrngReg) : θ_run defs (onTc (τ := τ) (main (F := Ideal))) ⟨m, fun _ => 0, ρ⟩ (fun r => ∀ c : Dev nD,
      r.2.mem ((c.tc : Thread nD τ).loc main_v5) = (m ((c : Thread nD τ).loc main_arg1) : FVec Ideal S4x4x512 .f32)
      ∧ r.2.mem ((c.tc : Thread nD τ).loc main_v6) = (fun y => delta ((m ((c : Thread nD τ).loc main_arg0)) y) ((m ((c : Thread nD τ).loc main_arg1)) y) ((m ((c : Thread nD τ).loc main_arg2)) y) ((m ((c : Thread nD τ).loc main_arg3)) y) : FVec Ideal S4x4x512 .f32)
      ∧ r.2.mem ((c.tc : Thread nD τ).loc main_v7) = (fun y => newM ((m ((c : Thread nD τ).loc main_arg1)) y) ((m ((c : Thread nD τ).loc main_arg2)) y) : FVec Ideal S4x4x512 .f32)
      ∧ r.2.mem ((c.tc : Thread nD τ).loc main_v8) = (fun y => newV ((m ((c : Thread nD τ).loc main_arg1)) y) ((m ((c : Thread nD τ).loc main_arg3)) y) : FVec Ideal S4x4x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (value0 m c),
    ((h c).2 main_v6 (Pipeline.mem_restRefs_of main_v6 (by decide) (by decide))).trans (value1 m c),
    ((h c).2 main_v7 (Pipeline.mem_restRefs_of main_v7 (by decide) (by decide))).trans (value2 m c),
    ((h c).2 main_v8 (Pipeline.mem_restRefs_of main_v8 (by decide) (by decide))).trans (value3 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel11Ideal.Adam

namespace Cert.Adam11

open Cert.Adam (newM newV change delta)

/-- The reference terminates and leaves its arguments. -/
theorem frame_reference : Cert.quiescent_Reference11Ideal := fun m g _ =>
  (θ_run Cert.Reference11Ideal.defs _ _).mono (fun r h => ⟨fun c => (h c).2.2.2.2, sem_eq_zero_of_no_sems (by decide) r.2⟩)
    (Cert.Reference11Ideal.Value.run (F := Ideal) m g)

/-- The two named reciprocals are what the table says. -/
theorem preserves : Cert.preserves_Kernel11_Kernel11Ideal :=
  ⟨IdealRules.named_const.statement Cert.Kernel11Ideal.κ "c1" .f32 0x3FC48605#32 ((8388608 / 5463681 : ℝ) : EReal) rfl,
    IdealRules.named_const.statement Cert.Kernel11Ideal.κ "c2" .f32 0x42C8E6D3#32 ((268435456 / 2672307 : ℝ) : EReal) rfl⟩

open Cert.Reference11Ideal Cert.Reference11Ideal.Gen in
/-- The reference's terms, element by element. -/
theorem change_at (w g m v : FVec Ideal S4x4x512 .f32) :
    mulf (broadcastInDim S4x4x512 ![] bcast_S_S4x4x512 (constant S_ .f32 0xBA83126F#32)) (addf (Host.divf (Host.divf (addf (mulf (broadcastInDim S4x4x512 ![] bcast_S_S4x4x512 (constant S_ .f32 0x3F666666#32)) m) (mulf (broadcastInDim S4x4x512 ![] bcast_S_S4x4x512 (constant S_ .f32 0x3DCCCCCD#32)) g)) (broadcastInDim S4x4x512 ![] bcast_S_S4x4x512 (constant S_ .f32 0x3F26BD02#32))) (addf (Host.sqrt (Host.divf (addf (mulf (broadcastInDim S4x4x512 ![] bcast_S_S4x4x512 (constant S_ .f32 0x3F7FBE77#32)) v) (mulf (broadcastInDim S4x4x512 ![] bcast_S_S4x4x512 (constant S_ .f32 0x3A83126F#32)) (mulf g g))) (broadcastInDim S4x4x512 ![] bcast_S_S4x4x512 (constant S_ .f32 0x3C231ACC#32)))) (broadcastInDim S4x4x512 ![] bcast_S_S4x4x512 (constant S_ .f32 0x322BCC77#32)))) (mulf (broadcastInDim S4x4x512 ![] bcast_S_S4x4x512 (constant S_ .f32 0x3C23D70A#32)) w))
      = fun y => delta (w y) (g y) (m y) (v y) := by
  funext y
  pointwise [delta, change, newM, newV]
open Cert.Reference11Ideal Cert.Reference11Ideal.Gen in
theorem moment_m_at (g m : FVec Ideal S4x4x512 .f32) :
    addf (mulf (broadcastInDim S4x4x512 ![] bcast_S_S4x4x512 (constant S_ .f32 0x3F666666#32)) m) (mulf (broadcastInDim S4x4x512 ![] bcast_S_S4x4x512 (constant S_ .f32 0x3DCCCCCD#32)) g) = fun y => newM (g y) (m y) := by
  funext y
  pointwise [newM, newV]
open Cert.Reference11Ideal Cert.Reference11Ideal.Gen in
theorem moment_v_at (g v : FVec Ideal S4x4x512 .f32) :
    addf (mulf (broadcastInDim S4x4x512 ![] bcast_S_S4x4x512 (constant S_ .f32 0x3F7FBE77#32)) v) (mulf (broadcastInDim S4x4x512 ![] bcast_S_S4x4x512 (constant S_ .f32 0x3A83126F#32)) (mulf g g)) = fun y => newV (g y) (v y) := by
  funext y
  pointwise [newM, newV]

set_option maxHeartbeats 4000000 in
/-- Both programs end with the same four results. -/
theorem algebraic : Cert.algebraic_Kernel11Ideal_Reference11Ideal := by
  pair_intro
  · run_from Cert.Kernel11Ideal.Adam.run m g
  · run_from Cert.Reference11Ideal.Value.run m' g'
    · obtain ⟨h0, h1, h2, h3⟩ := hagree c
      exact change_at _ _ _ _
    · obtain ⟨h0, h1, h2, h3⟩ := hagree c
      exact moment_m_at _ _
    · obtain ⟨h0, h1, h2, h3⟩ := hagree c
      exact moment_v_at _ _

end Cert.Adam11

end
-- ==== Proof.Adam12.lean ====
/- The optimiser's step of the long convolution: the kernel's four results are the reference's. -/
module

public import proofs.«01_k».proof.Defs
public import proofs.«01_k».proof.Proof.Adam
public import proofs.«01_k».proof.Proof.Gen.Kernel12Ideal.Frame
public import proofs.«01_k».proof.Proof.Gen.Reference12Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Adam

open Cert.Kernel12Ideal Cert.Kernel12Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S124x512 .f32) (y) : (k0_pay3 g m : FVec Ideal S124x512 .f32) y = newM (g y) (m y) := by
  pointwise [k0_pay1, k0_pay2, k0_pay3, k0_pay4, k0_pay5, newM]
theorem moment2 (g v : Vec Ideal S124x512 .f32) (y) : (k0_pay4 g v : FVec Ideal S124x512 .f32) y = newV (g y) (v y) := by
  pointwise [k0_pay1, k0_pay2, k0_pay3, k0_pay4, k0_pay5, newV]
theorem step (w g m v : Vec Ideal S124x512 .f32) (y) : (k0_pay1 (k0_pay5 g m v w) (Scalar.ofBits .f32 0xBA83126F#32) : FVec Ideal S124x512 .f32) y = delta (w y) (g y) (m y) (v y) := by
  have e : (k0_pay1 (k0_pay5 g m v w) (Scalar.ofBits .f32 0xBA83126F#32) : FVec Ideal S124x512 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, k0_pay4, k0_pay5, change, newM, newV]
  rw [e, named1, named2, Cert.Adam.first, Cert.Adam.second, delta]

/-- The arrays that the launch reads, as laid out in rows. -/
theorem rows0 (c : Dev nD) : V m c main_v0 = shapeCast S124x512 (m ((c : Thread nD τ).loc main_arg0)) shapeCasts_S4x31x512_S124x512 := by
  entry_read; rfl
theorem rows1 (c : Dev nD) : V m c main_v1 = shapeCast S124x512 (m ((c : Thread nD τ).loc main_arg1)) shapeCasts_S4x31x512_S124x512 := by
  entry_read; rfl
theorem rows2 (c : Dev nD) : V m c main_v2 = shapeCast S124x512 (m ((c : Thread nD τ).loc main_arg2)) shapeCasts_S4x31x512_S124x512 := by
  entry_read; rfl
theorem rows3 (c : Dev nD) : V m c main_v3 = shapeCast S124x512 (m ((c : Thread nD τ).loc main_arg3)) shapeCasts_S4x31x512_S124x512 := by
  entry_read; rfl

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S124x512.Idx) : S124x512.Idx := ix2 (⟨t.val * 124 + (y 0).val, by have h1 : t.val < 1 := lt_of_lt_of_eq t.isLt N_0; have h2 : (y 0).val < 124 := (y 0).isLt; omega⟩ : Fin 124) (⟨(y 1).val, (y 1).isLt⟩ : Fin 512)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S124x512.Idx) : (show FVec Ideal S124x512 .f32 from iblk m c 0 t) y = ((shapeCast S124x512 (m ((c : Thread nD τ).loc main_arg0)) shapeCasts_S4x31x512_S124x512) : FVec Ideal S124x512 .f32) (pos t y) := by
  show (V m c main_v0) (((cfg0.win 0).blk t).view.emb y) = _
  rw [emb0]
  rw [rows0]
theorem read1 (c : Dev nD) (t : Fin cfg0.N) (y : S124x512.Idx) : (show FVec Ideal S124x512 .f32 from iblk m c 1 t) y = ((shapeCast S124x512 (m ((c : Thread nD τ).loc main_arg1)) shapeCasts_S4x31x512_S124x512) : FVec Ideal S124x512 .f32) (pos t y) := by
  show (V m c main_v1) (((cfg0.win 1).blk t).view.emb y) = _
  rw [emb1]
  rw [rows1]
theorem read2 (c : Dev nD) (t : Fin cfg0.N) (y : S124x512.Idx) : (show FVec Ideal S124x512 .f32 from iblk m c 2 t) y = ((shapeCast S124x512 (m ((c : Thread nD τ).loc main_arg2)) shapeCasts_S4x31x512_S124x512) : FVec Ideal S124x512 .f32) (pos t y) := by
  show (V m c main_v2) (((cfg0.win 2).blk t).view.emb y) = _
  rw [emb2]
  rw [rows2]
theorem read3 (c : Dev nD) (t : Fin cfg0.N) (y : S124x512.Idx) : (show FVec Ideal S124x512 .f32 from iblk m c 3 t) y = ((shapeCast S124x512 (m ((c : Thread nD τ).loc main_arg3)) shapeCasts_S4x31x512_S124x512) : FVec Ideal S124x512 .f32) (pos t y) := by
  show (V m c main_v3) (((cfg0.win 3).blk t).view.emb y) = _
  rw [emb3]
  rw [rows3]

/-- The four arrays after the run. -/
theorem final4 (c : Dev nD) : (dats m 0 c).arrAt 4 (cfgs 0).N = ((shapeCast S124x512 (m ((c : Thread nD τ).loc main_arg1)) shapeCasts_S4x31x512_S124x512) : FVec Ideal S124x512 .f32) := by
  refine (dats m 0 c).arrAt_eq_of_covers 4 _ (by decide +kernel) fun t _ y => ?_
  blk_simp
  rw [after0_4]; frame_out
  refine Eq.trans ?_ (congrArg ((shapeCast S124x512 (m ((c : Thread nD τ).loc main_arg1)) shapeCasts_S4x31x512_S124x512) : FVec Ideal S124x512 .f32) (emb4 t y).symm)
  exact (show (k0_pay2 (F := Ideal) (iblk m c 1 t)) y = (show FVec Ideal S124x512 .f32 from iblk m c 1 t) y by pointwise [k0_pay2]).trans (read1 m c t y)
theorem final5 (c : Dev nD) : (dats m 0 c).arrAt 5 (cfgs 0).N = (fun y => delta (((shapeCast S124x512 (m ((c : Thread nD τ).loc main_arg0)) shapeCasts_S4x31x512_S124x512)) y) (((shapeCast S124x512 (m ((c : Thread nD τ).loc main_arg1)) shapeCasts_S4x31x512_S124x512)) y) (((shapeCast S124x512 (m ((c : Thread nD τ).loc main_arg2)) shapeCasts_S4x31x512_S124x512)) y) (((shapeCast S124x512 (m ((c : Thread nD τ).loc main_arg3)) shapeCasts_S4x31x512_S124x512)) y) : FVec Ideal S124x512 .f32) := by
  refine (dats m 0 c).arrAt_eq_of_covers 5 _ (by decide +kernel) fun t _ y => ?_
  blk_simp
  rw [after0_5]; frame_out
  refine Eq.trans ?_ (congrArg (fun y => delta (((shapeCast S124x512 (m ((c : Thread nD τ).loc main_arg0)) shapeCasts_S4x31x512_S124x512)) y) (((shapeCast S124x512 (m ((c : Thread nD τ).loc main_arg1)) shapeCasts_S4x31x512_S124x512)) y) (((shapeCast S124x512 (m ((c : Thread nD τ).loc main_arg2)) shapeCasts_S4x31x512_S124x512)) y) (((shapeCast S124x512 (m ((c : Thread nD τ).loc main_arg3)) shapeCasts_S4x31x512_S124x512)) y) : FVec Ideal S124x512 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM (((shapeCast S124x512 (m ((c : Thread nD τ).loc main_arg1)) shapeCasts_S4x31x512_S124x512)) y) (((shapeCast S124x512 (m ((c : Thread nD τ).loc main_arg2)) shapeCasts_S4x31x512_S124x512)) y) : FVec Ideal S124x512 .f32) := by
  refine (dats m 0 c).arrAt_eq_of_covers 6 _ (by decide +kernel) fun t _ y => ?_
  blk_simp
  rw [after0_6]; frame_out
  refine Eq.trans ?_ (congrArg (fun y => newM (((shapeCast S124x512 (m ((c : Thread nD τ).loc main_arg1)) shapeCasts_S4x31x512_S124x512)) y) (((shapeCast S124x512 (m ((c : Thread nD τ).loc main_arg2)) shapeCasts_S4x31x512_S124x512)) y) : FVec Ideal S124x512 .f32) (emb6 t y).symm)
  rw [moment1]
  exact congr (congrArg newM (read1 m c t y)) (read2 m c t y)
theorem final7 (c : Dev nD) : (dats m 0 c).arrAt 7 (cfgs 0).N = (fun y => newV (((shapeCast S124x512 (m ((c : Thread nD τ).loc main_arg1)) shapeCasts_S4x31x512_S124x512)) y) (((shapeCast S124x512 (m ((c : Thread nD τ).loc main_arg3)) shapeCasts_S4x31x512_S124x512)) y) : FVec Ideal S124x512 .f32) := by
  refine (dats m 0 c).arrAt_eq_of_covers 7 _ (by decide +kernel) fun t _ y => ?_
  blk_simp
  rw [after0_7]; frame_out
  refine Eq.trans ?_ (congrArg (fun y => newV (((shapeCast S124x512 (m ((c : Thread nD τ).loc main_arg1)) shapeCasts_S4x31x512_S124x512)) y) (((shapeCast S124x512 (m ((c : Thread nD τ).loc main_arg3)) shapeCasts_S4x31x512_S124x512)) y) : FVec Ideal S124x512 .f32) (emb7 t y).symm)
  rw [moment2]
  exact congr (congrArg newV (read1 m c t y)) (read3 m c t y)

/-- The four results are the arrays, laid out as the weight is. -/
theorem result0 (c : Dev nD) : Pipeline.afterTail₀ cfgs (dats m) 0 (V0 m) [hostOps1] c main_v5
    = shapeCast S4x31x512 (show FVec Ideal S124x512 .f32 from (dats m 0 c).arrAt 4 (cfgs 0).N) shapeCasts_S124x512_S4x31x512 := by
  unfold Pipeline.afterTail₀
  have e := Pipeline.withArrays_arr spec0 winFacts0.arr_inj c (V0 m c) (fun w => (dats m 0 c).arrAt w (cfgs 0).N) 4
  simp only [hostOps1, List.flatten_cons, List.flatten_nil, List.append_nil]
  after_results_simp
  exact congrArg (fun X : FVec Ideal S124x512 .f32 => shapeCast S4x31x512 X shapeCasts_S124x512_S4x31x512) e
theorem result1 (c : Dev nD) : Pipeline.afterTail₀ cfgs (dats m) 0 (V0 m) [hostOps1] c main_v6
    = shapeCast S4x31x512 (show FVec Ideal S124x512 .f32 from (dats m 0 c).arrAt 5 (cfgs 0).N) shapeCasts_S124x512_S4x31x512 := by
  unfold Pipeline.afterTail₀
  have e := Pipeline.withArrays_arr spec0 winFacts0.arr_inj c (V0 m c) (fun w => (dats m 0 c).arrAt w (cfgs 0).N) 5
  simp only [hostOps1, List.flatten_cons, List.flatten_nil, List.append_nil]
  after_results_simp
  exact congrArg (fun X : FVec Ideal S124x512 .f32 => shapeCast S4x31x512 X shapeCasts_S124x512_S4x31x512) e
theorem result2 (c : Dev nD) : Pipeline.afterTail₀ cfgs (dats m) 0 (V0 m) [hostOps1] c main_v7
    = shapeCast S4x31x512 (show FVec Ideal S124x512 .f32 from (dats m 0 c).arrAt 6 (cfgs 0).N) shapeCasts_S124x512_S4x31x512 := by
  unfold Pipeline.afterTail₀
  have e := Pipeline.withArrays_arr spec0 winFacts0.arr_inj c (V0 m c) (fun w => (dats m 0 c).arrAt w (cfgs 0).N) 6
  simp only [hostOps1, List.flatten_cons, List.flatten_nil, List.append_nil]
  after_results_simp
  exact congrArg (fun X : FVec Ideal S124x512 .f32 => shapeCast S4x31x512 X shapeCasts_S124x512_S4x31x512) e
theorem result3 (c : Dev nD) : Pipeline.afterTail₀ cfgs (dats m) 0 (V0 m) [hostOps1] c main_v8
    = shapeCast S4x31x512 (show FVec Ideal S124x512 .f32 from (dats m 0 c).arrAt 7 (cfgs 0).N) shapeCasts_S124x512_S4x31x512 := by
  unfold Pipeline.afterTail₀
  have e := Pipeline.withArrays_arr spec0 winFacts0.arr_inj c (V0 m c) (fun w => (dats m 0 c).arrAt w (cfgs 0).N) 7
  simp only [hostOps1, List.flatten_cons, List.flatten_nil, List.append_nil]
  after_results_simp
  exact congrArg (fun X : FVec Ideal S124x512 .f32 => shapeCast S4x31x512 X shapeCasts_S124x512_S4x31x512) e

/-- The run, with the results over the arguments. -/
theorem value0 (c : Dev nD) : Pipeline.afterTail₀ cfgs (dats m) 0 (V0 m) [hostOps1] c main_v5 = (m ((c : Thread nD τ).loc main_arg1) : FVec Ideal S4x31x512 .f32) :=
  (result0 m c).trans ((congrArg (fun X : FVec Ideal S124x512 .f32 => shapeCast S4x31x512 X shapeCasts_S124x512_S4x31x512) (final4 m c)).trans
    (shapeCast_shapeCast _ _ _))
theorem value1 (c : Dev nD) : Pipeline.afterTail₀ cfgs (dats m) 0 (V0 m) [hostOps1] c main_v6 = (fun y => delta ((m ((c : Thread nD τ).loc main_arg0)) y) ((m ((c : Thread nD τ).loc main_arg1)) y) ((m ((c : Thread nD τ).loc main_arg2)) y) ((m ((c : Thread nD τ).loc main_arg3)) y) : FVec Ideal S4x31x512 .f32) :=
  (result1 m c).trans ((congrArg (fun X : FVec Ideal S124x512 .f32 => shapeCast S4x31x512 X shapeCasts_S124x512_S4x31x512) (final5 m c)).trans
    (funext fun y => congr (congr (congr (congrArg delta (congrFun (shapeCast_shapeCast (m ((c : Thread nD τ).loc main_arg0)) shapeCasts_S4x31x512_S124x512 shapeCasts_S124x512_S4x31x512) y)) (congrFun (shapeCast_shapeCast (m ((c : Thread nD τ).loc main_arg1)) shapeCasts_S4x31x512_S124x512 shapeCasts_S124x512_S4x31x512) y)) (congrFun (shapeCast_shapeCast (m ((c : Thread nD τ).loc main_arg2)) shapeCasts_S4x31x512_S124x512 shapeCasts_S124x512_S4x31x512) y)) (congrFun (shapeCast_shapeCast (m ((c : Thread nD τ).loc main_arg3)) shapeCasts_S4x31x512_S124x512 shapeCasts_S124x512_S4x31x512) y)))
theorem value2 (c : Dev nD) : Pipeline.afterTail₀ cfgs (dats m) 0 (V0 m) [hostOps1] c main_v7 = (fun y => newM ((m ((c : Thread nD τ).loc main_arg1)) y) ((m ((c : Thread nD τ).loc main_arg2)) y) : FVec Ideal S4x31x512 .f32) :=
  (result2 m c).trans ((congrArg (fun X : FVec Ideal S124x512 .f32 => shapeCast S4x31x512 X shapeCasts_S124x512_S4x31x512) (final6 m c)).trans
    (funext fun y => congr (congrArg newM (congrFun (shapeCast_shapeCast (m ((c : Thread nD τ).loc main_arg1)) shapeCasts_S4x31x512_S124x512 shapeCasts_S124x512_S4x31x512) y)) (congrFun (shapeCast_shapeCast (m ((c : Thread nD τ).loc main_arg2)) shapeCasts_S4x31x512_S124x512 shapeCasts_S124x512_S4x31x512) y)))
theorem value3 (c : Dev nD) : Pipeline.afterTail₀ cfgs (dats m) 0 (V0 m) [hostOps1] c main_v8 = (fun y => newV ((m ((c : Thread nD τ).loc main_arg1)) y) ((m ((c : Thread nD τ).loc main_arg3)) y) : FVec Ideal S4x31x512 .f32) :=
  (result3 m c).trans ((congrArg (fun X : FVec Ideal S124x512 .f32 => shapeCast S4x31x512 X shapeCasts_S124x512_S4x31x512) (final7 m c)).trans
    (funext fun y => congr (congrArg newV (congrFun (shapeCast_shapeCast (m ((c : Thread nD τ).loc main_arg1)) shapeCasts_S4x31x512_S124x512 shapeCasts_S124x512_S4x31x512) y)) (congrFun (shapeCast_shapeCast (m ((c : Thread nD τ).loc main_arg3)) shapeCasts_S4x31x512_S124x512 shapeCasts_S124x512_S4x31x512) y)))

theorem run (ρ : Dev nD → PrngReg) : θ_run defs (onTc (τ := τ) (main (F := Ideal))) ⟨m, fun _ => 0, ρ⟩ (fun r => ∀ c : Dev nD,
      r.2.mem ((c.tc : Thread nD τ).loc main_v5) = (m ((c : Thread nD τ).loc main_arg1) : FVec Ideal S4x31x512 .f32)
      ∧ r.2.mem ((c.tc : Thread nD τ).loc main_v6) = (fun y => delta ((m ((c : Thread nD τ).loc main_arg0)) y) ((m ((c : Thread nD τ).loc main_arg1)) y) ((m ((c : Thread nD τ).loc main_arg2)) y) ((m ((c : Thread nD τ).loc main_arg3)) y) : FVec Ideal S4x31x512 .f32)
      ∧ r.2.mem ((c.tc : Thread nD τ).loc main_v7) = (fun y => newM ((m ((c : Thread nD τ).loc main_arg1)) y) ((m ((c : Thread nD τ).loc main_arg2)) y) : FVec Ideal S4x31x512 .f32)
      ∧ r.2.mem ((c.tc : Thread nD τ).loc main_v8) = (fun y => newV ((m ((c : Thread nD τ).loc main_arg1)) y) ((m ((c : Thread nD τ).loc main_arg3)) y) : FVec Ideal S4x31x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (value0 m c),
    ((h c).2 main_v6 (Pipeline.mem_restRefs_of main_v6 (by decide) (by decide))).trans (value1 m c),
    ((h c).2 main_v7 (Pipeline.mem_restRefs_of main_v7 (by decide) (by decide))).trans (value2 m c),
    ((h c).2 main_v8 (Pipeline.mem_restRefs_of main_v8 (by decide) (by decide))).trans (value3 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel12Ideal.Adam

namespace Cert.Adam12

open Cert.Adam (newM newV change delta)

/-- The reference terminates and leaves its arguments. -/
theorem frame_reference : Cert.quiescent_Reference12Ideal := fun m g _ =>
  (θ_run Cert.Reference12Ideal.defs _ _).mono (fun r h => ⟨fun c => (h c).2.2.2.2, sem_eq_zero_of_no_sems (by decide) r.2⟩)
    (Cert.Reference12Ideal.Value.run (F := Ideal) m g)

/-- The two named reciprocals are what the table says. -/
theorem preserves : Cert.preserves_Kernel12_Kernel12Ideal :=
  ⟨IdealRules.named_const.statement Cert.Kernel12Ideal.κ "c1" .f32 0x3FC48605#32 ((8388608 / 5463681 : ℝ) : EReal) rfl,
    IdealRules.named_const.statement Cert.Kernel12Ideal.κ "c2" .f32 0x42C8E6D3#32 ((268435456 / 2672307 : ℝ) : EReal) rfl⟩

open Cert.Reference12Ideal Cert.Reference12Ideal.Gen in
/-- The reference's terms, element by element. -/
theorem change_at (w g m v : FVec Ideal S4x31x512 .f32) :
    mulf (broadcastInDim S4x31x512 ![] bcast_S_S4x31x512 (constant S_ .f32 0xBA83126F#32)) (addf (Host.divf (Host.divf (addf (mulf (broadcastInDim S4x31x512 ![] bcast_S_S4x31x512 (constant S_ .f32 0x3F666666#32)) m) (mulf (broadcastInDim S4x31x512 ![] bcast_S_S4x31x512 (constant S_ .f32 0x3DCCCCCD#32)) g)) (broadcastInDim S4x31x512 ![] bcast_S_S4x31x512 (constant S_ .f32 0x3F26BD02#32))) (addf (Host.sqrt (Host.divf (addf (mulf (broadcastInDim S4x31x512 ![] bcast_S_S4x31x512 (constant S_ .f32 0x3F7FBE77#32)) v) (mulf (broadcastInDim S4x31x512 ![] bcast_S_S4x31x512 (constant S_ .f32 0x3A83126F#32)) (mulf g g))) (broadcastInDim S4x31x512 ![] bcast_S_S4x31x512 (constant S_ .f32 0x3C231ACC#32)))) (broadcastInDim S4x31x512 ![] bcast_S_S4x31x512 (constant S_ .f32 0x322BCC77#32)))) (mulf (broadcastInDim S4x31x512 ![] bcast_S_S4x31x512 (constant S_ .f32 0x3C23D70A#32)) w))
      = fun y => delta (w y) (g y) (m y) (v y) := by
  funext y
  pointwise [delta, change, newM, newV]
open Cert.Reference12Ideal Cert.Reference12Ideal.Gen in
theorem moment_m_at (g m : FVec Ideal S4x31x512 .f32) :
    addf (mulf (broadcastInDim S4x31x512 ![] bcast_S_S4x31x512 (constant S_ .f32 0x3F666666#32)) m) (mulf (broadcastInDim S4x31x512 ![] bcast_S_S4x31x512 (constant S_ .f32 0x3DCCCCCD#32)) g) = fun y => newM (g y) (m y) := by
  funext y
  pointwise [newM, newV]
open Cert.Reference12Ideal Cert.Reference12Ideal.Gen in
theorem moment_v_at (g v : FVec Ideal S4x31x512 .f32) :
    addf (mulf (broadcastInDim S4x31x512 ![] bcast_S_S4x31x512 (constant S_ .f32 0x3F7FBE77#32)) v) (mulf (broadcastInDim S4x31x512 ![] bcast_S_S4x31x512 (constant S_ .f32 0x3A83126F#32)) (mulf g g)) = fun y => newV (g y) (v y) := by
  funext y
  pointwise [newM, newV]

set_option maxHeartbeats 4000000 in
/-- Both programs end with the same four results. -/
theorem algebraic : Cert.algebraic_Kernel12Ideal_Reference12Ideal := by
  pair_intro
  · run_from Cert.Kernel12Ideal.Adam.run m g
  · run_from Cert.Reference12Ideal.Value.run m' g'
    · obtain ⟨h0, h1, h2, h3⟩ := hagree c
      exact change_at _ _ _ _
    · obtain ⟨h0, h1, h2, h3⟩ := hagree c
      exact moment_m_at _ _
    · obtain ⟨h0, h1, h2, h3⟩ := hagree c
      exact moment_v_at _ _

end Cert.Adam12

end
-- ==== Proof.Adam13.lean ====
/- The optimiser's step of the meta tokens: the kernel's four results are the reference's. -/
module

public import proofs.«01_k».proof.Defs
public import proofs.«01_k».proof.Proof.Adam
public import proofs.«01_k».proof.Proof.Gen.Kernel13Ideal.Frame
public import proofs.«01_k».proof.Proof.Gen.Reference13Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Adam

open Cert.Kernel13Ideal Cert.Kernel13Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S16x512 .f32) (y) : (k0_pay1 g m : FVec Ideal S16x512 .f32) y = newM (g y) (m y) := by
  pointwise [k0_pay1, k0_pay2, k0_pay3, newM]
theorem moment2 (g v : Vec Ideal S16x512 .f32) (y) : (k0_pay2 g v : FVec Ideal S16x512 .f32) y = newV (g y) (v y) := by
  pointwise [k0_pay1, k0_pay2, k0_pay3, newV]
theorem step (w g m v : Vec Ideal S16x512 .f32) (y) : (k0_pay3 g m v w : FVec Ideal S16x512 .f32) y = delta (w y) (g y) (m y) (v y) := by
  have e : (k0_pay3 g m v w : FVec Ideal S16x512 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, change, newM, newV]
  rw [e, named1, named2, Cert.Adam.first, Cert.Adam.second, delta]

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S16x512.Idx) : S16x512.Idx := ix2 (⟨t.val * 16 + (y 0).val, by have h1 : t.val < 1 := lt_of_lt_of_eq t.isLt N_0; have h2 : (y 0).val < 16 := (y 0).isLt; omega⟩ : Fin 16) (⟨(y 1).val, (y 1).isLt⟩ : Fin 512)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S16x512.Idx) : (show FVec Ideal S16x512 .f32 from iblk m c 0 t) y = (m ((c : Thread nD τ).loc main_arg0) : FVec Ideal S16x512 .f32) (pos t y) := by
  show (V m c main_arg0) (((cfg0.win 0).blk t).view.emb y) = _
  rw [emb0]
theorem read1 (c : Dev nD) (t : Fin cfg0.N) (y : S16x512.Idx) : (show FVec Ideal S16x512 .f32 from iblk m c 1 t) y = (m ((c : Thread nD τ).loc main_arg1) : FVec Ideal S16x512 .f32) (pos t y) := by
  show (V m c main_arg1) (((cfg0.win 1).blk t).view.emb y) = _
  rw [emb1]
theorem read2 (c : Dev nD) (t : Fin cfg0.N) (y : S16x512.Idx) : (show FVec Ideal S16x512 .f32 from iblk m c 2 t) y = (m ((c : Thread nD τ).loc main_arg2) : FVec Ideal S16x512 .f32) (pos t y) := by
  show (V m c main_arg2) (((cfg0.win 2).blk t).view.emb y) = _
  rw [emb2]
theorem read3 (c : Dev nD) (t : Fin cfg0.N) (y : S16x512.Idx) : (show FVec Ideal S16x512 .f32 from iblk m c 3 t) y = (m ((c : Thread nD τ).loc main_arg3) : FVec Ideal S16x512 .f32) (pos t y) := by
  show (V m c main_arg3) (((cfg0.win 3).blk t).view.emb y) = _
  rw [emb3]

/-- The four arrays after the run. -/
theorem final4 (c : Dev nD) : (dats m 0 c).arrAt 4 (cfgs 0).N = (m ((c : Thread nD τ).loc main_arg1) : FVec Ideal S16x512 .f32) := by
  refine (dats m 0 c).arrAt_eq_of_covers 4 _ (by decide +kernel) fun t _ y => ?_
  blk_simp
  rw [after0_4]; frame_out
  refine Eq.trans ?_ (congrArg (m ((c : Thread nD τ).loc main_arg1) : FVec Ideal S16x512 .f32) (emb4 t y).symm)
  exact read1 m c t y
theorem final5 (c : Dev nD) : (dats m 0 c).arrAt 5 (cfgs 0).N = (fun y => delta ((m ((c : Thread nD τ).loc main_arg0)) y) ((m ((c : Thread nD τ).loc main_arg1)) y) ((m ((c : Thread nD τ).loc main_arg2)) y) ((m ((c : Thread nD τ).loc main_arg3)) y) : FVec Ideal S16x512 .f32) := by
  refine (dats m 0 c).arrAt_eq_of_covers 5 _ (by decide +kernel) fun t _ y => ?_
  blk_simp
  rw [after0_5]; frame_out
  refine Eq.trans ?_ (congrArg (fun y => delta ((m ((c : Thread nD τ).loc main_arg0)) y) ((m ((c : Thread nD τ).loc main_arg1)) y) ((m ((c : Thread nD τ).loc main_arg2)) y) ((m ((c : Thread nD τ).loc main_arg3)) y) : FVec Ideal S16x512 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM ((m ((c : Thread nD τ).loc main_arg1)) y) ((m ((c : Thread nD τ).loc main_arg2)) y) : FVec Ideal S16x512 .f32) := by
  refine (dats m 0 c).arrAt_eq_of_covers 6 _ (by decide +kernel) fun t _ y => ?_
  blk_simp
  rw [after0_6]; frame_out
  refine Eq.trans ?_ (congrArg (fun y => newM ((m ((c : Thread nD τ).loc main_arg1)) y) ((m ((c : Thread nD τ).loc main_arg2)) y) : FVec Ideal S16x512 .f32) (emb6 t y).symm)
  rw [moment1]
  exact congr (congrArg newM (read1 m c t y)) (read2 m c t y)
theorem final7 (c : Dev nD) : (dats m 0 c).arrAt 7 (cfgs 0).N = (fun y => newV ((m ((c : Thread nD τ).loc main_arg1)) y) ((m ((c : Thread nD τ).loc main_arg3)) y) : FVec Ideal S16x512 .f32) := by
  refine (dats m 0 c).arrAt_eq_of_covers 7 _ (by decide +kernel) fun t _ y => ?_
  blk_simp
  rw [after0_7]; frame_out
  refine Eq.trans ?_ (congrArg (fun y => newV ((m ((c : Thread nD τ).loc main_arg1)) y) ((m ((c : Thread nD τ).loc main_arg3)) y) : FVec Ideal S16x512 .f32) (emb7 t y).symm)
  rw [moment2]
  exact congr (congrArg newV (read1 m c t y)) (read3 m c t y)

end Cert.Kernel13Ideal.Adam

namespace Cert.Adam13

open Cert.Adam (newM newV change delta)

/-- The reference terminates and leaves its arguments. -/
theorem frame_reference : Cert.quiescent_Reference13Ideal := fun m g _ =>
  (θ_run Cert.Reference13Ideal.defs _ _).mono (fun r h => ⟨fun c => (h c).2.2.2.2, sem_eq_zero_of_no_sems (by decide) r.2⟩)
    (Cert.Reference13Ideal.Value.run (F := Ideal) m g)

/-- The two named reciprocals are what the table says. -/
theorem preserves : Cert.preserves_Kernel13_Kernel13Ideal :=
  ⟨IdealRules.named_const.statement Cert.Kernel13Ideal.κ "c1" .f32 0x3FC48605#32 ((8388608 / 5463681 : ℝ) : EReal) rfl,
    IdealRules.named_const.statement Cert.Kernel13Ideal.κ "c2" .f32 0x42C8E6D3#32 ((268435456 / 2672307 : ℝ) : EReal) rfl⟩

open Cert.Reference13Ideal Cert.Reference13Ideal.Gen in
/-- The reference's terms, element by element. -/
theorem change_at (w g m v : FVec Ideal S16x512 .f32) :
    mulf (broadcastInDim S16x512 ![] bcast_S_S16x512 (constant S_ .f32 0xBA83126F#32)) (addf (Host.divf (Host.divf (addf (mulf (broadcastInDim S16x512 ![] bcast_S_S16x512 (constant S_ .f32 0x3F666666#32)) m) (mulf (broadcastInDim S16x512 ![] bcast_S_S16x512 (constant S_ .f32 0x3DCCCCCD#32)) g)) (broadcastInDim S16x512 ![] bcast_S_S16x512 (constant S_ .f32 0x3F26BD02#32))) (addf (Host.sqrt (Host.divf (addf (mulf (broadcastInDim S16x512 ![] bcast_S_S16x512 (constant S_ .f32 0x3F7FBE77#32)) v) (mulf (broadcastInDim S16x512 ![] bcast_S_S16x512 (constant S_ .f32 0x3A83126F#32)) (mulf g g))) (broadcastInDim S16x512 ![] bcast_S_S16x512 (constant S_ .f32 0x3C231ACC#32)))) (broadcastInDim S16x512 ![] bcast_S_S16x512 (constant S_ .f32 0x322BCC77#32)))) (mulf (broadcastInDim S16x512 ![] bcast_S_S16x512 (constant S_ .f32 0x3C23D70A#32)) w))
      = fun y => delta (w y) (g y) (m y) (v y) := by
  funext y
  pointwise [delta, change, newM, newV]
open Cert.Reference13Ideal Cert.Reference13Ideal.Gen in
theorem moment_m_at (g m : FVec Ideal S16x512 .f32) :
    addf (mulf (broadcastInDim S16x512 ![] bcast_S_S16x512 (constant S_ .f32 0x3F666666#32)) m) (mulf (broadcastInDim S16x512 ![] bcast_S_S16x512 (constant S_ .f32 0x3DCCCCCD#32)) g) = fun y => newM (g y) (m y) := by
  funext y
  pointwise [newM, newV]
open Cert.Reference13Ideal Cert.Reference13Ideal.Gen in
theorem moment_v_at (g v : FVec Ideal S16x512 .f32) :
    addf (mulf (broadcastInDim S16x512 ![] bcast_S_S16x512 (constant S_ .f32 0x3F7FBE77#32)) v) (mulf (broadcastInDim S16x512 ![] bcast_S_S16x512 (constant S_ .f32 0x3A83126F#32)) (mulf g g)) = fun y => newV (g y) (v y) := by
  funext y
  pointwise [newM, newV]

set_option maxHeartbeats 4000000 in
/-- Both programs end with the same four results. -/
theorem algebraic : Cert.algebraic_Kernel13Ideal_Reference13Ideal := by
  pair_intro
  · run_from Cert.Kernel13Ideal.Gen.run_main m g
  · run_from Cert.Reference13Ideal.Value.run m' g'
    · obtain ⟨h0, h1, h2, h3⟩ := hagree c
      refine Eq.trans ?_ (Cert.Kernel13Ideal.Adam.final4 m c).symm
      rw [← h1]
    · obtain ⟨h0, h1, h2, h3⟩ := hagree c
      refine Eq.trans ?_ (Cert.Kernel13Ideal.Adam.final5 m c).symm
      rw [← h0, ← h1, ← h2, ← h3]
      exact change_at _ _ _ _
    · obtain ⟨h0, h1, h2, h3⟩ := hagree c
      refine Eq.trans ?_ (Cert.Kernel13Ideal.Adam.final6 m c).symm
      rw [← h1, ← h2]
      exact moment_m_at _ _
    · obtain ⟨h0, h1, h2, h3⟩ := hagree c
      refine Eq.trans ?_ (Cert.Kernel13Ideal.Adam.final7 m c).symm
      rw [← h1, ← h3]
      exact moment_v_at _ _

end Cert.Adam13

end
-- ==== Proof.Adam14.lean ====
/- The optimiser's step of the final norm: the kernel's four results are the reference's. -/
module

public import proofs.«01_k».proof.Defs
public import proofs.«01_k».proof.Proof.Adam
public import proofs.«01_k».proof.Proof.Gen.Kernel14Ideal.Frame
public import proofs.«01_k».proof.Proof.Gen.Reference14Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Adam

open Cert.Kernel14Ideal Cert.Kernel14Ideal.Gen
open Cert.Adam (newM newV change delta)

variable (m : (ℓ : Loc nD τ sig) → Buf (Elt Ideal) ℓ)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The stored blocks, element by element. -/
theorem moment1 (g m : Vec Ideal S1x2048 .f32) (y) : (k0_pay3 g m : FVec Ideal S1x2048 .f32) y = newM (g y) (m y) := by
  pointwise [k0_pay1, k0_pay2, k0_pay3, k0_pay4, k0_pay5, newM]
theorem moment2 (g v : Vec Ideal S1x2048 .f32) (y) : (k0_pay4 g v : FVec Ideal S1x2048 .f32) y = newV (g y) (v y) := by
  pointwise [k0_pay1, k0_pay2, k0_pay3, k0_pay4, k0_pay5, newV]
theorem step (w g m v : Vec Ideal S1x2048 .f32) (y) : (k0_pay1 (k0_pay5 g m v w) (Scalar.ofBits .f32 0xBA83126F#32) : FVec Ideal S1x2048 .f32) y = delta (w y) (g y) (m y) (v y) := by
  have e : (k0_pay1 (k0_pay5 g m v w) (Scalar.ofBits .f32 0xBA83126F#32) : FVec Ideal S1x2048 .f32) y = change (w y) (newM (g y) (m y) * Named.named (F := Ideal) κ "c1" (φ := .f32) 0x3FC48605#32) (newV (g y) (v y) * Named.named (F := Ideal) κ "c2" (φ := .f32) 0x42C8E6D3#32) := by
    pointwise [k0_pay1, k0_pay2, k0_pay3, k0_pay4, k0_pay5, change, newM, newV]
  rw [e, named1, named2, Cert.Adam.first, Cert.Adam.second, delta]

/-- The arrays that the launch reads, as laid out in rows. -/
theorem rows0 (c : Dev nD) : V m c main_v0 = shapeCast S1x2048 (m ((c : Thread nD τ).loc main_arg0)) shapeCasts_S2048_S1x2048 := by
  entry_read; rfl
theorem rows1 (c : Dev nD) : V m c main_v1 = shapeCast S1x2048 (m ((c : Thread nD τ).loc main_arg1)) shapeCasts_S2048_S1x2048 := by
  entry_read; rfl
theorem rows2 (c : Dev nD) : V m c main_v2 = shapeCast S1x2048 (m ((c : Thread nD τ).loc main_arg2)) shapeCasts_S2048_S1x2048 := by
  entry_read; rfl
theorem rows3 (c : Dev nD) : V m c main_v3 = shapeCast S1x2048 (m ((c : Thread nD τ).loc main_arg3)) shapeCasts_S2048_S1x2048 := by
  entry_read; rfl

/-- Where each window's block lies: the same rows for all. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The place in the arrays of a block's element. -/
def pos (t : Fin cfg0.N) (y : S1x2048.Idx) : S1x2048.Idx := ix2 (⟨t.val * 1 + (y 0).val, by have h1 : t.val < 1 := lt_of_lt_of_eq t.isLt N_0; have h2 : (y 0).val < 1 := (y 0).isLt; omega⟩ : Fin 1) (⟨(y 1).val, (y 1).isLt⟩ : Fin 2048)

theorem emb0 (t : Fin cfg0.N) (y) : ((cfg0.win 0).blk t).view.emb y = pos t y := by
  unfold pos
  blk_ext [places t]
theorem emb1 (t : Fin cfg0.N) (y) : ((cfg0.win 1).blk t).view.emb y = pos t y := by
  unfold pos
  blk_ext [places t]
theorem emb2 (t : Fin cfg0.N) (y) : ((cfg0.win 2).blk t).view.emb y = pos t y := by
  unfold pos
  blk_ext [places t]
theorem emb3 (t : Fin cfg0.N) (y) : ((cfg0.win 3).blk t).view.emb y = pos t y := by
  unfold pos
  blk_ext [places t]
theorem emb4 (t : Fin cfg0.N) (y) : ((cfg0.win 4).blk t).view.emb y = pos t y := by
  unfold pos
  blk_ext [places t]
theorem emb5 (t : Fin cfg0.N) (y) : ((cfg0.win 5).blk t).view.emb y = pos t y := by
  unfold pos
  blk_ext [places t]
theorem emb6 (t : Fin cfg0.N) (y) : ((cfg0.win 6).blk t).view.emb y = pos t y := by
  unfold pos
  blk_ext [places t]
theorem emb7 (t : Fin cfg0.N) (y) : ((cfg0.win 7).blk t).view.emb y = pos t y := by
  unfold pos
  blk_ext [places t]
theorem read0 (c : Dev nD) (t : Fin cfg0.N) (y : S1x2048.Idx) : (show FVec Ideal S1x2048 .f32 from iblk m c 0 t) y = ((shapeCast S1x2048 (m ((c : Thread nD τ).loc main_arg0)) shapeCasts_S2048_S1x2048) : FVec Ideal S1x2048 .f32) (pos t y) := by
  show (V m c main_v0) (((cfg0.win 0).blk t).view.emb y) = _
  rw [emb0]
  rw [rows0]
theorem read1 (c : Dev nD) (t : Fin cfg0.N) (y : S1x2048.Idx) : (show FVec Ideal S1x2048 .f32 from iblk m c 1 t) y = ((shapeCast S1x2048 (m ((c : Thread nD τ).loc main_arg1)) shapeCasts_S2048_S1x2048) : FVec Ideal S1x2048 .f32) (pos t y) := by
  show (V m c main_v1) (((cfg0.win 1).blk t).view.emb y) = _
  rw [emb1]
  rw [rows1]
theorem read2 (c : Dev nD) (t : Fin cfg0.N) (y : S1x2048.Idx) : (show FVec Ideal S1x2048 .f32 from iblk m c 2 t) y = ((shapeCast S1x2048 (m ((c : Thread nD τ).loc main_arg2)) shapeCasts_S2048_S1x2048) : FVec Ideal S1x2048 .f32) (pos t y) := by
  show (V m c main_v2) (((cfg0.win 2).blk t).view.emb y) = _
  rw [emb2]
  rw [rows2]
theorem read3 (c : Dev nD) (t : Fin cfg0.N) (y : S1x2048.Idx) : (show FVec Ideal S1x2048 .f32 from iblk m c 3 t) y = ((shapeCast S1x2048 (m ((c : Thread nD τ).loc main_arg3)) shapeCasts_S2048_S1x2048) : FVec Ideal S1x2048 .f32) (pos t y) := by
  show (V m c main_v3) (((cfg0.win 3).blk t).view.emb y) = _
  rw [emb3]
  rw [rows3]

/-- The four arrays after the run. -/
theorem final4 (c : Dev nD) : (dats m 0 c).arrAt 4 (cfgs 0).N = ((shapeCast S1x2048 (m ((c : Thread nD τ).loc main_arg1)) shapeCasts_S2048_S1x2048) : FVec Ideal S1x2048 .f32) := by
  refine (dats m 0 c).arrAt_eq_of_covers 4 _ (by decide +kernel) fun t _ y => ?_
  blk_simp
  rw [after0_4]; frame_out
  refine Eq.trans ?_ (congrArg ((shapeCast S1x2048 (m ((c : Thread nD τ).loc main_arg1)) shapeCasts_S2048_S1x2048) : FVec Ideal S1x2048 .f32) (emb4 t y).symm)
  exact (show (k0_pay2 (F := Ideal) (iblk m c 1 t)) y = (show FVec Ideal S1x2048 .f32 from iblk m c 1 t) y by pointwise [k0_pay2]).trans (read1 m c t y)
theorem final5 (c : Dev nD) : (dats m 0 c).arrAt 5 (cfgs 0).N = (fun y => delta (((shapeCast S1x2048 (m ((c : Thread nD τ).loc main_arg0)) shapeCasts_S2048_S1x2048)) y) (((shapeCast S1x2048 (m ((c : Thread nD τ).loc main_arg1)) shapeCasts_S2048_S1x2048)) y) (((shapeCast S1x2048 (m ((c : Thread nD τ).loc main_arg2)) shapeCasts_S2048_S1x2048)) y) (((shapeCast S1x2048 (m ((c : Thread nD τ).loc main_arg3)) shapeCasts_S2048_S1x2048)) y) : FVec Ideal S1x2048 .f32) := by
  refine (dats m 0 c).arrAt_eq_of_covers 5 _ (by decide +kernel) fun t _ y => ?_
  blk_simp
  rw [after0_5]; frame_out
  refine Eq.trans ?_ (congrArg (fun y => delta (((shapeCast S1x2048 (m ((c : Thread nD τ).loc main_arg0)) shapeCasts_S2048_S1x2048)) y) (((shapeCast S1x2048 (m ((c : Thread nD τ).loc main_arg1)) shapeCasts_S2048_S1x2048)) y) (((shapeCast S1x2048 (m ((c : Thread nD τ).loc main_arg2)) shapeCasts_S2048_S1x2048)) y) (((shapeCast S1x2048 (m ((c : Thread nD τ).loc main_arg3)) shapeCasts_S2048_S1x2048)) y) : FVec Ideal S1x2048 .f32) (emb5 t y).symm)
  rw [step]
  exact congr (congr (congr (congrArg delta (read0 m c t y)) (read1 m c t y)) (read2 m c t y)) (read3 m c t y)
theorem final6 (c : Dev nD) : (dats m 0 c).arrAt 6 (cfgs 0).N = (fun y => newM (((shapeCast S1x2048 (m ((c : Thread nD τ).loc main_arg1)) shapeCasts_S2048_S1x2048)) y) (((shapeCast S1x2048 (m ((c : Thread nD τ).loc main_arg2)) shapeCasts_S2048_S1x2048)) y) : FVec Ideal S1x2048 .f32) := by
  refine (dats m 0 c).arrAt_eq_of_covers 6 _ (by decide +kernel) fun t _ y => ?_
  blk_simp
  rw [after0_6]; frame_out
  refine Eq.trans ?_ (congrArg (fun y => newM (((shapeCast S1x2048 (m ((c : Thread nD τ).loc main_arg1)) shapeCasts_S2048_S1x2048)) y) (((shapeCast S1x2048 (m ((c : Thread nD τ).loc main_arg2)) shapeCasts_S2048_S1x2048)) y) : FVec Ideal S1x2048 .f32) (emb6 t y).symm)
  rw [moment1]
  exact congr (congrArg newM (read1 m c t y)) (read2 m c t y)
theorem final7 (c : Dev nD) : (dats m 0 c).arrAt 7 (cfgs 0).N = (fun y => newV (((shapeCast S1x2048 (m ((c : Thread nD τ).loc main_arg1)) shapeCasts_S2048_S1x2048)) y) (((shapeCast S1x2048 (m ((c : Thread nD τ).loc main_arg3)) shapeCasts_S2048_S1x2048)) y) : FVec Ideal S1x2048 .f32) := by
  refine (dats m 0 c).arrAt_eq_of_covers 7 _ (by decide +kernel) fun t _ y => ?_
  blk_simp
  rw [after0_7]; frame_out
  refine Eq.trans ?_ (congrArg (fun y => newV (((shapeCast S1x2048 (m ((c : Thread nD τ).loc main_arg1)) shapeCasts_S2048_S1x2048)) y) (((shapeCast S1x2048 (m ((c : Thread nD τ).loc main_arg3)) shapeCasts_S2048_S1x2048)) y) : FVec Ideal S1x2048 .f32) (emb7 t y).symm)
  rw [moment2]
  exact congr (congrArg newV (read1 m c t y)) (read3 m c t y)

/-- The four results are the arrays, laid out as the weight is. -/
theorem result0 (c : Dev nD) : Pipeline.afterTail₀ cfgs (dats m) 0 (V0 m) [hostOps1] c main_v5
    = shapeCast S2048 (show FVec Ideal S1x2048 .f32 from (dats m 0 c).arrAt 4 (cfgs 0).N) shapeCasts_S1x2048_S2048 := by
  unfold Pipeline.afterTail₀
  have e := Pipeline.withArrays_arr spec0 winFacts0.arr_inj c (V0 m c) (fun w => (dats m 0 c).arrAt w (cfgs 0).N) 4
  simp only [hostOps1, List.flatten_cons, List.flatten_nil, List.append_nil]
  after_results_simp
  exact congrArg (fun X : FVec Ideal S1x2048 .f32 => shapeCast S2048 X shapeCasts_S1x2048_S2048) e
theorem result1 (c : Dev nD) : Pipeline.afterTail₀ cfgs (dats m) 0 (V0 m) [hostOps1] c main_v6
    = shapeCast S2048 (show FVec Ideal S1x2048 .f32 from (dats m 0 c).arrAt 5 (cfgs 0).N) shapeCasts_S1x2048_S2048 := by
  unfold Pipeline.afterTail₀
  have e := Pipeline.withArrays_arr spec0 winFacts0.arr_inj c (V0 m c) (fun w => (dats m 0 c).arrAt w (cfgs 0).N) 5
  simp only [hostOps1, List.flatten_cons, List.flatten_nil, List.append_nil]
  after_results_simp
  exact congrArg (fun X : FVec Ideal S1x2048 .f32 => shapeCast S2048 X shapeCasts_S1x2048_S2048) e
theorem result2 (c : Dev nD) : Pipeline.afterTail₀ cfgs (dats m) 0 (V0 m) [hostOps1] c main_v7
    = shapeCast S2048 (show FVec Ideal S1x2048 .f32 from (dats m 0 c).arrAt 6 (cfgs 0).N) shapeCasts_S1x2048_S2048 := by
  unfold Pipeline.afterTail₀
  have e := Pipeline.withArrays_arr spec0 winFacts0.arr_inj c (V0 m c) (fun w => (dats m 0 c).arrAt w (cfgs 0).N) 6
  simp only [hostOps1, List.flatten_cons, List.flatten_nil, List.append_nil]
  after_results_simp
  exact congrArg (fun X : FVec Ideal S1x2048 .f32 => shapeCast S2048 X shapeCasts_S1x2048_S2048) e
theorem result3 (c : Dev nD) : Pipeline.afterTail₀ cfgs (dats m) 0 (V0 m) [hostOps1] c main_v8
    = shapeCast S2048 (show FVec Ideal S1x2048 .f32 from (dats m 0 c).arrAt 7 (cfgs 0).N) shapeCasts_S1x2048_S2048 := by
  unfold Pipeline.afterTail₀
  have e := Pipeline.withArrays_arr spec0 winFacts0.arr_inj c (V0 m c) (fun w => (dats m 0 c).arrAt w (cfgs 0).N) 7
  simp only [hostOps1, List.flatten_cons, List.flatten_nil, List.append_nil]
  after_results_simp
  exact congrArg (fun X : FVec Ideal S1x2048 .f32 => shapeCast S2048 X shapeCasts_S1x2048_S2048) e

/-- The run, with the results over the arguments. -/
theorem value0 (c : Dev nD) : Pipeline.afterTail₀ cfgs (dats m) 0 (V0 m) [hostOps1] c main_v5 = (m ((c : Thread nD τ).loc main_arg1) : FVec Ideal S2048 .f32) :=
  (result0 m c).trans ((congrArg (fun X : FVec Ideal S1x2048 .f32 => shapeCast S2048 X shapeCasts_S1x2048_S2048) (final4 m c)).trans
    (shapeCast_shapeCast _ _ _))
theorem value1 (c : Dev nD) : Pipeline.afterTail₀ cfgs (dats m) 0 (V0 m) [hostOps1] c main_v6 = (fun y => delta ((m ((c : Thread nD τ).loc main_arg0)) y) ((m ((c : Thread nD τ).loc main_arg1)) y) ((m ((c : Thread nD τ).loc main_arg2)) y) ((m ((c : Thread nD τ).loc main_arg3)) y) : FVec Ideal S2048 .f32) :=
  (result1 m c).trans ((congrArg (fun X : FVec Ideal S1x2048 .f32 => shapeCast S2048 X shapeCasts_S1x2048_S2048) (final5 m c)).trans
    (funext fun y => congr (congr (congr (congrArg delta (congrFun (shapeCast_shapeCast (m ((c : Thread nD τ).loc main_arg0)) shapeCasts_S2048_S1x2048 shapeCasts_S1x2048_S2048) y)) (congrFun (shapeCast_shapeCast (m ((c : Thread nD τ).loc main_arg1)) shapeCasts_S2048_S1x2048 shapeCasts_S1x2048_S2048) y)) (congrFun (shapeCast_shapeCast (m ((c : Thread nD τ).loc main_arg2)) shapeCasts_S2048_S1x2048 shapeCasts_S1x2048_S2048) y)) (congrFun (shapeCast_shapeCast (m ((c : Thread nD τ).loc main_arg3)) shapeCasts_S2048_S1x2048 shapeCasts_S1x2048_S2048) y)))
theorem value2 (c : Dev nD) : Pipeline.afterTail₀ cfgs (dats m) 0 (V0 m) [hostOps1] c main_v7 = (fun y => newM ((m ((c : Thread nD τ).loc main_arg1)) y) ((m ((c : Thread nD τ).loc main_arg2)) y) : FVec Ideal S2048 .f32) :=
  (result2 m c).trans ((congrArg (fun X : FVec Ideal S1x2048 .f32 => shapeCast S2048 X shapeCasts_S1x2048_S2048) (final6 m c)).trans
    (funext fun y => congr (congrArg newM (congrFun (shapeCast_shapeCast (m ((c : Thread nD τ).loc main_arg1)) shapeCasts_S2048_S1x2048 shapeCasts_S1x2048_S2048) y)) (congrFun (shapeCast_shapeCast (m ((c : Thread nD τ).loc main_arg2)) shapeCasts_S2048_S1x2048 shapeCasts_S1x2048_S2048) y)))
theorem value3 (c : Dev nD) : Pipeline.afterTail₀ cfgs (dats m) 0 (V0 m) [hostOps1] c main_v8 = (fun y => newV ((m ((c : Thread nD τ).loc main_arg1)) y) ((m ((c : Thread nD τ).loc main_arg3)) y) : FVec Ideal S2048 .f32) :=
  (result3 m c).trans ((congrArg (fun X : FVec Ideal S1x2048 .f32 => shapeCast S2048 X shapeCasts_S1x2048_S2048) (final7 m c)).trans
    (funext fun y => congr (congrArg newV (congrFun (shapeCast_shapeCast (m ((c : Thread nD τ).loc main_arg1)) shapeCasts_S2048_S1x2048 shapeCasts_S1x2048_S2048) y)) (congrFun (shapeCast_shapeCast (m ((c : Thread nD τ).loc main_arg3)) shapeCasts_S2048_S1x2048 shapeCasts_S1x2048_S2048) y)))

theorem run (ρ : Dev nD → PrngReg) : θ_run defs (onTc (τ := τ) (main (F := Ideal))) ⟨m, fun _ => 0, ρ⟩ (fun r => ∀ c : Dev nD,
      r.2.mem ((c.tc : Thread nD τ).loc main_v5) = (m ((c : Thread nD τ).loc main_arg1) : FVec Ideal S2048 .f32)
      ∧ r.2.mem ((c.tc : Thread nD τ).loc main_v6) = (fun y => delta ((m ((c : Thread nD τ).loc main_arg0)) y) ((m ((c : Thread nD τ).loc main_arg1)) y) ((m ((c : Thread nD τ).loc main_arg2)) y) ((m ((c : Thread nD τ).loc main_arg3)) y) : FVec Ideal S2048 .f32)
      ∧ r.2.mem ((c.tc : Thread nD τ).loc main_v7) = (fun y => newM ((m ((c : Thread nD τ).loc main_arg1)) y) ((m ((c : Thread nD τ).loc main_arg2)) y) : FVec Ideal S2048 .f32)
      ∧ r.2.mem ((c.tc : Thread nD τ).loc main_v8) = (fun y => newV ((m ((c : Thread nD τ).loc main_arg1)) y) ((m ((c : Thread nD τ).loc main_arg3)) y) : FVec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (value0 m c),
    ((h c).2 main_v6 (Pipeline.mem_restRefs_of main_v6 (by decide) (by decide))).trans (value1 m c),
    ((h c).2 main_v7 (Pipeline.mem_restRefs_of main_v7 (by decide) (by decide))).trans (value2 m c),
    ((h c).2 main_v8 (Pipeline.mem_restRefs_of main_v8 (by decide) (by decide))).trans (value3 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel14Ideal.Adam

namespace Cert.Adam14

open Cert.Adam (newM newV change delta)

/-- The reference terminates and leaves its arguments. -/
theorem frame_reference : Cert.quiescent_Reference14Ideal := fun m g _ =>
  (θ_run Cert.Reference14Ideal.defs _ _).mono (fun r h => ⟨fun c => (h c).2.2.2.2, sem_eq_zero_of_no_sems (by decide) r.2⟩)
    (Cert.Reference14Ideal.Value.run (F := Ideal) m g)

/-- The two named reciprocals are what the table says. -/
theorem preserves : Cert.preserves_Kernel14_Kernel14Ideal :=
  ⟨IdealRules.named_const.statement Cert.Kernel14Ideal.κ "c1" .f32 0x3FC48605#32 ((8388608 / 5463681 : ℝ) : EReal) rfl,
    IdealRules.named_const.statement Cert.Kernel14Ideal.κ "c2" .f32 0x42C8E6D3#32 ((268435456 / 2672307 : ℝ) : EReal) rfl⟩

open Cert.Reference14Ideal Cert.Reference14Ideal.Gen in
/-- The reference's terms, element by element. -/
theorem change_at (w g m v : FVec Ideal S2048 .f32) :
    mulf (broadcastInDim S2048 ![] bcast_S_S2048 (constant S_ .f32 0xBA83126F#32)) (addf (Host.divf (Host.divf (addf (mulf (broadcastInDim S2048 ![] bcast_S_S2048 (constant S_ .f32 0x3F666666#32)) m) (mulf (broadcastInDim S2048 ![] bcast_S_S2048 (constant S_ .f32 0x3DCCCCCD#32)) g)) (broadcastInDim S2048 ![] bcast_S_S2048 (constant S_ .f32 0x3F26BD02#32))) (addf (Host.sqrt (Host.divf (addf (mulf (broadcastInDim S2048 ![] bcast_S_S2048 (constant S_ .f32 0x3F7FBE77#32)) v) (mulf (broadcastInDim S2048 ![] bcast_S_S2048 (constant S_ .f32 0x3A83126F#32)) (mulf g g))) (broadcastInDim S2048 ![] bcast_S_S2048 (constant S_ .f32 0x3C231ACC#32)))) (broadcastInDim S2048 ![] bcast_S_S2048 (constant S_ .f32 0x322BCC77#32)))) (mulf (broadcastInDim S2048 ![] bcast_S_S2048 (constant S_ .f32 0x3C23D70A#32)) w))
      = fun y => delta (w y) (g y) (m y) (v y) := by
  funext y
  pointwise [delta, change, newM, newV]
open Cert.Reference14Ideal Cert.Reference14Ideal.Gen in
theorem moment_m_at (g m : FVec Ideal S2048 .f32) :
    addf (mulf (broadcastInDim S2048 ![] bcast_S_S2048 (constant S_ .f32 0x3F666666#32)) m) (mulf (broadcastInDim S2048 ![] bcast_S_S2048 (constant S_ .f32 0x3DCCCCCD#32)) g) = fun y => newM (g y) (m y) := by
  funext y
  pointwise [newM, newV]
open Cert.Reference14Ideal Cert.Reference14Ideal.Gen in
theorem moment_v_at (g v : FVec Ideal S2048 .f32) :
    addf (mulf (broadcastInDim S2048 ![] bcast_S_S2048 (constant S_ .f32 0x3F7FBE77#32)) v) (mulf (broadcastInDim S2048 ![] bcast_S_S2048 (constant S_ .f32 0x3A83126F#32)) (mulf g g)) = fun y => newV (g y) (v y) := by
  funext y
  pointwise [newM, newV]

set_option maxHeartbeats 4000000 in
/-- Both programs end with the same four results. -/
theorem algebraic : Cert.algebraic_Kernel14Ideal_Reference14Ideal := by
  pair_intro
  · run_from Cert.Kernel14Ideal.Adam.run m g
  · run_from Cert.Reference14Ideal.Value.run m' g'
    · obtain ⟨h0, h1, h2, h3⟩ := hagree c
      exact change_at _ _ _ _
    · obtain ⟨h0, h1, h2, h3⟩ := hagree c
      exact moment_m_at _ _
    · obtain ⟨h0, h1, h2, h3⟩ := hagree c
      exact moment_v_at _ _

end Cert.Adam14

end
-- ==== Proof.Layers16Path.lean ====
/- What one point of the optimiser's step of four stacked layers leaves, by the half it reads (program 16). -/
module

public import proofs.«01_k».proof.Defs
public import proofs.«01_k».proof.Proof.Adam
public import proofs.«01_k».proof.Proof.Gen.Kernel16Ideal.Flash

@[expose] public section

set_option maxRecDepth 16384

noncomputable section

open Idealize.ShloMosaic Idealize.ShloMosaic.TcCoe Idealize.SL.Sem
open Idealize.ShloMosaic.Pipeline (Dat)

namespace Cert.Kernel16Ideal.Layers

open Cert.Kernel16Ideal Cert.Kernel16Ideal.Gen
open Cert.Adam (newM newV change delta)

variable (ch : Fin 2) (m : (ℓ : Loc nD τ sig) → Buf (Elt Ideal) ℓ) (ρ : Dev nD → PrngReg)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The place in a flat block. -/
def flat (y : S1x128x2048.Idx) : S128x2048.Idx := ix2 (⟨(y 1).val, (y 1).isLt⟩ : Fin 128) (⟨(y 2).val, (y 2).isLt⟩ : Fin 2048)

/-- What a point leaves, of its blocks of the weights, the moments and the gradient. -/
def stored (w m v : FVec Ideal S1x128x2048 .f32) (g : FVec Ideal S128x2048 .f32) : (S1x128x2048.Idx → EReal) × (S1x128x2048.Idx → EReal) × (S1x128x2048.Idx → EReal) × (S1x128x2048.Idx → EReal) :=
  (fun y => g (flat y), fun y => delta (w y) (g (flat y)) (m y) (v y), fun y => newM (g (flat y)) (m y), fun y => newV (g (flat y)) (v y))

/-- Path A: the gradient is window 3's block. -/
theorem pathA (c : Dev nD) (t : Fin (cfgA ch).N) (prev) (q0 : P0_0 ch t) : step0 ch m ρ c t prev = stored (iblk ch m ρ c 0 t) (iblk ch m ρ c 1 t) (iblk ch m ρ c 2 t) (iblk ch m ρ c 3 t) := by
  rw [step0_A ch m ρ c t prev q0]
  unfold stored
  refine Prod.ext ?_ (Prod.ext ?_ (Prod.ext ?_ ?_)) <;> funext y
  · frame_out
    rw [View.read_rep]
    generalize iblk ch m ρ c 3 t = g
    pointwise [k0_pay6, k0_pay7, k0_pay8, k0_pay9, k0_pay10, k0_pay11, flat]
  · frame_out
    simp only [View.read_rep]
    generalize iblk ch m ρ c 3 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay6, k0_pay7, k0_pay8, k0_pay9, k0_pay10, k0_pay11, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 3 t = g, iblk ch m ρ c 1 t = a
    pointwise [k0_pay6, k0_pay7, k0_pay8, k0_pay9, k0_pay10, k0_pay11, newM, flat]
  · frame_out
    simp only [View.read_rep]
    generalize iblk ch m ρ c 3 t = g, iblk ch m ρ c 2 t = b
    pointwise [k0_pay6, k0_pay7, k0_pay8, k0_pay9, k0_pay10, k0_pay11, newV, flat]

/-- Path B: the gradient is window 4's block. -/
theorem pathB (c : Dev nD) (t : Fin (cfgA ch).N) (prev) (q0 : ¬P0_0 ch t) (q1 : P0_1 ch t) : step0 ch m ρ c t prev = stored (iblk ch m ρ c 0 t) (iblk ch m ρ c 1 t) (iblk ch m ρ c 2 t) (iblk ch m ρ c 4 t) := by
  rw [step0_B ch m ρ c t prev q0 q1]
  unfold stored
  refine Prod.ext ?_ (Prod.ext ?_ (Prod.ext ?_ ?_)) <;> funext y
  · frame_out
    rw [View.read_rep]
    generalize iblk ch m ρ c 4 t = g
    pointwise [k0_pay12, k0_pay13, k0_pay14, k0_pay15, k0_pay16, k0_pay17, flat]
  · frame_out
    simp only [View.read_rep]
    generalize iblk ch m ρ c 4 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay12, k0_pay13, k0_pay14, k0_pay15, k0_pay16, k0_pay17, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 4 t = g, iblk ch m ρ c 1 t = a
    pointwise [k0_pay12, k0_pay13, k0_pay14, k0_pay15, k0_pay16, k0_pay17, newM, flat]
  · frame_out
    simp only [View.read_rep]
    generalize iblk ch m ρ c 4 t = g, iblk ch m ρ c 2 t = b
    pointwise [k0_pay12, k0_pay13, k0_pay14, k0_pay15, k0_pay16, k0_pay17, newV, flat]

/-- Path C: the gradient is window 5's block. -/
theorem pathC (c : Dev nD) (t : Fin (cfgA ch).N) (prev) (q0 : ¬P0_0 ch t) (q1 : ¬P0_1 ch t) (q2 : P0_2 ch t) : step0 ch m ρ c t prev = stored (iblk ch m ρ c 0 t) (iblk ch m ρ c 1 t) (iblk ch m ρ c 2 t) (iblk ch m ρ c 5 t) := by
  rw [step0_C ch m ρ c t prev q0 q1 q2]
  unfold stored
  refine Prod.ext ?_ (Prod.ext ?_ (Prod.ext ?_ ?_)) <;> funext y
  · frame_out
    rw [View.read_rep]
    generalize iblk ch m ρ c 5 t = g
    pointwise [k0_pay18, k0_pay19, k0_pay20, k0_pay21, k0_pay22, k0_pay23, flat]
  · frame_out
    simp only [View.read_rep]
    generalize iblk ch m ρ c 5 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay18, k0_pay19, k0_pay20, k0_pay21, k0_pay22, k0_pay23, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 5 t = g, iblk ch m ρ c 1 t = a
    pointwise [k0_pay18, k0_pay19, k0_pay20, k0_pay21, k0_pay22, k0_pay23, newM, flat]
  · frame_out
    simp only [View.read_rep]
    generalize iblk ch m ρ c 5 t = g, iblk ch m ρ c 2 t = b
    pointwise [k0_pay18, k0_pay19, k0_pay20, k0_pay21, k0_pay22, k0_pay23, newV, flat]

/-- Path D: the gradient is window 6's block. -/
theorem pathD (c : Dev nD) (t : Fin (cfgA ch).N) (prev) (q0 : ¬P0_0 ch t) (q1 : ¬P0_1 ch t) (q2 : ¬P0_2 ch t) (q3 : P0_3 ch t) : step0 ch m ρ c t prev = stored (iblk ch m ρ c 0 t) (iblk ch m ρ c 1 t) (iblk ch m ρ c 2 t) (iblk ch m ρ c 6 t) := by
  rw [step0_D ch m ρ c t prev q0 q1 q2 q3]
  unfold stored
  refine Prod.ext ?_ (Prod.ext ?_ (Prod.ext ?_ ?_)) <;> funext y
  · frame_out
    rw [View.read_rep]
    generalize iblk ch m ρ c 6 t = g
    pointwise [k0_pay24, k0_pay25, k0_pay26, k0_pay27, k0_pay28, k0_pay29, flat]
  · frame_out
    simp only [View.read_rep]
    generalize iblk ch m ρ c 6 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay24, k0_pay25, k0_pay26, k0_pay27, k0_pay28, k0_pay29, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 6 t = g, iblk ch m ρ c 1 t = a
    pointwise [k0_pay24, k0_pay25, k0_pay26, k0_pay27, k0_pay28, k0_pay29, newM, flat]
  · frame_out
    simp only [View.read_rep]
    generalize iblk ch m ρ c 6 t = g, iblk ch m ρ c 2 t = b
    pointwise [k0_pay24, k0_pay25, k0_pay26, k0_pay27, k0_pay28, k0_pay29, newV, flat]

/-- Path E: the gradient is window 7's block. -/
theorem pathE (c : Dev nD) (t : Fin (cfgA ch).N) (prev) (q0 : ¬P0_0 ch t) (q1 : ¬P0_1 ch t) (q2 : ¬P0_2 ch t) (q3 : ¬P0_3 ch t) (q4 : P0_4 ch t) : step0 ch m ρ c t prev = stored (iblk ch m ρ c 0 t) (iblk ch m ρ c 1 t) (iblk ch m ρ c 2 t) (iblk ch m ρ c 7 t) := by
  rw [step0_E ch m ρ c t prev q0 q1 q2 q3 q4]
  unfold stored
  refine Prod.ext ?_ (Prod.ext ?_ (Prod.ext ?_ ?_)) <;> funext y
  · frame_out
    rw [View.read_rep]
    generalize iblk ch m ρ c 7 t = g
    pointwise [k0_pay30, k0_pay31, k0_pay32, k0_pay33, k0_pay34, k0_pay35, flat]
  · frame_out
    simp only [View.read_rep]
    generalize iblk ch m ρ c 7 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay30, k0_pay31, k0_pay32, k0_pay33, k0_pay34, k0_pay35, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 7 t = g, iblk ch m ρ c 1 t = a
    pointwise [k0_pay30, k0_pay31, k0_pay32, k0_pay33, k0_pay34, k0_pay35, newM, flat]
  · frame_out
    simp only [View.read_rep]
    generalize iblk ch m ρ c 7 t = g, iblk ch m ρ c 2 t = b
    pointwise [k0_pay30, k0_pay31, k0_pay32, k0_pay33, k0_pay34, k0_pay35, newV, flat]

/-- Path F: the gradient is window 8's block. -/
theorem pathF (c : Dev nD) (t : Fin (cfgA ch).N) (prev) (q0 : ¬P0_0 ch t) (q1 : ¬P0_1 ch t) (q2 : ¬P0_2 ch t) (q3 : ¬P0_3 ch t) (q4 : ¬P0_4 ch t) (q5 : P0_5 ch t) : step0 ch m ρ c t prev = stored (iblk ch m ρ c 0 t) (iblk ch m ρ c 1 t) (iblk ch m ρ c 2 t) (iblk ch m ρ c 8 t) := by
  rw [step0_F ch m ρ c t prev q0 q1 q2 q3 q4 q5]
  unfold stored
  refine Prod.ext ?_ (Prod.ext ?_ (Prod.ext ?_ ?_)) <;> funext y
  · frame_out
    rw [View.read_rep]
    generalize iblk ch m ρ c 8 t = g
    pointwise [k0_pay36, k0_pay37, k0_pay38, k0_pay39, k0_pay40, k0_pay41, flat]
  · frame_out
    simp only [View.read_rep]
    generalize iblk ch m ρ c 8 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay36, k0_pay37, k0_pay38, k0_pay39, k0_pay40, k0_pay41, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 8 t = g, iblk ch m ρ c 1 t = a
    pointwise [k0_pay36, k0_pay37, k0_pay38, k0_pay39, k0_pay40, k0_pay41, newM, flat]
  · frame_out
    simp only [View.read_rep]
    generalize iblk ch m ρ c 8 t = g, iblk ch m ρ c 2 t = b
    pointwise [k0_pay36, k0_pay37, k0_pay38, k0_pay39, k0_pay40, k0_pay41, newV, flat]

/-- Path G: the gradient is window 9's block. -/
theorem pathG (c : Dev nD) (t : Fin (cfgA ch).N) (prev) (q0 : ¬P0_0 ch t) (q1 : ¬P0_1 ch t) (q2 : ¬P0_2 ch t) (q3 : ¬P0_3 ch t) (q4 : ¬P0_4 ch t) (q5 : ¬P0_5 ch t) (q6 : P0_6 ch t) : step0 ch m ρ c t prev = stored (iblk ch m ρ c 0 t) (iblk ch m ρ c 1 t) (iblk ch m ρ c 2 t) (iblk ch m ρ c 9 t) := by
  rw [step0_G ch m ρ c t prev q0 q1 q2 q3 q4 q5 q6]
  unfold stored
  refine Prod.ext ?_ (Prod.ext ?_ (Prod.ext ?_ ?_)) <;> funext y
  · frame_out
    rw [View.read_rep]
    generalize iblk ch m ρ c 9 t = g
    pointwise [k0_pay42, k0_pay43, k0_pay44, k0_pay45, k0_pay46, k0_pay47, flat]
  · frame_out
    simp only [View.read_rep]
    generalize iblk ch m ρ c 9 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay42, k0_pay43, k0_pay44, k0_pay45, k0_pay46, k0_pay47, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 9 t = g, iblk ch m ρ c 1 t = a
    pointwise [k0_pay42, k0_pay43, k0_pay44, k0_pay45, k0_pay46, k0_pay47, newM, flat]
  · frame_out
    simp only [View.read_rep]
    generalize iblk ch m ρ c 9 t = g, iblk ch m ρ c 2 t = b
    pointwise [k0_pay42, k0_pay43, k0_pay44, k0_pay45, k0_pay46, k0_pay47, newV, flat]

/-- Path H: the gradient is window 10's block. -/
theorem pathH (c : Dev nD) (t : Fin (cfgA ch).N) (prev) (q0 : ¬P0_0 ch t) (q1 : ¬P0_1 ch t) (q2 : ¬P0_2 ch t) (q3 : ¬P0_3 ch t) (q4 : ¬P0_4 ch t) (q5 : ¬P0_5 ch t) (q6 : ¬P0_6 ch t) : step0 ch m ρ c t prev = stored (iblk ch m ρ c 0 t) (iblk ch m ρ c 1 t) (iblk ch m ρ c 2 t) (iblk ch m ρ c 10 t) := by
  rw [step0_H ch m ρ c t prev q0 q1 q2 q3 q4 q5 q6]
  unfold stored
  refine Prod.ext ?_ (Prod.ext ?_ (Prod.ext ?_ ?_)) <;> funext y
  · frame_out
    rw [View.read_rep]
    generalize iblk ch m ρ c 10 t = g
    pointwise [k0_pay48, k0_pay49, k0_pay50, k0_pay51, k0_pay52, k0_pay53, flat]
  · frame_out
    simp only [View.read_rep]
    generalize iblk ch m ρ c 10 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay48, k0_pay49, k0_pay50, k0_pay51, k0_pay52, k0_pay53, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 10 t = g, iblk ch m ρ c 1 t = a
    pointwise [k0_pay48, k0_pay49, k0_pay50, k0_pay51, k0_pay52, k0_pay53, newM, flat]
  · frame_out
    simp only [View.read_rep]
    generalize iblk ch m ρ c 10 t = g, iblk ch m ρ c 2 t = b
    pointwise [k0_pay48, k0_pay49, k0_pay50, k0_pay51, k0_pay52, k0_pay53, newV, flat]

end Cert.Kernel16Ideal.Layers

end
-- ==== Proof.Layers16Places.lean ====
/- The four arrays after the optimiser's step of four stacked layers (program 16). -/
module

public import proofs.«01_k».proof.Defs
public import proofs.«01_k».proof.Proof.Layers16Path

@[expose] public section

set_option maxRecDepth 16384

noncomputable section

open Idealize.ShloMosaic Idealize.ShloMosaic.TcCoe Idealize.SL.Sem
open Idealize.ShloMosaic.Pipeline (Dat)

set_option synthInstance.maxSize 4096
set_option synthInstance.maxHeartbeats 1000000

namespace Cert.Kernel16Ideal.Layers

open Cert.Kernel16Ideal Cert.Kernel16Ideal.Gen
open Cert.Adam (newM newV change delta)

variable (ch : Fin 2) (m : (ℓ : Loc nD τ sig) → Buf (Elt Ideal) ℓ) (ρ : Dev nD → PrngReg)

/-- Where a point's block of a stacked array lies. -/
abbrev Stacked (ch : Fin 2) (w : Fin 15) (h : (((cfgA ch).win w).shape.rank = 3)) (t : Fin (cfgA ch).N) : Prop :=
  ((cfgA ch).win w).index t (Fin.cast h.symm 0) = t.val / 4 ∧ ((cfgA ch).win w).index t (Fin.cast h.symm 1) = t.val % 4 ∧ ((cfgA ch).win w).index t (Fin.cast h.symm 2) = 0

/-- Which half each point reads, and where its blocks lie. -/
abbrev At (ch : Fin 2) (t : Fin (cfgA ch).N) : Prop :=
  (Stacked ch 0 rfl t)
  ∧ (Stacked ch 1 rfl t)
  ∧ (Stacked ch 2 rfl t)
  ∧ (Stacked ch 11 rfl t)
  ∧ (Stacked ch 12 rfl t)
  ∧ (Stacked ch 13 rfl t)
  ∧ (Stacked ch 14 rfl t)
  ∧ (P0_0 ch t ↔ t.val / 4 = 0 ∧ t.val % 4 / 2 = ch.val)
  ∧ (t.val / 4 = 0 ∧ t.val % 4 / 2 = ch.val → ((cfgA ch).win 3).index t (0 : Fin 2) = t.val % 2 ∧ ((cfgA ch).win 3).index t (1 : Fin 2) = 0)
  ∧ (P0_1 ch t ↔ t.val / 4 = 0 ∧ t.val % 4 / 2 ≠ ch.val)
  ∧ (t.val / 4 = 0 ∧ t.val % 4 / 2 ≠ ch.val → ((cfgA ch).win 4).index t (0 : Fin 2) = t.val % 2 ∧ ((cfgA ch).win 4).index t (1 : Fin 2) = 0)
  ∧ (P0_2 ch t ↔ t.val / 4 = 1 ∧ t.val % 4 / 2 = ch.val)
  ∧ (t.val / 4 = 1 ∧ t.val % 4 / 2 = ch.val → ((cfgA ch).win 5).index t (0 : Fin 2) = t.val % 2 ∧ ((cfgA ch).win 5).index t (1 : Fin 2) = 0)
  ∧ (P0_3 ch t ↔ t.val / 4 = 1 ∧ t.val % 4 / 2 ≠ ch.val)
  ∧ (t.val / 4 = 1 ∧ t.val % 4 / 2 ≠ ch.val → ((cfgA ch).win 6).index t (0 : Fin 2) = t.val % 2 ∧ ((cfgA ch).win 6).index t (1 : Fin 2) = 0)
  ∧ (P0_4 ch t ↔ t.val / 4 = 2 ∧ t.val % 4 / 2 = ch.val)
  ∧ (t.val / 4 = 2 ∧ t.val % 4 / 2 = ch.val → ((cfgA ch).win 7).index t (0 : Fin 2) = t.val % 2 ∧ ((cfgA ch).win 7).index t (1 : Fin 2) = 0)
  ∧ (P0_5 ch t ↔ t.val / 4 = 2 ∧ t.val % 4 / 2 ≠ ch.val)
  ∧ (t.val / 4 = 2 ∧ t.val % 4 / 2 ≠ ch.val → ((cfgA ch).win 8).index t (0 : Fin 2) = t.val % 2 ∧ ((cfgA ch).win 8).index t (1 : Fin 2) = 0)
  ∧ (P0_6 ch t ↔ t.val / 4 = 3 ∧ t.val % 4 / 2 = ch.val)
  ∧ (t.val / 4 = 3 ∧ t.val % 4 / 2 = ch.val → ((cfgA ch).win 9).index t (0 : Fin 2) = t.val % 2 ∧ ((cfgA ch).win 9).index t (1 : Fin 2) = 0)
  ∧ (t.val / 4 = 3 ∧ t.val % 4 / 2 ≠ ch.val → ((cfgA ch).win 10).index t (0 : Fin 2) = t.val % 2 ∧ ((cfgA ch).win 10).index t (1 : Fin 2) = 0)
theorem at_0 : ∀ t : Fin (cfgA (⟨0, by omega⟩ : Fin 2)).N, At (⟨0, by omega⟩ : Fin 2) t := by decide +kernel
theorem at_1 : ∀ t : Fin (cfgA (⟨1, by omega⟩ : Fin 2)).N, At (⟨1, by omega⟩ : Fin 2) t := by decide +kernel
theorem at_all : ∀ (ch : Fin 2) (t : Fin (cfgA ch).N), At ch t := fun ch => match ch with
  | ⟨0, _⟩ => at_0
  | ⟨1, _⟩ => at_1

/-- The place in the stack of a block's element. -/
def pos (t : Fin (cfgA ch).N) (y : S1x128x2048.Idx) : S4x512x2048.Idx := ix3 (⟨t.val / 4, by have h1 : t.val < 16 := lt_of_lt_of_eq t.isLt N_0; omega⟩ : Fin 4) (⟨t.val % 4 * 128 + (y 1).val, by have h2 : (y 1).val < 128 := (y 1).isLt; omega⟩ : Fin 512) (⟨(y 2).val, (y 2).isLt⟩ : Fin 2048)

theorem emb0 (t : Fin (cfgA ch).N) (y : S1x128x2048.Idx) : (((cfgA ch).win 0).blk t).view.emb y = pos ch t y := by
  have h := (at_all ch t).1
  unfold pos
  blk_ext []
  · exact h.1
  · exact congrArg (fun k => k * 128 + (y 1).val) h.2.1
  · exact (congrArg (fun k => k * 2048 + (y 2).val) h.2.2).trans (by simp)
theorem emb1 (t : Fin (cfgA ch).N) (y : S1x128x2048.Idx) : (((cfgA ch).win 1).blk t).view.emb y = pos ch t y := by
  have h := (at_all ch t).2.1
  unfold pos
  blk_ext []
  · exact h.1
  · exact congrArg (fun k => k * 128 + (y 1).val) h.2.1
  · exact (congrArg (fun k => k * 2048 + (y 2).val) h.2.2).trans (by simp)
theorem emb2 (t : Fin (cfgA ch).N) (y : S1x128x2048.Idx) : (((cfgA ch).win 2).blk t).view.emb y = pos ch t y := by
  have h := (at_all ch t).2.2.1
  unfold pos
  blk_ext []
  · exact h.1
  · exact congrArg (fun k => k * 128 + (y 1).val) h.2.1
  · exact (congrArg (fun k => k * 2048 + (y 2).val) h.2.2).trans (by simp)
theorem emb11 (t : Fin (cfgA ch).N) (y : S1x128x2048.Idx) : (((cfgA ch).win 11).blk t).view.emb y = pos ch t y := by
  have h := (at_all ch t).2.2.2.1
  unfold pos
  blk_ext []
  · exact h.1
  · exact congrArg (fun k => k * 128 + (y 1).val) h.2.1
  · exact (congrArg (fun k => k * 2048 + (y 2).val) h.2.2).trans (by simp)
theorem emb12 (t : Fin (cfgA ch).N) (y : S1x128x2048.Idx) : (((cfgA ch).win 12).blk t).view.emb y = pos ch t y := by
  have h := (at_all ch t).2.2.2.2.1
  unfold pos
  blk_ext []
  · exact h.1
  · exact congrArg (fun k => k * 128 + (y 1).val) h.2.1
  · exact (congrArg (fun k => k * 2048 + (y 2).val) h.2.2).trans (by simp)
theorem emb13 (t : Fin (cfgA ch).N) (y : S1x128x2048.Idx) : (((cfgA ch).win 13).blk t).view.emb y = pos ch t y := by
  have h := (at_all ch t).2.2.2.2.2.1
  unfold pos
  blk_ext []
  · exact h.1
  · exact congrArg (fun k => k * 128 + (y 1).val) h.2.1
  · exact (congrArg (fun k => k * 2048 + (y 2).val) h.2.2).trans (by simp)
theorem emb14 (t : Fin (cfgA ch).N) (y : S1x128x2048.Idx) : (((cfgA ch).win 14).blk t).view.emb y = pos ch t y := by
  have h := (at_all ch t).2.2.2.2.2.2.1
  unfold pos
  blk_ext []
  · exact h.1
  · exact congrArg (fun k => k * 128 + (y 1).val) h.2.1
  · exact (congrArg (fun k => k * 2048 + (y 2).val) h.2.2).trans (by simp)

/-- The place in a half of a block's element. -/
def row (t : Fin (cfgA ch).N) (y : S128x2048.Idx) : S256x2048.Idx := ix2 (⟨t.val % 2 * 128 + (y 0).val, by have h2 : (y 0).val < 128 := (y 0).isLt; omega⟩ : Fin 256) (⟨(y 1).val, (y 1).isLt⟩ : Fin 2048)

theorem half3 (t : Fin (cfgA ch).N) (h : t.val / 4 = 0 ∧ t.val % 4 / 2 = ch.val) (y : S128x2048.Idx) : (((cfgA ch).win 3).blk t).view.emb y = row ch t y := by
  have h := (at_all ch t).2.2.2.2.2.2.2.2.1 h
  unfold row
  blk_ext []
  · exact congrArg (fun k => k * 128 + (y 0).val) h.1
  · exact (congrArg (fun k => k * 2048 + (y 1).val) h.2).trans (by simp)
theorem half4 (t : Fin (cfgA ch).N) (h : t.val / 4 = 0 ∧ t.val % 4 / 2 ≠ ch.val) (y : S128x2048.Idx) : (((cfgA ch).win 4).blk t).view.emb y = row ch t y := by
  have h := (at_all ch t).2.2.2.2.2.2.2.2.2.2.1 h
  unfold row
  blk_ext []
  · exact congrArg (fun k => k * 128 + (y 0).val) h.1
  · exact (congrArg (fun k => k * 2048 + (y 1).val) h.2).trans (by simp)
theorem half5 (t : Fin (cfgA ch).N) (h : t.val / 4 = 1 ∧ t.val % 4 / 2 = ch.val) (y : S128x2048.Idx) : (((cfgA ch).win 5).blk t).view.emb y = row ch t y := by
  have h := (at_all ch t).2.2.2.2.2.2.2.2.2.2.2.2.1 h
  unfold row
  blk_ext []
  · exact congrArg (fun k => k * 128 + (y 0).val) h.1
  · exact (congrArg (fun k => k * 2048 + (y 1).val) h.2).trans (by simp)
theorem half6 (t : Fin (cfgA ch).N) (h : t.val / 4 = 1 ∧ t.val % 4 / 2 ≠ ch.val) (y : S128x2048.Idx) : (((cfgA ch).win 6).blk t).view.emb y = row ch t y := by
  have h := (at_all ch t).2.2.2.2.2.2.2.2.2.2.2.2.2.2.1 h
  unfold row
  blk_ext []
  · exact congrArg (fun k => k * 128 + (y 0).val) h.1
  · exact (congrArg (fun k => k * 2048 + (y 1).val) h.2).trans (by simp)
theorem half7 (t : Fin (cfgA ch).N) (h : t.val / 4 = 2 ∧ t.val % 4 / 2 = ch.val) (y : S128x2048.Idx) : (((cfgA ch).win 7).blk t).view.emb y = row ch t y := by
  have h := (at_all ch t).2.2.2.2.2.2.2.2.2.2.2.2.2.2.2.2.1 h
  unfold row
  blk_ext []
  · exact congrArg (fun k => k * 128 + (y 0).val) h.1
  · exact (congrArg (fun k => k * 2048 + (y 1).val) h.2).trans (by simp)
theorem half8 (t : Fin (cfgA ch).N) (h : t.val / 4 = 2 ∧ t.val % 4 / 2 ≠ ch.val) (y : S128x2048.Idx) : (((cfgA ch).win 8).blk t).view.emb y = row ch t y := by
  have h := (at_all ch t).2.2.2.2.2.2.2.2.2.2.2.2.2.2.2.2.2.2.1 h
  unfold row
  blk_ext []
  · exact congrArg (fun k => k * 128 + (y 0).val) h.1
  · exact (congrArg (fun k => k * 2048 + (y 1).val) h.2).trans (by simp)
theorem half9 (t : Fin (cfgA ch).N) (h : t.val / 4 = 3 ∧ t.val % 4 / 2 = ch.val) (y : S128x2048.Idx) : (((cfgA ch).win 9).blk t).view.emb y = row ch t y := by
  have h := (at_all ch t).2.2.2.2.2.2.2.2.2.2.2.2.2.2.2.2.2.2.2.2.1 h
  unfold row
  blk_ext []
  · exact congrArg (fun k => k * 128 + (y 0).val) h.1
  · exact (congrArg (fun k => k * 2048 + (y 1).val) h.2).trans (by simp)
theorem half10 (t : Fin (cfgA ch).N) (h : t.val / 4 = 3 ∧ t.val % 4 / 2 ≠ ch.val) (y : S128x2048.Idx) : (((cfgA ch).win 10).blk t).view.emb y = row ch t y := by
  have h := (at_all ch t).2.2.2.2.2.2.2.2.2.2.2.2.2.2.2.2.2.2.2.2.2 h
  unfold row
  blk_ext []
  · exact congrArg (fun k => k * 128 + (y 0).val) h.1
  · exact (congrArg (fun k => k * 2048 + (y 1).val) h.2).trans (by simp)

end Cert.Kernel16Ideal.Layers

end
-- ==== Proof.Layers16Arrays.lean ====
/- The four arrays after the optimiser's step of four stacked layers (program 16). -/
module

public import proofs.«01_k».proof.Defs
public import proofs.«01_k».proof.Proof.Layers16Places
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.Layers

open Cert.Kernel16Ideal Cert.Kernel16Ideal.Gen
open Cert.Adam (newM newV change delta)

variable (ch : Fin 2) (m : (ℓ : Loc nD τ sig) → Buf (Elt Ideal) ℓ) (ρ : Dev nD → PrngReg)

theorem read0 (c : Dev nD) (t : Fin (cfgA ch).N) (y : S1x128x2048.Idx) : (show FVec Ideal S1x128x2048 .f32 from iblk ch m ρ c 0 t) y = (m ((c : Thread nD τ).loc main_arg0) : FVec Ideal S4x512x2048 .f32) (pos ch t y) := by
  show (m ((c : Thread nD τ).loc main_arg0) : FVec Ideal S4x512x2048 .f32) ((((cfgA ch).win 0).blk t).view.emb y) = _
  rw [emb0]
theorem read1 (c : Dev nD) (t : Fin (cfgA ch).N) (y : S1x128x2048.Idx) : (show FVec Ideal S1x128x2048 .f32 from iblk ch m ρ c 1 t) y = (m ((c : Thread nD τ).loc main_arg1) : FVec Ideal S4x512x2048 .f32) (pos ch t y) := by
  show (m ((c : Thread nD τ).loc main_arg1) : FVec Ideal S4x512x2048 .f32) ((((cfgA ch).win 1).blk t).view.emb y) = _
  rw [emb1]
theorem read2 (c : Dev nD) (t : Fin (cfgA ch).N) (y : S1x128x2048.Idx) : (show FVec Ideal S1x128x2048 .f32 from iblk ch m ρ c 2 t) y = (m ((c : Thread nD τ).loc main_arg2) : FVec Ideal S4x512x2048 .f32) (pos ch t y) := by
  show (m ((c : Thread nD τ).loc main_arg2) : FVec Ideal S4x512x2048 .f32) ((((cfgA ch).win 2).blk t).view.emb y) = _
  rw [emb2]
theorem read3 (c : Dev nD) (t : Fin (cfgA ch).N) (h : t.val / 4 = 0 ∧ t.val % 4 / 2 = ch.val) (y : S128x2048.Idx) : (show FVec Ideal S128x2048 .f32 from iblk ch m ρ c 3 t) y = (m ((c : Thread nD τ).loc main_arg4) : FVec Ideal S256x2048 .f32) (row ch t y) := by
  show (m ((c : Thread nD τ).loc main_arg4) : FVec Ideal S256x2048 .f32) ((((cfgA ch).win 3).blk t).view.emb y) = _
  rw [half3 ch t h]
theorem read4 (c : Dev nD) (t : Fin (cfgA ch).N) (h : t.val / 4 = 0 ∧ t.val % 4 / 2 ≠ ch.val) (y : S128x2048.Idx) : (show FVec Ideal S128x2048 .f32 from iblk ch m ρ c 4 t) y = (m ((c : Thread nD τ).loc main_arg8) : FVec Ideal S256x2048 .f32) (row ch t y) := by
  show (m ((c : Thread nD τ).loc main_arg8) : FVec Ideal S256x2048 .f32) ((((cfgA ch).win 4).blk t).view.emb y) = _
  rw [half4 ch t h]
theorem read5 (c : Dev nD) (t : Fin (cfgA ch).N) (h : t.val / 4 = 1 ∧ t.val % 4 / 2 = ch.val) (y : S128x2048.Idx) : (show FVec Ideal S128x2048 .f32 from iblk ch m ρ c 5 t) y = (m ((c : Thread nD τ).loc main_arg5) : FVec Ideal S256x2048 .f32) (row ch t y) := by
  show (m ((c : Thread nD τ).loc main_arg5) : FVec Ideal S256x2048 .f32) ((((cfgA ch).win 5).blk t).view.emb y) = _
  rw [half5 ch t h]
theorem read6 (c : Dev nD) (t : Fin (cfgA ch).N) (h : t.val / 4 = 1 ∧ t.val % 4 / 2 ≠ ch.val) (y : S128x2048.Idx) : (show FVec Ideal S128x2048 .f32 from iblk ch m ρ c 6 t) y = (m ((c : Thread nD τ).loc main_arg9) : FVec Ideal S256x2048 .f32) (row ch t y) := by
  show (m ((c : Thread nD τ).loc main_arg9) : FVec Ideal S256x2048 .f32) ((((cfgA ch).win 6).blk t).view.emb y) = _
  rw [half6 ch t h]
theorem read7 (c : Dev nD) (t : Fin (cfgA ch).N) (h : t.val / 4 = 2 ∧ t.val % 4 / 2 = ch.val) (y : S128x2048.Idx) : (show FVec Ideal S128x2048 .f32 from iblk ch m ρ c 7 t) y = (m ((c : Thread nD τ).loc main_arg6) : FVec Ideal S256x2048 .f32) (row ch t y) := by
  show (m ((c : Thread nD τ).loc main_arg6) : FVec Ideal S256x2048 .f32) ((((cfgA ch).win 7).blk t).view.emb y) = _
  rw [half7 ch t h]
theorem read8 (c : Dev nD) (t : Fin (cfgA ch).N) (h : t.val / 4 = 2 ∧ t.val % 4 / 2 ≠ ch.val) (y : S128x2048.Idx) : (show FVec Ideal S128x2048 .f32 from iblk ch m ρ c 8 t) y = (m ((c : Thread nD τ).loc main_arg10) : FVec Ideal S256x2048 .f32) (row ch t y) := by
  show (m ((c : Thread nD τ).loc main_arg10) : FVec Ideal S256x2048 .f32) ((((cfgA ch).win 8).blk t).view.emb y) = _
  rw [half8 ch t h]
theorem read9 (c : Dev nD) (t : Fin (cfgA ch).N) (h : t.val / 4 = 3 ∧ t.val % 4 / 2 = ch.val) (y : S128x2048.Idx) : (show FVec Ideal S128x2048 .f32 from iblk ch m ρ c 9 t) y = (m ((c : Thread nD τ).loc main_arg7) : FVec Ideal S256x2048 .f32) (row ch t y) := by
  show (m ((c : Thread nD τ).loc main_arg7) : FVec Ideal S256x2048 .f32) ((((cfgA ch).win 9).blk t).view.emb y) = _
  rw [half9 ch t h]
theorem read10 (c : Dev nD) (t : Fin (cfgA ch).N) (h : t.val / 4 = 3 ∧ t.val % 4 / 2 ≠ ch.val) (y : S128x2048.Idx) : (show FVec Ideal S128x2048 .f32 from iblk ch m ρ c 10 t) y = (m ((c : Thread nD τ).loc main_arg11) : FVec Ideal S256x2048 .f32) (row ch t y) := by
  show (m ((c : Thread nD τ).loc main_arg11) : FVec Ideal S256x2048 .f32) ((((cfgA ch).win 10).blk t).view.emb y) = _
  rw [half10 ch t h]

/-- One of four things, by number. -/
def nth {α : Type} (k : ℕ) (a b c d : α) : α := if k = 0 then a else if k = 1 then b else if k = 2 then c else d

/-- The gradient of the stack, put together of the halves: a layer's half `ch` is the device's own, the other is the received one. -/
def whole (ch : Fin 2) (a0 a1 a2 a3 b0 b1 b2 b3 : FVec Ideal S256x2048 .f32) : FVec Ideal S4x512x2048 .f32 := fun p =>
  (if (p 1).val / 256 = ch.val then nth (p 0).val a0 a1 a2 a3 else nth (p 0).val b0 b1 b2 b3) (ix2 (⟨(p 1).val % 256, Nat.mod_lt _ (by decide)⟩ : Fin 256) (⟨(p 2).val, (p 2).isLt⟩ : Fin 2048))

/-- The gradient of the launch's arguments. -/
abbrev gradient (c : Dev nD) : FVec Ideal S4x512x2048 .f32 := whole ch (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- What a whole gradient reads at a block's place. -/
theorem whole_own (t : Fin (cfgA ch).N) (y : S1x128x2048.Idx) (h : t.val % 4 / 2 = ch.val) (a0 a1 a2 a3 b0 b1 b2 b3 : FVec Ideal S256x2048 .f32) :
    whole ch a0 a1 a2 a3 b0 b1 b2 b3 (pos ch t y) = nth (t.val / 4) a0 a1 a2 a3 (row ch t (flat y)) := by
  have hy : (y 1).val < 128 := (y 1).isLt
  have e : (t.val % 4 * 128 + (y 1).val) / 256 = ch.val := by omega
  have f : (t.val % 4 * 128 + (y 1).val) % 256 = t.val % 2 * 128 + (y 1).val := by omega
  unfold whole
  rw [if_pos (show ((pos ch t y) 1).val / 256 = ch.val from e)]
  refine congrArg (nth (t.val / 4) a0 a1 a2 a3) ?_
  funext a
  refine Fin.ext ?_
  fin_cases a
  · exact f
  · rfl
theorem whole_other (t : Fin (cfgA ch).N) (y : S1x128x2048.Idx) (h : t.val % 4 / 2 ≠ ch.val) (a0 a1 a2 a3 b0 b1 b2 b3 : FVec Ideal S256x2048 .f32) :
    whole ch a0 a1 a2 a3 b0 b1 b2 b3 (pos ch t y) = nth (t.val / 4) b0 b1 b2 b3 (row ch t (flat y)) := by
  have hy : (y 1).val < 128 := (y 1).isLt
  have e : (t.val % 4 * 128 + (y 1).val) / 256 ≠ ch.val := by omega
  have f : (t.val % 4 * 128 + (y 1).val) % 256 = t.val % 2 * 128 + (y 1).val := by omega
  unfold whole
  rw [if_neg (show ¬((pos ch t y) 1).val / 256 = ch.val from e)]
  refine congrArg (nth (t.val / 4) b0 b1 b2 b3) ?_
  funext a
  refine Fin.ext ?_
  fin_cases a
  · exact f
  · rfl

/-- What a point leaves, of the gradient at its place. -/
theorem point (c : Dev nD) (t : Fin (cfgA ch).N) : ∃ g : FVec Ideal S128x2048 .f32,
    traj0 ch m ρ c t.val t.isLt = stored (iblk ch m ρ c 0 t) (iblk ch m ρ c 1 t) (iblk ch m ρ c 2 t) g
      ∧ ∀ y : S1x128x2048.Idx, g (flat y) = gradient ch m c (pos ch t y) := by
  have ht : t.val < 16 := lt_of_lt_of_eq t.isLt N_0
  rw [traj0_eq]
  have c0 := (at_all ch t).2.2.2.2.2.2.2.1
  have c1 := (at_all ch t).2.2.2.2.2.2.2.2.2.1
  have c2 := (at_all ch t).2.2.2.2.2.2.2.2.2.2.2.1
  have c3 := (at_all ch t).2.2.2.2.2.2.2.2.2.2.2.2.2.1
  have c4 := (at_all ch t).2.2.2.2.2.2.2.2.2.2.2.2.2.2.2.1
  have c5 := (at_all ch t).2.2.2.2.2.2.2.2.2.2.2.2.2.2.2.2.2.1
  have c6 := (at_all ch t).2.2.2.2.2.2.2.2.2.2.2.2.2.2.2.2.2.2.2.1
  by_cases q0 : P0_0 ch t
  · have k : t.val / 4 = 0 ∧ t.val % 4 / 2 = ch.val := c0.mp q0
    refine ⟨iblk ch m ρ c 3 t, pathA ch m ρ c t _ q0, fun y => ?_⟩
    refine (read3 ch m ρ c t k (flat y)).trans ?_
    rw [gradient, whole_own ch t y k.2, k.1]
    rfl
  by_cases q1 : P0_1 ch t
  · have k : t.val / 4 = 0 ∧ t.val % 4 / 2 ≠ ch.val := c1.mp q1
    refine ⟨iblk ch m ρ c 4 t, pathB ch m ρ c t _ q0 q1, fun y => ?_⟩
    refine (read4 ch m ρ c t k (flat y)).trans ?_
    rw [gradient, whole_other ch t y k.2, k.1]
    rfl
  by_cases q2 : P0_2 ch t
  · have k : t.val / 4 = 1 ∧ t.val % 4 / 2 = ch.val := c2.mp q2
    refine ⟨iblk ch m ρ c 5 t, pathC ch m ρ c t _ q0 q1 q2, fun y => ?_⟩
    refine (read5 ch m ρ c t k (flat y)).trans ?_
    rw [gradient, whole_own ch t y k.2, k.1]
    rfl
  by_cases q3 : P0_3 ch t
  · have k : t.val / 4 = 1 ∧ t.val % 4 / 2 ≠ ch.val := c3.mp q3
    refine ⟨iblk ch m ρ c 6 t, pathD ch m ρ c t _ q0 q1 q2 q3, fun y => ?_⟩
    refine (read6 ch m ρ c t k (flat y)).trans ?_
    rw [gradient, whole_other ch t y k.2, k.1]
    rfl
  by_cases q4 : P0_4 ch t
  · have k : t.val / 4 = 2 ∧ t.val % 4 / 2 = ch.val := c4.mp q4
    refine ⟨iblk ch m ρ c 7 t, pathE ch m ρ c t _ q0 q1 q2 q3 q4, fun y => ?_⟩
    refine (read7 ch m ρ c t k (flat y)).trans ?_
    rw [gradient, whole_own ch t y k.2, k.1]
    rfl
  by_cases q5 : P0_5 ch t
  · have k : t.val / 4 = 2 ∧ t.val % 4 / 2 ≠ ch.val := c5.mp q5
    refine ⟨iblk ch m ρ c 8 t, pathF ch m ρ c t _ q0 q1 q2 q3 q4 q5, fun y => ?_⟩
    refine (read8 ch m ρ c t k (flat y)).trans ?_
    rw [gradient, whole_other ch t y k.2, k.1]
    rfl
  by_cases q6 : P0_6 ch t
  · have k : t.val / 4 = 3 ∧ t.val % 4 / 2 = ch.val := c6.mp q6
    refine ⟨iblk ch m ρ c 9 t, pathG ch m ρ c t _ q0 q1 q2 q3 q4 q5 q6, fun y => ?_⟩
    refine (read9 ch m ρ c t k (flat y)).trans ?_
    rw [gradient, whole_own ch t y k.2, k.1]
    rfl
  · have k : t.val / 4 = 3 ∧ t.val % 4 / 2 ≠ ch.val := by
      have n0 : ¬(t.val / 4 = 0 ∧ t.val % 4 / 2 = ch.val) := fun z => q0 (c0.mpr z)
      have n1 : ¬(t.val / 4 = 0 ∧ t.val % 4 / 2 ≠ ch.val) := fun z => q1 (c1.mpr z)
      have n2 : ¬(t.val / 4 = 1 ∧ t.val % 4 / 2 = ch.val) := fun z => q2 (c2.mpr z)
      have n3 : ¬(t.val / 4 = 1 ∧ t.val % 4 / 2 ≠ ch.val) := fun z => q3 (c3.mpr z)
      have n4 : ¬(t.val / 4 = 2 ∧ t.val % 4 / 2 = ch.val) := fun z => q4 (c4.mpr z)
      have n5 : ¬(t.val / 4 = 2 ∧ t.val % 4 / 2 ≠ ch.val) := fun z => q5 (c5.mpr z)
      have n6 : ¬(t.val / 4 = 3 ∧ t.val % 4 / 2 = ch.val) := fun z => q6 (c6.mpr z)
      omega
    refine ⟨iblk ch m ρ c 10 t, pathH ch m ρ c t _ q0 q1 q2 q3 q4 q5 q6, fun y => ?_⟩
    refine (read10 ch m ρ c t k (flat y)).trans ?_
    rw [gradient, whole_other ch t y k.2, k.1]
    rfl

/-- The blocks of the results cover their arrays. -/
theorem covers11_0 : ((cfgA (⟨0, by omega⟩ : Fin 2)).win 11).Covers := by decide +kernel
theorem covers11_1 : ((cfgA (⟨1, by omega⟩ : Fin 2)).win 11).Covers := by decide +kernel
theorem covers11 : ∀ ch : Fin 2, ((cfgA ch).win 11).Covers := fun ch => match ch with
  | ⟨0, _⟩ => covers11_0
  | ⟨1, _⟩ => covers11_1
theorem covers12_0 : ((cfgA (⟨0, by omega⟩ : Fin 2)).win 12).Covers := by decide +kernel
theorem covers12_1 : ((cfgA (⟨1, by omega⟩ : Fin 2)).win 12).Covers := by decide +kernel
theorem covers12 : ∀ ch : Fin 2, ((cfgA ch).win 12).Covers := fun ch => match ch with
  | ⟨0, _⟩ => covers12_0
  | ⟨1, _⟩ => covers12_1
theorem covers13_0 : ((cfgA (⟨0, by omega⟩ : Fin 2)).win 13).Covers := by decide +kernel
theorem covers13_1 : ((cfgA (⟨1, by omega⟩ : Fin 2)).win 13).Covers := by decide +kernel
theorem covers13 : ∀ ch : Fin 2, ((cfgA ch).win 13).Covers := fun ch => match ch with
  | ⟨0, _⟩ => covers13_0
  | ⟨1, _⟩ => covers13_1
theorem covers14_0 : ((cfgA (⟨0, by omega⟩ : Fin 2)).win 14).Covers := by decide +kernel
theorem covers14_1 : ((cfgA (⟨1, by omega⟩ : Fin 2)).win 14).Covers := by decide +kernel
theorem covers14 : ∀ ch : Fin 2, ((cfgA ch).win 14).Covers := fun ch => match ch with
  | ⟨0, _⟩ => covers14_0
  | ⟨1, _⟩ => covers14_1

/-- The four arrays after the run. -/
theorem final11 (c : Dev nD) : (dats ch m ρ 0 c).arrAt 11 (cfgA ch).N = (gradient ch m c) := by
  refine (dats ch m ρ 0 c).arrAt_eq_of_covers 11 _ (covers11 ch) fun t _ y => ?_
  blk_simp
  rw [after0_11]
  obtain ⟨g, e, hg⟩ := point ch m ρ c t
  rw [e]
  refine Eq.trans ?_ (congrArg (gradient ch m c) (emb11 ch t y).symm)
  exact hg y
theorem final12 (c : Dev nD) : (dats ch m ρ 0 c).arrAt 12 (cfgA ch).N = (fun y => delta (m ((c : Thread nD τ).loc main_arg0) y) (gradient ch m c y) (m ((c : Thread nD τ).loc main_arg1) y) (m ((c : Thread nD τ).loc main_arg2) y) : FVec Ideal S4x512x2048 .f32) := by
  refine (dats ch m ρ 0 c).arrAt_eq_of_covers 12 _ (covers12 ch) fun t _ y => ?_
  blk_simp
  rw [after0_12]
  obtain ⟨g, e, hg⟩ := point ch m ρ c t
  rw [e]
  refine Eq.trans ?_ (congrArg (fun y => delta (m ((c : Thread nD τ).loc main_arg0) y) (gradient ch m c y) (m ((c : Thread nD τ).loc main_arg1) y) (m ((c : Thread nD τ).loc main_arg2) y) : FVec Ideal S4x512x2048 .f32) (emb12 ch t y).symm)
  exact congr (congr (congr (congrArg delta (read0 ch m ρ c t y)) (hg y)) (read1 ch m ρ c t y)) (read2 ch m ρ c t y)
theorem final13 (c : Dev nD) : (dats ch m ρ 0 c).arrAt 13 (cfgA ch).N = (fun y => newM (gradient ch m c y) (m ((c : Thread nD τ).loc main_arg1) y) : FVec Ideal S4x512x2048 .f32) := by
  refine (dats ch m ρ 0 c).arrAt_eq_of_covers 13 _ (covers13 ch) fun t _ y => ?_
  blk_simp
  rw [after0_13]
  obtain ⟨g, e, hg⟩ := point ch m ρ c t
  rw [e]
  refine Eq.trans ?_ (congrArg (fun y => newM (gradient ch m c y) (m ((c : Thread nD τ).loc main_arg1) y) : FVec Ideal S4x512x2048 .f32) (emb13 ch t y).symm)
  exact congr (congrArg newM (hg y)) (read1 ch m ρ c t y)
theorem final14 (c : Dev nD) : (dats ch m ρ 0 c).arrAt 14 (cfgA ch).N = (fun y => newV (gradient ch m c y) (m ((c : Thread nD τ).loc main_arg2) y) : FVec Ideal S4x512x2048 .f32) := by
  refine (dats ch m ρ 0 c).arrAt_eq_of_covers 14 _ (covers14 ch) fun t _ y => ?_
  blk_simp
  rw [after0_14]
  obtain ⟨g, e, hg⟩ := point ch m ρ c t
  rw [e]
  refine Eq.trans ?_ (congrArg (fun y => newV (gradient ch m c y) (m ((c : Thread nD τ).loc main_arg2) y) : FVec Ideal S4x512x2048 .f32) (emb14 ch t y).symm)
  exact congr (congrArg newV (hg y)) (read2 ch m ρ c t y)

end Cert.Kernel16Ideal.Layers

end
-- ==== Proof.Layers16BitsData.lean ====
/- The layers' optimiser in bits (program 16): what the buffers hold, point by point. -/
module

public import proofs.«01_k».proof.Proof.Gen.Kernel16.Flash.Runs
public import proofs.«01_k».proof.Proof.Gen.Kernel16.Flash.Facts0
public import proofs.«01_k».proof.Proof.Gen.Kernel16.Flash.Facts1
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel16.Layers

open Cert.Kernel16
open Cert.Kernel16.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 2)
variable (m : (ℓ : Loc nD τ sig) → Buf (Elt Bits) ℓ) (ρ : Dev nD → PrngReg)

/-- The core's number as the body reads it. -/
abbrev word (ch : Fin 2) : BitVec 32 := View.readAt (Elt Bits) (tbM0_0).view (Rect.unit (s := S1) ![0] S1.size inb_S1_S1_0).toLoadRect (pinT_0 ch) (Shape.Idx.first (numel1_S1.symm ▸ Nat.one_pos))

/-- The facts at every point of every member (decided member by member in slices of points, Flash/FactsJ.lean). -/
theorem allFacts : ∀ (ch : Fin 2) (t : Fin (cfgA ch).N), FactsAt ch t := fun ch => match ch with
  | ⟨0, _⟩ => allFacts_0
  | ⟨1, _⟩ => allFacts_1
  | ⟨_ + 2, h⟩ => absurd h (by omega)

/-! ## The named facts — the freshness tables' steps, each path's hypotheses and schedule —: its projections -/

theorem frTab0_11_step : ∀ (ch : Fin 2) (t : Fin (cfgA ch).N),
    frTab0_11 ch (t.val + 1) = (((cfgA ch).win (11 : Fin 15)).flush t || ((cfgA ch).idle (11 : Fin 15) ((cfgA ch).grid.coords t) && frTab0_11 ch t.val)) := fun ch t => (allFacts ch t).1
theorem freshF0_11 (t : Fin (cfgA ch).N) : (cfgA ch).fresh (11 : Fin 15) t.val = frTab0_11 ch t.val :=
  Pipeline.Cfg.fresh_tab (cfgA ch) (11 : Fin 15) (frTab0_11 ch) rfl (frTab0_11_step ch) t.val (Nat.le_of_lt t.isLt)

theorem frTab0_12_step : ∀ (ch : Fin 2) (t : Fin (cfgA ch).N),
    frTab0_12 ch (t.val + 1) = (((cfgA ch).win (12 : Fin 15)).flush t || ((cfgA ch).idle (12 : Fin 15) ((cfgA ch).grid.coords t) && frTab0_12 ch t.val)) := fun ch t => (allFacts ch t).2.1
theorem freshF0_12 (t : Fin (cfgA ch).N) : (cfgA ch).fresh (12 : Fin 15) t.val = frTab0_12 ch t.val :=
  Pipeline.Cfg.fresh_tab (cfgA ch) (12 : Fin 15) (frTab0_12 ch) rfl (frTab0_12_step ch) t.val (Nat.le_of_lt t.isLt)

theorem frTab0_13_step : ∀ (ch : Fin 2) (t : Fin (cfgA ch).N),
    frTab0_13 ch (t.val + 1) = (((cfgA ch).win (13 : Fin 15)).flush t || ((cfgA ch).idle (13 : Fin 15) ((cfgA ch).grid.coords t) && frTab0_13 ch t.val)) := fun ch t => (allFacts ch t).2.2.1
theorem freshF0_13 (t : Fin (cfgA ch).N) : (cfgA ch).fresh (13 : Fin 15) t.val = frTab0_13 ch t.val :=
  Pipeline.Cfg.fresh_tab (cfgA ch) (13 : Fin 15) (frTab0_13 ch) rfl (frTab0_13_step ch) t.val (Nat.le_of_lt t.isLt)

theorem frTab0_14_step : ∀ (ch : Fin 2) (t : Fin (cfgA ch).N),
    frTab0_14 ch (t.val + 1) = (((cfgA ch).win (14 : Fin 15)).flush t || ((cfgA ch).idle (14 : Fin 15) ((cfgA ch).grid.coords t) && frTab0_14 ch t.val)) := fun ch t => (allFacts ch t).2.2.2.1
theorem freshF0_14 (t : Fin (cfgA ch).N) : (cfgA ch).fresh (14 : Fin 15) t.val = frTab0_14 ch t.val :=
  Pipeline.Cfg.fresh_tab (cfgA ch) (14 : Fin 15) (frTab0_14 ch) rfl (frTab0_14_step ch) t.val (Nat.le_of_lt t.isLt)

/-- At a point of path A its branches go its way. -/
theorem hyps0_A : ∀ (ch : Fin 2) (t : Fin (cfgA ch).N), P0_0 ch t →
    (k0_cond1 (crd ch t) (word ch) = 1#1) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.1

/-- At a point of path A every output is stored and written back as the tables say. -/
theorem sched0_A : ∀ (ch : Fin 2) (t : Fin (cfgA ch).N), P0_0 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.1) ch t

/-- At a point of path B its branches go its way. -/
theorem hyps0_B : ∀ (ch : Fin 2) (t : Fin (cfgA ch).N), ¬P0_0 ch t → P0_1 ch t →
    (¬(k0_cond1 (crd ch t) (word ch) = 1#1)) ∧ ((k0_cond2 (crd ch t) (word ch) = 1#1) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.1

/-- At a point of path B every output is stored and written back as the tables say. -/
theorem sched0_B : ∀ (ch : Fin 2) (t : Fin (cfgA ch).N), ¬P0_0 ch t → P0_1 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.1) ch t

/-- At a point of path C its branches go its way. -/
theorem hyps0_C : ∀ (ch : Fin 2) (t : Fin (cfgA ch).N), ¬P0_0 ch t → ¬P0_1 ch t → P0_2 ch t →
    (¬(k0_cond1 (crd ch t) (word ch) = 1#1)) ∧ ((¬(k0_cond2 (crd ch t) (word ch) = 1#1)) ∧ ((k0_cond3 (crd ch t) (word ch) = 1#1) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.1

/-- At a point of path C every output is stored and written back as the tables say. -/
theorem sched0_C : ∀ (ch : Fin 2) (t : Fin (cfgA ch).N), ¬P0_0 ch t → ¬P0_1 ch t → P0_2 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.1) ch t

/-- At a point of path D its branches go its way. -/
theorem hyps0_D : ∀ (ch : Fin 2) (t : Fin (cfgA ch).N), ¬P0_0 ch t → ¬P0_1 ch t → ¬P0_2 ch t → P0_3 ch t →
    (¬(k0_cond1 (crd ch t) (word ch) = 1#1)) ∧ ((¬(k0_cond2 (crd ch t) (word ch) = 1#1)) ∧ ((¬(k0_cond3 (crd ch t) (word ch) = 1#1)) ∧ ((k0_cond4 (crd ch t) (word ch) = 1#1) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.2.2.1

/-- At a point of path D every output is stored and written back as the tables say. -/
theorem sched0_D : ∀ (ch : Fin 2) (t : Fin (cfgA ch).N), ¬P0_0 ch t → ¬P0_1 ch t → ¬P0_2 ch t → P0_3 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.1) ch t

/-- At a point of path E its branches go its way. -/
theorem hyps0_E : ∀ (ch : Fin 2) (t : Fin (cfgA ch).N), ¬P0_0 ch t → ¬P0_1 ch t → ¬P0_2 ch t → ¬P0_3 ch t → P0_4 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((k0_cond5 (crd ch t) (word ch) = 1#1) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.2.2.2.2.1

/-- At a point of path E every output is stored and written back as the tables say. -/
theorem sched0_E : ∀ (ch : Fin 2) (t : Fin (cfgA ch).N), ¬P0_0 ch t → ¬P0_1 ch t → ¬P0_2 ch t → ¬P0_3 ch t → P0_4 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.1) ch t

/-- At a point of path F its branches go its way. -/
theorem hyps0_F : ∀ (ch : Fin 2) (t : Fin (cfgA ch).N), ¬P0_0 ch t → ¬P0_1 ch t → ¬P0_2 ch t → ¬P0_3 ch t → ¬P0_4 ch t → P0_5 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((k0_cond6 (crd ch t) (word ch) = 1#1) ∧ ((¬(k0_cond7 (crd ch t) (word ch) = 1#1)) ∧ ((¬(k0_cond8 (crd ch t) (word ch) = 1#1)) ∧ (True)))))))) := fun ch t => (allFacts ch t).2.2.2.2.2.2.2.2.2.2.2.2.2.2.1

/-- At a point of path F every output is stored and written back as the tables say. -/
theorem sched0_F : ∀ (ch : Fin 2) (t : Fin (cfgA ch).N), ¬P0_0 ch t → ¬P0_1 ch t → ¬P0_2 ch t → ¬P0_3 ch t → ¬P0_4 ch t → P0_5 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.1) ch t

/-- At a point of path G its branches go its way. -/
theorem hyps0_G : ∀ (ch : Fin 2) (t : Fin (cfgA ch).N), ¬P0_0 ch t → ¬P0_1 ch t → ¬P0_2 ch t → ¬P0_3 ch t → ¬P0_4 ch t → ¬P0_5 ch t → P0_6 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((k0_cond7 (crd ch t) (word ch) = 1#1) ∧ ((¬(k0_cond8 (crd ch t) (word ch) = 1#1)) ∧ (True)))))))) := fun ch t => (allFacts ch t).2.2.2.2.2.2.2.2.2.2.2.2.2.2.2.2.1

/-- At a point of path G every output is stored and written back as the tables say. -/
theorem sched0_G : ∀ (ch : Fin 2) (t : Fin (cfgA ch).N), ¬P0_0 ch t → ¬P0_1 ch t → ¬P0_2 ch t → ¬P0_3 ch t → ¬P0_4 ch t → ¬P0_5 ch t → P0_6 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.2.2.1) ch t

/-- At a point of path H its branches go its way. -/
theorem hyps0_H : ∀ (ch : Fin 2) (t : Fin (cfgA ch).N), ¬P0_0 ch t → ¬P0_1 ch t → ¬P0_2 ch t → ¬P0_3 ch t → ¬P0_4 ch t → ¬P0_5 ch t → ¬P0_6 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((k0_cond8 (crd ch t) (word ch) = 1#1) ∧ (True)))))))) := fun ch t => (allFacts ch t).2.2.2.2.2.2.2.2.2.2.2.2.2.2.2.2.2.2.1

/-- At a point of path H every output is stored and written back as the tables say. -/
theorem sched0_H : ∀ (ch : Fin 2) (t : Fin (cfgA ch).N), ¬P0_0 ch t → ¬P0_1 ch t → ¬P0_2 ch t → ¬P0_3 ch t → ¬P0_4 ch t → ¬P0_5 ch t → ¬P0_6 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.2.2.2.2) ch t

/-! ## What the outputs and scratches hold after each point -/

/-- What path A leaves in the four output buffers. -/
abbrev outs_A (c : Dev nD) (t : Fin (cfgA ch).N) (q0 : P0_0 ch t) : (S1x128x2048.Idx → Elt Bits .f32) × (S1x128x2048.Idx → Elt Bits .f32) × (S1x128x2048.Idx → Elt Bits .f32) × (S1x128x2048.Idx → Elt Bits .f32) :=
    have h := hyps0_A ch t q0
    (out0_A_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path B leaves in the four output buffers. -/
abbrev outs_B (c : Dev nD) (t : Fin (cfgA ch).N) (q0 : ¬P0_0 ch t) (q1 : P0_1 ch t) : (S1x128x2048.Idx → Elt Bits .f32) × (S1x128x2048.Idx → Elt Bits .f32) × (S1x128x2048.Idx → Elt Bits .f32) × (S1x128x2048.Idx → Elt Bits .f32) :=
    have h := hyps0_B ch t q0 q1
    (out0_B_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path C leaves in the four output buffers. -/
abbrev outs_C (c : Dev nD) (t : Fin (cfgA ch).N) (q0 : ¬P0_0 ch t) (q1 : ¬P0_1 ch t) (q2 : P0_2 ch t) : (S1x128x2048.Idx → Elt Bits .f32) × (S1x128x2048.Idx → Elt Bits .f32) × (S1x128x2048.Idx → Elt Bits .f32) × (S1x128x2048.Idx → Elt Bits .f32) :=
    have h := hyps0_C ch t q0 q1 q2
    (out0_C_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path D leaves in the four output buffers. -/
abbrev outs_D (c : Dev nD) (t : Fin (cfgA ch).N) (q0 : ¬P0_0 ch t) (q1 : ¬P0_1 ch t) (q2 : ¬P0_2 ch t) (q3 : P0_3 ch t) : (S1x128x2048.Idx → Elt Bits .f32) × (S1x128x2048.Idx → Elt Bits .f32) × (S1x128x2048.Idx → Elt Bits .f32) × (S1x128x2048.Idx → Elt Bits .f32) :=
    have h := hyps0_D ch t q0 q1 q2 q3
    (out0_D_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path E leaves in the four output buffers. -/
abbrev outs_E (c : Dev nD) (t : Fin (cfgA ch).N) (q0 : ¬P0_0 ch t) (q1 : ¬P0_1 ch t) (q2 : ¬P0_2 ch t) (q3 : ¬P0_3 ch t) (q4 : P0_4 ch t) : (S1x128x2048.Idx → Elt Bits .f32) × (S1x128x2048.Idx → Elt Bits .f32) × (S1x128x2048.Idx → Elt Bits .f32) × (S1x128x2048.Idx → Elt Bits .f32) :=
    have h := hyps0_E ch t q0 q1 q2 q3 q4
    (out0_E_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path F leaves in the four output buffers. -/
abbrev outs_F (c : Dev nD) (t : Fin (cfgA ch).N) (q0 : ¬P0_0 ch t) (q1 : ¬P0_1 ch t) (q2 : ¬P0_2 ch t) (q3 : ¬P0_3 ch t) (q4 : ¬P0_4 ch t) (q5 : P0_5 ch t) : (S1x128x2048.Idx → Elt Bits .f32) × (S1x128x2048.Idx → Elt Bits .f32) × (S1x128x2048.Idx → Elt Bits .f32) × (S1x128x2048.Idx → Elt Bits .f32) :=
    have h := hyps0_F ch t q0 q1 q2 q3 q4 q5
    (out0_F_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path G leaves in the four output buffers. -/
abbrev outs_G (c : Dev nD) (t : Fin (cfgA ch).N) (q0 : ¬P0_0 ch t) (q1 : ¬P0_1 ch t) (q2 : ¬P0_2 ch t) (q3 : ¬P0_3 ch t) (q4 : ¬P0_4 ch t) (q5 : ¬P0_5 ch t) (q6 : P0_6 ch t) : (S1x128x2048.Idx → Elt Bits .f32) × (S1x128x2048.Idx → Elt Bits .f32) × (S1x128x2048.Idx → Elt Bits .f32) × (S1x128x2048.Idx → Elt Bits .f32) :=
    have h := hyps0_G ch t q0 q1 q2 q3 q4 q5 q6
    (out0_G_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path H leaves in the four output buffers. -/
abbrev outs_H (c : Dev nD) (t : Fin (cfgA ch).N) (q0 : ¬P0_0 ch t) (q1 : ¬P0_1 ch t) (q2 : ¬P0_2 ch t) (q3 : ¬P0_3 ch t) (q4 : ¬P0_4 ch t) (q5 : ¬P0_5 ch t) (q6 : ¬P0_6 ch t) : (S1x128x2048.Idx → Elt Bits .f32) × (S1x128x2048.Idx → Elt Bits .f32) × (S1x128x2048.Idx → Elt Bits .f32) × (S1x128x2048.Idx → Elt Bits .f32) :=
    have h := hyps0_H ch t q0 q1 q2 q3 q4 q5 q6
    (out0_H_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- ONE STEP of the trajectory: what the outputs' current buffers and the scratches hold after the body at point `t`
    (output 11, output 12, output 13, output 14), from what they held before (`prev`): the path the decisions select at `t`, its
    run's contents; an output the path leaves idle keeps what it held (junk — `default`, named by nothing — where fresh). -/
def step0 (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) : (S1x128x2048.Idx → Elt Bits .f32) × (S1x128x2048.Idx → Elt Bits .f32) × (S1x128x2048.Idx → Elt Bits .f32) × (S1x128x2048.Idx → Elt Bits .f32) :=
  if q0 : P0_0 ch t then
    outs_A ch m ρ c t q0
  else
    if q1 : P0_1 ch t then
      outs_B ch m ρ c t q0 q1
    else
      if q2 : P0_2 ch t then
        outs_C ch m ρ c t q0 q1 q2
      else
        if q3 : P0_3 ch t then
          outs_D ch m ρ c t q0 q1 q2 q3
        else
          if q4 : P0_4 ch t then
            outs_E ch m ρ c t q0 q1 q2 q3 q4
          else
            if q5 : P0_5 ch t then
              outs_F ch m ρ c t q0 q1 q2 q3 q4 q5
            else
              if q6 : P0_6 ch t then
                outs_G ch m ρ c t q0 q1 q2 q3 q4 q5 q6
              else
                outs_H ch m ρ c t q0 q1 q2 q3 q4 q5 q6

/-- THE TRAJECTORY: after position `n`. -/
def traj0 (c : Dev nD) : (n : ℕ) → n < (cfgA ch).N → (S1x128x2048.Idx → Elt Bits .f32) × (S1x128x2048.Idx → Elt Bits .f32) × (S1x128x2048.Idx → Elt Bits .f32) × (S1x128x2048.Idx → Elt Bits .f32)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1x128x2048.Idx → Elt Bits .f32) × (S1x128x2048.Idx → Elt Bits .f32) × (S1x128x2048.Idx → Elt Bits .f32) × (S1x128x2048.Idx → Elt Bits .f32) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : P0_0 ch t) :
    step0 ch m ρ c t prev = outs_A ch m ρ c t q0 := by
  unfold step0; simp only [dif_pos q0]

/-- `step0` at a point of path B. -/
theorem step0_B (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : P0_1 ch t) :
    step0 ch m ρ c t prev = outs_B ch m ρ c t q0 q1 := by
  unfold step0; simp only [dif_neg q0, dif_pos q1]

/-- `step0` at a point of path C. -/
theorem step0_C (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : P0_2 ch t) :
    step0 ch m ρ c t prev = outs_C ch m ρ c t q0 q1 q2 := by
  unfold step0; simp only [dif_neg q0, dif_neg q1, dif_pos q2]

/-- `step0` at a point of path D. -/
theorem step0_D (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : ¬P0_2 ch t) (q3 : P0_3 ch t) :
    step0 ch m ρ c t prev = outs_D ch m ρ c t q0 q1 q2 q3 := by
  unfold step0; simp only [dif_neg q0, dif_neg q1, dif_neg q2, dif_pos q3]

/-- `step0` at a point of path E. -/
theorem step0_E (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : ¬P0_2 ch t) (q3 : ¬P0_3 ch t) (q4 : P0_4 ch t) :
    step0 ch m ρ c t prev = outs_E ch m ρ c t q0 q1 q2 q3 q4 := by
  unfold step0; simp only [dif_neg q0, dif_neg q1, dif_neg q2, dif_neg q3, dif_pos q4]

/-- `step0` at a point of path F. -/
theorem step0_F (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : ¬P0_2 ch t) (q3 : ¬P0_3 ch t) (q4 : ¬P0_4 ch t) (q5 : P0_5 ch t) :
    step0 ch m ρ c t prev = outs_F ch m ρ c t q0 q1 q2 q3 q4 q5 := by
  unfold step0; simp only [dif_neg q0, dif_neg q1, dif_neg q2, dif_neg q3, dif_neg q4, dif_pos q5]

/-- `step0` at a point of path G. -/
theorem step0_G (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : ¬P0_2 ch t) (q3 : ¬P0_3 ch t) (q4 : ¬P0_4 ch t) (q5 : ¬P0_5 ch t) (q6 : P0_6 ch t) :
    step0 ch m ρ c t prev = outs_G ch m ρ c t q0 q1 q2 q3 q4 q5 q6 := by
  unfold step0; simp only [dif_neg q0, dif_neg q1, dif_neg q2, dif_neg q3, dif_neg q4, dif_neg q5, dif_pos q6]

/-- `step0` at a point of path H. -/
theorem step0_H (c : Dev nD) (t : Fin (cfgA ch).N) (prev : (S1x128x2048.Idx → Elt Bits .f32) × (S1x128x2048.Idx → Elt Bits .f32) × (S1x128x2048.Idx → Elt Bits .f32) × (S1x128x2048.Idx → Elt Bits .f32)) (q0 : ¬P0_0 ch t) (q1 : ¬P0_1 ch t) (q2 : ¬P0_2 ch t) (q3 : ¬P0_3 ch t) (q4 : ¬P0_4 ch t) (q5 : ¬P0_5 ch t) (q6 : ¬P0_6 ch t) :
    step0 ch m ρ c t prev = outs_H ch m ρ c t q0 q1 q2 q3 q4 q5 q6 := by
  unfold step0; simp only [dif_neg q0, dif_neg q1, dif_neg q2, dif_neg q3, dif_neg q4, dif_neg q5, dif_neg q6]

/-! ## The pipeline's proof data -/

/-- What the tracked buffers held before position `t` of `Fin (N+1)` (the invariant's index). -/
def prev0T (c : Dev nD) (t : Fin ((cfgA ch).N + 1)) : (S1x128x2048.Idx → Elt Bits .f32) × (S1x128x2048.Idx → Elt Bits .f32) × (S1x128x2048.Idx → Elt Bits .f32) × (S1x128x2048.Idx → Elt Bits .f32) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} pinT_0 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 15) t
    | ⟨1, _⟩ => iblk ch m ρ c (1 : Fin 15) t
    | ⟨2, _⟩ => iblk ch m ρ c (2 : Fin 15) t
    | ⟨3, _⟩ => iblk ch m ρ c (3 : Fin 15) t
    | ⟨4, _⟩ => iblk ch m ρ c (4 : Fin 15) t
    | ⟨5, _⟩ => iblk ch m ρ c (5 : Fin 15) t
    | ⟨6, _⟩ => iblk ch m ρ c (6 : Fin 15) t
    | ⟨7, _⟩ => iblk ch m ρ c (7 : Fin 15) t
    | ⟨8, _⟩ => iblk ch m ρ c (8 : Fin 15) t
    | ⟨9, _⟩ => iblk ch m ρ c (9 : Fin 15) t
    | ⟨10, _⟩ => iblk ch m ρ c (10 : Fin 15) t
    | ⟨11, _⟩ => (traj0 ch m ρ c t.val t.isLt).1
    | ⟨12, _⟩ => (traj0 ch m ρ c t.val t.isLt).2.1
    | ⟨13, _⟩ => (traj0 ch m ρ c t.val t.isLt).2.2.1
    | ⟨14, _⟩ => (traj0 ch m ρ c t.val t.isLt).2.2.2
  Φ t := Phi ch m ρ c t
  q _ := fullShare
  owed _ := 0

theorem after0_0 (c : Dev nD) (t : Fin (cfgA ch).N) : (dats ch m ρ 0 c).after (0 : Fin 15) t = iblk ch m ρ c (0 : Fin 15) t := rfl
theorem after0_1 (c : Dev nD) (t : Fin (cfgA ch).N) : (dats ch m ρ 0 c).after (1 : Fin 15) t = iblk ch m ρ c (1 : Fin 15) t := rfl
theorem after0_2 (c : Dev nD) (t : Fin (cfgA ch).N) : (dats ch m ρ 0 c).after (2 : Fin 15) t = iblk ch m ρ c (2 : Fin 15) t := rfl
theorem after0_3 (c : Dev nD) (t : Fin (cfgA ch).N) : (dats ch m ρ 0 c).after (3 : Fin 15) t = iblk ch m ρ c (3 : Fin 15) t := rfl
theorem after0_4 (c : Dev nD) (t : Fin (cfgA ch).N) : (dats ch m ρ 0 c).after (4 : Fin 15) t = iblk ch m ρ c (4 : Fin 15) t := rfl
theorem after0_5 (c : Dev nD) (t : Fin (cfgA ch).N) : (dats ch m ρ 0 c).after (5 : Fin 15) t = iblk ch m ρ c (5 : Fin 15) t := rfl
theorem after0_6 (c : Dev nD) (t : Fin (cfgA ch).N) : (dats ch m ρ 0 c).after (6 : Fin 15) t = iblk ch m ρ c (6 : Fin 15) t := rfl
theorem after0_7 (c : Dev nD) (t : Fin (cfgA ch).N) : (dats ch m ρ 0 c).after (7 : Fin 15) t = iblk ch m ρ c (7 : Fin 15) t := rfl
theorem after0_8 (c : Dev nD) (t : Fin (cfgA ch).N) : (dats ch m ρ 0 c).after (8 : Fin 15) t = iblk ch m ρ c (8 : Fin 15) t := rfl
theorem after0_9 (c : Dev nD) (t : Fin (cfgA ch).N) : (dats ch m ρ 0 c).after (9 : Fin 15) t = iblk ch m ρ c (9 : Fin 15) t := rfl
theorem after0_10 (c : Dev nD) (t : Fin (cfgA ch).N) : (dats ch m ρ 0 c).after (10 : Fin 15) t = iblk ch m ρ c (10 : Fin 15) t := rfl
theorem after0_11 (c : Dev nD) (t : Fin (cfgA ch).N) : (dats ch m ρ 0 c).after (11 : Fin 15) t = (traj0 ch m ρ c t.val t.isLt).1 := rfl
theorem after0_12 (c : Dev nD) (t : Fin (cfgA ch).N) : (dats ch m ρ 0 c).after (12 : Fin 15) t = (traj0 ch m ρ c t.val t.isLt).2.1 := rfl
theorem after0_13 (c : Dev nD) (t : Fin (cfgA ch).N) : (dats ch m ρ 0 c).after (13 : Fin 15) t = (traj0 ch m ρ c t.val t.isLt).2.2.1 := rfl
theorem after0_14 (c : Dev nD) (t : Fin (cfgA ch).N) : (dats ch m ρ 0 c).after (14 : Fin 15) t = (traj0 ch m ρ c t.val t.isLt).2.2.2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 15) t d = iblk ch m ρ c (0 : Fin 15) t :=
  ((dats ch m ρ 0 c).before_in_eq_fetched (0 : Fin 15) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 15) t d = iblk ch m ρ c (1 : Fin 15) t :=
  ((dats ch m ρ 0 c).before_in_eq_fetched (1 : Fin 15) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 15) t d = iblk ch m ρ c (2 : Fin 15) t :=
  ((dats ch m ρ 0 c).before_in_eq_fetched (2 : Fin 15) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 15) t d = iblk ch m ρ c (3 : Fin 15) t :=
  ((dats ch m ρ 0 c).before_in_eq_fetched (3 : Fin 15) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 15) t d = iblk ch m ρ c (4 : Fin 15) t :=
  ((dats ch m ρ 0 c).before_in_eq_fetched (4 : Fin 15) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 15) t d = iblk ch m ρ c (5 : Fin 15) t :=
  ((dats ch m ρ 0 c).before_in_eq_fetched (5 : Fin 15) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 15) t d = iblk ch m ρ c (6 : Fin 15) t :=
  ((dats ch m ρ 0 c).before_in_eq_fetched (6 : Fin 15) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 15) t d = iblk ch m ρ c (7 : Fin 15) t :=
  ((dats ch m ρ 0 c).before_in_eq_fetched (7 : Fin 15) rfl (fun _ => rfl) (fun _ _ _ => rfl) (fun t => by rw [after0_7]; unfold Dat.blockOf iblk; rfl) t d).trans
    (by unfold Dat.fetched Dat.blockOf iblk; rfl)

/-- Input window 8 holds its block, fetched there or not (Lib/Pipeline/FrameBody.lean `Dat.before_in_eq_fetched`). -/
theorem before0_8 (c : Dev nD) (t : Fin (cfgA ch).N) (d) : (dats ch m ρ 0 c).before (8 : Fin 15) t d = iblk ch m ρ c (8 : Fin 15) t :=
  ((dats ch m ρ 0 c).before_in_eq_fetched (8 : Fin 15) rfl (fun _ => rfl) (fun _ _ _ => rfl) (fun t => by rw [after0_8]; unfold Dat.blockOf iblk; rfl) t d).trans
    (by unfold Dat.fetched Dat.blockOf iblk; rfl)

/-- Input window 9 holds its block, fetched there or not (Lib/Pipeline/FrameBody.lean `Dat.before_in_eq_fetched`). -/
theorem before0_9 (c : Dev nD) (t : Fin (cfgA ch).N) (d) : (dats ch m ρ 0 c).before (9 : Fin 15) t d = iblk ch m ρ c (9 : Fin 15) t :=
  ((dats ch m ρ 0 c).before_in_eq_fetched (9 : Fin 15) rfl (fun _ => rfl) (fun _ _ _ => rfl) (fun t => by rw [after0_9]; unfold Dat.blockOf iblk; rfl) t d).trans
    (by unfold Dat.fetched Dat.blockOf iblk; rfl)

/-- Input window 10 holds its block, fetched there or not (Lib/Pipeline/FrameBody.lean `Dat.before_in_eq_fetched`). -/
theorem before0_10 (c : Dev nD) (t : Fin (cfgA ch).N) (d) : (dats ch m ρ 0 c).before (10 : Fin 15) t d = iblk ch m ρ c (10 : Fin 15) t :=
  ((dats ch m ρ 0 c).before_in_eq_fetched (10 : Fin 15) rfl (fun _ => rfl) (fun _ _ _ => rfl) (fun t => by rw [after0_10]; unfold Dat.blockOf iblk; rfl) t d).trans
    (by unfold Dat.fetched Dat.blockOf iblk; rfl)

/-- Every point stores to all four outputs. -/
theorem stored (t : Fin (cfgA ch).N) :
    (cfgA ch).idle (11 : Fin 15) ((cfgA ch).grid.coords t) = false ∧ (cfgA ch).idle (12 : Fin 15) ((cfgA ch).grid.coords t) = false ∧ (cfgA ch).idle (13 : Fin 15) ((cfgA ch).grid.coords t) = false ∧ (cfgA ch).idle (14 : Fin 15) ((cfgA ch).grid.coords t) = false := by
  by_cases q0 : P0_0 ch t
  on_goal 2 => by_cases q1 : P0_1 ch t
  on_goal 3 => by_cases q2 : P0_2 ch t
  on_goal 4 => by_cases q3 : P0_3 ch t
  on_goal 5 => by_cases q4 : P0_4 ch t
  on_goal 6 => by_cases q5 : P0_5 ch t
  on_goal 7 => by_cases q6 : P0_6 ch t
  · have h := sched0_A ch t q0
    exact ⟨h.1, h.2.2.2.1, h.2.2.2.2.2.2.1, h.2.2.2.2.2.2.2.2.2.1⟩
  · have h := sched0_B ch t q0 q1
    exact ⟨h.1, h.2.2.2.1, h.2.2.2.2.2.2.1, h.2.2.2.2.2.2.2.2.2.1⟩
  · have h := sched0_C ch t q0 q1 q2
    exact ⟨h.1, h.2.2.2.1, h.2.2.2.2.2.2.1, h.2.2.2.2.2.2.2.2.2.1⟩
  · have h := sched0_D ch t q0 q1 q2 q3
    exact ⟨h.1, h.2.2.2.1, h.2.2.2.2.2.2.1, h.2.2.2.2.2.2.2.2.2.1⟩
  · have h := sched0_E ch t q0 q1 q2 q3 q4
    exact ⟨h.1, h.2.2.2.1, h.2.2.2.2.2.2.1, h.2.2.2.2.2.2.2.2.2.1⟩
  · have h := sched0_F ch t q0 q1 q2 q3 q4 q5
    exact ⟨h.1, h.2.2.2.1, h.2.2.2.2.2.2.1, h.2.2.2.2.2.2.2.2.2.1⟩
  · have h := sched0_G ch t q0 q1 q2 q3 q4 q5 q6
    exact ⟨h.1, h.2.2.2.1, h.2.2.2.2.2.2.1, h.2.2.2.2.2.2.2.2.2.1⟩
  · have h := sched0_H ch t q0 q1 q2 q3 q4 q5 q6
    exact ⟨h.1, h.2.2.2.1, h.2.2.2.2.2.2.1, h.2.2.2.2.2.2.2.2.2.1⟩

/-- Output 11's `after` carries through the points that leave it idle. -/
theorem hcarry0_11 (c : Dev nD) : ∀ (t : Fin (cfgA ch).N) (ht : t.val ≠ 0), (cfgA ch).idle (11 : Fin 15) ((cfgA ch).grid.coords t) = true → (cfgA ch).fresh (11 : Fin 15) t.val = false →
    (dats ch m ρ 0 c).after (11 : Fin 15) t = (dats ch m ρ 0 c).after (11 : Fin 15) ⟨t.val - 1, by omega⟩ := by
  intro t ht hi hf
  rw [(stored ch t).1] at hi; exact absurd hi (by decide)

/-- Output window 11 holds, when the body runs at `t`: junk if nothing was stored since its last write-back (`Cfg.fresh`),
    else what the point before left (TableIdle.lean `Dat.before_out_traj`). -/
theorem before0_11 (c : Dev nD) (t : Fin (cfgA ch).N) (d) :
    (dats ch m ρ 0 c).before (11 : Fin 15) t d = if (cfgA ch).fresh (11 : Fin 15) t.val then d else (prev0 ch m ρ c t).1 := by
  rw [(dats ch m ρ 0 c).before_out_traj (11 : Fin 15) rfl (fun _ _ => rfl) (hcarry0_11 ch m ρ c) t.val t rfl d]
  by_cases hf : (cfgA ch).fresh (11 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_11]; unfold prev0; rw [dif_neg h0]

/-- Output 12's `after` carries through the points that leave it idle. -/
theorem hcarry0_12 (c : Dev nD) : ∀ (t : Fin (cfgA ch).N) (ht : t.val ≠ 0), (cfgA ch).idle (12 : Fin 15) ((cfgA ch).grid.coords t) = true → (cfgA ch).fresh (12 : Fin 15) t.val = false →
    (dats ch m ρ 0 c).after (12 : Fin 15) t = (dats ch m ρ 0 c).after (12 : Fin 15) ⟨t.val - 1, by omega⟩ := by
  intro t ht hi hf
  rw [(stored ch t).2.1] at hi; exact absurd hi (by decide)

/-- Output window 12 holds, when the body runs at `t`: junk if nothing was stored since its last write-back (`Cfg.fresh`),
    else what the point before left (TableIdle.lean `Dat.before_out_traj`). -/
theorem before0_12 (c : Dev nD) (t : Fin (cfgA ch).N) (d) :
    (dats ch m ρ 0 c).before (12 : Fin 15) t d = if (cfgA ch).fresh (12 : Fin 15) t.val then d else (prev0 ch m ρ c t).2.1 := by
  rw [(dats ch m ρ 0 c).before_out_traj (12 : Fin 15) rfl (fun _ _ => rfl) (hcarry0_12 ch m ρ c) t.val t rfl d]
  by_cases hf : (cfgA ch).fresh (12 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_12]; unfold prev0; rw [dif_neg h0]

/-- Output 13's `after` carries through the points that leave it idle. -/
theorem hcarry0_13 (c : Dev nD) : ∀ (t : Fin (cfgA ch).N) (ht : t.val ≠ 0), (cfgA ch).idle (13 : Fin 15) ((cfgA ch).grid.coords t) = true → (cfgA ch).fresh (13 : Fin 15) t.val = false →
    (dats ch m ρ 0 c).after (13 : Fin 15) t = (dats ch m ρ 0 c).after (13 : Fin 15) ⟨t.val - 1, by omega⟩ := by
  intro t ht hi hf
  rw [(stored ch t).2.2.1] at hi; exact absurd hi (by decide)

/-- Output window 13 holds, when the body runs at `t`: junk if nothing was stored since its last write-back (`Cfg.fresh`),
    else what the point before left (TableIdle.lean `Dat.before_out_traj`). -/
theorem before0_13 (c : Dev nD) (t : Fin (cfgA ch).N) (d) :
    (dats ch m ρ 0 c).before (13 : Fin 15) t d = if (cfgA ch).fresh (13 : Fin 15) t.val then d else (prev0 ch m ρ c t).2.2.1 := by
  rw [(dats ch m ρ 0 c).before_out_traj (13 : Fin 15) rfl (fun _ _ => rfl) (hcarry0_13 ch m ρ c) t.val t rfl d]
  by_cases hf : (cfgA ch).fresh (13 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_13]; unfold prev0; rw [dif_neg h0]

/-- Output 14's `after` carries through the points that leave it idle. -/
theorem hcarry0_14 (c : Dev nD) : ∀ (t : Fin (cfgA ch).N) (ht : t.val ≠ 0), (cfgA ch).idle (14 : Fin 15) ((cfgA ch).grid.coords t) = true → (cfgA ch).fresh (14 : Fin 15) t.val = false →
    (dats ch m ρ 0 c).after (14 : Fin 15) t = (dats ch m ρ 0 c).after (14 : Fin 15) ⟨t.val - 1, by omega⟩ := by
  intro t ht hi hf
  rw [(stored ch t).2.2.2] at hi; exact absurd hi (by decide)

/-- Output window 14 holds, when the body runs at `t`: junk if nothing was stored since its last write-back (`Cfg.fresh`),
    else what the point before left (TableIdle.lean `Dat.before_out_traj`). -/
theorem before0_14 (c : Dev nD) (t : Fin (cfgA ch).N) (d) :
    (dats ch m ρ 0 c).before (14 : Fin 15) t d = if (cfgA ch).fresh (14 : Fin 15) t.val then d else (prev0 ch m ρ c t).2.2.2 := by
  rw [(dats ch m ρ 0 c).before_out_traj (14 : Fin 15) rfl (fun _ _ => rfl) (hcarry0_14 ch m ρ c) t.val t rfl d]
  by_cases hf : (cfgA ch).fresh (14 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_14]; unfold prev0; rw [dif_neg h0]

end Cert.Kernel16.Layers

end
-- ==== Proof.Layers16Bits.lean ====
/- The layers' optimiser in bits (program 16): the body at every point, the launch and the frame. -/
module

public import proofs.«01_k».proof.Proof.Gen.Kernel16.Flash.Runs
public import proofs.«01_k».proof.Proof.Gen.Kernel16.Flash.Facts0
public import proofs.«01_k».proof.Proof.Gen.Kernel16.Flash.Facts1
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import proofs.«01_k».proof.Proof.Layers16BitsData

@[expose] public section

set_option maxRecDepth 16384
set_option Elab.async false

noncomputable section

namespace Cert.Kernel16.Layers

open Cert.Kernel16
open Cert.Kernel16.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

variable (ch : Fin 2)
variable (m : (ℓ : Loc nD τ sig) → Buf (Elt Bits) ℓ) (ρ : Dev nD → PrngReg)

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_adamw_layers (crd ch t) (Memref.whole main_arg3) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t)

set_option maxHeartbeats 19200000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 15) t d))
        ∗ (∃ d, owns (c : Thread nD τ) (ms0_1 ch t) fullShare ((dats ch m ρ 0 c).before (1 : Fin 15) t d))
        ∗ (∃ d, owns (c : Thread nD τ) (ms0_2 ch t) fullShare ((dats ch m ρ 0 c).before (2 : Fin 15) t d))
        ∗ (∃ d, owns (c : Thread nD τ) (ms0_3 ch t) fullShare ((dats ch m ρ 0 c).before (3 : Fin 15) t d))
        ∗ (∃ d, owns (c : Thread nD τ) (ms0_4 ch t) fullShare ((dats ch m ρ 0 c).before (4 : Fin 15) t d))
        ∗ (∃ d, owns (c : Thread nD τ) (ms0_5 ch t) fullShare ((dats ch m ρ 0 c).before (5 : Fin 15) t d))
        ∗ (∃ d, owns (c : Thread nD τ) (ms0_6 ch t) fullShare ((dats ch m ρ 0 c).before (6 : Fin 15) t d))
        ∗ (∃ d, owns (c : Thread nD τ) (ms0_7 ch t) fullShare ((dats ch m ρ 0 c).before (7 : Fin 15) t d))
        ∗ (∃ d, owns (c : Thread nD τ) (ms0_8 ch t) fullShare ((dats ch m ρ 0 c).before (8 : Fin 15) t d))
        ∗ (∃ d, owns (c : Thread nD τ) (ms0_9 ch t) fullShare ((dats ch m ρ 0 c).before (9 : Fin 15) t d))
        ∗ (∃ d, owns (c : Thread nD τ) (ms0_10 ch t) fullShare ((dats ch m ρ 0 c).before (10 : Fin 15) t d))
        ∗ (∃ d, owns (c : Thread nD τ) (ms0_11 ch t) fullShare ((dats ch m ρ 0 c).before (11 : Fin 15) t d))
        ∗ (∃ d, owns (c : Thread nD τ) (ms0_12 ch t) fullShare ((dats ch m ρ 0 c).before (12 : Fin 15) t d))
        ∗ (∃ d, owns (c : Thread nD τ) (ms0_13 ch t) fullShare ((dats ch m ρ 0 c).before (13 : Fin 15) t d))
        ∗ (∃ d, owns (c : Thread nD τ) (ms0_14 ch t) fullShare ((dats ch m ρ 0 c).before (14 : Fin 15) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  on_goal 2 => by_cases q1 : P0_1 ch t
  on_goal 3 => by_cases q2 : P0_2 ch t
  on_goal 4 => by_cases q3 : P0_3 ch t
  on_goal 5 => by_cases q4 : P0_4 ch t
  on_goal 6 => by_cases q5 : P0_5 ch t
  on_goal 7 => by_cases q6 : P0_6 ch t
  on_goal 1 =>
    obtain ⟨i11, f11, fr11, i12, f12, fr12, i13, f13, fr13, i14, f14, fr14⟩ := sched0_A ch t q0
    obtain ⟨k0_h1, k0_h2, k0_h3, k0_h4, k0_h5, k0_h6, k0_h7, k0_h8, -⟩ := hyps0_A ch t q0
    have S := fun p => step0_A ch m ρ c t p q0
    have C11 := cover0_A_11 c
    have C12 := cover0_A_12 c
    have C13 := cover0_A_13 c
    have C14 := cover0_A_14 c
  on_goal 2 =>
    obtain ⟨i11, f11, fr11, i12, f12, fr12, i13, f13, fr13, i14, f14, fr14⟩ := sched0_B ch t q0 q1
    obtain ⟨k0_h1, k0_h2, k0_h3, k0_h4, k0_h5, k0_h6, k0_h7, k0_h8, -⟩ := hyps0_B ch t q0 q1
    have S := fun p => step0_B ch m ρ c t p q0 q1
    have C11 := cover0_B_11 c
    have C12 := cover0_B_12 c
    have C13 := cover0_B_13 c
    have C14 := cover0_B_14 c
  on_goal 3 =>
    obtain ⟨i11, f11, fr11, i12, f12, fr12, i13, f13, fr13, i14, f14, fr14⟩ := sched0_C ch t q0 q1 q2
    obtain ⟨k0_h1, k0_h2, k0_h3, k0_h4, k0_h5, k0_h6, k0_h7, k0_h8, -⟩ := hyps0_C ch t q0 q1 q2
    have S := fun p => step0_C ch m ρ c t p q0 q1 q2
    have C11 := cover0_C_11 c
    have C12 := cover0_C_12 c
    have C13 := cover0_C_13 c
    have C14 := cover0_C_14 c
  on_goal 4 =>
    obtain ⟨i11, f11, fr11, i12, f12, fr12, i13, f13, fr13, i14, f14, fr14⟩ := sched0_D ch t q0 q1 q2 q3
    obtain ⟨k0_h1, k0_h2, k0_h3, k0_h4, k0_h5, k0_h6, k0_h7, k0_h8, -⟩ := hyps0_D ch t q0 q1 q2 q3
    have S := fun p => step0_D ch m ρ c t p q0 q1 q2 q3
    have C11 := cover0_D_11 c
    have C12 := cover0_D_12 c
    have C13 := cover0_D_13 c
    have C14 := cover0_D_14 c
  on_goal 5 =>
    obtain ⟨i11, f11, fr11, i12, f12, fr12, i13, f13, fr13, i14, f14, fr14⟩ := sched0_E ch t q0 q1 q2 q3 q4
    obtain ⟨k0_h1, k0_h2, k0_h3, k0_h4, k0_h5, k0_h6, k0_h7, k0_h8, -⟩ := hyps0_E ch t q0 q1 q2 q3 q4
    have S := fun p => step0_E ch m ρ c t p q0 q1 q2 q3 q4
    have C11 := cover0_E_11 c
    have C12 := cover0_E_12 c
    have C13 := cover0_E_13 c
    have C14 := cover0_E_14 c
  on_goal 6 =>
    obtain ⟨i11, f11, fr11, i12, f12, fr12, i13, f13, fr13, i14, f14, fr14⟩ := sched0_F ch t q0 q1 q2 q3 q4 q5
    obtain ⟨k0_h1, k0_h2, k0_h3, k0_h4, k0_h5, k0_h6, k0_h7, k0_h8, -⟩ := hyps0_F ch t q0 q1 q2 q3 q4 q5
    have S := fun p => step0_F ch m ρ c t p q0 q1 q2 q3 q4 q5
    have C11 := cover0_F_11 c
    have C12 := cover0_F_12 c
    have C13 := cover0_F_13 c
    have C14 := cover0_F_14 c
  on_goal 7 =>
    obtain ⟨i11, f11, fr11, i12, f12, fr12, i13, f13, fr13, i14, f14, fr14⟩ := sched0_G ch t q0 q1 q2 q3 q4 q5 q6
    obtain ⟨k0_h1, k0_h2, k0_h3, k0_h4, k0_h5, k0_h6, k0_h7, k0_h8, -⟩ := hyps0_G ch t q0 q1 q2 q3 q4 q5 q6
    have S := fun p => step0_G ch m ρ c t p q0 q1 q2 q3 q4 q5 q6
    have C11 := cover0_G_11 c
    have C12 := cover0_G_12 c
    have C13 := cover0_G_13 c
    have C14 := cover0_G_14 c
  on_goal 8 =>
    obtain ⟨i11, f11, fr11, i12, f12, fr12, i13, f13, fr13, i14, f14, fr14⟩ := sched0_H ch t q0 q1 q2 q3 q4 q5 q6
    obtain ⟨k0_h1, k0_h2, k0_h3, k0_h4, k0_h5, k0_h6, k0_h7, k0_h8, -⟩ := hyps0_H ch t q0 q1 q2 q3 q4 q5 q6
    have S := fun p => step0_H ch m ρ c t p q0 q1 q2 q3 q4 q5 q6
    have C11 := cover0_H_11 c
    have C12 := cover0_H_12 c
    have C13 := cover0_H_13 c
    have C14 := cover0_H_14 c
  all_goals
    rewrite [i11]
    simp only [before0_0, before0_1, before0_2, before0_3, before0_4, before0_5, before0_6, before0_7, before0_8, before0_9, before0_10, before0_11, before0_12, before0_13, before0_14, after0_0, after0_1, after0_2, after0_3, after0_4, after0_5, after0_6, after0_7, after0_8, after0_9, after0_10, after0_11, after0_12, after0_13, after0_14, f11, f12, f13, f14]
    simp only [fr11, fr12, fr13, fr14, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, S]
    unfold Phi; simp only [prev0T_castSucc, prev0T_succ, traj0_eq, S, outs_A, outs_B, outs_C, outs_D, outs_E, outs_F, outs_G, outs_H, Fin.val_castSucc, Fin.val_succ]
    iintro ⟨⟨HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  on_goal 1 => iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 2 => iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 3 => iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 4 => iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 5 => iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 6 => iapply ((kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 7 => iapply ((kernelRun0_G c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 8 => iapply ((kernelRun0_H c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  all_goals
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [HT0]; · iexact HT0
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, HT0, ⟨%e11, H11⟩, ⟨%e12, H12⟩, ⟨%e13, H13⟩, ⟨%e14, H14⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · iapply owns_of_rep; iexact H8
    isplitl [H9]
    · iapply owns_of_rep; iexact H9
    isplitl [H10]
    · iapply owns_of_rep; iexact H10
    isplitl [H11]
    · unfold owns; iexists _; isplitr; swap
      · iexact H11
      · ipureintro; exact View.read_writes_of_cover _ _ _ _ _ (fun _ => C11 ..)
    isplitl [H12]
    · unfold owns; iexists _; isplitr; swap
      · iexact H12
      · ipureintro; exact View.read_writes_of_cover _ _ _ _ _ (fun _ => C12 ..)
    isplitl [H13]
    · unfold owns; iexists _; isplitr; swap
      · iexact H13
      · ipureintro; exact View.read_writes_of_cover _ _ _ _ _ (fun _ => C13 ..)
    unfold owns; iexists _; isplitr; swap
    · iexact H14
    · ipureintro; exact View.read_writes_of_cover _ _ _ _ _ (fun _ => C14 ..)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
noncomputable def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg3) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 (0 : Fin 15)).trans ((dats ch m ρ 0 c).arrAt_in (0 : Fin 15) rfl _), ((h c).1 (1 : Fin 15)).trans ((dats ch m ρ 0 c).arrAt_in (1 : Fin 15) rfl _), ((h c).1 (2 : Fin 15)).trans ((dats ch m ρ 0 c).arrAt_in (2 : Fin 15) rfl _), ((h c).2 0).trans (hp c).symm, ((h c).1 (3 : Fin 15)).trans ((dats ch m ρ 0 c).arrAt_in (3 : Fin 15) rfl _), ((h c).1 (5 : Fin 15)).trans ((dats ch m ρ 0 c).arrAt_in (5 : Fin 15) rfl _), ((h c).1 (7 : Fin 15)).trans ((dats ch m ρ 0 c).arrAt_in (7 : Fin 15) rfl _), ((h c).1 (9 : Fin 15)).trans ((dats ch m ρ 0 c).arrAt_in (9 : Fin 15) rfl _), ((h c).1 (4 : Fin 15)).trans ((dats ch m ρ 0 c).arrAt_in (4 : Fin 15) rfl _), ((h c).1 (6 : Fin 15)).trans ((dats ch m ρ 0 c).arrAt_in (6 : Fin 15) rfl _), ((h c).1 (8 : Fin 15)).trans ((dats ch m ρ 0 c).arrAt_in (8 : Fin 15) rfl _), ((h c).1 (10 : Fin 15)).trans ((dats ch m ρ 0 c).arrAt_in (10 : Fin 15) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Kernel16`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged ch m ρ hp) ((θ_run defs _ _).mono (fun _ h => h.2) (run_main_quiescent ch m ρ hp))

end Cert.Kernel16.Layers

end
-- ==== Proof.Layers16.lean ====
/- The optimiser's step of four stacked layers (program 16): the kernel's four results are the reference's. -/
module

public import proofs.«01_k».proof.Defs
public import proofs.«01_k».proof.Proof.Layers16Arrays
public import proofs.«01_k».proof.Proof.Layers16Bits
public import proofs.«01_k».proof.Proof.Gen.Reference16Ideal.Run
public import proofs.«01_k».proof.Proof.Gen.Pre_core16
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Kernel16Ideal.Layers

open Cert.Kernel16Ideal Cert.Kernel16Ideal.Gen
open Cert.Adam (newM newV change delta)

/-- What the kernel leaves. -/
theorem run (ch : Fin 2) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ (fun r => ∀ c : Dev nD,
      r.2.mem ((c.tc : Thread nD τ).loc main_v0_0) = gradient ch m c
      ∧ r.2.mem ((c.tc : Thread nD τ).loc main_v0_1) = (fun y => delta (m ((c : Thread nD τ).loc main_arg0) y) (gradient ch m c y) (m ((c : Thread nD τ).loc main_arg1) y) (m ((c : Thread nD τ).loc main_arg2) y) : FVec Ideal S4x512x2048 .f32)
      ∧ r.2.mem ((c.tc : Thread nD τ).loc main_v0_2) = (fun y => newM (gradient ch m c y) (m ((c : Thread nD τ).loc main_arg1) y) : FVec Ideal S4x512x2048 .f32)
      ∧ r.2.mem ((c.tc : Thread nD τ).loc main_v0_3) = (fun y => newV (gradient ch m c y) (m ((c : Thread nD τ).loc main_arg2) y) : FVec Ideal S4x512x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (final11 ch m ρ c), ((h c).1 12).trans (final12 ch m ρ c), ((h c).1 13).trans (final13 ch m ρ c), ((h c).1 14).trans (final14 ch m ρ c),
    ((h c).1 (0 : Fin 15)).trans ((dats ch m ρ 0 c).arrAt_in (0 : Fin 15) rfl _), ((h c).1 (1 : Fin 15)).trans ((dats ch m ρ 0 c).arrAt_in (1 : Fin 15) rfl _), ((h c).1 (2 : Fin 15)).trans ((dats ch m ρ 0 c).arrAt_in (2 : Fin 15) rfl _), ((h c).2 0).trans (hp c).symm, ((h c).1 (3 : Fin 15)).trans ((dats ch m ρ 0 c).arrAt_in (3 : Fin 15) rfl _), ((h c).1 (5 : Fin 15)).trans ((dats ch m ρ 0 c).arrAt_in (5 : Fin 15) rfl _), ((h c).1 (7 : Fin 15)).trans ((dats ch m ρ 0 c).arrAt_in (7 : Fin 15) rfl _), ((h c).1 (9 : Fin 15)).trans ((dats ch m ρ 0 c).arrAt_in (9 : Fin 15) rfl _), ((h c).1 (4 : Fin 15)).trans ((dats ch m ρ 0 c).arrAt_in (4 : Fin 15) rfl _), ((h c).1 (6 : Fin 15)).trans ((dats ch m ρ 0 c).arrAt_in (6 : Fin 15) rfl _), ((h c).1 (8 : Fin 15)).trans ((dats ch m ρ 0 c).arrAt_in (8 : Fin 15) rfl _), ((h c).1 (10 : Fin 15)).trans ((dats ch m ρ 0 c).arrAt_in (10 : Fin 15) rfl _)⟩)
    (run_main ch m ρ hp)

end Cert.Kernel16Ideal.Layers

namespace Cert.Layers16

open Cert.Adam (newM newV change delta)

/-- The precondition says that the core's number is 0 or 1. -/
theorem word (x : BitVec 32) (h : IntOp.ori (IntOp.cmpi .eq x 0#32) (IntOp.cmpi .eq x 1#32) = 1#1) : x = 0#32 ∨ x = 1#32 := by
  simpa only [IntOp.ori_eq_one, IntOp.cmpi_eq] using h

/-- A number that is 0 or 1 is pinned. -/
theorem pinned_of (f : Dev 1 → IVec Cert.Kernel16.S1 32) (e : ∀ c x, f c x = 0#32 ∨ f c x = 1#32) : ∃ ch : Fin 2, ∀ c, f c = fun _ => BitVec.ofNat 32 ch.val := by
  have one : ∀ x y : Cert.Kernel16.S1.Idx, x = y := fun x y => funext fun a => by
    fin_cases a
    exact Subsingleton.elim (α := Fin 1) _ _
  have x0 : Cert.Kernel16.S1.Idx := fun a => ⟨0, by fin_cases a; decide⟩
  rcases e 0 x0 with h | h
  · exact ⟨0, fun c => funext fun x => by rw [Subsingleton.elim c 0, one x x0, h]; rfl⟩
  · exact ⟨1, fun c => funext fun x => by rw [Subsingleton.elim c 0, one x x0, h]; rfl⟩

/-- The one index of a scalar. -/
abbrev pt : Cert.Pre_core16.S_.Idx := fun a => absurd a.isLt (Nat.not_lt_zero _)

theorem bits_pinned (m) (h : Cert.Pre_Kernel16 m) : ∃ ch, Cert.Kernel16.Gen.Pinned ch m :=
  pinned_of _ fun c x => word _ (Host.reduce_andi_all _ _ _ _ pt (congrFun (h c) pt) x)

theorem ideal_pinned (m) (h : Cert.Pre_Kernel16Ideal m) : ∃ ch, Cert.Kernel16Ideal.Gen.Pinned ch m :=
  pinned_of _ fun c x => word _ (Host.reduce_andi_all _ _ _ _ pt (congrFun (h c) pt) x)

/-- The frames. -/
theorem frame_bits : Cert.quiescent_Kernel16 := fun m ρ h => (bits_pinned m h).elim fun ch hp => Cert.Kernel16.Layers.frame ch m ρ hp
theorem frame_ideal : Cert.quiescent_Kernel16Ideal := fun m ρ h => (ideal_pinned m h).elim fun ch hp => Cert.Kernel16Ideal.Gen.frame ch m ρ hp
theorem frame_reference : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run (F := Ideal) m g)
theorem frame_reference_core : Cert.quiescent_Reference16Ideal_pre_core16 := fun m g _ => frame_reference m g trivial

/-- The two named reciprocals are what the table says. -/
theorem preserves : Cert.preserves_Kernel16_Kernel16Ideal :=
  ⟨IdealRules.named_const.statement Cert.Kernel16Ideal.κ "c1" .f32 0x3FC48605#32 ((8388608 / 5463681 : ℝ) : EReal) rfl,
    IdealRules.named_const.statement Cert.Kernel16Ideal.κ "c2" .f32 0x42C8E6D3#32 ((268435456 / 2672307 : ℝ) : EReal) rfl⟩

section
open Cert.Reference16Ideal Cert.Reference16Ideal.Gen

/-- The reference's gradient, put together of the halves. -/
def stacked (core : IVec S1 32) (a4 a5 a6 a7 a8 a9 a10 a11 : FVec Ideal S256x2048 .f32) : FVec Ideal S4x512x2048 .f32 := (concatenate S4x512x2048 0 [⟨S1x512x2048, ((broadcastInDim S1x512x2048 ![1, 2] bcast_S512x2048_S1x512x2048_1_2 (select (broadcastInDim S512x2048 ![] bcast_S_S512x2048 (cmpi .eq (shapeCast _ core shapeCasts_S1_S_) (constantI S_ 32 0#32))) (concatenate S512x2048 0 [⟨S256x2048, a4⟩, ⟨S256x2048, a8⟩] concatenates_S256x2048_S256x2048_S512x2048_d0) (concatenate S512x2048 0 [⟨S256x2048, a8⟩, ⟨S256x2048, a4⟩] concatenates_S256x2048_S256x2048_S512x2048_d0))) : (⟨S1x512x2048, .f32⟩ : BufTy).Contents (Elt Ideal))⟩, ⟨S1x512x2048, ((broadcastInDim S1x512x2048 ![1, 2] bcast_S512x2048_S1x512x2048_1_2 (select (broadcastInDim S512x2048 ![] bcast_S_S512x2048 (cmpi .eq (shapeCast _ core shapeCasts_S1_S_) (constantI S_ 32 0#32))) (concatenate S512x2048 0 [⟨S256x2048, a5⟩, ⟨S256x2048, a9⟩] concatenates_S256x2048_S256x2048_S512x2048_d0) (concatenate S512x2048 0 [⟨S256x2048, a9⟩, ⟨S256x2048, a5⟩] concatenates_S256x2048_S256x2048_S512x2048_d0))) : (⟨S1x512x2048, .f32⟩ : BufTy).Contents (Elt Ideal))⟩, ⟨S1x512x2048, ((broadcastInDim S1x512x2048 ![1, 2] bcast_S512x2048_S1x512x2048_1_2 (select (broadcastInDim S512x2048 ![] bcast_S_S512x2048 (cmpi .eq (shapeCast _ core shapeCasts_S1_S_) (constantI S_ 32 0#32))) (concatenate S512x2048 0 [⟨S256x2048, a6⟩, ⟨S256x2048, a10⟩] concatenates_S256x2048_S256x2048_S512x2048_d0) (concatenate S512x2048 0 [⟨S256x2048, a10⟩, ⟨S256x2048, a6⟩] concatenates_S256x2048_S256x2048_S512x2048_d0))) : (⟨S1x512x2048, .f32⟩ : BufTy).Contents (Elt Ideal))⟩, ⟨S1x512x2048, ((broadcastInDim S1x512x2048 ![1, 2] bcast_S512x2048_S1x512x2048_1_2 (select (broadcastInDim S512x2048 ![] bcast_S_S512x2048 (cmpi .eq (shapeCast _ core shapeCasts_S1_S_) (constantI S_ 32 0#32))) (concatenate S512x2048 0 [⟨S256x2048, a7⟩, ⟨S256x2048, a11⟩] concatenates_S256x2048_S256x2048_S512x2048_d0) (concatenate S512x2048 0 [⟨S256x2048, a11⟩, ⟨S256x2048, a7⟩] concatenates_S256x2048_S256x2048_S512x2048_d0))) : (⟨S1x512x2048, .f32⟩ : BufTy).Contents (Elt Ideal))⟩] concatenates_S1x512x2048_S1x512x2048_S1x512x2048_S1x512x2048_S4x512x2048_d0 : (⟨S4x512x2048, .f32⟩ : BufTy).Contents (Elt Ideal))

theorem stacked_at (ch : Fin 2) (a4 a5 a6 a7 a8 a9 a10 a11 : FVec Ideal S256x2048 .f32) : stacked (fun _ => BitVec.ofNat 32 ch.val) a4 a5 a6 a7 a8 a9 a10 a11 = Cert.Kernel16Ideal.Layers.whole ch a4 a5 a6 a7 a8 a9 a10 a11 := by
  funext p
  unfold stacked Cert.Kernel16Ideal.Layers.whole Cert.Kernel16Ideal.Layers.nth
  pointwise []
  have sel : ∀ x y : EReal, Scalar.select (IntOp.cmpi CmpIPredicate.eq (BitVec.ofNat 32 ch.val) 0#32) x y = if ch.val = 0 then x else y := by
    intro x y
    fin_cases ch <;> rfl
  simp only [sel]
  have b0 : (p 0).val < 4 := (p 0).isLt
  have b1 : (p 1).val < 512 := (p 1).isLt
  have bc := ch.isLt
  have c0 : (p 0).val = 0 ∨ (p 0).val = 1 ∨ (p 0).val = 2 ∨ (p 0).val = 3 := by omega
  have c1 : ch.val = 0 ∨ ch.val = 1 := by omega
  by_cases h : (p 1).val < 256
  · have e : (p 1).val / 256 = 0 := by omega
    have f : (p 1).val % 256 = (p 1).val := by omega
    rcases c0 with c | c | c | c <;> rcases c1 with d | d <;> simp [c, d, e, f, h]
  · have e : (p 1).val / 256 = 1 := by omega
    have f : (p 1).val % 256 = (p 1).val - 256 := by omega
    rcases c0 with c | c | c | c <;> rcases c1 with d | d <;> simp [c, d, e, f, h]

/-- The reference's terms, element by element. -/
theorem change_at (w g m v : FVec Ideal S4x512x2048 .f32) :
    mulf (broadcastInDim S4x512x2048 ![] bcast_S_S4x512x2048 (constant S_ .f32 0xBA83126F#32)) (addf (Host.divf (Host.divf (addf (mulf (broadcastInDim S4x512x2048 ![] bcast_S_S4x512x2048 (constant S_ .f32 0x3F666666#32)) m) (mulf (broadcastInDim S4x512x2048 ![] bcast_S_S4x512x2048 (constant S_ .f32 0x3DCCCCCD#32)) g)) (broadcastInDim S4x512x2048 ![] bcast_S_S4x512x2048 (constant S_ .f32 0x3F26BD02#32))) (addf (Host.sqrt (Host.divf (addf (mulf (broadcastInDim S4x512x2048 ![] bcast_S_S4x512x2048 (constant S_ .f32 0x3F7FBE77#32)) v) (mulf (broadcastInDim S4x512x2048 ![] bcast_S_S4x512x2048 (constant S_ .f32 0x3A83126F#32)) (mulf g g))) (broadcastInDim S4x512x2048 ![] bcast_S_S4x512x2048 (constant S_ .f32 0x3C231ACC#32)))) (broadcastInDim S4x512x2048 ![] bcast_S_S4x512x2048 (constant S_ .f32 0x322BCC77#32)))) (mulf (broadcastInDim S4x512x2048 ![] bcast_S_S4x512x2048 (constant S_ .f32 0x3C23D70A#32)) w))
      = fun y => delta (w y) (g y) (m y) (v y) := by
  funext y
  pointwise [delta, change, newM, newV]
theorem moment_m_at (g m : FVec Ideal S4x512x2048 .f32) :
    addf (mulf (broadcastInDim S4x512x2048 ![] bcast_S_S4x512x2048 (constant S_ .f32 0x3F666666#32)) m) (mulf (broadcastInDim S4x512x2048 ![] bcast_S_S4x512x2048 (constant S_ .f32 0x3DCCCCCD#32)) g) = fun y => newM (g y) (m y) := by
  funext y
  pointwise [newM, newV]
theorem moment_v_at (g v : FVec Ideal S4x512x2048 .f32) :
    addf (mulf (broadcastInDim S4x512x2048 ![] bcast_S_S4x512x2048 (constant S_ .f32 0x3F7FBE77#32)) v) (mulf (broadcastInDim S4x512x2048 ![] bcast_S_S4x512x2048 (constant S_ .f32 0x3A83126F#32)) (mulf g g)) = fun y => newV (g y) (v y) := by
  funext y
  pointwise [newM, newV]
end

/-- The reference's gradient of a memory's arguments. -/
abbrev read (m' : (ℓ : Loc Cert.Reference16Ideal.nD Cert.Reference16Ideal.τ Cert.Reference16Ideal.sig) → Buf (Elt Ideal) ℓ) (c : Dev Cert.Reference16Ideal.nD) : FVec Ideal Cert.Reference16Ideal.S4x512x2048 .f32 :=
  stacked (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) (m' ((c.tc : Thread Cert.Reference16Ideal.nD Cert.Reference16Ideal.τ).loc Cert.Reference16Ideal.main_arg8)) (m' ((c.tc : Thread Cert.Reference16Ideal.nD Cert.Reference16Ideal.τ).loc Cert.Reference16Ideal.main_arg9)) (m' ((c.tc : Thread Cert.Reference16Ideal.nD Cert.Reference16Ideal.τ).loc Cert.Reference16Ideal.main_arg10)) (m' ((c.tc : Thread Cert.Reference16Ideal.nD Cert.Reference16Ideal.τ).loc Cert.Reference16Ideal.main_arg11))

set_option maxHeartbeats 4000000 in
/-- Both programs end with the same four results. -/
theorem algebraic : Cert.algebraic_Kernel16Ideal_Reference16Ideal := by
  intro m g m' g' hpre hagree
  obtain ⟨ch, hp⟩ := ideal_pinned m hpre
  have st : ∀ c : Dev Cert.Reference16Ideal.nD, read m' c = Cert.Kernel16Ideal.Layers.gradient ch m c := by
    intro c
    obtain ⟨-, -, -, h3, h4, h5, h6, h7, h8, h9, h10, h11⟩ := hagree c
    unfold read
    rw [h3, h4, h5, h6, h7, h8, h9, h10, h11, hp c]
    exact stacked_at ch _ _ _ _ _ _ _ _
  repeat' (refine Exists.intro ?_ ?_)
  rotate_right
  refine And.intro ?_ ?_
  · run_from Cert.Kernel16Ideal.Layers.run ch m g hp
  · run_from Cert.Reference16Ideal.Value.run (F := Ideal) m' g'
    · exact st c
    · exact (change_at _ (read m' c) _ _).trans (by rw [st c, (hagree c).1, (hagree c).2.1, (hagree c).2.2.1])
    · exact (moment_m_at (read m' c) _).trans (by rw [st c])
    · exact (moment_v_at (read m' c) _).trans (by rw [st c, (hagree c).2.2.1])

end Cert.Layers16

end
-- ==== Proof.Layers17Path.lean ====
/- What one point of the optimiser's step of four stacked layers leaves, by the half it reads (program 17). -/
module

public import proofs.«01_k».proof.Defs
public import proofs.«01_k».proof.Proof.Adam
public import proofs.«01_k».proof.Proof.Gen.Kernel17Ideal.Flash

@[expose] public section

set_option maxRecDepth 16384

noncomputable section

open Idealize.ShloMosaic Idealize.ShloMosaic.TcCoe Idealize.SL.Sem
open Idealize.ShloMosaic.Pipeline (Dat)

namespace Cert.Kernel17Ideal.Layers

open Cert.Kernel17Ideal Cert.Kernel17Ideal.Gen
open Cert.Adam (newM newV change delta)

variable (ch : Fin 2) (m : (ℓ : Loc nD τ sig) → Buf (Elt Ideal) ℓ) (ρ : Dev nD → PrngReg)

/-- The named reciprocals. -/
theorem named1 : Named.named (F := Ideal) κ "c1" (φ := .f32) 0x3FC48605#32 = ((8388608 / 5463681 : ℝ) : EReal) :=
  IdealRules.named_const.ideal_named_scalar _ _ _ _ rfl
theorem named2 : Named.named (F := Ideal) κ "c2" (φ := .f32) 0x42C8E6D3#32 = ((268435456 / 2672307 : ℝ) : EReal) :=
  IdealRules.named_const.ideal_named_scalar _ _ _ _ rfl

/-- The place in a flat block. -/
def flat (y : S1x64x3584.Idx) : S64x3584.Idx := ix2 (⟨(y 1).val, (y 1).isLt⟩ : Fin 64) (⟨(y 2).val, (y 2).isLt⟩ : Fin 3584)

/-- What a point leaves, of its blocks of the weights, the moments and the gradient. -/
def stored (w m v : FVec Ideal S1x64x3584 .f32) (g : FVec Ideal S64x3584 .f32) : (S1x64x3584.Idx → EReal) × (S1x64x3584.Idx → EReal) × (S1x64x3584.Idx → EReal) × (S1x64x3584.Idx → EReal) :=
  (fun y => g (flat y), fun y => delta (w y) (g (flat y)) (m y) (v y), fun y => newM (g (flat y)) (m y), fun y => newV (g (flat y)) (v y))

/-- Path A: the gradient is window 3's block. -/
theorem pathA (c : Dev nD) (t : Fin (cfgA ch).N) (prev) (q0 : P0_0 ch t) : step0 ch m ρ c t prev = stored (iblk ch m ρ c 0 t) (iblk ch m ρ c 1 t) (iblk ch m ρ c 2 t) (iblk ch m ρ c 3 t) := by
  rw [step0_A ch m ρ c t prev q0]
  unfold stored
  refine Prod.ext ?_ (Prod.ext ?_ (Prod.ext ?_ ?_)) <;> funext y
  · frame_out
    rw [View.read_rep]
    generalize iblk ch m ρ c 3 t = g
    pointwise [k0_pay6, k0_pay7, k0_pay8, k0_pay9, k0_pay10, k0_pay11, flat]
  · frame_out
    simp only [View.read_rep]
    generalize iblk ch m ρ c 3 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay6, k0_pay7, k0_pay8, k0_pay9, k0_pay10, k0_pay11, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 3 t = g, iblk ch m ρ c 1 t = a
    pointwise [k0_pay6, k0_pay7, k0_pay8, k0_pay9, k0_pay10, k0_pay11, newM, flat]
  · frame_out
    simp only [View.read_rep]
    generalize iblk ch m ρ c 3 t = g, iblk ch m ρ c 2 t = b
    pointwise [k0_pay6, k0_pay7, k0_pay8, k0_pay9, k0_pay10, k0_pay11, newV, flat]

/-- Path B: the gradient is window 4's block. -/
theorem pathB (c : Dev nD) (t : Fin (cfgA ch).N) (prev) (q0 : ¬P0_0 ch t) (q1 : P0_1 ch t) : step0 ch m ρ c t prev = stored (iblk ch m ρ c 0 t) (iblk ch m ρ c 1 t) (iblk ch m ρ c 2 t) (iblk ch m ρ c 4 t) := by
  rw [step0_B ch m ρ c t prev q0 q1]
  unfold stored
  refine Prod.ext ?_ (Prod.ext ?_ (Prod.ext ?_ ?_)) <;> funext y
  · frame_out
    rw [View.read_rep]
    generalize iblk ch m ρ c 4 t = g
    pointwise [k0_pay12, k0_pay13, k0_pay14, k0_pay15, k0_pay16, k0_pay17, flat]
  · frame_out
    simp only [View.read_rep]
    generalize iblk ch m ρ c 4 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay12, k0_pay13, k0_pay14, k0_pay15, k0_pay16, k0_pay17, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 4 t = g, iblk ch m ρ c 1 t = a
    pointwise [k0_pay12, k0_pay13, k0_pay14, k0_pay15, k0_pay16, k0_pay17, newM, flat]
  · frame_out
    simp only [View.read_rep]
    generalize iblk ch m ρ c 4 t = g, iblk ch m ρ c 2 t = b
    pointwise [k0_pay12, k0_pay13, k0_pay14, k0_pay15, k0_pay16, k0_pay17, newV, flat]

/-- Path C: the gradient is window 5's block. -/
theorem pathC (c : Dev nD) (t : Fin (cfgA ch).N) (prev) (q0 : ¬P0_0 ch t) (q1 : ¬P0_1 ch t) (q2 : P0_2 ch t) : step0 ch m ρ c t prev = stored (iblk ch m ρ c 0 t) (iblk ch m ρ c 1 t) (iblk ch m ρ c 2 t) (iblk ch m ρ c 5 t) := by
  rw [step0_C ch m ρ c t prev q0 q1 q2]
  unfold stored
  refine Prod.ext ?_ (Prod.ext ?_ (Prod.ext ?_ ?_)) <;> funext y
  · frame_out
    rw [View.read_rep]
    generalize iblk ch m ρ c 5 t = g
    pointwise [k0_pay18, k0_pay19, k0_pay20, k0_pay21, k0_pay22, k0_pay23, flat]
  · frame_out
    simp only [View.read_rep]
    generalize iblk ch m ρ c 5 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay18, k0_pay19, k0_pay20, k0_pay21, k0_pay22, k0_pay23, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 5 t = g, iblk ch m ρ c 1 t = a
    pointwise [k0_pay18, k0_pay19, k0_pay20, k0_pay21, k0_pay22, k0_pay23, newM, flat]
  · frame_out
    simp only [View.read_rep]
    generalize iblk ch m ρ c 5 t = g, iblk ch m ρ c 2 t = b
    pointwise [k0_pay18, k0_pay19, k0_pay20, k0_pay21, k0_pay22, k0_pay23, newV, flat]

/-- Path D: the gradient is window 6's block. -/
theorem pathD (c : Dev nD) (t : Fin (cfgA ch).N) (prev) (q0 : ¬P0_0 ch t) (q1 : ¬P0_1 ch t) (q2 : ¬P0_2 ch t) (q3 : P0_3 ch t) : step0 ch m ρ c t prev = stored (iblk ch m ρ c 0 t) (iblk ch m ρ c 1 t) (iblk ch m ρ c 2 t) (iblk ch m ρ c 6 t) := by
  rw [step0_D ch m ρ c t prev q0 q1 q2 q3]
  unfold stored
  refine Prod.ext ?_ (Prod.ext ?_ (Prod.ext ?_ ?_)) <;> funext y
  · frame_out
    rw [View.read_rep]
    generalize iblk ch m ρ c 6 t = g
    pointwise [k0_pay24, k0_pay25, k0_pay26, k0_pay27, k0_pay28, k0_pay29, flat]
  · frame_out
    simp only [View.read_rep]
    generalize iblk ch m ρ c 6 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay24, k0_pay25, k0_pay26, k0_pay27, k0_pay28, k0_pay29, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 6 t = g, iblk ch m ρ c 1 t = a
    pointwise [k0_pay24, k0_pay25, k0_pay26, k0_pay27, k0_pay28, k0_pay29, newM, flat]
  · frame_out
    simp only [View.read_rep]
    generalize iblk ch m ρ c 6 t = g, iblk ch m ρ c 2 t = b
    pointwise [k0_pay24, k0_pay25, k0_pay26, k0_pay27, k0_pay28, k0_pay29, newV, flat]

/-- Path E: the gradient is window 7's block. -/
theorem pathE (c : Dev nD) (t : Fin (cfgA ch).N) (prev) (q0 : ¬P0_0 ch t) (q1 : ¬P0_1 ch t) (q2 : ¬P0_2 ch t) (q3 : ¬P0_3 ch t) (q4 : P0_4 ch t) : step0 ch m ρ c t prev = stored (iblk ch m ρ c 0 t) (iblk ch m ρ c 1 t) (iblk ch m ρ c 2 t) (iblk ch m ρ c 7 t) := by
  rw [step0_E ch m ρ c t prev q0 q1 q2 q3 q4]
  unfold stored
  refine Prod.ext ?_ (Prod.ext ?_ (Prod.ext ?_ ?_)) <;> funext y
  · frame_out
    rw [View.read_rep]
    generalize iblk ch m ρ c 7 t = g
    pointwise [k0_pay30, k0_pay31, k0_pay32, k0_pay33, k0_pay34, k0_pay35, flat]
  · frame_out
    simp only [View.read_rep]
    generalize iblk ch m ρ c 7 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay30, k0_pay31, k0_pay32, k0_pay33, k0_pay34, k0_pay35, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 7 t = g, iblk ch m ρ c 1 t = a
    pointwise [k0_pay30, k0_pay31, k0_pay32, k0_pay33, k0_pay34, k0_pay35, newM, flat]
  · frame_out
    simp only [View.read_rep]
    generalize iblk ch m ρ c 7 t = g, iblk ch m ρ c 2 t = b
    pointwise [k0_pay30, k0_pay31, k0_pay32, k0_pay33, k0_pay34, k0_pay35, newV, flat]

/-- Path F: the gradient is window 8's block. -/
theorem pathF (c : Dev nD) (t : Fin (cfgA ch).N) (prev) (q0 : ¬P0_0 ch t) (q1 : ¬P0_1 ch t) (q2 : ¬P0_2 ch t) (q3 : ¬P0_3 ch t) (q4 : ¬P0_4 ch t) (q5 : P0_5 ch t) : step0 ch m ρ c t prev = stored (iblk ch m ρ c 0 t) (iblk ch m ρ c 1 t) (iblk ch m ρ c 2 t) (iblk ch m ρ c 8 t) := by
  rw [step0_F ch m ρ c t prev q0 q1 q2 q3 q4 q5]
  unfold stored
  refine Prod.ext ?_ (Prod.ext ?_ (Prod.ext ?_ ?_)) <;> funext y
  · frame_out
    rw [View.read_rep]
    generalize iblk ch m ρ c 8 t = g
    pointwise [k0_pay36, k0_pay37, k0_pay38, k0_pay39, k0_pay40, k0_pay41, flat]
  · frame_out
    simp only [View.read_rep]
    generalize iblk ch m ρ c 8 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay36, k0_pay37, k0_pay38, k0_pay39, k0_pay40, k0_pay41, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 8 t = g, iblk ch m ρ c 1 t = a
    pointwise [k0_pay36, k0_pay37, k0_pay38, k0_pay39, k0_pay40, k0_pay41, newM, flat]
  · frame_out
    simp only [View.read_rep]
    generalize iblk ch m ρ c 8 t = g, iblk ch m ρ c 2 t = b
    pointwise [k0_pay36, k0_pay37, k0_pay38, k0_pay39, k0_pay40, k0_pay41, newV, flat]

/-- Path G: the gradient is window 9's block. -/
theorem pathG (c : Dev nD) (t : Fin (cfgA ch).N) (prev) (q0 : ¬P0_0 ch t) (q1 : ¬P0_1 ch t) (q2 : ¬P0_2 ch t) (q3 : ¬P0_3 ch t) (q4 : ¬P0_4 ch t) (q5 : ¬P0_5 ch t) (q6 : P0_6 ch t) : step0 ch m ρ c t prev = stored (iblk ch m ρ c 0 t) (iblk ch m ρ c 1 t) (iblk ch m ρ c 2 t) (iblk ch m ρ c 9 t) := by
  rw [step0_G ch m ρ c t prev q0 q1 q2 q3 q4 q5 q6]
  unfold stored
  refine Prod.ext ?_ (Prod.ext ?_ (Prod.ext ?_ ?_)) <;> funext y
  · frame_out
    rw [View.read_rep]
    generalize iblk ch m ρ c 9 t = g
    pointwise [k0_pay42, k0_pay43, k0_pay44, k0_pay45, k0_pay46, k0_pay47, flat]
  · frame_out
    simp only [View.read_rep]
    generalize iblk ch m ρ c 9 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay42, k0_pay43, k0_pay44, k0_pay45, k0_pay46, k0_pay47, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 9 t = g, iblk ch m ρ c 1 t = a
    pointwise [k0_pay42, k0_pay43, k0_pay44, k0_pay45, k0_pay46, k0_pay47, newM, flat]
  · frame_out
    simp only [View.read_rep]
    generalize iblk ch m ρ c 9 t = g, iblk ch m ρ c 2 t = b
    pointwise [k0_pay42, k0_pay43, k0_pay44, k0_pay45, k0_pay46, k0_pay47, newV, flat]

/-- Path H: the gradient is window 10's block. -/
theorem pathH (c : Dev nD) (t : Fin (cfgA ch).N) (prev) (q0 : ¬P0_0 ch t) (q1 : ¬P0_1 ch t) (q2 : ¬P0_2 ch t) (q3 : ¬P0_3 ch t) (q4 : ¬P0_4 ch t) (q5 : ¬P0_5 ch t) (q6 : ¬P0_6 ch t) : step0 ch m ρ c t prev = stored (iblk ch m ρ c 0 t) (iblk ch m ρ c 1 t) (iblk ch m ρ c 2 t) (iblk ch m ρ c 10 t) := by
  rw [step0_H ch m ρ c t prev q0 q1 q2 q3 q4 q5 q6]
  unfold stored
  refine Prod.ext ?_ (Prod.ext ?_ (Prod.ext ?_ ?_)) <;> funext y
  · frame_out
    rw [View.read_rep]
    generalize iblk ch m ρ c 10 t = g
    pointwise [k0_pay48, k0_pay49, k0_pay50, k0_pay51, k0_pay52, k0_pay53, flat]
  · frame_out
    simp only [View.read_rep]
    generalize iblk ch m ρ c 10 t = g, iblk ch m ρ c 0 t = w, iblk ch m ρ c 1 t = a, iblk ch m ρ c 2 t = b
    refine Eq.trans (b := change (w y) (newM (g (flat y)) (a y) * Named.named (F := Ideal) κ "c1" (φ := .f32) 0x3FC48605#32) (newV (g (flat y)) (b y) * Named.named (F := Ideal) κ "c2" (φ := .f32) 0x42C8E6D3#32)) ?_ ?_
    · pointwise [k0_pay48, k0_pay49, k0_pay50, k0_pay51, k0_pay52, k0_pay53, k0_pay1, k0_pay2, k0_pay3, k0_pay4, k0_pay5, k0_pay54, k0_pay55, k0_pay56, change, newM, newV, flat]
    · rw [named1, named2, Cert.Adam.first, Cert.Adam.second]; rfl
  · frame_out
    simp only [View.read_rep]
    generalize iblk ch m ρ c 10 t = g, iblk ch m ρ c 1 t = a
    pointwise [k0_pay48, k0_pay49, k0_pay50, k0_pay51, k0_pay52, k0_pay53, newM, flat]
  · frame_out
    simp only [View.read_rep]
    generalize iblk ch m ρ c 10 t = g, iblk ch m ρ c 2 t = b
    pointwise [k0_pay48, k0_pay49, k0_pay50, k0_pay51, k0_pay52, k0_pay53, newV, flat]

end Cert.Kernel17Ideal.Layers

end
-- ==== Proof.Layers17Places.lean ====
/- The four arrays after the optimiser's step of four stacked layers (program 17). -/
module

public import proofs.«01_k».proof.Defs
public import proofs.«01_k».proof.Proof.Layers17Path

@[expose] public section

set_option maxRecDepth 16384

noncomputable section

open Idealize.ShloMosaic Idealize.ShloMosaic.TcCoe Idealize.SL.Sem
open Idealize.ShloMosaic.Pipeline (Dat)

set_option synthInstance.maxSize 4096
set_option synthInstance.maxHeartbeats 1000000

namespace Cert.Kernel17Ideal.Layers

open Cert.Kernel17Ideal Cert.Kernel17Ideal.Gen
open Cert.Adam (newM newV change delta)

variable (ch : Fin 2) (m : (ℓ : Loc nD τ sig) → Buf (Elt Ideal) ℓ) (ρ : Dev nD → PrngReg)

/-- Where a point's block of a stacked array lies. -/
abbrev Stacked (ch : Fin 2) (w : Fin 15) (h : (((cfgA ch).win w).shape.rank = 3)) (t : Fin (cfgA ch).N) : Prop :=
  ((cfgA ch).win w).index t (Fin.cast h.symm 0) = t.val / 32 ∧ ((cfgA ch).win w).index t (Fin.cast h.symm 1) = t.val % 32 ∧ ((cfgA ch).win w).index t (Fin.cast h.symm 2) = 0

/-- Which half each point reads, and where its blocks lie. -/
abbrev At (ch : Fin 2) (t : Fin (cfgA ch).N) : Prop :=
  (Stacked ch 0 rfl t)
  ∧ (Stacked ch 1 rfl t)
  ∧ (Stacked ch 2 rfl t)
  ∧ (Stacked ch 11 rfl t)
  ∧ (Stacked ch 12 rfl t)
  ∧ (Stacked ch 13 rfl t)
  ∧ (Stacked ch 14 rfl t)
  ∧ (P0_0 ch t ↔ t.val / 32 = 0 ∧ t.val % 32 / 16 = ch.val)
  ∧ (t.val / 32 = 0 ∧ t.val % 32 / 16 = ch.val → ((cfgA ch).win 3).index t (0 : Fin 2) = t.val % 16 ∧ ((cfgA ch).win 3).index t (1 : Fin 2) = 0)
  ∧ (P0_1 ch t ↔ t.val / 32 = 0 ∧ t.val % 32 / 16 ≠ ch.val)
  ∧ (t.val / 32 = 0 ∧ t.val % 32 / 16 ≠ ch.val → ((cfgA ch).win 4).index t (0 : Fin 2) = t.val % 16 ∧ ((cfgA ch).win 4).index t (1 : Fin 2) = 0)
  ∧ (P0_2 ch t ↔ t.val / 32 = 1 ∧ t.val % 32 / 16 = ch.val)
  ∧ (t.val / 32 = 1 ∧ t.val % 32 / 16 = ch.val → ((cfgA ch).win 5).index t (0 : Fin 2) = t.val % 16 ∧ ((cfgA ch).win 5).index t (1 : Fin 2) = 0)
  ∧ (P0_3 ch t ↔ t.val / 32 = 1 ∧ t.val % 32 / 16 ≠ ch.val)
  ∧ (t.val / 32 = 1 ∧ t.val % 32 / 16 ≠ ch.val → ((cfgA ch).win 6).index t (0 : Fin 2) = t.val % 16 ∧ ((cfgA ch).win 6).index t (1 : Fin 2) = 0)
  ∧ (P0_4 ch t ↔ t.val / 32 = 2 ∧ t.val % 32 / 16 = ch.val)
  ∧ (t.val / 32 = 2 ∧ t.val % 32 / 16 = ch.val → ((cfgA ch).win 7).index t (0 : Fin 2) = t.val % 16 ∧ ((cfgA ch).win 7).index t (1 : Fin 2) = 0)
  ∧ (P0_5 ch t ↔ t.val / 32 = 2 ∧ t.val % 32 / 16 ≠ ch.val)
  ∧ (t.val / 32 = 2 ∧ t.val % 32 / 16 ≠ ch.val → ((cfgA ch).win 8).index t (0 : Fin 2) = t.val % 16 ∧ ((cfgA ch).win 8).index t (1 : Fin 2) = 0)
  ∧ (P0_6 ch t ↔ t.val / 32 = 3 ∧ t.val % 32 / 16 = ch.val)
  ∧ (t.val / 32 = 3 ∧ t.val % 32 / 16 = ch.val → ((cfgA ch).win 9).index t (0 : Fin 2) = t.val % 16 ∧ ((cfgA ch).win 9).index t (1 : Fin 2) = 0)
  ∧ (t.val / 32 = 3 ∧ t.val % 32 / 16 ≠ ch.val → ((cfgA ch).win 10).index t (0 : Fin 2) = t.val % 16 ∧ ((cfgA ch).win 10).index t (1 : Fin 2) = 0)
theorem at_0 : ∀ t : Fin (cfgA (⟨0, by omega⟩ : Fin 2)).N, At (⟨0, by omega⟩ : Fin 2) t := by decide +kernel
theorem at_1 : ∀ t : Fin (cfgA (⟨1, by omega⟩ : Fin 2)).N, At (⟨1, by omega⟩ : Fin 2) t := by decide +kernel
theorem at_all : ∀ (ch : Fin 2) (t : Fin (cfgA ch).N), At ch t := fun ch => match ch with
  | ⟨0, _⟩ => at_0
  | ⟨1, _⟩ => at_1

/-- The place in the stack of a block's element. -/
def pos (t : Fin (cfgA ch).N) (y : S1x64x3584.Idx) : S4x2048x3584.Idx := ix3 (⟨t.val / 32, by have h1 : t.val < 128 := lt_of_lt_of_eq t.isLt N_0; omega⟩ : Fin 4) (⟨t.val % 32 * 64 + (y 1).val, by have h2 : (y 1).val < 64 := (y 1).isLt; omega⟩ : Fin 2048) (⟨(y 2).val, (y 2).isLt⟩ : Fin 3584)

theorem emb0 (t : Fin (cfgA ch).N) (y : S1x64x3584.Idx) : (((cfgA ch).win 0).blk t).view.emb y = pos ch t y := by
  have h := (at_all ch t).1
  unfold pos
  blk_ext []
  · exact h.1
  · exact congrArg (fun k => k * 64 + (y 1).val) h.2.1
  · exact (congrArg (fun k => k * 3584 + (y 2).val) h.2.2).trans (by simp)
theorem emb1 (t : Fin (cfgA ch).N) (y : S1x64x3584.Idx) : (((cfgA ch).win 1).blk t).view.emb y = pos ch t y := by
  have h := (at_all ch t).2.1
  unfold pos
  blk_ext []
  · exact h.1
  · exact congrArg (fun k => k * 64 + (y 1).val) h.2.1
  · exact (congrArg (fun k => k * 3584 + (y 2).val) h.2.2).trans (by simp)
theorem emb2 (t : Fin (cfgA ch).N) (y : S1x64x3584.Idx) : (((cfgA ch).win 2).blk t).view.emb y = pos ch t y := by
  have h := (at_all ch t).2.2.1
  unfold pos
  blk_ext []
  · exact h.1
  · exact congrArg (fun k => k * 64 + (y 1).val) h.2.1
  · exact (congrArg (fun k => k * 3584 + (y 2).val) h.2.2).trans (by simp)
theorem emb11 (t : Fin (cfgA ch).N) (y : S1x64x3584.Idx) : (((cfgA ch).win 11).blk t).view.emb y = pos ch t y := by
  have h := (at_all ch t).2.2.2.1
  unfold pos
  blk_ext []
  · exact h.1
  · exact congrArg (fun k => k * 64 + (y 1).val) h.2.1
  · exact (congrArg (fun k => k * 3584 + (y 2).val) h.2.2).trans (by simp)
theorem emb12 (t : Fin (cfgA ch).N) (y : S1x64x3584.Idx) : (((cfgA ch).win 12).blk t).view.emb y = pos ch t y := by
  have h := (at_all ch t).2.2.2.2.1
  unfold pos
  blk_ext []
  · exact h.1
  · exact congrArg (fun k => k * 64 + (y 1).val) h.2.1
  · exact (congrArg (fun k => k * 3584 + (y 2).val) h.2.2).trans (by simp)
theorem emb13 (t : Fin (cfgA ch).N) (y : S1x64x3584.Idx) : (((cfgA ch).win 13).blk t).view.emb y = pos ch t y := by
  have h := (at_all ch t).2.2.2.2.2.1
  unfold pos
  blk_ext []
  · exact h.1
  · exact congrArg (fun k => k * 64 + (y 1).val) h.2.1
  · exact (congrArg (fun k => k * 3584 + (y 2).val) h.2.2).trans (by simp)
theorem emb14 (t : Fin (cfgA ch).N) (y : S1x64x3584.Idx) : (((cfgA ch).win 14).blk t).view.emb y = pos ch t y := by
  have h := (at_all ch t).2.2.2.2.2.2.1
  unfold pos
  blk_ext []
  · exact h.1
  · exact congrArg (fun k => k * 64 + (y 1).val) h.2.1
  · exact (congrArg (fun k => k * 3584 + (y 2).val) h.2.2).trans (by simp)

/-- The place in a half of a block's element. -/
def row (t : Fin (cfgA ch).N) (y : S64x3584.Idx) : S1024x3584.Idx := ix2 (⟨t.val % 16 * 64 + (y 0).val, by have h2 : (y 0).val < 64 := (y 0).isLt; omega⟩ : Fin 1024) (⟨(y 1).val, (y 1).isLt⟩ : Fin 3584)

theorem half3 (t : Fin (cfgA ch).N) (h : t.val / 32 = 0 ∧ t.val % 32 / 16 = ch.val) (y : S64x3584.Idx) : (((cfgA ch).win 3).blk t).view.emb y = row ch t y := by
  have h := (at_all ch t).2.2.2.2.2.2.2.2.1 h
  unfold row
  blk_ext []
  · exact congrArg (fun k => k * 64 + (y 0).val) h.1
  · exact (congrArg (fun k => k * 3584 + (y 1).val) h.2).trans (by simp)
theorem half4 (t : Fin (cfgA ch).N) (h : t.val / 32 = 0 ∧ t.val % 32 / 16 ≠ ch.val) (y : S64x3584.Idx) : (((cfgA ch).win 4).blk t).view.emb y = row ch t y := by
  have h := (at_all ch t).2.2.2.2.2.2.2.2.2.2.1 h
  unfold row
  blk_ext []
  · exact congrArg (fun k => k * 64 + (y 0).val) h.1
  · exact (congrArg (fun k => k * 3584 + (y 1).val) h.2).trans (by simp)
theorem half5 (t : Fin (cfgA ch).N) (h : t.val / 32 = 1 ∧ t.val % 32 / 16 = ch.val) (y : S64x3584.Idx) : (((cfgA ch).win 5).blk t).view.emb y = row ch t y := by
  have h := (at_all ch t).2.2.2.2.2.2.2.2.2.2.2.2.1 h
  unfold row
  blk_ext []
  · exact congrArg (fun k => k * 64 + (y 0).val) h.1
  · exact (congrArg (fun k => k * 3584 + (y 1).val) h.2).trans (by simp)
theorem half6 (t : Fin (cfgA ch).N) (h : t.val / 32 = 1 ∧ t.val % 32 / 16 ≠ ch.val) (y : S64x3584.Idx) : (((cfgA ch).win 6).blk t).view.emb y = row ch t y := by
  have h := (at_all ch t).2.2.2.2.2.2.2.2.2.2.2.2.2.2.1 h
  unfold row
  blk_ext []
  · exact congrArg (fun k => k * 64 + (y 0).val) h.1
  · exact (congrArg (fun k => k * 3584 + (y 1).val) h.2).trans (by simp)
theorem half7 (t : Fin (cfgA ch).N) (h : t.val / 32 = 2 ∧ t.val % 32 / 16 = ch.val) (y : S64x3584.Idx) : (((cfgA ch).win 7).blk t).view.emb y = row ch t y := by
  have h := (at_all ch t).2.2.2.2.2.2.2.2.2.2.2.2.2.2.2.2.1 h
  unfold row
  blk_ext []
  · exact congrArg (fun k => k * 64 + (y 0).val) h.1
  · exact (congrArg (fun k => k * 3584 + (y 1).val) h.2).trans (by simp)
theorem half8 (t : Fin (cfgA ch).N) (h : t.val / 32 = 2 ∧ t.val % 32 / 16 ≠ ch.val) (y : S64x3584.Idx) : (((cfgA ch).win 8).blk t).view.emb y = row ch t y := by
  have h := (at_all ch t).2.2.2.2.2.2.2.2.2.2.2.2.2.2.2.2.2.2.1 h
  unfold row
  blk_ext []
  · exact congrArg (fun k => k * 64 + (y 0).val) h.1
  · exact (congrArg (fun k => k * 3584 + (y 1).val) h.2).trans (by simp)
theorem half9 (t : Fin (cfgA ch).N) (h : t.val / 32 = 3 ∧ t.val % 32 / 16 = ch.val) (y : S64x3584.Idx) : (((cfgA ch).win 9).blk t).view.emb y = row ch t y := by
  have h := (at_all ch t).2.2.2.2.2.2.2.2.2.2.2.2.2.2.2.2.2.2.2.2.1 h
  unfold row
  blk_ext []
  · exact congrArg (fun k => k * 64 + (y 0).val) h.1
  · exact (congrArg (fun k => k * 3584 + (y 1).val) h.2).trans (by simp)
theorem half10 (t : Fin (cfgA ch).N) (h : t.val / 32 = 3 ∧ t.val % 32 / 16 ≠ ch.val) (y : S64x3584.Idx) : (((cfgA ch).win 10).blk t).view.emb y = row ch t y := by
  have h := (at_all ch t).2.2.2.2.2.2.2.2.2.2.2.2.2.2.2.2.2.2.2.2.2 h
  unfold row
  blk_ext []
  · exact congrArg (fun k => k * 64 + (y 0).val) h.1
  · exact (congrArg (fun k => k * 3584 + (y 1).val) h.2).trans (by simp)

end Cert.Kernel17Ideal.Layers

end
-- ==== Proof.Layers17Arrays.lean ====
/- The four arrays after the optimiser's step of four stacked layers (program 17). -/
module

public import proofs.«01_k».proof.Defs
public import proofs.«01_k».proof.Proof.Layers17Places
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.Layers

open Cert.Kernel17Ideal Cert.Kernel17Ideal.Gen
open Cert.Adam (newM newV change delta)

variable (ch : Fin 2) (m : (ℓ : Loc nD τ sig) → Buf (Elt Ideal) ℓ) (ρ : Dev nD → PrngReg)

theorem read0 (c : Dev nD) (t : Fin (cfgA ch).N) (y : S1x64x3584.Idx) : (show FVec Ideal S1x64x3584 .f32 from iblk ch m ρ c 0 t) y = (m ((c : Thread nD τ).loc main_arg0) : FVec Ideal S4x2048x3584 .f32) (pos ch t y) := by
  show (m ((c : Thread nD τ).loc main_arg0) : FVec Ideal S4x2048x3584 .f32) ((((cfgA ch).win 0).blk t).view.emb y) = _
  rw [emb0]
theorem read1 (c : Dev nD) (t : Fin (cfgA ch).N) (y : S1x64x3584.Idx) : (show FVec Ideal S1x64x3584 .f32 from iblk ch m ρ c 1 t) y = (m ((c : Thread nD τ).loc main_arg1) : FVec Ideal S4x2048x3584 .f32) (pos ch t y) := by
  show (m ((c : Thread nD τ).loc main_arg1) : FVec Ideal S4x2048x3584 .f32) ((((cfgA ch).win 1).blk t).view.emb y) = _
  rw [emb1]
theorem read2 (c : Dev nD) (t : Fin (cfgA ch).N) (y : S1x64x3584.Idx) : (show FVec Ideal S1x64x3584 .f32 from iblk ch m ρ c 2 t) y = (m ((c : Thread nD τ).loc main_arg2) : FVec Ideal S4x2048x3584 .f32) (pos ch t y) := by
  show (m ((c : Thread nD τ).loc main_arg2) : FVec Ideal S4x2048x3584 .f32) ((((cfgA ch).win 2).blk t).view.emb y) = _
  rw [emb2]
theorem read3 (c : Dev nD) (t : Fin (cfgA ch).N) (h : t.val / 32 = 0 ∧ t.val % 32 / 16 = ch.val) (y : S64x3584.Idx) : (show FVec Ideal S64x3584 .f32 from iblk ch m ρ c 3 t) y = (m ((c : Thread nD τ).loc main_arg4) : FVec Ideal S1024x3584 .f32) (row ch t y) := by
  show (m ((c : Thread nD τ).loc main_arg4) : FVec Ideal S1024x3584 .f32) ((((cfgA ch).win 3).blk t).view.emb y) = _
  rw [half3 ch t h]
theorem read4 (c : Dev nD) (t : Fin (cfgA ch).N) (h : t.val / 32 = 0 ∧ t.val % 32 / 16 ≠ ch.val) (y : S64x3584.Idx) : (show FVec Ideal S64x3584 .f32 from iblk ch m ρ c 4 t) y = (m ((c : Thread nD τ).loc main_arg8) : FVec Ideal S1024x3584 .f32) (row ch t y) := by
  show (m ((c : Thread nD τ).loc main_arg8) : FVec Ideal S1024x3584 .f32) ((((cfgA ch).win 4).blk t).view.emb y) = _
  rw [half4 ch t h]
theorem read5 (c : Dev nD) (t : Fin (cfgA ch).N) (h : t.val / 32 = 1 ∧ t.val % 32 / 16 = ch.val) (y : S64x3584.Idx) : (show FVec Ideal S64x3584 .f32 from iblk ch m ρ c 5 t) y = (m ((c : Thread nD τ).loc main_arg5) : FVec Ideal S1024x3584 .f32) (row ch t y) := by
  show (m ((c : Thread nD τ).loc main_arg5) : FVec Ideal S1024x3584 .f32) ((((cfgA ch).win 5).blk t).view.emb y) = _
  rw [half5 ch t h]
theorem read6 (c : Dev nD) (t : Fin (cfgA ch).N) (h : t.val / 32 = 1 ∧ t.val % 32 / 16 ≠ ch.val) (y : S64x3584.Idx) : (show FVec Ideal S64x3584 .f32 from iblk ch m ρ c 6 t) y = (m ((c : Thread nD τ).loc main_arg9) : FVec Ideal S1024x3584 .f32) (row ch t y) := by
  show (m ((c : Thread nD τ).loc main_arg9) : FVec Ideal S1024x3584 .f32) ((((cfgA ch).win 6).blk t).view.emb y) = _
  rw [half6 ch t h]
theorem read7 (c : Dev nD) (t : Fin (cfgA ch).N) (h : t.val / 32 = 2 ∧ t.val % 32 / 16 = ch.val) (y : S64x3584.Idx) : (show FVec Ideal S64x3584 .f32 from iblk ch m ρ c 7 t) y = (m ((c : Thread nD τ).loc main_arg6) : FVec Ideal S1024x3584 .f32) (row ch t y) := by
  show (m ((c : Thread nD τ).loc main_arg6) : FVec Ideal S1024x3584 .f32) ((((cfgA ch).win 7).blk t).view.emb y) = _
  rw [half7 ch t h]
theorem read8 (c : Dev nD) (t : Fin (cfgA ch).N) (h : t.val / 32 = 2 ∧ t.val % 32 / 16 ≠ ch.val) (y : S64x3584.Idx) : (show FVec Ideal S64x3584 .f32 from iblk ch m ρ c 8 t) y = (m ((c : Thread nD τ).loc main_arg10) : FVec Ideal S1024x3584 .f32) (row ch t y) := by
  show (m ((c : Thread nD τ).loc main_arg10) : FVec Ideal S1024x3584 .f32) ((((cfgA ch).win 8).blk t).view.emb y) = _
  rw [half8 ch t h]
theorem read9 (c : Dev nD) (t : Fin (cfgA ch).N) (h : t.val / 32 = 3 ∧ t.val % 32 / 16 = ch.val) (y : S64x3584.Idx) : (show FVec Ideal S64x3584 .f32 from iblk ch m ρ c 9 t) y = (m ((c : Thread nD τ).loc main_arg7) : FVec Ideal S1024x3584 .f32) (row ch t y) := by
  show (m ((c : Thread nD τ).loc main_arg7) : FVec Ideal S1024x3584 .f32) ((((cfgA ch).win 9).blk t).view.emb y) = _
  rw [half9 ch t h]
theorem read10 (c : Dev nD) (t : Fin (cfgA ch).N) (h : t.val / 32 = 3 ∧ t.val % 32 / 16 ≠ ch.val) (y : S64x3584.Idx) : (show FVec Ideal S64x3584 .f32 from iblk ch m ρ c 10 t) y = (m ((c : Thread nD τ).loc main_arg11) : FVec Ideal S1024x3584 .f32) (row ch t y) := by
  show (m ((c : Thread nD τ).loc main_arg11) : FVec Ideal S1024x3584 .f32) ((((cfgA ch).win 10).blk t).view.emb y) = _
  rw [half10 ch t h]

/-- One of four things, by number. -/
def nth {α : Type} (k : ℕ) (a b c d : α) : α := if k = 0 then a else if k = 1 then b else if k = 2 then c else d

/-- The gradient of the stack, put together of the halves: a layer's half `ch` is the device's own, the other is the received one. -/
def whole (ch : Fin 2) (a0 a1 a2 a3 b0 b1 b2 b3 : FVec Ideal S1024x3584 .f32) : FVec Ideal S4x2048x3584 .f32 := fun p =>
  (if (p 1).val / 1024 = ch.val then nth (p 0).val a0 a1 a2 a3 else nth (p 0).val b0 b1 b2 b3) (ix2 (⟨(p 1).val % 1024, Nat.mod_lt _ (by decide)⟩ : Fin 1024) (⟨(p 2).val, (p 2).isLt⟩ : Fin 3584))

/-- The gradient of the launch's arguments. -/
abbrev gradient (c : Dev nD) : FVec Ideal S4x2048x3584 .f32 := whole ch (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- What a whole gradient reads at a block's place. -/
theorem whole_own (t : Fin (cfgA ch).N) (y : S1x64x3584.Idx) (h : t.val % 32 / 16 = ch.val) (a0 a1 a2 a3 b0 b1 b2 b3 : FVec Ideal S1024x3584 .f32) :
    whole ch a0 a1 a2 a3 b0 b1 b2 b3 (pos ch t y) = nth (t.val / 32) a0 a1 a2 a3 (row ch t (flat y)) := by
  have hy : (y 1).val < 64 := (y 1).isLt
  have e : (t.val % 32 * 64 + (y 1).val) / 1024 = ch.val := by omega
  have f : (t.val % 32 * 64 + (y 1).val) % 1024 = t.val % 16 * 64 + (y 1).val := by omega
  unfold whole
  rw [if_pos (show ((pos ch t y) 1).val / 1024 = ch.val from e)]
  refine congrArg (nth (t.val / 32) a0 a1 a2 a3) ?_
  funext a
  refine Fin.ext ?_
  fin_cases a
  · exact f
  · rfl
theorem whole_other (t : Fin (cfgA ch).N) (y : S1x64x3584.Idx) (h : t.val % 32 / 16 ≠ ch.val) (a0 a1 a2 a3 b0 b1 b2 b3 : FVec Ideal S1024x3584 .f32) :
    whole ch a0 a1 a2 a3 b0 b1 b2 b3 (pos ch t y) = nth (t.val / 32) b0 b1 b2 b3 (row ch t (flat y)) := by
  have hy : (y 1).val < 64 := (y 1).isLt
  have e : (t.val % 32 * 64 + (y 1).val) / 1024 ≠ ch.val := by omega
  have f : (t.val % 32 * 64 + (y 1).val) % 1024 = t.val % 16 * 64 + (y 1).val := by omega
  unfold whole
  rw [if_neg (show ¬((pos ch t y) 1).val / 1024 = ch.val from e)]
  refine congrArg (nth (t.val / 32) b0 b1 b2 b3) ?_
  funext a
  refine Fin.ext ?_
  fin_cases a
  · exact f
  · rfl

/-- What a point leaves, of the gradient at its place. -/
theorem point (c : Dev nD) (t : Fin (cfgA ch).N) : ∃ g : FVec Ideal S64x3584 .f32,
    traj0 ch m ρ c t.val t.isLt = stored (iblk ch m ρ c 0 t) (iblk ch m ρ c 1 t) (iblk ch m ρ c 2 t) g
      ∧ ∀ y : S1x64x3584.Idx, g (flat y) = gradient ch m c (pos ch t y) := by
  have ht : t.val < 128 := lt_of_lt_of_eq t.isLt N_0
  rw [traj0_eq]
  have c0 := (at_all ch t).2.2.2.2.2.2.2.1
  have c1 := (at_all ch t).2.2.2.2.2.2.2.2.2.1
  have c2 := (at_all ch t).2.2.2.2.2.2.2.2.2.2.2.1
  have c3 := (at_all ch t).2.2.2.2.2.2.2.2.2.2.2.2.2.1
  have c4 := (at_all ch t).2.2.2.2.2.2.2.2.2.2.2.2.2.2.2.1
  have c5 := (at_all ch t).2.2.2.2.2.2.2.2.2.2.2.2.2.2.2.2.2.1
  have c6 := (at_all ch t).2.2.2.2.2.2.2.2.2.2.2.2.2.2.2.2.2.2.2.1
  by_cases q0 : P0_0 ch t
  · have k : t.val / 32 = 0 ∧ t.val % 32 / 16 = ch.val := c0.mp q0
    refine ⟨iblk ch m ρ c 3 t, pathA ch m ρ c t _ q0, fun y => ?_⟩
    refine (read3 ch m ρ c t k (flat y)).trans ?_
    rw [gradient, whole_own ch t y k.2, k.1]
    rfl
  by_cases q1 : P0_1 ch t
  · have k : t.val / 32 = 0 ∧ t.val % 32 / 16 ≠ ch.val := c1.mp q1
    refine ⟨iblk ch m ρ c 4 t, pathB ch m ρ c t _ q0 q1, fun y => ?_⟩
    refine (read4 ch m ρ c t k (flat y)).trans ?_
    rw [gradient, whole_other ch t y k.2, k.1]
    rfl
  by_cases q2 : P0_2 ch t
  · have k : t.val / 32 = 1 ∧ t.val % 32 / 16 = ch.val := c2.mp q2
    refine ⟨iblk ch m ρ c 5 t, pathC ch m ρ c t _ q0 q1 q2, fun y => ?_⟩
    refine (read5 ch m ρ c t k (flat y)).trans ?_
    rw [gradient, whole_own ch t y k.2, k.1]
    rfl
  by_cases q3 : P0_3 ch t
  · have k : t.val / 32 = 1 ∧ t.val % 32 / 16 ≠ ch.val := c3.mp q3
    refine ⟨iblk ch m ρ c 6 t, pathD ch m ρ c t _ q0 q1 q2 q3, fun y => ?_⟩
    refine (read6 ch m ρ c t k (flat y)).trans ?_
    rw [gradient, whole_other ch t y k.2, k.1]
    rfl
  by_cases q4 : P0_4 ch t
  · have k : t.val / 32 = 2 ∧ t.val % 32 / 16 = ch.val := c4.mp q4
    refine ⟨iblk ch m ρ c 7 t, pathE ch m ρ c t _ q0 q1 q2 q3 q4, fun y => ?_⟩
    refine (read7 ch m ρ c t k (flat y)).trans ?_
    rw [gradient, whole_own ch t y k.2, k.1]
    rfl
  by_cases q5 : P0_5 ch t
  · have k : t.val / 32 = 2 ∧ t.val % 32 / 16 ≠ ch.val := c5.mp q5
    refine ⟨iblk ch m ρ c 8 t, pathF ch m ρ c t _ q0 q1 q2 q3 q4 q5, fun y => ?_⟩
    refine (read8 ch m ρ c t k (flat y)).trans ?_
    rw [gradient, whole_other ch t y k.2, k.1]
    rfl
  by_cases q6 : P0_6 ch t
  · have k : t.val / 32 = 3 ∧ t.val % 32 / 16 = ch.val := c6.mp q6
    refine ⟨iblk ch m ρ c 9 t, pathG ch m ρ c t _ q0 q1 q2 q3 q4 q5 q6, fun y => ?_⟩
    refine (read9 ch m ρ c t k (flat y)).trans ?_
    rw [gradient, whole_own ch t y k.2, k.1]
    rfl
  · have k : t.val / 32 = 3 ∧ t.val % 32 / 16 ≠ ch.val := by
      have n0 : ¬(t.val / 32 = 0 ∧ t.val % 32 / 16 = ch.val) := fun z => q0 (c0.mpr z)
      have n1 : ¬(t.val / 32 = 0 ∧ t.val % 32 / 16 ≠ ch.val) := fun z => q1 (c1.mpr z)
      have n2 : ¬(t.val / 32 = 1 ∧ t.val % 32 / 16 = ch.val) := fun z => q2 (c2.mpr z)
      have n3 : ¬(t.val / 32 = 1 ∧ t.val % 32 / 16 ≠ ch.val) := fun z => q3 (c3.mpr z)
      have n4 : ¬(t.val / 32 = 2 ∧ t.val % 32 / 16 = ch.val) := fun z => q4 (c4.mpr z)
      have n5 : ¬(t.val / 32 = 2 ∧ t.val % 32 / 16 ≠ ch.val) := fun z => q5 (c5.mpr z)
      have n6 : ¬(t.val / 32 = 3 ∧ t.val % 32 / 16 = ch.val) := fun z => q6 (c6.mpr z)
      omega
    refine ⟨iblk ch m ρ c 10 t, pathH ch m ρ c t _ q0 q1 q2 q3 q4 q5 q6, fun y => ?_⟩
    refine (read10 ch m ρ c t k (flat y)).trans ?_
    rw [gradient, whole_other ch t y k.2, k.1]
    rfl

/-- The blocks of the results cover their arrays. -/
theorem covers11_0 : ((cfgA (⟨0, by omega⟩ : Fin 2)).win 11).Covers := by decide +kernel
theorem covers11_1 : ((cfgA (⟨1, by omega⟩ : Fin 2)).win 11).Covers := by decide +kernel
theorem covers11 : ∀ ch : Fin 2, ((cfgA ch).win 11).Covers := fun ch => match ch with
  | ⟨0, _⟩ => covers11_0
  | ⟨1, _⟩ => covers11_1
theorem covers12_0 : ((cfgA (⟨0, by omega⟩ : Fin 2)).win 12).Covers := by decide +kernel
theorem covers12_1 : ((cfgA (⟨1, by omega⟩ : Fin 2)).win 12).Covers := by decide +kernel
theorem covers12 : ∀ ch : Fin 2, ((cfgA ch).win 12).Covers := fun ch => match ch with
  | ⟨0, _⟩ => covers12_0
  | ⟨1, _⟩ => covers12_1
theorem covers13_0 : ((cfgA (⟨0, by omega⟩ : Fin 2)).win 13).Covers := by decide +kernel
theorem covers13_1 : ((cfgA (⟨1, by omega⟩ : Fin 2)).win 13).Covers := by decide +kernel
theorem covers13 : ∀ ch : Fin 2, ((cfgA ch).win 13).Covers := fun ch => match ch with
  | ⟨0, _⟩ => covers13_0
  | ⟨1, _⟩ => covers13_1
theorem covers14_0 : ((cfgA (⟨0, by omega⟩ : Fin 2)).win 14).Covers := by decide +kernel
theorem covers14_1 : ((cfgA (⟨1, by omega⟩ : Fin 2)).win 14).Covers := by decide +kernel
theorem covers14 : ∀ ch : Fin 2, ((cfgA ch).win 14).Covers := fun ch => match ch with
  | ⟨0, _⟩ => covers14_0
  | ⟨1, _⟩ => covers14_1

/-- The four arrays after the run. -/
theorem final11 (c : Dev nD) : (dats ch m ρ 0 c).arrAt 11 (cfgA ch).N = (gradient ch m c) := by
  refine (dats ch m ρ 0 c).arrAt_eq_of_covers 11 _ (covers11 ch) fun t _ y => ?_
  blk_simp
  rw [after0_11]
  obtain ⟨g, e, hg⟩ := point ch m ρ c t
  rw [e]
  refine Eq.trans ?_ (congrArg (gradient ch m c) (emb11 ch t y).symm)
  exact hg y
theorem final12 (c : Dev nD) : (dats ch m ρ 0 c).arrAt 12 (cfgA ch).N = (fun y => delta (m ((c : Thread nD τ).loc main_arg0) y) (gradient ch m c y) (m ((c : Thread nD τ).loc main_arg1) y) (m ((c : Thread nD τ).loc main_arg2) y) : FVec Ideal S4x2048x3584 .f32) := by
  refine (dats ch m ρ 0 c).arrAt_eq_of_covers 12 _ (covers12 ch) fun t _ y => ?_
  blk_simp
  rw [after0_12]
  obtain ⟨g, e, hg⟩ := point ch m ρ c t
  rw [e]
  refine Eq.trans ?_ (congrArg (fun y => delta (m ((c : Thread nD τ).loc main_arg0) y) (gradient ch m c y) (m ((c : Thread nD τ).loc main_arg1) y) (m ((c : Thread nD τ).loc main_arg2) y) : FVec Ideal S4x2048x3584 .f32) (emb12 ch t y).symm)
  exact congr (congr (congr (congrArg delta (read0 ch m ρ c t y)) (hg y)) (read1 ch m ρ c t y)) (read2 ch m ρ c t y)
theorem final13 (c : Dev nD) : (dats ch m ρ 0 c).arrAt 13 (cfgA ch).N = (fun y => newM (gradient ch m c y) (m ((c : Thread nD τ).loc main_arg1) y) : FVec Ideal S4x2048x3584 .f32) := by
  refine (dats ch m ρ 0 c).arrAt_eq_of_covers 13 _ (covers13 ch) fun t _ y => ?_
  blk_simp
  rw [after0_13]
  obtain ⟨g, e, hg⟩ := point ch m ρ c t
  rw [e]
  refine Eq.trans ?_ (congrArg (fun y => newM (gradient ch m c y) (m ((c : Thread nD τ).loc main_arg1) y) : FVec Ideal S4x2048x3584 .f32) (emb13 ch t y).symm)
  exact congr (congrArg newM (hg y)) (read1 ch m ρ c t y)
theorem final14 (c : Dev nD) : (dats ch m ρ 0 c).arrAt 14 (cfgA ch).N = (fun y => newV (gradient ch m c y) (m ((c : Thread nD τ).loc main_arg2) y) : FVec Ideal S4x2048x3584 .f32) := by
  refine (dats ch m ρ 0 c).arrAt_eq_of_covers 14 _ (covers14 ch) fun t _ y => ?_
  blk_simp
  rw [after0_14]
  obtain ⟨g, e, hg⟩ := point ch m ρ c t
  rw [e]
  refine Eq.trans ?_ (congrArg (fun y => newV (gradient ch m c y) (m ((c : Thread nD τ).loc main_arg2) y) : FVec Ideal S4x2048x3584 .f32) (emb14 ch t y).symm)
  exact congr (congrArg newV (hg y)) (read2 ch m ρ c t y)

end Cert.Kernel17Ideal.Layers

end
-- ==== Proof.Layers17BitsData.lean ====
/- The layers' optimiser in bits (program 17): what the buffers hold, point by point. -/
module

public import proofs.«01_k».proof.Proof.Gen.Kernel17.Flash.Runs
public import proofs.«01_k».proof.Proof.Gen.Kernel17.Flash.Facts0
public import proofs.«01_k».proof.Proof.Gen.Kernel17.Flash.Facts1
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel17.Layers

open Cert.Kernel17
open Cert.Kernel17.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 2)
variable (m : (ℓ : Loc nD τ sig) → Buf (Elt Bits) ℓ) (ρ : Dev nD → PrngReg)

/-- The core's number as the body reads it. -/
abbrev word (ch : Fin 2) : BitVec 32 := View.readAt (Elt Bits) (tbM0_0).view (Rect.unit (s := S1) ![0] S1.size inb_S1_S1_0).toLoadRect (pinT_0 ch) (Shape.Idx.first (numel1_S1.symm ▸ Nat.one_pos))

/-- The facts at every point of every member (decided member by member in slices of points, Flash/FactsJ.lean). -/
theorem allFacts : ∀ (ch : Fin 2) (t : Fin (cfgA ch).N), FactsAt ch t := fun ch => match ch with
  | ⟨0, _⟩ => allFacts_0
  | ⟨1, _⟩ => allFacts_1
  | ⟨_ + 2, h⟩ => absurd h (by omega)

/-! ## The named facts — the freshness tables' steps, each path's hypotheses and schedule —: its projections -/

theorem frTab0_11_step : ∀ (ch : Fin 2) (t : Fin (cfgA ch).N),
    frTab0_11 ch (t.val + 1) = (((cfgA ch).win (11 : Fin 15)).flush t || ((cfgA ch).idle (11 : Fin 15) ((cfgA ch).grid.coords t) && frTab0_11 ch t.val)) := fun ch t => (allFacts ch t).1
theorem freshF0_11 (t : Fin (cfgA ch).N) : (cfgA ch).fresh (11 : Fin 15) t.val = frTab0_11 ch t.val :=
  Pipeline.Cfg.fresh_tab (cfgA ch) (11 : Fin 15) (frTab0_11 ch) rfl (frTab0_11_step ch) t.val (Nat.le_of_lt t.isLt)

theorem frTab0_12_step : ∀ (ch : Fin 2) (t : Fin (cfgA ch).N),
    frTab0_12 ch (t.val + 1) = (((cfgA ch).win (12 : Fin 15)).flush t || ((cfgA ch).idle (12 : Fin 15) ((cfgA ch).grid.coords t) && frTab0_12 ch t.val)) := fun ch t => (allFacts ch t).2.1
theorem freshF0_12 (t : Fin (cfgA ch).N) : (cfgA ch).fresh (12 : Fin 15) t.val = frTab0_12 ch t.val :=
  Pipeline.Cfg.fresh_tab (cfgA ch) (12 : Fin 15) (frTab0_12 ch) rfl (frTab0_12_step ch) t.val (Nat.le_of_lt t.isLt)

theorem frTab0_13_step : ∀ (ch : Fin 2) (t : Fin (cfgA ch).N),
    frTab0_13 ch (t.val + 1) = (((cfgA ch).win (13 : Fin 15)).flush t || ((cfgA ch).idle (13 : Fin 15) ((cfgA ch).grid.coords t) && frTab0_13 ch t.val)) := fun ch t => (allFacts ch t).2.2.1
theorem freshF0_13 (t : Fin (cfgA ch).N) : (cfgA ch).fresh (13 : Fin 15) t.val = frTab0_13 ch t.val :=
  Pipeline.Cfg.fresh_tab (cfgA ch) (13 : Fin 15) (frTab0_13 ch) rfl (frTab0_13_step ch) t.val (Nat.le_of_lt t.isLt)

theorem frTab0_14_step : ∀ (ch : Fin 2) (t : Fin (cfgA ch).N),
    frTab0_14 ch (t.val + 1) = (((cfgA ch).win (14 : Fin 15)).flush t || ((cfgA ch).idle (14 : Fin 15) ((cfgA ch).grid.coords t) && frTab0_14 ch t.val)) := fun ch t => (allFacts ch t).2.2.2.1
theorem freshF0_14 (t : Fin (cfgA ch).N) : (cfgA ch).fresh (14 : Fin 15) t.val = frTab0_14 ch t.val :=
  Pipeline.Cfg.fresh_tab (cfgA ch) (14 : Fin 15) (frTab0_14 ch) rfl (frTab0_14_step ch) t.val (Nat.le_of_lt t.isLt)

/-- At a point of path A its branches go its way. -/
theorem hyps0_A : ∀ (ch : Fin 2) (t : Fin (cfgA ch).N), P0_0 ch t →
    (k0_cond1 (crd ch t) (word ch) = 1#1) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.1

/-- At a point of path A every output is stored and written back as the tables say. -/
theorem sched0_A : ∀ (ch : Fin 2) (t : Fin (cfgA ch).N), P0_0 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.1) ch t

/-- At a point of path B its branches go its way. -/
theorem hyps0_B : ∀ (ch : Fin 2) (t : Fin (cfgA ch).N), ¬P0_0 ch t → P0_1 ch t →
    (¬(k0_cond1 (crd ch t) (word ch) = 1#1)) ∧ ((k0_cond2 (crd ch t) (word ch) = 1#1) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.1

/-- At a point of path B every output is stored and written back as the tables say. -/
theorem sched0_B : ∀ (ch : Fin 2) (t : Fin (cfgA ch).N), ¬P0_0 ch t → P0_1 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.1) ch t

/-- At a point of path C its branches go its way. -/
theorem hyps0_C : ∀ (ch : Fin 2) (t : Fin (cfgA ch).N), ¬P0_0 ch t → ¬P0_1 ch t → P0_2 ch t →
    (¬(k0_cond1 (crd ch t) (word ch) = 1#1)) ∧ ((¬(k0_cond2 (crd ch t) (word ch) = 1#1)) ∧ ((k0_cond3 (crd ch t) (word ch) = 1#1) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.1

/-- At a point of path C every output is stored and written back as the tables say. -/
theorem sched0_C : ∀ (ch : Fin 2) (t : Fin (cfgA ch).N), ¬P0_0 ch t → ¬P0_1 ch t → P0_2 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.1) ch t

/-- At a point of path D its branches go its way. -/
theorem hyps0_D : ∀ (ch : Fin 2) (t : Fin (cfgA ch).N), ¬P0_0 ch t → ¬P0_1 ch t → ¬P0_2 ch t → P0_3 ch t →
    (¬(k0_cond1 (crd ch t) (word ch) = 1#1)) ∧ ((¬(k0_cond2 (crd ch t) (word ch) = 1#1)) ∧ ((¬(k0_cond3 (crd ch t) (word ch) = 1#1)) ∧ ((k0_cond4 (crd ch t) (word ch) = 1#1) ∧ ((¬(k0_cond5 (crd ch t) (word ch) = 1#1)) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.2.2.1

/-- At a point of path D every output is stored and written back as the tables say. -/
theorem sched0_D : ∀ (ch : Fin 2) (t : Fin (cfgA ch).N), ¬P0_0 ch t → ¬P0_1 ch t → ¬P0_2 ch t → P0_3 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.1) ch t

/-- At a point of path E its branches go its way. -/
theorem hyps0_E : ∀ (ch : Fin 2) (t : Fin (cfgA ch).N), ¬P0_0 ch t → ¬P0_1 ch t → ¬P0_2 ch t → ¬P0_3 ch t → P0_4 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((k0_cond5 (crd ch t) (word ch) = 1#1) ∧ ((¬(k0_cond6 (crd ch t) (word ch) = 1#1)) ∧ ((¬(k0_cond7 (crd ch t) (word ch) = 1#1)) ∧ ((¬(k0_cond8 (crd ch t) (word ch) = 1#1)) ∧ (True)))))))) := fun ch t => (allFacts ch t).2.2.2.2.2.2.2.2.2.2.2.2.1

/-- At a point of path E every output is stored and written back as the tables say. -/
theorem sched0_E : ∀ (ch : Fin 2) (t : Fin (cfgA ch).N), ¬P0_0 ch t → ¬P0_1 ch t → ¬P0_2 ch t → ¬P0_3 ch t → P0_4 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.1) ch t

/-- At a point of path F its branches go its way. -/
theorem hyps0_F : ∀ (ch : Fin 2) (t : Fin (cfgA ch).N), ¬P0_0 ch t → ¬P0_1 ch t → ¬P0_2 ch t → ¬P0_3 ch t → ¬P0_4 ch t → P0_5 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((k0_cond6 (crd ch t) (word ch) = 1#1) ∧ ((¬(k0_cond7 (crd ch t) (word ch) = 1#1)) ∧ ((¬(k0_cond8 (crd ch t) (word ch) = 1#1)) ∧ (True)))))))) := fun ch t => (allFacts ch t).2.2.2.2.2.2.2.2.2.2.2.2.2.2.1

/-- At a point of path F every output is stored and written back as the tables say. -/
theorem sched0_F : ∀ (ch : Fin 2) (t : Fin (cfgA ch).N), ¬P0_0 ch t → ¬P0_1 ch t → ¬P0_2 ch t → ¬P0_3 ch t → ¬P0_4 ch t → P0_5 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.1) ch t

/-- At a point of path G its branches go its way. -/
theorem hyps0_G : ∀ (ch : Fin 2) (t : Fin (cfgA ch).N), ¬P0_0 ch t → ¬P0_1 ch t → ¬P0_2 ch t → ¬P0_3 ch t → ¬P0_4 ch t → ¬P0_5 ch t → P0_6 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((k0_cond7 (crd ch t) (word ch) = 1#1) ∧ ((¬(k0_cond8 (crd ch t) (word ch) = 1#1)) ∧ (True)))))))) := fun ch t => (allFacts ch t).2.2.2.2.2.2.2.2.2.2.2.2.2.2.2.2.1

/-- At a point of path G every output is stored and written back as the tables say. -/
theorem sched0_G : ∀ (ch : Fin 2) (t : Fin (cfgA ch).N), ¬P0_0 ch t → ¬P0_1 ch t → ¬P0_2 ch t → ¬P0_3 ch t → ¬P0_4 ch t → ¬P0_5 ch t → P0_6 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.2.2.1) ch t

/-- At a point of path H its branches go its way. -/
theorem hyps0_H : ∀ (ch : Fin 2) (t : Fin (cfgA ch).N), ¬P0_0 ch t → ¬P0_1 ch t → ¬P0_2 ch t → ¬P0_3 ch t → ¬P0_4 ch t → ¬P0_5 ch t → ¬P0_6 ch t →
    (¬(k0_cond1 (crd ch t) (word ch) = 1#1)) ∧ ((¬(k0_cond2 (crd ch t) (word ch) = 1#1)) ∧ ((¬(k0_cond3 (crd ch t) (word ch) = 1#1)) ∧ ((¬(k0_cond4 (crd ch t) (word ch) = 1#1)) ∧ ((¬(k0_cond5 (crd ch t) (word ch) = 1#1)) ∧ ((¬(k0_cond6 (crd ch t) (word ch) = 1#1)) ∧ ((¬(k0_cond7 (crd ch t) (word ch) = 1#1)) ∧ ((k0_cond8 (crd ch t) (word ch) = 1#1) ∧ (True)))))))) := fun ch t => (allFacts ch t).2.2.2.2.2.2.2.2.2.2.2.2.2.2.2.2.2.2.1

/-- At a point of path H every output is stored and written back as the tables say. -/
theorem sched0_H : ∀ (ch : Fin 2) (t : Fin (cfgA ch).N), ¬P0_0 ch t → ¬P0_1 ch t → ¬P0_2 ch t → ¬P0_3 ch t → ¬P0_4 ch t → ¬P0_5 ch t → ¬P0_6 ch t →
    (cfgA ch).idle (11 : Fin 15) ((cfgA ch).grid.coords t) = false ∧ ((cfgA ch).win (11 : Fin 15)).flush t = true ∧ (cfgA ch).fresh (11 : Fin 15) t.val = true ∧ (cfgA ch).idle (12 : Fin 15) ((cfgA ch).grid.coords t) = false ∧ ((cfgA ch).win (12 : Fin 15)).flush t = true ∧ (cfgA ch).fresh (12 : Fin 15) t.val = true ∧ (cfgA ch).idle (13 : Fin 15) ((cfgA ch).grid.coords t) = false ∧ ((cfgA ch).win (13 : Fin 15)).flush t = true ∧ (cfgA ch).fresh (13 : Fin 15) t.val = true ∧ (cfgA ch).idle (14 : Fin 15) ((cfgA ch).grid.coords t) = false ∧ ((cfgA ch).win (14 : Fin 15)).flush t = true ∧ (cfgA ch).fresh (14 : Fin 15) t.val = true := by
  intro ch t; rw [freshF0_11 ch t, freshF0_12 ch t, freshF0_13 ch t, freshF0_14 ch t]; exact (fun ch t => (allFacts ch t).2.2.2.2.2.2.2.2.2.2.2.2.2.2.2.2.2.2.2) ch t

/-! ## What the outputs and scratches hold after each point -/

/-- What path A leaves in the four output buffers. -/
abbrev outs_A (c : Dev nD) (t : Fin (cfgA ch).N) (q0 : P0_0 ch t) : (S1x64x3584.Idx → Elt Bits .f32) × (S1x64x3584.Idx → Elt Bits .f32) × (S1x64x3584.Idx → Elt Bits .f32) × (S1x64x3584.Idx → Elt Bits .f32) :=
    have h := hyps0_A ch t q0
    (out0_A_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_A_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path B leaves in the four output buffers. -/
abbrev outs_B (c : Dev nD) (t : Fin (cfgA ch).N) (q0 : ¬P0_0 ch t) (q1 : P0_1 ch t) : (S1x64x3584.Idx → Elt Bits .f32) × (S1x64x3584.Idx → Elt Bits .f32) × (S1x64x3584.Idx → Elt Bits .f32) × (S1x64x3584.Idx → Elt Bits .f32) :=
    have h := hyps0_B ch t q0 q1
    (out0_B_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_B_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path C leaves in the four output buffers. -/
abbrev outs_C (c : Dev nD) (t : Fin (cfgA ch).N) (q0 : ¬P0_0 ch t) (q1 : ¬P0_1 ch t) (q2 : P0_2 ch t) : (S1x64x3584.Idx → Elt Bits .f32) × (S1x64x3584.Idx → Elt Bits .f32) × (S1x64x3584.Idx → Elt Bits .f32) × (S1x64x3584.Idx → Elt Bits .f32) :=
    have h := hyps0_C ch t q0 q1 q2
    (out0_C_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_C_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path D leaves in the four output buffers. -/
abbrev outs_D (c : Dev nD) (t : Fin (cfgA ch).N) (q0 : ¬P0_0 ch t) (q1 : ¬P0_1 ch t) (q2 : ¬P0_2 ch t) (q3 : P0_3 ch t) : (S1x64x3584.Idx → Elt Bits .f32) × (S1x64x3584.Idx → Elt Bits .f32) × (S1x64x3584.Idx → Elt Bits .f32) × (S1x64x3584.Idx → Elt Bits .f32) :=
    have h := hyps0_D ch t q0 q1 q2 q3
    (out0_D_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_D_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path E leaves in the four output buffers. -/
abbrev outs_E (c : Dev nD) (t : Fin (cfgA ch).N) (q0 : ¬P0_0 ch t) (q1 : ¬P0_1 ch t) (q2 : ¬P0_2 ch t) (q3 : ¬P0_3 ch t) (q4 : P0_4 ch t) : (S1x64x3584.Idx → Elt Bits .f32) × (S1x64x3584.Idx → Elt Bits .f32) × (S1x64x3584.Idx → Elt Bits .f32) × (S1x64x3584.Idx → Elt Bits .f32) :=
    have h := hyps0_E ch t q0 q1 q2 q3 q4
    (out0_E_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_E_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path F leaves in the four output buffers. -/
abbrev outs_F (c : Dev nD) (t : Fin (cfgA ch).N) (q0 : ¬P0_0 ch t) (q1 : ¬P0_1 ch t) (q2 : ¬P0_2 ch t) (q3 : ¬P0_3 ch t) (q4 : ¬P0_4 ch t) (q5 : P0_5 ch t) : (S1x64x3584.Idx → Elt Bits .f32) × (S1x64x3584.Idx → Elt Bits .f32) × (S1x64x3584.Idx → Elt Bits .f32) × (S1x64x3584.Idx → Elt Bits .f32) :=
    have h := hyps0_F ch t q0 q1 q2 q3 q4 q5
    (out0_F_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_F_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path G leaves in the four output buffers. -/
abbrev outs_G (c : Dev nD) (t : Fin (cfgA ch).N) (q0 : ¬P0_0 ch t) (q1 : ¬P0_1 ch t) (q2 : ¬P0_2 ch t) (q3 : ¬P0_3 ch t) (q4 : ¬P0_4 ch t) (q5 : ¬P0_5 ch t) (q6 : P0_6 ch t) : (S1x64x3584.Idx → Elt Bits .f32) × (S1x64x3584.Idx → Elt Bits .f32) × (S1x64x3584.Idx → Elt Bits .f32) × (S1x64x3584.Idx → Elt Bits .f32) :=
    have h := hyps0_G ch t q0 q1 q2 q3 q4 q5 q6
    (out0_G_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_G_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- What path H leaves in the four output buffers. -/
abbrev outs_H (c : Dev nD) (t : Fin (cfgA ch).N) (q0 : ¬P0_0 ch t) (q1 : ¬P0_1 ch t) (q2 : ¬P0_2 ch t) (q3 : ¬P0_3 ch t) (q4 : ¬P0_4 ch t) (q5 : ¬P0_5 ch t) (q6 : ¬P0_6 ch t) : (S1x64x3584.Idx → Elt Bits .f32) × (S1x64x3584.Idx → Elt Bits .f32) × (S1x64x3584.Idx → Elt Bits .f32) × (S1x64x3584.Idx → Elt Bits .f32) :=
    have h := hyps0_H ch t q0 q1 q2 q3 q4 q5 q6
    (out0_H_11 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_12 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_13 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1, out0_H_14 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) h.1 h.2.1 h.2.2.1 h.2.2.2.1 h.2.2.2.2.1 h.2.2.2.2.2.1 h.2.2.2.2.2.2.1 h.2.2.2.2.2.2.2.1)

/-- ONE STEP of the trajectory: what the outputs' current buffers and the scratches hold after the body at point `t`
    (output 11, output 12, output 13, output 14), from what they held before (`prev`): the path the decisions select at `t`, its
    run's contents; an output the path leaves idle keeps what it held (junk — `default`, named by nothing — where fresh). -/
def step0 (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) : (S1x64x3584.Idx → Elt Bits .f32) × (S1x64x3584.Idx → Elt Bits .f32) × (S1x64x3584.Idx → Elt Bits .f32) × (S1x64x3584.Idx → Elt Bits .f32) :=
  if q0 : P0_0 ch t then
    outs_A ch m ρ c t q0
  else
    if q1 : P0_1 ch t then
      outs_B ch m ρ c t q0 q1
    else
      if q2 : P0_2 ch t then
        outs_C ch m ρ c t q0 q1 q2
      else
        if q3 : P0_3 ch t then
          outs_D ch m ρ c t q0 q1 q2 q3
        else
          if q4 : P0_4 ch t then
            outs_E ch m ρ c t q0 q1 q2 q3 q4
          else
            if q5 : P0_5 ch t then
              outs_F ch m ρ c t q0 q1 q2 q3 q4 q5
            else
              if q6 : P0_6 ch t then
                outs_G ch m ρ c t q0 q1 q2 q3 q4 q5 q6
              else
                outs_H ch m ρ c t q0 q1 q2 q3 q4 q5 q6

/-- THE TRAJECTORY: after position `n`. -/
def traj0 (c : Dev nD) : (n : ℕ) → n < (cfgA ch).N → (S1x64x3584.Idx → Elt Bits .f32) × (S1x64x3584.Idx → Elt Bits .f32) × (S1x64x3584.Idx → Elt Bits .f32) × (S1x64x3584.Idx → Elt Bits .f32)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1x64x3584.Idx → Elt Bits .f32) × (S1x64x3584.Idx → Elt Bits .f32) × (S1x64x3584.Idx → Elt Bits .f32) × (S1x64x3584.Idx → Elt Bits .f32) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : P0_0 ch t) :
    step0 ch m ρ c t prev = outs_A ch m ρ c t q0 := by
  unfold step0; simp only [dif_pos q0]

/-- `step0` at a point of path B. -/
theorem step0_B (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : P0_1 ch t) :
    step0 ch m ρ c t prev = outs_B ch m ρ c t q0 q1 := by
  unfold step0; simp only [dif_neg q0, dif_pos q1]

/-- `step0` at a point of path C. -/
theorem step0_C (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : P0_2 ch t) :
    step0 ch m ρ c t prev = outs_C ch m ρ c t q0 q1 q2 := by
  unfold step0; simp only [dif_neg q0, dif_neg q1, dif_pos q2]

/-- `step0` at a point of path D. -/
theorem step0_D (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : ¬P0_2 ch t) (q3 : P0_3 ch t) :
    step0 ch m ρ c t prev = outs_D ch m ρ c t q0 q1 q2 q3 := by
  unfold step0; simp only [dif_neg q0, dif_neg q1, dif_neg q2, dif_pos q3]

/-- `step0` at a point of path E. -/
theorem step0_E (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : ¬P0_2 ch t) (q3 : ¬P0_3 ch t) (q4 : P0_4 ch t) :
    step0 ch m ρ c t prev = outs_E ch m ρ c t q0 q1 q2 q3 q4 := by
  unfold step0; simp only [dif_neg q0, dif_neg q1, dif_neg q2, dif_neg q3, dif_pos q4]

/-- `step0` at a point of path F. -/
theorem step0_F (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : ¬P0_2 ch t) (q3 : ¬P0_3 ch t) (q4 : ¬P0_4 ch t) (q5 : P0_5 ch t) :
    step0 ch m ρ c t prev = outs_F ch m ρ c t q0 q1 q2 q3 q4 q5 := by
  unfold step0; simp only [dif_neg q0, dif_neg q1, dif_neg q2, dif_neg q3, dif_neg q4, dif_pos q5]

/-- `step0` at a point of path G. -/
theorem step0_G (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : ¬P0_2 ch t) (q3 : ¬P0_3 ch t) (q4 : ¬P0_4 ch t) (q5 : ¬P0_5 ch t) (q6 : P0_6 ch t) :
    step0 ch m ρ c t prev = outs_G ch m ρ c t q0 q1 q2 q3 q4 q5 q6 := by
  unfold step0; simp only [dif_neg q0, dif_neg q1, dif_neg q2, dif_neg q3, dif_neg q4, dif_neg q5, dif_pos q6]

/-- `step0` at a point of path H. -/
theorem step0_H (c : Dev nD) (t : Fin (cfgA ch).N) (prev : (S1x64x3584.Idx → Elt Bits .f32) × (S1x64x3584.Idx → Elt Bits .f32) × (S1x64x3584.Idx → Elt Bits .f32) × (S1x64x3584.Idx → Elt Bits .f32)) (q0 : ¬P0_0 ch t) (q1 : ¬P0_1 ch t) (q2 : ¬P0_2 ch t) (q3 : ¬P0_3 ch t) (q4 : ¬P0_4 ch t) (q5 : ¬P0_5 ch t) (q6 : ¬P0_6 ch t) :
    step0 ch m ρ c t prev = outs_H ch m ρ c t q0 q1 q2 q3 q4 q5 q6 := by
  unfold step0; simp only [dif_neg q0, dif_neg q1, dif_neg q2, dif_neg q3, dif_neg q4, dif_neg q5, dif_neg q6]

/-! ## The pipeline's proof data -/

/-- What the tracked buffers held before position `t` of `Fin (N+1)` (the invariant's index). -/
def prev0T (c : Dev nD) (t : Fin ((cfgA ch).N + 1)) : (S1x64x3584.Idx → Elt Bits .f32) × (S1x64x3584.Idx → Elt Bits .f32) × (S1x64x3584.Idx → Elt Bits .f32) × (S1x64x3584.Idx → Elt Bits .f32) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} pinT_0 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 15) t
    | ⟨1, _⟩ => iblk ch m ρ c (1 : Fin 15) t
    | ⟨2, _⟩ => iblk ch m ρ c (2 : Fin 15) t
    | ⟨3, _⟩ => iblk ch m ρ c (3 : Fin 15) t
    | ⟨4, _⟩ => iblk ch m ρ c (4 : Fin 15) t
    | ⟨5, _⟩ => iblk ch m ρ c (5 : Fin 15) t
    | ⟨6, _⟩ => iblk ch m ρ c (6 : Fin 15) t
    | ⟨7, _⟩ => iblk ch m ρ c (7 : Fin 15) t
    | ⟨8, _⟩ => iblk ch m ρ c (8 : Fin 15) t
    | ⟨9, _⟩ => iblk ch m ρ c (9 : Fin 15) t
    | ⟨10, _⟩ => iblk ch m ρ c (10 : Fin 15) t
    | ⟨11, _⟩ => (traj0 ch m ρ c t.val t.isLt).1
    | ⟨12, _⟩ => (traj0 ch m ρ c t.val t.isLt).2.1
    | ⟨13, _⟩ => (traj0 ch m ρ c t.val t.isLt).2.2.1
    | ⟨14, _⟩ => (traj0 ch m ρ c t.val t.isLt).2.2.2
  Φ t := Phi ch m ρ c t
  q _ := fullShare
  owed _ := 0

theorem after0_0 (c : Dev nD) (t : Fin (cfgA ch).N) : (dats ch m ρ 0 c).after (0 : Fin 15) t = iblk ch m ρ c (0 : Fin 15) t := rfl
theorem after0_1 (c : Dev nD) (t : Fin (cfgA ch).N) : (dats ch m ρ 0 c).after (1 : Fin 15) t = iblk ch m ρ c (1 : Fin 15) t := rfl
theorem after0_2 (c : Dev nD) (t : Fin (cfgA ch).N) : (dats ch m ρ 0 c).after (2 : Fin 15) t = iblk ch m ρ c (2 : Fin 15) t := rfl
theorem after0_3 (c : Dev nD) (t : Fin (cfgA ch).N) : (dats ch m ρ 0 c).after (3 : Fin 15) t = iblk ch m ρ c (3 : Fin 15) t := rfl
theorem after0_4 (c : Dev nD) (t : Fin (cfgA ch).N) : (dats ch m ρ 0 c).after (4 : Fin 15) t = iblk ch m ρ c (4 : Fin 15) t := rfl
theorem after0_5 (c : Dev nD) (t : Fin (cfgA ch).N) : (dats ch m ρ 0 c).after (5 : Fin 15) t = iblk ch m ρ c (5 : Fin 15) t := rfl
theorem after0_6 (c : Dev nD) (t : Fin (cfgA ch).N) : (dats ch m ρ 0 c).after (6 : Fin 15) t = iblk ch m ρ c (6 : Fin 15) t := rfl
theorem after0_7 (c : Dev nD) (t : Fin (cfgA ch).N) : (dats ch m ρ 0 c).after (7 : Fin 15) t = iblk ch m ρ c (7 : Fin 15) t := rfl
theorem after0_8 (c : Dev nD) (t : Fin (cfgA ch).N) : (dats ch m ρ 0 c).after (8 : Fin 15) t = iblk ch m ρ c (8 : Fin 15) t := rfl
theorem after0_9 (c : Dev nD) (t : Fin (cfgA ch).N) : (dats ch m ρ 0 c).after (9 : Fin 15) t = iblk ch m ρ c (9 : Fin 15) t := rfl
theorem after0_10 (c : Dev nD) (t : Fin (cfgA ch).N) : (dats ch m ρ 0 c).after (10 : Fin 15) t = iblk ch m ρ c (10 : Fin 15) t := rfl
theorem after0_11 (c : Dev nD) (t : Fin (cfgA ch).N) : (dats ch m ρ 0 c).after (11 : Fin 15) t = (traj0 ch m ρ c t.val t.isLt).1 := rfl
theorem after0_12 (c : Dev nD) (t : Fin (cfgA ch).N) : (dats ch m ρ 0 c).after (12 : Fin 15) t = (traj0 ch m ρ c t.val t.isLt).2.1 := rfl
theorem after0_13 (c : Dev nD) (t : Fin (cfgA ch).N) : (dats ch m ρ 0 c).after (13 : Fin 15) t = (traj0 ch m ρ c t.val t.isLt).2.2.1 := rfl
theorem after0_14 (c : Dev nD) (t : Fin (cfgA ch).N) : (dats ch m ρ 0 c).after (14 : Fin 15) t = (traj0 ch m ρ c t.val t.isLt).2.2.2 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 15) t d = iblk ch m ρ c (0 : Fin 15) t :=
  ((dats ch m ρ 0 c).before_in_eq_fetched (0 : Fin 15) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 15) t d = iblk ch m ρ c (1 : Fin 15) t :=
  ((dats ch m ρ 0 c).before_in_eq_fetched (1 : Fin 15) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 15) t d = iblk ch m ρ c (2 : Fin 15) t :=
  ((dats ch m ρ 0 c).before_in_eq_fetched (2 : Fin 15) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 15) t d = iblk ch m ρ c (3 : Fin 15) t :=
  ((dats ch m ρ 0 c).before_in_eq_fetched (3 : Fin 15) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 15) t d = iblk ch m ρ c (4 : Fin 15) t :=
  ((dats ch m ρ 0 c).before_in_eq_fetched (4 : Fin 15) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 15) t d = iblk ch m ρ c (5 : Fin 15) t :=
  ((dats ch m ρ 0 c).before_in_eq_fetched (5 : Fin 15) rfl (fun _ => rfl) (fun _ _ _ => rfl) (fun t => by rw [after0_5]; unfold Dat.blockOf iblk; rfl) t d).trans
    (by unfold Dat.fetched Dat.blockOf iblk; rfl)

/-- Input window 6 holds its block, fetched there or not (Lib/Pipeline/FrameBody.lean `Dat.before_in_eq_fetched`). -/
theorem before0_6 (c : Dev nD) (t : Fin (cfgA ch).N) (d) : (dats ch m ρ 0 c).before (6 : Fin 15) t d = iblk ch m ρ c (6 : Fin 15) t :=
  ((dats ch m ρ 0 c).before_in_eq_fetched (6 : Fin 15) rfl (fun _ => rfl) (fun _ _ _ => rfl) (fun t => by rw [after0_6]; unfold Dat.blockOf iblk; rfl) t d).trans
    (by unfold Dat.fetched Dat.blockOf iblk; rfl)

/-- Input window 7 holds its block, fetched there or not (Lib/Pipeline/FrameBody.lean `Dat.before_in_eq_fetched`). -/
theorem before0_7 (c : Dev nD) (t : Fin (cfgA ch).N) (d) : (dats ch m ρ 0 c).before (7 : Fin 15) t d = iblk ch m ρ c (7 : Fin 15) t :=
  ((dats ch m ρ 0 c).before_in_eq_fetched (7 : Fin 15) rfl (fun _ => rfl) (fun _ _ _ => rfl) (fun t => by rw [after0_7]; unfold Dat.blockOf iblk; rfl) t d).trans
    (by unfold Dat.fetched Dat.blockOf iblk; rfl)

/-- Input window 8 holds its block, fetched there or not (Lib/Pipeline/FrameBody.lean `Dat.before_in_eq_fetched`). -/
theorem before0_8 (c : Dev nD) (t : Fin (cfgA ch).N) (d) : (dats ch m ρ 0 c).before (8 : Fin 15) t d = iblk ch m ρ c (8 : Fin 15) t :=
  ((dats ch m ρ 0 c).before_in_eq_fetched (8 : Fin 15) rfl (fun _ => rfl) (fun _ _ _ => rfl) (fun t => by rw [after0_8]; unfold Dat.blockOf iblk; rfl) t d).trans
    (by unfold Dat.fetched Dat.blockOf iblk; rfl)

/-- Input window 9 holds its block, fetched there or not (Lib/Pipeline/FrameBody.lean `Dat.before_in_eq_fetched`). -/
theorem before0_9 (c : Dev nD) (t : Fin (cfgA ch).N) (d) : (dats ch m ρ 0 c).before (9 : Fin 15) t d = iblk ch m ρ c (9 : Fin 15) t :=
  ((dats ch m ρ 0 c).before_in_eq_fetched (9 : Fin 15) rfl (fun _ => rfl) (fun _ _ _ => rfl) (fun t => by rw [after0_9]; unfold Dat.blockOf iblk; rfl) t d).trans
    (by unfold Dat.fetched Dat.blockOf iblk; rfl)

/-- Input window 10 holds its block, fetched there or not (Lib/Pipeline/FrameBody.lean `Dat.before_in_eq_fetched`). -/
theorem before0_10 (c : Dev nD) (t : Fin (cfgA ch).N) (d) : (dats ch m ρ 0 c).before (10 : Fin 15) t d = iblk ch m ρ c (10 : Fin 15) t :=
  ((dats ch m ρ 0 c).before_in_eq_fetched (10 : Fin 15) rfl (fun _ => rfl) (fun _ _ _ => rfl) (fun t => by rw [after0_10]; unfold Dat.blockOf iblk; rfl) t d).trans
    (by unfold Dat.fetched Dat.blockOf iblk; rfl)

/-- Every point stores to all four outputs. -/
theorem stored (t : Fin (cfgA ch).N) :
    (cfgA ch).idle (11 : Fin 15) ((cfgA ch).grid.coords t) = false ∧ (cfgA ch).idle (12 : Fin 15) ((cfgA ch).grid.coords t) = false ∧ (cfgA ch).idle (13 : Fin 15) ((cfgA ch).grid.coords t) = false ∧ (cfgA ch).idle (14 : Fin 15) ((cfgA ch).grid.coords t) = false := by
  by_cases q0 : P0_0 ch t
  on_goal 2 => by_cases q1 : P0_1 ch t
  on_goal 3 => by_cases q2 : P0_2 ch t
  on_goal 4 => by_cases q3 : P0_3 ch t
  on_goal 5 => by_cases q4 : P0_4 ch t
  on_goal 6 => by_cases q5 : P0_5 ch t
  on_goal 7 => by_cases q6 : P0_6 ch t
  · have h := sched0_A ch t q0
    exact ⟨h.1, h.2.2.2.1, h.2.2.2.2.2.2.1, h.2.2.2.2.2.2.2.2.2.1⟩
  · have h := sched0_B ch t q0 q1
    exact ⟨h.1, h.2.2.2.1, h.2.2.2.2.2.2.1, h.2.2.2.2.2.2.2.2.2.1⟩
  · have h := sched0_C ch t q0 q1 q2
    exact ⟨h.1, h.2.2.2.1, h.2.2.2.2.2.2.1, h.2.2.2.2.2.2.2.2.2.1⟩
  · have h := sched0_D ch t q0 q1 q2 q3
    exact ⟨h.1, h.2.2.2.1, h.2.2.2.2.2.2.1, h.2.2.2.2.2.2.2.2.2.1⟩
  · have h := sched0_E ch t q0 q1 q2 q3 q4
    exact ⟨h.1, h.2.2.2.1, h.2.2.2.2.2.2.1, h.2.2.2.2.2.2.2.2.2.1⟩
  · have h := sched0_F ch t q0 q1 q2 q3 q4 q5
    exact ⟨h.1, h.2.2.2.1, h.2.2.2.2.2.2.1, h.2.2.2.2.2.2.2.2.2.1⟩
  · have h := sched0_G ch t q0 q1 q2 q3 q4 q5 q6
    exact ⟨h.1, h.2.2.2.1, h.2.2.2.2.2.2.1, h.2.2.2.2.2.2.2.2.2.1⟩
  · have h := sched0_H ch t q0 q1 q2 q3 q4 q5 q6
    exact ⟨h.1, h.2.2.2.1, h.2.2.2.2.2.2.1, h.2.2.2.2.2.2.2.2.2.1⟩

/-- Output 11's `after` carries through the points that leave it idle. -/
theorem hcarry0_11 (c : Dev nD) : ∀ (t : Fin (cfgA ch).N) (ht : t.val ≠ 0), (cfgA ch).idle (11 : Fin 15) ((cfgA ch).grid.coords t) = true → (cfgA ch).fresh (11 : Fin 15) t.val = false →
    (dats ch m ρ 0 c).after (11 : Fin 15) t = (dats ch m ρ 0 c).after (11 : Fin 15) ⟨t.val - 1, by omega⟩ := by
  intro t ht hi hf
  rw [(stored ch t).1] at hi; exact absurd hi (by decide)

/-- Output window 11 holds, when the body runs at `t`: junk if nothing was stored since its last write-back (`Cfg.fresh`),
    else what the point before left (TableIdle.lean `Dat.before_out_traj`). -/
theorem before0_11 (c : Dev nD) (t : Fin (cfgA ch).N) (d) :
    (dats ch m ρ 0 c).before (11 : Fin 15) t d = if (cfgA ch).fresh (11 : Fin 15) t.val then d else (prev0 ch m ρ c t).1 := by
  rw [(dats ch m ρ 0 c).before_out_traj (11 : Fin 15) rfl (fun _ _ => rfl) (hcarry0_11 ch m ρ c) t.val t rfl d]
  by_cases hf : (cfgA ch).fresh (11 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_11]; unfold prev0; rw [dif_neg h0]

/-- Output 12's `after` carries through the points that leave it idle. -/
theorem hcarry0_12 (c : Dev nD) : ∀ (t : Fin (cfgA ch).N) (ht : t.val ≠ 0), (cfgA ch).idle (12 : Fin 15) ((cfgA ch).grid.coords t) = true → (cfgA ch).fresh (12 : Fin 15) t.val = false →
    (dats ch m ρ 0 c).after (12 : Fin 15) t = (dats ch m ρ 0 c).after (12 : Fin 15) ⟨t.val - 1, by omega⟩ := by
  intro t ht hi hf
  rw [(stored ch t).2.1] at hi; exact absurd hi (by decide)

/-- Output window 12 holds, when the body runs at `t`: junk if nothing was stored since its last write-back (`Cfg.fresh`),
    else what the point before left (TableIdle.lean `Dat.before_out_traj`). -/
theorem before0_12 (c : Dev nD) (t : Fin (cfgA ch).N) (d) :
    (dats ch m ρ 0 c).before (12 : Fin 15) t d = if (cfgA ch).fresh (12 : Fin 15) t.val then d else (prev0 ch m ρ c t).2.1 := by
  rw [(dats ch m ρ 0 c).before_out_traj (12 : Fin 15) rfl (fun _ _ => rfl) (hcarry0_12 ch m ρ c) t.val t rfl d]
  by_cases hf : (cfgA ch).fresh (12 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_12]; unfold prev0; rw [dif_neg h0]

/-- Output 13's `after` carries through the points that leave it idle. -/
theorem hcarry0_13 (c : Dev nD) : ∀ (t : Fin (cfgA ch).N) (ht : t.val ≠ 0), (cfgA ch).idle (13 : Fin 15) ((cfgA ch).grid.coords t) = true → (cfgA ch).fresh (13 : Fin 15) t.val = false →
    (dats ch m ρ 0 c).after (13 : Fin 15) t = (dats ch m ρ 0 c).after (13 : Fin 15) ⟨t.val - 1, by omega⟩ := by
  intro t ht hi hf
  rw [(stored ch t).2.2.1] at hi; exact absurd hi (by decide)

/-- Output window 13 holds, when the body runs at `t`: junk if nothing was stored since its last write-back (`Cfg.fresh`),
    else what the point before left (TableIdle.lean `Dat.before_out_traj`). -/
theorem before0_13 (c : Dev nD) (t : Fin (cfgA ch).N) (d) :
    (dats ch m ρ 0 c).before (13 : Fin 15) t d = if (cfgA ch).fresh (13 : Fin 15) t.val then d else (prev0 ch m ρ c t).2.2.1 := by
  rw [(dats ch m ρ 0 c).before_out_traj (13 : Fin 15) rfl (fun _ _ => rfl) (hcarry0_13 ch m ρ c) t.val t rfl d]
  by_cases hf : (cfgA ch).fresh (13 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_13]; unfold prev0; rw [dif_neg h0]

/-- Output 14's `after` carries through the points that leave it idle. -/
theorem hcarry0_14 (c : Dev nD) : ∀ (t : Fin (cfgA ch).N) (ht : t.val ≠ 0), (cfgA ch).idle (14 : Fin 15) ((cfgA ch).grid.coords t) = true → (cfgA ch).fresh (14 : Fin 15) t.val = false →
    (dats ch m ρ 0 c).after (14 : Fin 15) t = (dats ch m ρ 0 c).after (14 : Fin 15) ⟨t.val - 1, by omega⟩ := by
  intro t ht hi hf
  rw [(stored ch t).2.2.2] at hi; exact absurd hi (by decide)

/-- Output window 14 holds, when the body runs at `t`: junk if nothing was stored since its last write-back (`Cfg.fresh`),
    else what the point before left (TableIdle.lean `Dat.before_out_traj`). -/
theorem before0_14 (c : Dev nD) (t : Fin (cfgA ch).N) (d) :
    (dats ch m ρ 0 c).before (14 : Fin 15) t d = if (cfgA ch).fresh (14 : Fin 15) t.val then d else (prev0 ch m ρ c t).2.2.2 := by
  rw [(dats ch m ρ 0 c).before_out_traj (14 : Fin 15) rfl (fun _ _ => rfl) (hcarry0_14 ch m ρ c) t.val t rfl d]
  by_cases hf : (cfgA ch).fresh (14 : Fin 15) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_14]; unfold prev0; rw [dif_neg h0]

end Cert.Kernel17.Layers

end
-- ==== Proof.Layers17Bits.lean ====
/- The layers' optimiser in bits (program 17): the body at every point, the launch and the frame. -/
module

public import proofs.«01_k».proof.Proof.Gen.Kernel17.Flash.Runs
public import proofs.«01_k».proof.Proof.Gen.Kernel17.Flash.Facts0
public import proofs.«01_k».proof.Proof.Gen.Kernel17.Flash.Facts1
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import proofs.«01_k».proof.Proof.Layers17BitsData

@[expose] public section

set_option maxRecDepth 16384
set_option Elab.async false

noncomputable section

namespace Cert.Kernel17.Layers

open Cert.Kernel17
open Cert.Kernel17.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

variable (ch : Fin 2)
variable (m : (ℓ : Loc nD τ sig) → Buf (Elt Bits) ℓ) (ρ : Dev nD → PrngReg)

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_adamw_layers (crd ch t) (Memref.whole main_arg3) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t)

set_option maxHeartbeats 19200000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 15) t d))
        ∗ (∃ d, owns (c : Thread nD τ) (ms0_1 ch t) fullShare ((dats ch m ρ 0 c).before (1 : Fin 15) t d))
        ∗ (∃ d, owns (c : Thread nD τ) (ms0_2 ch t) fullShare ((dats ch m ρ 0 c).before (2 : Fin 15) t d))
        ∗ (∃ d, owns (c : Thread nD τ) (ms0_3 ch t) fullShare ((dats ch m ρ 0 c).before (3 : Fin 15) t d))
        ∗ (∃ d, owns (c : Thread nD τ) (ms0_4 ch t) fullShare ((dats ch m ρ 0 c).before (4 : Fin 15) t d))
        ∗ (∃ d, owns (c : Thread nD τ) (ms0_5 ch t) fullShare ((dats ch m ρ 0 c).before (5 : Fin 15) t d))
        ∗ (∃ d, owns (c : Thread nD τ) (ms0_6 ch t) fullShare ((dats ch m ρ 0 c).before (6 : Fin 15) t d))
        ∗ (∃ d, owns (c : Thread nD τ) (ms0_7 ch t) fullShare ((dats ch m ρ 0 c).before (7 : Fin 15) t d))
        ∗ (∃ d, owns (c : Thread nD τ) (ms0_8 ch t) fullShare ((dats ch m ρ 0 c).before (8 : Fin 15) t d))
        ∗ (∃ d, owns (c : Thread nD τ) (ms0_9 ch t) fullShare ((dats ch m ρ 0 c).before (9 : Fin 15) t d))
        ∗ (∃ d, owns (c : Thread nD τ) (ms0_10 ch t) fullShare ((dats ch m ρ 0 c).before (10 : Fin 15) t d))
        ∗ (∃ d, owns (c : Thread nD τ) (ms0_11 ch t) fullShare ((dats ch m ρ 0 c).before (11 : Fin 15) t d))
        ∗ (∃ d, owns (c : Thread nD τ) (ms0_12 ch t) fullShare ((dats ch m ρ 0 c).before (12 : Fin 15) t d))
        ∗ (∃ d, owns (c : Thread nD τ) (ms0_13 ch t) fullShare ((dats ch m ρ 0 c).before (13 : Fin 15) t d))
        ∗ (∃ d, owns (c : Thread nD τ) (ms0_14 ch t) fullShare ((dats ch m ρ 0 c).before (14 : Fin 15) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  on_goal 2 => by_cases q1 : P0_1 ch t
  on_goal 3 => by_cases q2 : P0_2 ch t
  on_goal 4 => by_cases q3 : P0_3 ch t
  on_goal 5 => by_cases q4 : P0_4 ch t
  on_goal 6 => by_cases q5 : P0_5 ch t
  on_goal 7 => by_cases q6 : P0_6 ch t
  on_goal 1 =>
    obtain ⟨i11, f11, fr11, i12, f12, fr12, i13, f13, fr13, i14, f14, fr14⟩ := sched0_A ch t q0
    obtain ⟨k0_h1, k0_h2, k0_h3, k0_h4, k0_h5, k0_h6, k0_h7, k0_h8, -⟩ := hyps0_A ch t q0
    have S := fun p => step0_A ch m ρ c t p q0
    have C11 := cover0_A_11 c
    have C12 := cover0_A_12 c
    have C13 := cover0_A_13 c
    have C14 := cover0_A_14 c
  on_goal 2 =>
    obtain ⟨i11, f11, fr11, i12, f12, fr12, i13, f13, fr13, i14, f14, fr14⟩ := sched0_B ch t q0 q1
    obtain ⟨k0_h1, k0_h2, k0_h3, k0_h4, k0_h5, k0_h6, k0_h7, k0_h8, -⟩ := hyps0_B ch t q0 q1
    have S := fun p => step0_B ch m ρ c t p q0 q1
    have C11 := cover0_B_11 c
    have C12 := cover0_B_12 c
    have C13 := cover0_B_13 c
    have C14 := cover0_B_14 c
  on_goal 3 =>
    obtain ⟨i11, f11, fr11, i12, f12, fr12, i13, f13, fr13, i14, f14, fr14⟩ := sched0_C ch t q0 q1 q2
    obtain ⟨k0_h1, k0_h2, k0_h3, k0_h4, k0_h5, k0_h6, k0_h7, k0_h8, -⟩ := hyps0_C ch t q0 q1 q2
    have S := fun p => step0_C ch m ρ c t p q0 q1 q2
    have C11 := cover0_C_11 c
    have C12 := cover0_C_12 c
    have C13 := cover0_C_13 c
    have C14 := cover0_C_14 c
  on_goal 4 =>
    obtain ⟨i11, f11, fr11, i12, f12, fr12, i13, f13, fr13, i14, f14, fr14⟩ := sched0_D ch t q0 q1 q2 q3
    obtain ⟨k0_h1, k0_h2, k0_h3, k0_h4, k0_h5, k0_h6, k0_h7, k0_h8, -⟩ := hyps0_D ch t q0 q1 q2 q3
    have S := fun p => step0_D ch m ρ c t p q0 q1 q2 q3
    have C11 := cover0_D_11 c
    have C12 := cover0_D_12 c
    have C13 := cover0_D_13 c
    have C14 := cover0_D_14 c
  on_goal 5 =>
    obtain ⟨i11, f11, fr11, i12, f12, fr12, i13, f13, fr13, i14, f14, fr14⟩ := sched0_E ch t q0 q1 q2 q3 q4
    obtain ⟨k0_h1, k0_h2, k0_h3, k0_h4, k0_h5, k0_h6, k0_h7, k0_h8, -⟩ := hyps0_E ch t q0 q1 q2 q3 q4
    have S := fun p => step0_E ch m ρ c t p q0 q1 q2 q3 q4
    have C11 := cover0_E_11 c
    have C12 := cover0_E_12 c
    have C13 := cover0_E_13 c
    have C14 := cover0_E_14 c
  on_goal 6 =>
    obtain ⟨i11, f11, fr11, i12, f12, fr12, i13, f13, fr13, i14, f14, fr14⟩ := sched0_F ch t q0 q1 q2 q3 q4 q5
    obtain ⟨k0_h1, k0_h2, k0_h3, k0_h4, k0_h5, k0_h6, k0_h7, k0_h8, -⟩ := hyps0_F ch t q0 q1 q2 q3 q4 q5
    have S := fun p => step0_F ch m ρ c t p q0 q1 q2 q3 q4 q5
    have C11 := cover0_F_11 c
    have C12 := cover0_F_12 c
    have C13 := cover0_F_13 c
    have C14 := cover0_F_14 c
  on_goal 7 =>
    obtain ⟨i11, f11, fr11, i12, f12, fr12, i13, f13, fr13, i14, f14, fr14⟩ := sched0_G ch t q0 q1 q2 q3 q4 q5 q6
    obtain ⟨k0_h1, k0_h2, k0_h3, k0_h4, k0_h5, k0_h6, k0_h7, k0_h8, -⟩ := hyps0_G ch t q0 q1 q2 q3 q4 q5 q6
    have S := fun p => step0_G ch m ρ c t p q0 q1 q2 q3 q4 q5 q6
    have C11 := cover0_G_11 c
    have C12 := cover0_G_12 c
    have C13 := cover0_G_13 c
    have C14 := cover0_G_14 c
  on_goal 8 =>
    obtain ⟨i11, f11, fr11, i12, f12, fr12, i13, f13, fr13, i14, f14, fr14⟩ := sched0_H ch t q0 q1 q2 q3 q4 q5 q6
    obtain ⟨k0_h1, k0_h2, k0_h3, k0_h4, k0_h5, k0_h6, k0_h7, k0_h8, -⟩ := hyps0_H ch t q0 q1 q2 q3 q4 q5 q6
    have S := fun p => step0_H ch m ρ c t p q0 q1 q2 q3 q4 q5 q6
    have C11 := cover0_H_11 c
    have C12 := cover0_H_12 c
    have C13 := cover0_H_13 c
    have C14 := cover0_H_14 c
  all_goals
    rewrite [i11]
    simp only [before0_0, before0_1, before0_2, before0_3, before0_4, before0_5, before0_6, before0_7, before0_8, before0_9, before0_10, before0_11, before0_12, before0_13, before0_14, after0_0, after0_1, after0_2, after0_3, after0_4, after0_5, after0_6, after0_7, after0_8, after0_9, after0_10, after0_11, after0_12, after0_13, after0_14, f11, f12, f13, f14]
    simp only [fr11, fr12, fr13, fr14, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, S]
    unfold Phi; simp only [prev0T_castSucc, prev0T_succ, traj0_eq, S, outs_A, outs_B, outs_C, outs_D, outs_E, outs_F, outs_G, outs_H, Fin.val_castSucc, Fin.val_succ]
    iintro ⟨⟨HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  on_goal 1 => iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 2 => iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 3 => iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 4 => iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 5 => iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 6 => iapply ((kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 7 => iapply ((kernelRun0_G c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  on_goal 8 => iapply ((kernelRun0_H c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (ms0_9 ch t) (hs0_9 ch t) (ms0_10 ch t) (hs0_10 ch t) (ms0_11 ch t) (hs0_11 ch t) (ms0_12 ch t) (hs0_12 ch t) (ms0_13 ch t) (hs0_13 ch t) (ms0_14 ch t) (hs0_14 ch t) (pinT_0 ch) (iblk ch m ρ c (0 : Fin 15) t) (iblk ch m ρ c (1 : Fin 15) t) (iblk ch m ρ c (2 : Fin 15) t) (iblk ch m ρ c (3 : Fin 15) t) (iblk ch m ρ c (4 : Fin 15) t) (iblk ch m ρ c (5 : Fin 15) t) (iblk ch m ρ c (6 : Fin 15) t) (iblk ch m ρ c (7 : Fin 15) t) (iblk ch m ρ c (8 : Fin 15) t) (iblk ch m ρ c (9 : Fin 15) t) (iblk ch m ρ c (10 : Fin 15) t) k0_h1 k0_h2 k0_h3 k0_h4 k0_h5 k0_h6 k0_h7 k0_h8).2.2.2.2 _)
  all_goals
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [HT0]; · iexact HT0
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, HT0, ⟨%e11, H11⟩, ⟨%e12, H12⟩, ⟨%e13, H13⟩, ⟨%e14, H14⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · iapply owns_of_rep; iexact H8
    isplitl [H9]
    · iapply owns_of_rep; iexact H9
    isplitl [H10]
    · iapply owns_of_rep; iexact H10
    isplitl [H11]
    · unfold owns; iexists _; isplitr; swap
      · iexact H11
      · ipureintro; exact View.read_writes_of_cover _ _ _ _ _ (fun _ => C11 ..)
    isplitl [H12]
    · unfold owns; iexists _; isplitr; swap
      · iexact H12
      · ipureintro; exact View.read_writes_of_cover _ _ _ _ _ (fun _ => C12 ..)
    isplitl [H13]
    · unfold owns; iexists _; isplitr; swap
      · iexact H13
      · ipureintro; exact View.read_writes_of_cover _ _ _ _ _ (fun _ => C13 ..)
    unfold owns; iexists _; isplitr; swap
    · iexact H14
    · ipureintro; exact View.read_writes_of_cover _ _ _ _ _ (fun _ => C14 ..)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
noncomputable def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg3) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 (0 : Fin 15)).trans ((dats ch m ρ 0 c).arrAt_in (0 : Fin 15) rfl _), ((h c).1 (1 : Fin 15)).trans ((dats ch m ρ 0 c).arrAt_in (1 : Fin 15) rfl _), ((h c).1 (2 : Fin 15)).trans ((dats ch m ρ 0 c).arrAt_in (2 : Fin 15) rfl _), ((h c).2 0).trans (hp c).symm, ((h c).1 (3 : Fin 15)).trans ((dats ch m ρ 0 c).arrAt_in (3 : Fin 15) rfl _), ((h c).1 (5 : Fin 15)).trans ((dats ch m ρ 0 c).arrAt_in (5 : Fin 15) rfl _), ((h c).1 (7 : Fin 15)).trans ((dats ch m ρ 0 c).arrAt_in (7 : Fin 15) rfl _), ((h c).1 (9 : Fin 15)).trans ((dats ch m ρ 0 c).arrAt_in (9 : Fin 15) rfl _), ((h c).1 (4 : Fin 15)).trans ((dats ch m ρ 0 c).arrAt_in (4 : Fin 15) rfl _), ((h c).1 (6 : Fin 15)).trans ((dats ch m ρ 0 c).arrAt_in (6 : Fin 15) rfl _), ((h c).1 (8 : Fin 15)).trans ((dats ch m ρ 0 c).arrAt_in (8 : Fin 15) rfl _), ((h c).1 (10 : Fin 15)).trans ((dats ch m ρ 0 c).arrAt_in (10 : Fin 15) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Kernel17`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged ch m ρ hp) ((θ_run defs _ _).mono (fun _ h => h.2) (run_main_quiescent ch m ρ hp))

end Cert.Kernel17.Layers

end
-- ==== Proof.Layers17.lean ====
/- The optimiser's step of four stacked layers (program 17): the kernel's four results are the reference's. -/
module

public import proofs.«01_k».proof.Defs
public import proofs.«01_k».proof.Proof.Layers17Arrays
public import proofs.«01_k».proof.Proof.Layers17Bits
public import proofs.«01_k».proof.Proof.Gen.Reference17Ideal.Run
public import proofs.«01_k».proof.Proof.Gen.Pre_core17
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Kernel17Ideal.Layers

open Cert.Kernel17Ideal Cert.Kernel17Ideal.Gen
open Cert.Adam (newM newV change delta)

/-- What the kernel leaves. -/
theorem run (ch : Fin 2) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ (fun r => ∀ c : Dev nD,
      r.2.mem ((c.tc : Thread nD τ).loc main_v0_0) = gradient ch m c
      ∧ r.2.mem ((c.tc : Thread nD τ).loc main_v0_1) = (fun y => delta (m ((c : Thread nD τ).loc main_arg0) y) (gradient ch m c y) (m ((c : Thread nD τ).loc main_arg1) y) (m ((c : Thread nD τ).loc main_arg2) y) : FVec Ideal S4x2048x3584 .f32)
      ∧ r.2.mem ((c.tc : Thread nD τ).loc main_v0_2) = (fun y => newM (gradient ch m c y) (m ((c : Thread nD τ).loc main_arg1) y) : FVec Ideal S4x2048x3584 .f32)
      ∧ r.2.mem ((c.tc : Thread nD τ).loc main_v0_3) = (fun y => newV (gradient ch m c y) (m ((c : Thread nD τ).loc main_arg2) y) : FVec Ideal S4x2048x3584 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (final11 ch m ρ c), ((h c).1 12).trans (final12 ch m ρ c), ((h c).1 13).trans (final13 ch m ρ c), ((h c).1 14).trans (final14 ch m ρ c),
    ((h c).1 (0 : Fin 15)).trans ((dats ch m ρ 0 c).arrAt_in (0 : Fin 15) rfl _), ((h c).1 (1 : Fin 15)).trans ((dats ch m ρ 0 c).arrAt_in (1 : Fin 15) rfl _), ((h c).1 (2 : Fin 15)).trans ((dats ch m ρ 0 c).arrAt_in (2 : Fin 15) rfl _), ((h c).2 0).trans (hp c).symm, ((h c).1 (3 : Fin 15)).trans ((dats ch m ρ 0 c).arrAt_in (3 : Fin 15) rfl _), ((h c).1 (5 : Fin 15)).trans ((dats ch m ρ 0 c).arrAt_in (5 : Fin 15) rfl _), ((h c).1 (7 : Fin 15)).trans ((dats ch m ρ 0 c).arrAt_in (7 : Fin 15) rfl _), ((h c).1 (9 : Fin 15)).trans ((dats ch m ρ 0 c).arrAt_in (9 : Fin 15) rfl _), ((h c).1 (4 : Fin 15)).trans ((dats ch m ρ 0 c).arrAt_in (4 : Fin 15) rfl _), ((h c).1 (6 : Fin 15)).trans ((dats ch m ρ 0 c).arrAt_in (6 : Fin 15) rfl _), ((h c).1 (8 : Fin 15)).trans ((dats ch m ρ 0 c).arrAt_in (8 : Fin 15) rfl _), ((h c).1 (10 : Fin 15)).trans ((dats ch m ρ 0 c).arrAt_in (10 : Fin 15) rfl _)⟩)
    (run_main ch m ρ hp)

end Cert.Kernel17Ideal.Layers

namespace Cert.Layers17

open Cert.Adam (newM newV change delta)

/-- The precondition says that the core's number is 0 or 1. -/
theorem word (x : BitVec 32) (h : IntOp.ori (IntOp.cmpi .eq x 0#32) (IntOp.cmpi .eq x 1#32) = 1#1) : x = 0#32 ∨ x = 1#32 := by
  simpa only [IntOp.ori_eq_one, IntOp.cmpi_eq] using h

/-- A number that is 0 or 1 is pinned. -/
theorem pinned_of (f : Dev 1 → IVec Cert.Kernel17.S1 32) (e : ∀ c x, f c x = 0#32 ∨ f c x = 1#32) : ∃ ch : Fin 2, ∀ c, f c = fun _ => BitVec.ofNat 32 ch.val := by
  have one : ∀ x y : Cert.Kernel17.S1.Idx, x = y := fun x y => funext fun a => by
    fin_cases a
    exact Subsingleton.elim (α := Fin 1) _ _
  have x0 : Cert.Kernel17.S1.Idx := fun a => ⟨0, by fin_cases a; decide⟩
  rcases e 0 x0 with h | h
  · exact ⟨0, fun c => funext fun x => by rw [Subsingleton.elim c 0, one x x0, h]; rfl⟩
  · exact ⟨1, fun c => funext fun x => by rw [Subsingleton.elim c 0, one x x0, h]; rfl⟩

/-- The one index of a scalar. -/
abbrev pt : Cert.Pre_core17.S_.Idx := fun a => absurd a.isLt (Nat.not_lt_zero _)

theorem bits_pinned (m) (h : Cert.Pre_Kernel17 m) : ∃ ch, Cert.Kernel17.Gen.Pinned ch m :=
  pinned_of _ fun c x => word _ (Host.reduce_andi_all _ _ _ _ pt (congrFun (h c) pt) x)

theorem ideal_pinned (m) (h : Cert.Pre_Kernel17Ideal m) : ∃ ch, Cert.Kernel17Ideal.Gen.Pinned ch m :=
  pinned_of _ fun c x => word _ (Host.reduce_andi_all _ _ _ _ pt (congrFun (h c) pt) x)

/-- The frames. -/
theorem frame_bits : Cert.quiescent_Kernel17 := fun m ρ h => (bits_pinned m h).elim fun ch hp => Cert.Kernel17.Layers.frame ch m ρ hp
theorem frame_ideal : Cert.quiescent_Kernel17Ideal := fun m ρ h => (ideal_pinned m h).elim fun ch hp => Cert.Kernel17Ideal.Gen.frame ch m ρ hp
theorem frame_reference : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)
theorem frame_reference_core : Cert.quiescent_Reference17Ideal_pre_core17 := fun m g _ => frame_reference m g trivial

/-- The two named reciprocals are what the table says. -/
theorem preserves : Cert.preserves_Kernel17_Kernel17Ideal :=
  ⟨IdealRules.named_const.statement Cert.Kernel17Ideal.κ "c1" .f32 0x3FC48605#32 ((8388608 / 5463681 : ℝ) : EReal) rfl,
    IdealRules.named_const.statement Cert.Kernel17Ideal.κ "c2" .f32 0x42C8E6D3#32 ((268435456 / 2672307 : ℝ) : EReal) rfl⟩

section
open Cert.Reference17Ideal Cert.Reference17Ideal.Gen

/-- The reference's gradient, put together of the halves. -/
def stacked (core : IVec S1 32) (a4 a5 a6 a7 a8 a9 a10 a11 : FVec Ideal S1024x3584 .f32) : FVec Ideal S4x2048x3584 .f32 := (concatenate S4x2048x3584 0 [⟨S1x2048x3584, ((broadcastInDim S1x2048x3584 ![1, 2] bcast_S2048x3584_S1x2048x3584_1_2 (select (broadcastInDim S2048x3584 ![] bcast_S_S2048x3584 (cmpi .eq (shapeCast _ core shapeCasts_S1_S_) (constantI S_ 32 0#32))) (concatenate S2048x3584 0 [⟨S1024x3584, a4⟩, ⟨S1024x3584, a8⟩] concatenates_S1024x3584_S1024x3584_S2048x3584_d0) (concatenate S2048x3584 0 [⟨S1024x3584, a8⟩, ⟨S1024x3584, a4⟩] concatenates_S1024x3584_S1024x3584_S2048x3584_d0))) : (⟨S1x2048x3584, .f32⟩ : BufTy).Contents (Elt Ideal))⟩, ⟨S1x2048x3584, ((broadcastInDim S1x2048x3584 ![1, 2] bcast_S2048x3584_S1x2048x3584_1_2 (select (broadcastInDim S2048x3584 ![] bcast_S_S2048x3584 (cmpi .eq (shapeCast _ core shapeCasts_S1_S_) (constantI S_ 32 0#32))) (concatenate S2048x3584 0 [⟨S1024x3584, a5⟩, ⟨S1024x3584, a9⟩] concatenates_S1024x3584_S1024x3584_S2048x3584_d0) (concatenate S2048x3584 0 [⟨S1024x3584, a9⟩, ⟨S1024x3584, a5⟩] concatenates_S1024x3584_S1024x3584_S2048x3584_d0))) : (⟨S1x2048x3584, .f32⟩ : BufTy).Contents (Elt Ideal))⟩, ⟨S1x2048x3584, ((broadcastInDim S1x2048x3584 ![1, 2] bcast_S2048x3584_S1x2048x3584_1_2 (select (broadcastInDim S2048x3584 ![] bcast_S_S2048x3584 (cmpi .eq (shapeCast _ core shapeCasts_S1_S_) (constantI S_ 32 0#32))) (concatenate S2048x3584 0 [⟨S1024x3584, a6⟩, ⟨S1024x3584, a10⟩] concatenates_S1024x3584_S1024x3584_S2048x3584_d0) (concatenate S2048x3584 0 [⟨S1024x3584, a10⟩, ⟨S1024x3584, a6⟩] concatenates_S1024x3584_S1024x3584_S2048x3584_d0))) : (⟨S1x2048x3584, .f32⟩ : BufTy).Contents (Elt Ideal))⟩, ⟨S1x2048x3584, ((broadcastInDim S1x2048x3584 ![1, 2] bcast_S2048x3584_S1x2048x3584_1_2 (select (broadcastInDim S2048x3584 ![] bcast_S_S2048x3584 (cmpi .eq (shapeCast _ core shapeCasts_S1_S_) (constantI S_ 32 0#32))) (concatenate S2048x3584 0 [⟨S1024x3584, a7⟩, ⟨S1024x3584, a11⟩] concatenates_S1024x3584_S1024x3584_S2048x3584_d0) (concatenate S2048x3584 0 [⟨S1024x3584, a11⟩, ⟨S1024x3584, a7⟩] concatenates_S1024x3584_S1024x3584_S2048x3584_d0))) : (⟨S1x2048x3584, .f32⟩ : BufTy).Contents (Elt Ideal))⟩] concatenates_S1x2048x3584_S1x2048x3584_S1x2048x3584_S1x2048x3584_S4x2048x3584_d0 : (⟨S4x2048x3584, .f32⟩ : BufTy).Contents (Elt Ideal))

theorem stacked_at (ch : Fin 2) (a4 a5 a6 a7 a8 a9 a10 a11 : FVec Ideal S1024x3584 .f32) : stacked (fun _ => BitVec.ofNat 32 ch.val) a4 a5 a6 a7 a8 a9 a10 a11 = Cert.Kernel17Ideal.Layers.whole ch a4 a5 a6 a7 a8 a9 a10 a11 := by
  funext p
  unfold stacked Cert.Kernel17Ideal.Layers.whole Cert.Kernel17Ideal.Layers.nth
  pointwise []
  have sel : ∀ x y : EReal, Scalar.select (IntOp.cmpi CmpIPredicate.eq (BitVec.ofNat 32 ch.val) 0#32) x y = if ch.val = 0 then x else y := by
    intro x y
    fin_cases ch <;> rfl
  simp only [sel]
  have b0 : (p 0).val < 4 := (p 0).isLt
  have b1 : (p 1).val < 2048 := (p 1).isLt
  have bc := ch.isLt
  have c0 : (p 0).val = 0 ∨ (p 0).val = 1 ∨ (p 0).val = 2 ∨ (p 0).val = 3 := by omega
  have c1 : ch.val = 0 ∨ ch.val = 1 := by omega
  by_cases h : (p 1).val < 1024
  · have e : (p 1).val / 1024 = 0 := by omega
    have f : (p 1).val % 1024 = (p 1).val := by omega
    rcases c0 with c | c | c | c <;> rcases c1 with d | d <;> simp [c, d, e, f, h]
  · have e : (p 1).val / 1024 = 1 := by omega
    have f : (p 1).val % 1024 = (p 1).val - 1024 := by omega
    rcases c0 with c | c | c | c <;> rcases c1 with d | d <;> simp [c, d, e, f, h]

/-- The reference's terms, element by element. -/
theorem change_at (w g m v : FVec Ideal S4x2048x3584 .f32) :
    mulf (broadcastInDim S4x2048x3584 ![] bcast_S_S4x2048x3584 (constant S_ .f32 0xBA83126F#32)) (addf (Host.divf (Host.divf (addf (mulf (broadcastInDim S4x2048x3584 ![] bcast_S_S4x2048x3584 (constant S_ .f32 0x3F666666#32)) m) (mulf (broadcastInDim S4x2048x3584 ![] bcast_S_S4x2048x3584 (constant S_ .f32 0x3DCCCCCD#32)) g)) (broadcastInDim S4x2048x3584 ![] bcast_S_S4x2048x3584 (constant S_ .f32 0x3F26BD02#32))) (addf (Host.sqrt (Host.divf (addf (mulf (broadcastInDim S4x2048x3584 ![] bcast_S_S4x2048x3584 (constant S_ .f32 0x3F7FBE77#32)) v) (mulf (broadcastInDim S4x2048x3584 ![] bcast_S_S4x2048x3584 (constant S_ .f32 0x3A83126F#32)) (mulf g g))) (broadcastInDim S4x2048x3584 ![] bcast_S_S4x2048x3584 (constant S_ .f32 0x3C231ACC#32)))) (broadcastInDim S4x2048x3584 ![] bcast_S_S4x2048x3584 (constant S_ .f32 0x322BCC77#32)))) (mulf (broadcastInDim S4x2048x3584 ![] bcast_S_S4x2048x3584 (constant S_ .f32 0x3C23D70A#32)) w))
      = fun y => delta (w y) (g y) (m y) (v y) := by
  funext y
  pointwise [delta, change, newM, newV]
theorem moment_m_at (g m : FVec Ideal S4x2048x3584 .f32) :
    addf (mulf (broadcastInDim S4x2048x3584 ![] bcast_S_S4x2048x3584 (constant S_ .f32 0x3F666666#32)) m) (mulf (broadcastInDim S4x2048x3584 ![] bcast_S_S4x2048x3584 (constant S_ .f32 0x3DCCCCCD#32)) g) = fun y => newM (g y) (m y) := by
  funext y
  pointwise [newM, newV]
theorem moment_v_at (g v : FVec Ideal S4x2048x3584 .f32) :
    addf (mulf (broadcastInDim S4x2048x3584 ![] bcast_S_S4x2048x3584 (constant S_ .f32 0x3F7FBE77#32)) v) (mulf (broadcastInDim S4x2048x3584 ![] bcast_S_S4x2048x3584 (constant S_ .f32 0x3A83126F#32)) (mulf g g)) = fun y => newV (g y) (v y) := by
  funext y
  pointwise [newM, newV]
end

/-- The reference's gradient of a memory's arguments. -/
abbrev read (m' : (ℓ : Loc Cert.Reference17Ideal.nD Cert.Reference17Ideal.τ Cert.Reference17Ideal.sig) → Buf (Elt Ideal) ℓ) (c : Dev Cert.Reference17Ideal.nD) : FVec Ideal Cert.Reference17Ideal.S4x2048x3584 .f32 :=
  stacked (m' ((c.tc : Thread Cert.Reference17Ideal.nD Cert.Reference17Ideal.τ).loc Cert.Reference17Ideal.main_arg3)) (m' ((c.tc : Thread Cert.Reference17Ideal.nD Cert.Reference17Ideal.τ).loc Cert.Reference17Ideal.main_arg4)) (m' ((c.tc : Thread Cert.Reference17Ideal.nD Cert.Reference17Ideal.τ).loc Cert.Reference17Ideal.main_arg5)) (m' ((c.tc : Thread Cert.Reference17Ideal.nD Cert.Reference17Ideal.τ).loc Cert.Reference17Ideal.main_arg6)) (m' ((c.tc : Thread Cert.Reference17Ideal.nD Cert.Reference17Ideal.τ).loc Cert.Reference17Ideal.main_arg7)) (m' ((c.tc : Thread Cert.Reference17Ideal.nD Cert.Reference17Ideal.τ).loc Cert.Reference17Ideal.main_arg8)) (m' ((c.tc : Thread Cert.Reference17Ideal.nD Cert.Reference17Ideal.τ).loc Cert.Reference17Ideal.main_arg9)) (m' ((c.tc : Thread Cert.Reference17Ideal.nD Cert.Reference17Ideal.τ).loc Cert.Reference17Ideal.main_arg10)) (m' ((c.tc : Thread Cert.Reference17Ideal.nD Cert.Reference17Ideal.τ).loc Cert.Reference17Ideal.main_arg11))

set_option maxHeartbeats 4000000 in
/-- Both programs end with the same four results. -/
theorem algebraic : Cert.algebraic_Kernel17Ideal_Reference17Ideal := by
  intro m g m' g' hpre hagree
  obtain ⟨ch, hp⟩ := ideal_pinned m hpre
  have st : ∀ c : Dev Cert.Reference17Ideal.nD, read m' c = Cert.Kernel17Ideal.Layers.gradient ch m c := by
    intro c
    obtain ⟨-, -, -, h3, h4, h5, h6, h7, h8, h9, h10, h11⟩ := hagree c
    unfold read
    rw [h3, h4, h5, h6, h7, h8, h9, h10, h11, hp c]
    exact stacked_at ch _ _ _ _ _ _ _ _
  repeat' (refine Exists.intro ?_ ?_)
  rotate_right
  refine And.intro ?_ ?_
  · run_from Cert.Kernel17Ideal.Layers.run ch m g hp
  · run_from Cert.Reference17Ideal.Value.run (F := Ideal) m' g'
    · exact st c
    · exact (change_at _ (read m' c) _ _).trans (by rw [st c, (hagree c).1, (hagree c).2.1, (hagree c).2.2.1])
    · exact (moment_m_at (read m' c) _).trans (by rw [st c])
    · exact (moment_v_at (read m' c) _).trans (by rw [st c, (hagree c).2.2.1])

end Cert.Layers17

end
-- ==== Proof.lean ====
/- The certificate of one device's calls in the training step: each program's frames, and the equality of each kernel's results with
   its reference's. -/
module

public import proofs.«01_k».proof.Defs
public import proofs.«01_k».proof.Proof.ClaimDwin
public import proofs.«01_k».proof.Proof.Gen.Kernel.Frame
public import proofs.«01_k».proof.Proof.Gen.ReferenceIdeal.Run
public import proofs.«01_k».proof.Proof.ClaimTn
public import proofs.«01_k».proof.Proof.Gen.Kernel2.Frame
public import proofs.«01_k».proof.Proof.Gen.Reference2Ideal.Run
public import proofs.«01_k».proof.Proof.ClaimNt
public import proofs.«01_k».proof.Proof.Gen.Kernel3.Frame
public import proofs.«01_k».proof.Proof.Gen.Reference3Ideal.Run
public import proofs.«01_k».proof.Proof.ClaimInProj
public import proofs.«01_k».proof.Proof.InBits
public import proofs.«01_k».proof.Proof.Gen.Reference4Ideal.Run
public import proofs.«01_k».proof.Proof.ClaimDin
public import proofs.«01_k».proof.Proof.Gen.Kernel5.Frame
public import proofs.«01_k».proof.Proof.Gen.Reference5Ideal.Run
public import proofs.«01_k».proof.Proof.ClaimMerge
public import proofs.«01_k».proof.Proof.Gen.Kernel6.Frame
public import proofs.«01_k».proof.Proof.Gen.Reference6Ideal.Run
public import proofs.«01_k».proof.Proof.ClaimOut
public import proofs.«01_k».proof.Proof.Gen.Kernel7.Frame
public import proofs.«01_k».proof.Proof.Gen.Reference7Ideal.Run
public import proofs.«01_k».proof.Proof.ClaimDmerged
public import proofs.«01_k».proof.Proof.Gen.Kernel8.Frame
public import proofs.«01_k».proof.Proof.Gen.Reference8Ideal.Run
public import proofs.«01_k».proof.Proof.Adam9
public import proofs.«01_k».proof.Proof.Gen.Kernel9.Frame
public import proofs.«01_k».proof.Proof.Gen.Reference9Ideal.Run
public import proofs.«01_k».proof.Proof.Adam10
public import proofs.«01_k».proof.Proof.Gen.Kernel10.Frame
public import proofs.«01_k».proof.Proof.Gen.Reference10Ideal.Run
public import proofs.«01_k».proof.Proof.Adam11
public import proofs.«01_k».proof.Proof.Gen.Kernel11.Frame
public import proofs.«01_k».proof.Proof.Gen.Reference11Ideal.Run
public import proofs.«01_k».proof.Proof.Adam12
public import proofs.«01_k».proof.Proof.Gen.Kernel12.Frame
public import proofs.«01_k».proof.Proof.Gen.Reference12Ideal.Run
public import proofs.«01_k».proof.Proof.Adam13
public import proofs.«01_k».proof.Proof.Gen.Kernel13.Frame
public import proofs.«01_k».proof.Proof.Gen.Reference13Ideal.Run
public import proofs.«01_k».proof.Proof.Adam14
public import proofs.«01_k».proof.Proof.Gen.Kernel14.Frame
public import proofs.«01_k».proof.Proof.Gen.Reference14Ideal.Run
public import proofs.«01_k».proof.Proof.Layers16
public import proofs.«01_k».proof.Proof.Gen.Reference16Ideal.Run
public import proofs.«01_k».proof.Proof.Gen.Pre_core16
public import proofs.«01_k».proof.Proof.Layers17
public import proofs.«01_k».proof.Proof.Gen.Reference17Ideal.Run
public import proofs.«01_k».proof.Proof.Gen.Pre_core17
public import Idealize.ShloMosaic.Lib.Claim

@[expose] public section

noncomputable section

namespace Cert.Proof

open Idealize.ShloMosaic Idealize.SL.Sem

/-- Every claim, in the order in which they are stated. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_core16.Gen.facts, Cert.Pre_core17.Gen.facts,
  fun m ρ _ => Cert.Kernel.Gen.frame m ρ, fun m ρ _ => Cert.KernelIdeal.Gen.frame m ρ, Cert.Dwin.frame_reference,
  fun m ρ _ => Cert.Kernel2.Gen.frame m ρ, fun m ρ _ => Cert.Kernel2Ideal.Gen.frame m ρ, Cert.Tn.frame_reference,
  fun m ρ _ => Cert.Kernel3.Gen.frame m ρ, fun m ρ _ => Cert.Kernel3Ideal.Gen.frame m ρ, Cert.Nt.frame_reference,
  fun m ρ _ => Cert.Kernel4.InBits.frame m ρ, fun m ρ _ => Cert.Kernel4Ideal.InFrame.frame m ρ, Cert.InProj.frame_reference,
  fun m ρ _ => Cert.Kernel5.Gen.frame m ρ, fun m ρ _ => Cert.Kernel5Ideal.Gen.frame m ρ, Cert.Din.frame_reference,
  fun m ρ _ => Cert.Kernel6.Gen.frame m ρ, fun m ρ _ => Cert.Kernel6Ideal.Gen.frame m ρ, Cert.Merge.frame_reference,
  fun m ρ _ => Cert.Kernel7.Gen.frame m ρ, fun m ρ _ => Cert.Kernel7Ideal.Gen.frame m ρ, Cert.Out.frame_reference,
  fun m ρ _ => Cert.Kernel8.Gen.frame m ρ, fun m ρ _ => Cert.Kernel8Ideal.Gen.frame m ρ, Cert.Dmerged.frame_reference,
  fun m ρ _ => Cert.Kernel9.Gen.frame m ρ, fun m ρ _ => Cert.Kernel9Ideal.Gen.frame m ρ, Cert.Adam9.frame_reference,
  fun m ρ _ => Cert.Kernel10.Gen.frame m ρ, fun m ρ _ => Cert.Kernel10Ideal.Gen.frame m ρ, Cert.Adam10.frame_reference,
  fun m ρ _ => Cert.Kernel11.Gen.frame m ρ, fun m ρ _ => Cert.Kernel11Ideal.Gen.frame m ρ, Cert.Adam11.frame_reference,
  fun m ρ _ => Cert.Kernel12.Gen.frame m ρ, fun m ρ _ => Cert.Kernel12Ideal.Gen.frame m ρ, Cert.Adam12.frame_reference,
  fun m ρ _ => Cert.Kernel13.Gen.frame m ρ, fun m ρ _ => Cert.Kernel13Ideal.Gen.frame m ρ, Cert.Adam13.frame_reference,
  fun m ρ _ => Cert.Kernel14.Gen.frame m ρ, fun m ρ _ => Cert.Kernel14Ideal.Gen.frame m ρ, Cert.Adam14.frame_reference,
  Cert.Layers16.frame_bits, Cert.Layers16.frame_ideal, Cert.Layers16.frame_reference, Cert.Layers16.frame_reference_core,
  Cert.Layers17.frame_bits, Cert.Layers17.frame_ideal, Cert.Layers17.frame_reference, Cert.Layers17.frame_reference_core,
  trivial, Cert.Dwin.algebraic,
  trivial, Cert.Tn.algebraic,
  trivial, Cert.Nt.algebraic,
  trivial, Cert.InProj.algebraic,
  trivial, Cert.Din.algebraic,
  trivial, Cert.Merge.algebraic,
  trivial, Cert.Out.algebraic,
  trivial, Cert.Dmerged.algebraic,
  Cert.Adam9.preserves, Cert.Adam9.algebraic,
  Cert.Adam10.preserves, Cert.Adam10.algebraic,
  Cert.Adam11.preserves, Cert.Adam11.algebraic,
  Cert.Adam12.preserves, Cert.Adam12.algebraic,
  Cert.Adam13.preserves, Cert.Adam13.algebraic,
  Cert.Adam14.preserves, Cert.Adam14.algebraic,
  Cert.Layers16.preserves, Cert.Layers16.algebraic,
  Cert.Layers17.preserves, Cert.Layers17.algebraic⟩

end Cert.Proof

end
